-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S120x32x768 : Shape := ⟨3, ![120, 32, 768]⟩
abbrev S120x577x1024 : Shape := ⟨3, ![120, 577, 1024]⟩
abbrev S120x577 : Shape := ⟨2, ![120, 577]⟩
abbrev S768x768 : Shape := ⟨2, ![768, 768]⟩
abbrev S768 : Shape := ⟨1, ![768]⟩
abbrev S1024x768 : Shape := ⟨2, ![1024, 768]⟩
abbrev S768x3072 : Shape := ⟨2, ![768, 3072]⟩
abbrev S3072 : Shape := ⟨1, ![3072]⟩
abbrev S3072x768 : Shape := ⟨2, ![3072, 768]⟩
abbrev S3840x768 : Shape := ⟨2, ![3840, 768]⟩
abbrev S1x768 : Shape := ⟨2, ![1, 768]⟩
abbrev S768x1024 : Shape := ⟨2, ![768, 1024]⟩
abbrev S768x1 : Shape := ⟨2, ![768, 1]⟩
abbrev S1x3072 : Shape := ⟨2, ![1, 3072]⟩
abbrev S120x32 : Shape := ⟨2, ![120, 32]⟩
abbrev S3840x3072 : Shape := ⟨2, ![3840, 3072]⟩
abbrev S256x768 : Shape := ⟨2, ![256, 768]⟩
abbrev S8x577x1024 : Shape := ⟨3, ![8, 577, 1024]⟩
abbrev S8x577 : Shape := ⟨2, ![8, 577]⟩
abbrev S8x32 : Shape := ⟨2, ![8, 32]⟩
abbrev S256x3072 : Shape := ⟨2, ![256, 3072]⟩
abbrev S768x640 : Shape := ⟨2, ![768, 640]⟩
abbrev S640x768 : Shape := ⟨2, ![640, 768]⟩
abbrev S577x8 : Shape := ⟨2, ![577, 8]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S128x640 : Shape := ⟨2, ![128, 640]⟩
abbrev S64x768 : Shape := ⟨2, ![64, 768]⟩
abbrev S1x577x1024 : Shape := ⟨3, ![1, 577, 1024]⟩
abbrev S577x1024 : Shape := ⟨2, ![577, 1024]⟩
abbrev S768x577 : Shape := ⟨2, ![768, 577]⟩
abbrev S1x577 : Shape := ⟨2, ![1, 577]⟩
abbrev S577x768 : Shape := ⟨2, ![577, 768]⟩
abbrev S577x1 : Shape := ⟨2, ![577, 1]⟩
abbrev S578x768 : Shape := ⟨2, ![578, 768]⟩
abbrev S32x256 : Shape := ⟨2, ![32, 256]⟩
abbrev S128x256 : Shape := ⟨2, ![128, 256]⟩
abbrev S256x640 : Shape := ⟨2, ![256, 640]⟩
abbrev S128 : Shape := ⟨1, ![128]⟩
abbrev S128x1 : Shape := ⟨2, ![128, 1]⟩
abbrev S640x256 : Shape := ⟨2, ![640, 256]⟩
abbrev S8x32x128 : Shape := ⟨3, ![8, 32, 128]⟩
abbrev S8x128 : Shape := ⟨2, ![8, 128]⟩

abbrev nBuf : Space → Nat
  | .hbm => 56
  | .vmem => 50
  | .smem => 0
  | _ => 0

abbrev bufTy : (tb : Table) → Fin (tcTables nBuf tb) → BufTy
  | .hbm, ⟨0, _⟩ => ⟨S120x32x768, .bf16⟩
  | .hbm, ⟨1, _⟩ => ⟨S120x577x1024, .fp8e4m3⟩
  | .hbm, ⟨2, _⟩ => ⟨S120x577, .f32⟩
  | .hbm, ⟨3, _⟩ => ⟨S768x768, .bf16⟩
  | .hbm, ⟨4, _⟩ => ⟨S768x768, .bf16⟩
  | .hbm, ⟨5, _⟩ => ⟨S768x768, .bf16⟩
  | .hbm, ⟨6, _⟩ => ⟨S768x768, .bf16⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768x768, .bf16⟩
  | .hbm, ⟨13, _⟩ => ⟨S768x768, .bf16⟩
  | .hbm, ⟨14, _⟩ => ⟨S768, .f32⟩
  | .hbm, ⟨15, _⟩ => ⟨S768, .f32⟩
  | .hbm, ⟨16, _⟩ => ⟨S1024x768, .fp8e4m3⟩
  | .hbm, ⟨17, _⟩ => ⟨S1024x768, .fp8e4m3⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S768, .f32⟩
  | .hbm, ⟨22, _⟩ => ⟨S768, .f32⟩
  | .hbm, ⟨23, _⟩ => ⟨S768x3072, .fp8e4m3⟩
  | .hbm, ⟨24, _⟩ => ⟨S3072, .f32⟩
  | .hbm, ⟨25, _⟩ => ⟨S3072, .f32⟩
  | .hbm, ⟨26, _⟩ => ⟨S3072x768, .fp8e4m3⟩
  | .hbm, ⟨27, _⟩ => ⟨S768, .f32⟩
  | .hbm, ⟨28, _⟩ => ⟨S768, .f32⟩
  | .hbm, ⟨29, _⟩ => ⟨S768, .f32⟩
  | .hbm, ⟨30, _⟩ => ⟨S768, .f32⟩
  | .hbm, ⟨31, _⟩ => ⟨S3840x768, .bf16⟩
  | .hbm, ⟨32, _⟩ => ⟨S1x768, .f32⟩
  | .hbm, ⟨33, _⟩ => ⟨S1x768, .f32⟩
  | .hbm, ⟨34, _⟩ => ⟨S1x768, .f32⟩
  | .hbm, ⟨35, _⟩ => ⟨S1x768, .f32⟩
  | .hbm, ⟨36, _⟩ => ⟨S1x768, .f32⟩
  | .hbm, ⟨37, _⟩ => ⟨S1x768, .f32⟩
  | .hbm, ⟨38, _⟩ => ⟨S1x768, .f32⟩
  | .hbm, ⟨39, _⟩ => ⟨S768x1024, .fp8e4m3⟩
  | .hbm, ⟨40, _⟩ => ⟨S768x1, .f32⟩
  | .hbm, ⟨41, _⟩ => ⟨S1x768, .f32⟩
  | .hbm, ⟨42, _⟩ => ⟨S1x768, .f32⟩
  | .hbm, ⟨43, _⟩ => ⟨S1x768, .f32⟩
  | .hbm, ⟨44, _⟩ => ⟨S1x768, .f32⟩
  | .hbm, ⟨45, _⟩ => ⟨S1x3072, .f32⟩
  | .hbm, ⟨46, _⟩ => ⟨S1x3072, .f32⟩
  | .hbm, ⟨47, _⟩ => ⟨S1x768, .f32⟩
  | .hbm, ⟨48, _⟩ => ⟨S1x768, .f32⟩
  | .hbm, ⟨49, _⟩ => ⟨S1x768, .f32⟩
  | .hbm, ⟨50, _⟩ => ⟨S1x768, .f32⟩
  | .hbm, ⟨51, _⟩ => ⟨S3840x768, .bf16⟩
  | .hbm, ⟨52, _⟩ => ⟨S3840x768, .fp8e4m3⟩
  | .hbm, ⟨53, _⟩ => ⟨S120x32, .f32⟩
  | .hbm, ⟨54, _⟩ => ⟨S3840x3072, .fp8e4m3⟩
  | .hbm, ⟨55, _⟩ => ⟨S120x32, .f32⟩
  | .local _ .vmem, ⟨0, _⟩ => ⟨S256x768, .bf16⟩
  | .local _ .vmem, ⟨1, _⟩ => ⟨S256x768, .bf16⟩
  | .local _ .vmem, ⟨2, _⟩ => ⟨S8x577x1024, .fp8e4m3⟩
  | .local _ .vmem, ⟨3, _⟩ => ⟨S8x577x1024, .fp8e4m3⟩
  | .local _ .vmem, ⟨4, _⟩ => ⟨S8x577, .f32⟩
  | .local _ .vmem, ⟨5, _⟩ => ⟨S8x577, .f32⟩
  | .local _ .vmem, ⟨6, _⟩ => ⟨S768x768, .bf16⟩
  | .local _ .vmem, ⟨7, _⟩ => ⟨S768x768, .bf16⟩
  | .local _ .vmem, ⟨8, _⟩ => ⟨S768x768, .bf16⟩
  | .local _ .vmem, ⟨9, _⟩ => ⟨S768x768, .bf16⟩
  | .local _ .vmem, ⟨10, _⟩ => ⟨S1x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S1x768, .f32⟩
  | .local _ .vmem, ⟨15, _⟩ => ⟨S768x768, .bf16⟩
  | .local _ .vmem, ⟨16, _⟩ => ⟨S768x768, .bf16⟩
  | .local _ .vmem, ⟨17, _⟩ => ⟨S1x768, .f32⟩
  | .local _ .vmem, ⟨18, _⟩ => ⟨S1x768, .f32⟩
  | .local _ .vmem, ⟨19, _⟩ => ⟨S768x1024, .fp8e4m3⟩
  | .local _ .vmem, ⟨20, _⟩ => ⟨S1024x768, .fp8e4m3⟩
  | .local _ .vmem, ⟨21, _⟩ => ⟨S768x1, .f32⟩
  | .local _ .vmem, ⟨22, _⟩ => ⟨S1x768, .f32⟩
  | .local _ .vmem, ⟨23, _⟩ => ⟨S1x768, .f32⟩
  | .local _ .vmem, ⟨24, _⟩ => ⟨S1x768, .f32⟩
  | .local _ .vmem, ⟨25, _⟩ => ⟨S1x768, .f32⟩
  | .local _ .vmem, ⟨26, _⟩ => ⟨S768x3072, .fp8e4m3⟩
  | .local _ .vmem, ⟨27, _⟩ => ⟨S1x3072, .f32⟩
  | .local _ .vmem, ⟨28, _⟩ => ⟨S1x3072, .f32⟩
  | .local _ .vmem, ⟨29, _⟩ => ⟨S3072x768, .fp8e4m3⟩
  | .local _ .vmem, ⟨30, _⟩ => ⟨S1x768, .f32⟩
  | .local _ .vmem, ⟨31, _⟩ => ⟨S1x768, .f32⟩
  | .local _ .vmem, ⟨32, _⟩ => ⟨S1x768, .f32⟩
  | .local _ .vmem, ⟨33, _⟩ => ⟨S1x768, .f32⟩
  | .local _ .vmem, ⟨34, _⟩ => ⟨S256x768, .bf16⟩
  | .local _ .vmem, ⟨35, _⟩ => ⟨S256x768, .bf16⟩
  | .local _ .vmem, ⟨36, _⟩ => ⟨S256x768, .fp8e4m3⟩
  | .local _ .vmem, ⟨37, _⟩ => ⟨S256x768, .fp8e4m3⟩
  | .local _ .vmem, ⟨38, _⟩ => ⟨S8x32, .f32⟩
  | .local _ .vmem, ⟨39, _⟩ => ⟨S8x32, .f32⟩
  | .local _ .vmem, ⟨40, _⟩ => ⟨S256x3072, .fp8e4m3⟩
  | .local _ .vmem, ⟨41, _⟩ => ⟨S256x3072, .fp8e4m3⟩
  | .local _ .vmem, ⟨42, _⟩ => ⟨S8x32, .f32⟩
  | .local _ .vmem, ⟨43, _⟩ => ⟨S8x32, .f32⟩
  | .local _ .vmem, ⟨44, _⟩ => ⟨S256x768, .f32⟩
  | .local _ .vmem, ⟨45, _⟩ => ⟨S256x768, .bf16⟩
  | .local _ .vmem, ⟨46, _⟩ => ⟨S256x768, .bf16⟩
  | .local _ .vmem, ⟨47, _⟩ => ⟨S768x640, .bf16⟩
  | .local _ .vmem, ⟨48, _⟩ => ⟨S640x768, .bf16⟩
  | .local _ .vmem, ⟨49, _⟩ => ⟨S577x8, .f32⟩
  | _, _ => ⟨S120x32x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20_0 : Ref sig .tc := ⟨.hbm, 51, rfl⟩
abbrev main_v20_1 : Ref sig .tc := ⟨.hbm, 52, rfl⟩
abbrev main_v20_2 : Ref sig .tc := ⟨.hbm, 53, rfl⟩
abbrev main_v20_3 : Ref sig .tc := ⟨.hbm, 54, rfl⟩
abbrev main_v20_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg26_0 : Ref sig .tc := ⟨.vmem, 29, rfl⟩
abbrev cc0_stg27_0 : Ref sig .tc := ⟨.vmem, 30, rfl⟩
abbrev cc0_stg28_0 : Ref sig .tc := ⟨.vmem, 31, rfl⟩
abbrev cc0_stg29_0 : Ref sig .tc := ⟨.vmem, 32, rfl⟩
abbrev cc0_stg30_0 : Ref sig .tc := ⟨.vmem, 33, rfl⟩
abbrev cc0_stg31_0 : Ref sig .tc := ⟨.vmem, 34, rfl⟩
abbrev cc0_stg31_1 : Ref sig .tc := ⟨.vmem, 35, rfl⟩
abbrev cc0_stg32_0 : Ref sig .tc := ⟨.vmem, 36, rfl⟩
abbrev cc0_stg32_1 : Ref sig .tc := ⟨.vmem, 37, rfl⟩
abbrev cc0_stg33_0 : Ref sig .tc := ⟨.vmem, 38, rfl⟩
abbrev cc0_stg33_1 : Ref sig .tc := ⟨.vmem, 39, rfl⟩
abbrev cc0_stg34_0 : Ref sig .tc := ⟨.vmem, 40, rfl⟩
abbrev cc0_stg34_1 : Ref sig .tc := ⟨.vmem, 41, rfl⟩
abbrev cc0_stg35_0 : Ref sig .tc := ⟨.vmem, 42, rfl⟩
abbrev cc0_stg35_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_scratch5 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem26_0 : DmaSem sig := 29
abbrev cc0_sem27_0 : DmaSem sig := 30
abbrev cc0_sem28_0 : DmaSem sig := 31
abbrev cc0_sem29_0 : DmaSem sig := 32
abbrev cc0_sem30_0 : DmaSem sig := 33
abbrev cc0_sem31_0 : DmaSem sig := 34
abbrev cc0_sem31_1 : DmaSem sig := 35
abbrev cc0_sem32_0 : DmaSem sig := 36
abbrev cc0_sem32_1 : DmaSem sig := 37
abbrev cc0_sem33_0 : DmaSem sig := 38
abbrev cc0_sem33_1 : DmaSem sig := 39
abbrev cc0_sem34_0 : DmaSem sig := 40
abbrev cc0_sem34_1 : DmaSem sig := 41
abbrev cc0_sem35_0 : DmaSem sig := 42
abbrev cc0_sem35_1 : DmaSem sig := 43

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x577x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x577 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S768x1024 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x768 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S768x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S768x3072 .fp8e4m3 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x3072 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x3072 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S3072x768 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x768 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x768 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x768 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x768 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 2 → Memref sig .tc .vmem S256x768 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S256x768 .fp8e4m3 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S8x32 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S256x3072 .fp8e4m3 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S8x32 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]
-- ==== ReferenceIdeal.lean ====
abbrev S120x32x768 : Shape := ⟨3, ![120, 32, 768]⟩
abbrev S120x577x1024 : Shape := ⟨3, ![120, 577, 1024]⟩
abbrev S120x577 : Shape := ⟨2, ![120, 577]⟩
abbrev S768x768 : Shape := ⟨2, ![768, 768]⟩
abbrev S768 : Shape := ⟨1, ![768]⟩
abbrev S1024x768 : Shape := ⟨2, ![1024, 768]⟩
abbrev S768x3072 : Shape := ⟨2, ![768, 3072]⟩
abbrev S3072 : Shape := ⟨1, ![3072]⟩
abbrev S3072x768 : Shape := ⟨2, ![3072, 768]⟩
abbrev S3840x768 : Shape := ⟨2, ![3840, 768]⟩
abbrev S120x32 : Shape := ⟨2, ![120, 32]⟩
abbrev S3840x3072 : Shape := ⟨2, ![3840, 3072]⟩
abbrev S1x1x768 : Shape := ⟨3, ![1, 1, 768]⟩
abbrev S120x32x12x64 : Shape := ⟨4, ![120, 32, 12, 64]⟩
abbrev S120x12x32x32 : Shape := ⟨4, ![120, 12, 32, 32]⟩
abbrev S120x12x32 : Shape := ⟨3, ![120, 12, 32]⟩
abbrev S120x12x32x1 : Shape := ⟨4, ![120, 12, 32, 1]⟩
abbrev S120x12x64x32 : Shape := ⟨4, ![120, 12, 64, 32]⟩
abbrev S120x32x1 : Shape := ⟨3, ![120, 32, 1]⟩
abbrev S120x577x1 : Shape := ⟨3, ![120, 577, 1]⟩
abbrev S120x577x768 : Shape := ⟨3, ![120, 577, 768]⟩
abbrev S120x577x12x64 : Shape := ⟨4, ![120, 577, 12, 64]⟩
abbrev S120x12x32x577 : Shape := ⟨4, ![120, 12, 32, 577]⟩
abbrev S120x32x253 : Shape := ⟨3, ![120, 32, 253]⟩
abbrev S120x32x3072 : Shape := ⟨3, ![120, 32, 3072]⟩
abbrev S1x1x3072 : Shape := ⟨3, ![1, 1, 3072]⟩

abbrev nBuf : Space → Nat
  | .hbm => 36
  | .vmem => 36
  | .smem => 0
  | _ => 0

abbrev bufTy : (tb : Table) → Fin (tcTables nBuf tb) → BufTy
  | .hbm, ⟨0, _⟩ => ⟨S120x32x768, .bf16⟩
  | .hbm, ⟨1, _⟩ => ⟨S120x577x1024, .fp8e4m3⟩
  | .hbm, ⟨2, _⟩ => ⟨S120x577, .f32⟩
  | .hbm, ⟨3, _⟩ => ⟨S768x768, .bf16⟩
  | .hbm, ⟨4, _⟩ => ⟨S768x768, .bf16⟩
  | .hbm, ⟨5, _⟩ => ⟨S768x768, .bf16⟩
  | .hbm, ⟨6, _⟩ => ⟨S768x768, .bf16⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768x768, .bf16⟩
  | .hbm, ⟨13, _⟩ => ⟨S768x768, .bf16⟩
  | .hbm, ⟨14, _⟩ => ⟨S768, .f32⟩
  | .hbm, ⟨15, _⟩ => ⟨S768, .f32⟩
  | .hbm, ⟨16, _⟩ => ⟨S1024x768, .fp8e4m3⟩
  | .hbm, ⟨17, _⟩ => ⟨S1024x768, .fp8e4m3⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S768, .f32⟩
  | .hbm, ⟨22, _⟩ => ⟨S768, .f32⟩
  | .hbm, ⟨23, _⟩ => ⟨S768x3072, .fp8e4m3⟩
  | .hbm, ⟨24, _⟩ => ⟨S3072, .f32⟩
  | .hbm, ⟨25, _⟩ => ⟨S3072, .f32⟩
  | .hbm, ⟨26, _⟩ => ⟨S3072x768, .fp8e4m3⟩
  | .hbm, ⟨27, _⟩ => ⟨S768, .f32⟩
  | .hbm, ⟨28, _⟩ => ⟨S768, .f32⟩
  | .hbm, ⟨29, _⟩ => ⟨S768, .f32⟩
  | .hbm, ⟨30, _⟩ => ⟨S768, .f32⟩
  | .hbm, ⟨31, _⟩ => ⟨S3840x768, .bf16⟩
  | .hbm, ⟨32, _⟩ => ⟨S3840x768, .fp8e4m3⟩
  | .hbm, ⟨33, _⟩ => ⟨S120x32, .f32⟩
  | .hbm, ⟨34, _⟩ => ⟨S3840x3072, .fp8e4m3⟩
  | .hbm, ⟨35, _⟩ => ⟨S120x32, .f32⟩
  | .local _ .vmem, ⟨0, _⟩ => ⟨S120x32x768, .bf16⟩
  | .local _ .vmem, ⟨1, _⟩ => ⟨S120x577x1024, .fp8e4m3⟩
  | .local _ .vmem, ⟨2, _⟩ => ⟨S120x577, .f32⟩
  | .local _ .vmem, ⟨3, _⟩ => ⟨S768x768, .bf16⟩
  | .local _ .vmem, ⟨4, _⟩ => ⟨S768x768, .bf16⟩
  | .local _ .vmem, ⟨5, _⟩ => ⟨S768x768, .bf16⟩
  | .local _ .vmem, ⟨6, _⟩ => ⟨S768x768, .bf16⟩
  | .local _ .vmem, ⟨7, _⟩ => ⟨S768, .f32⟩
  | .local _ .vmem, ⟨8, _⟩ => ⟨S768, .f32⟩
  | .local _ .vmem, ⟨9, _⟩ => ⟨S768, .f32⟩
  | .local _ .vmem, ⟨10, _⟩ => ⟨S768, .f32⟩
  | .local _ .vmem, ⟨11, _⟩ => ⟨S768, .f32⟩
  | .local _ .vmem, ⟨12, _⟩ => ⟨S768x768, .bf16⟩
  | .local _ .vmem, ⟨13, _⟩ => ⟨S768x768, .bf16⟩
  | .local _ .vmem, ⟨14, _⟩ => ⟨S768, .f32⟩
  | .local _ .vmem, ⟨15, _⟩ => ⟨S768, .f32⟩
  | .local _ .vmem, ⟨16, _⟩ => ⟨S1024x768, .fp8e4m3⟩
  | .local _ .vmem, ⟨17, _⟩ => ⟨S1024x768, .fp8e4m3⟩
  | .local _ .vmem, ⟨18, _⟩ => ⟨S768, .f32⟩
  | .local _ .vmem, ⟨19, _⟩ => ⟨S768, .f32⟩
  | .local _ .vmem, ⟨20, _⟩ => ⟨S768, .f32⟩
  | .local _ .vmem, ⟨21, _⟩ => ⟨S768, .f32⟩
  | .local _ .vmem, ⟨22, _⟩ => ⟨S768, .f32⟩
  | .local _ .vmem, ⟨23, _⟩ => ⟨S768x3072, .fp8e4m3⟩
  | .local _ .vmem, ⟨24, _⟩ => ⟨S3072, .f32⟩
  | .local _ .vmem, ⟨25, _⟩ => ⟨S3072, .f32⟩
  | .local _ .vmem, ⟨26, _⟩ => ⟨S3072x768, .fp8e4m3⟩
  | .local _ .vmem, ⟨27, _⟩ => ⟨S768, .f32⟩
  | .local _ .vmem, ⟨28, _⟩ => ⟨S768, .f32⟩
  | .local _ .vmem, ⟨29, _⟩ => ⟨S768, .f32⟩
  | .local _ .vmem, ⟨30, _⟩ => ⟨S768, .f32⟩
  | .local _ .vmem, ⟨31, _⟩ => ⟨S3840x768, .bf16⟩
  | .local _ .vmem, ⟨32, _⟩ => ⟨S3840x768, .fp8e4m3⟩
  | .local _ .vmem, ⟨33, _⟩ => ⟨S120x32, .f32⟩
  | .local _ .vmem, ⟨34, _⟩ => ⟨S3840x3072, .fp8e4m3⟩
  | .local _ .vmem, ⟨35, _⟩ => ⟨S120x32, .f32⟩
  | _, _ => ⟨S120x32x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0_0 : Ref sig .tc := ⟨.hbm, 31, rfl⟩
abbrev main_v0_1 : Ref sig .tc := ⟨.hbm, 32, rfl⟩
abbrev main_v0_2 : Ref sig .tc := ⟨.hbm, 33, rfl⟩
abbrev main_v0_3 : Ref sig .tc := ⟨.hbm, 34, rfl⟩
abbrev main_v0_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35

abbrev nD : Nat := 1
abbrev τ : Topo := Topo.v7x

variable {F : FTy → Type} [FloatOps F]

abbrev grid0 : Pipeline.Grid := .none

abbrev stage0_0 : Fin 1 → Memref sig .tc .vmem S120x32x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x577x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S120x577 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S768x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S768x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024x768 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S768x3072 .fp8e4m3 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S3072 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S3072 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S3072x768 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S768 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S768 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S768 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S768 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S3840x768 .bf16 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S3840x768 .fp8e4m3 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S120x32 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S3840x3072 .fp8e4m3 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S120x32 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
-- ==== Proof.RefRun.Frame.lean ====
/- The run of the plain reference: its one gridless call, what the body leaves in each result, and the frame. -/
module

public import proofs.«01_k».proof.Proof.Gen.ReferenceIdeal.Launch
public import proofs.«01_k».proof.Proof.Gen.ReferenceIdeal.Skeleton
public import proofs.«01_k».proof.Proof.Gen.ReferenceIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384
set_option maxHeartbeats 4000000

noncomputable section

namespace Cert.ReferenceIdeal.Run

open Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 4000000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl
theorem V_main_arg24 (c : Dev nD) : V m c main_arg24 = m ((c : Thread nD τ).loc main_arg24) := rfl
theorem V_main_arg25 (c : Dev nD) : V m c main_arg25 = m ((c : Thread nD τ).loc main_arg25) := rfl
theorem V_main_arg26 (c : Dev nD) : V m c main_arg26 = m ((c : Thread nD τ).loc main_arg26) := rfl
theorem V_main_arg27 (c : Dev nD) : V m c main_arg27 = m ((c : Thread nD τ).loc main_arg27) := rfl
theorem V_main_arg28 (c : Dev nD) : V m c main_arg28 = m ((c : Thread nD τ).loc main_arg28) := rfl
theorem V_main_arg29 (c : Dev nD) : V m c main_arg29 = m ((c : Thread nD τ).loc main_arg29) := rfl
theorem V_main_arg30 (c : Dev nD) : V m c main_arg30 = m ((c : Thread nD τ).loc main_arg30) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev r0_0 : Rect S120x32x768 := Rect.unit (s := S120x32x768) ![0, 0, 0] S120x32x768.size inb_S120x32x768_S120x32x768_0_0_0
abbrev r0_1 : Rect S768x768 := Rect.unit (s := S768x768) ![0, 0] S768x768.size inb_S768x768_S768x768_0_0
abbrev r0_2 : Rect S768 := Rect.unit (s := S768) ![0] S768.size inb_S768_S768_0
abbrev r0_3 : Rect S120x577 := Rect.unit (s := S120x577) ![0, 0] S120x577.size inb_S120x577_S120x577_0_0
abbrev r0_4 : Rect S120x577x1024 := Rect.unit (s := S120x577x1024) ![0, 0, 0] S120x577x1024.size inb_S120x577x1024_S120x577x1024_0_0_0
abbrev r0_5 : Rect S1024x768 := Rect.unit (s := S1024x768) ![0, 0] S1024x768.size inb_S1024x768_S1024x768_0_0
abbrev r0_6 : Rect S3840x768 := Rect.unit (s := S3840x768) ![0, 0] S3840x768.size inb_S3840x768_S3840x768_0_0
abbrev r0_7 : Rect S120x32 := Rect.unit (s := S120x32) ![0, 0] S120x32.size inb_S120x32_S120x32_0_0
abbrev r0_8 : Rect S768x3072 := Rect.unit (s := S768x3072) ![0, 0] S768x3072.size inb_S768x3072_S768x3072_0_0
abbrev r0_9 : Rect S3072 := Rect.unit (s := S3072) ![0] S3072.size inb_S3072_S3072_0
abbrev r0_10 : Rect S3840x3072 := Rect.unit (s := S3840x3072) ![0, 0] S3840x3072.size inb_S3840x3072_S3840x3072_0_0
abbrev r0_11 : Rect S3072x768 := Rect.unit (s := S3072x768) ![0, 0] S3072x768.size inb_S3072x768_S3072x768_0_0

/-! ## What the body leaves in each output window's buffer -/

/-! ### Values of the body that the stores' payloads, spelt out, would write more than once

    Each is a vector the body binds (often a part call's result), stated over the input windows' blocks and
    numbered on from the skeleton's payload functions (`k0_pay23` …, after `k0_pay22`), so that
    `out0_W` and the values after it name it instead of spelling it out (`unfold_out out0_W` opens a canon
    with them, `unfold_payloads` opens them with the payloads); the comment after each is the printed function's
    name for the value (a count appended where that name is bound again). -/

def k0_pay23 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : FVec F S120x32x768 .bf16 :=
  k0_pay1 (View.ld x0 r0_0) (View.ld x5 r0_1) (View.ld x8 r0_2) -- `v19`
def k0_pay24 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : FVec F S120x12x32x32 .f32 :=
  k0_pay2 (View.ld x0 r0_0) (View.ld x3 r0_1) (View.ld x7 r0_2) (View.ld x0 r0_0) (View.ld x4 r0_1) -- `v29`
def k0_pay25 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : FVec F S120x12x32x32 .f32 :=
  k0_pay3 (View.ld x0 r0_0) (View.ld x3 r0_1) (View.ld x7 r0_2) (View.ld x0 r0_0) (View.ld x4 r0_1) -- `v34`
def k0_pay26 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : FVec F S120x32x768 .f32 :=
  constant S120x32x768 .f32 0x00000000#32 -- `cst_40`
def k0_pay27 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : FVec F S120x32x768 .bf16 :=
  k0_pay5 (k0_pay23 x0 x1 x2 x3 x4 x5 x6 x7 x8 x9 x10 x11 x12 x13 x14 x15 x16 x17 x18 x19 x20 x21 x22 x23 x24 x25 x26 x27 x28 x29 x30) (k0_pay24 x0 x1 x2 x3 x4 x5 x6 x7 x8 x9 x10 x11 x12 x13 x14 x15 x16 x17 x18 x19 x20 x21 x22 x23 x24 x25 x26 x27 x28 x29 x30) (k0_pay25 x0 x1 x2 x3 x4 x5 x6 x7 x8 x9 x10 x11 x12 x13 x14 x15 x16 x17 x18 x19 x20 x21 x22 x23 x24 x25 x26 x27 x28 x29 x30) (View.ld x6 r0_1) (View.ld x9 r0_2) (View.ld x0 r0_0) (View.ld x10 r0_2) (View.ld x11 r0_2) -- `v75`
def k0_pay28 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : FVec F S120x32x768 .f32 :=
  k0_pay10 (k0_pay4 (k0_pay23 x0 x1 x2 x3 x4 x5 x6 x7 x8 x9 x10 x11 x12 x13 x14 x15 x16 x17 x18 x19 x20 x21 x22 x23 x24 x25 x26 x27 x28 x29 x30) (k0_pay24 x0 x1 x2 x3 x4 x5 x6 x7 x8 x9 x10 x11 x12 x13 x14 x15 x16 x17 x18 x19 x20 x21 x22 x23 x24 x25 x26 x27 x28 x29 x30) (k0_pay25 x0 x1 x2 x3 x4 x5 x6 x7 x8 x9 x10 x11 x12 x13 x14 x15 x16 x17 x18 x19 x20 x21 x22 x23 x24 x25 x26 x27 x28 x29 x30) (View.ld x6 r0_1) (View.ld x9 r0_2) (View.ld x0 r0_0) (View.ld x10 r0_2) (View.ld x11 r0_2)) (k0_pay7 (View.ld x2 r0_3) (View.ld x1 r0_4) (View.ld x17 r0_5) (View.ld x19 r0_2) (View.ld x20 r0_2)) (k0_pay8 (k0_pay27 x0 x1 x2 x3 x4 x5 x6 x7 x8 x9 x10 x11 x12 x13 x14 x15 x16 x17 x18 x19 x20 x21 x22 x23 x24 x25 x26 x27 x28 x29 x30) (View.ld x12 r0_1) (k0_pay26 x0 x1 x2 x3 x4 x5 x6 x7 x8 x9 x10 x11 x12 x13 x14 x15 x16 x17 x18 x19 x20 x21 x22 x23 x24 x25 x26 x27 x28 x29 x30) (View.ld x14 r0_2) (View.ld x2 r0_3) (View.ld x1 r0_4) (View.ld x16 r0_5) (View.ld x18 r0_2)) (k0_pay9 (k0_pay27 x0 x1 x2 x3 x4 x5 x6 x7 x8 x9 x10 x11 x12 x13 x14 x15 x16 x17 x18 x19 x20 x21 x22 x23 x24 x25 x26 x27 x28 x29 x30) (View.ld x12 r0_1) (k0_pay26 x0 x1 x2 x3 x4 x5 x6 x7 x8 x9 x10 x11 x12 x13 x14 x15 x16 x17 x18 x19 x20 x21 x22 x23 x24 x25 x26 x27 x28 x29 x30) (View.ld x14 r0_2) (View.ld x2 r0_3) (View.ld x1 r0_4) (View.ld x16 r0_5) (View.ld x18 r0_2)) (View.ld x13 r0_1) (View.ld x15 r0_2) (View.ld x21 r0_2) (View.ld x22 r0_2) -- `v161`
def k0_pay29 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : FVec F S120x32x3072 .f32 :=
  k0_pay15 (k0_pay28 x0 x1 x2 x3 x4 x5 x6 x7 x8 x9 x10 x11 x12 x13 x14 x15 x16 x17 x18 x19 x20 x21 x22 x23 x24 x25 x26 x27 x28 x29 x30) (View.ld x23 r0_8) -- `v198`
def k0_pay30 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : FVec F S120x32x3072 .f32 :=
  k0_pay16 (View.ld x24 r0_9) -- `v201`
def k0_pay31 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : FVec F S120x32x1 .f32 :=
  k0_pay18 (k0_pay29 x0 x1 x2 x3 x4 x5 x6 x7 x8 x9 x10 x11 x12 x13 x14 x15 x16 x17 x18 x19 x20 x21 x22 x23 x24 x25 x26 x27 x28 x29 x30) (k0_pay30 x0 x1 x2 x3 x4 x5 x6 x7 x8 x9 x10 x11 x12 x13 x14 x15 x16 x17 x18 x19 x20 x21 x22 x23 x24 x25 x26 x27 x28 x29 x30) (View.ld x25 r0_9) -- `v234`

/-- Window 31's staging buffer after the body, from the input windows' blocks: its 1 store as pieces, LAST
    FIRST (Lib/Pipeline/FrameBody.lean `View.canon`; the payloads are the skeleton's and the values stated above). -/
def out0_31 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : Vec F S3840x768 .bf16 :=
  View.canon [⟨r0_6, k0_pay22 (k0_pay28 x0 x1 x2 x3 x4 x5 x6 x7 x8 x9 x10 x11 x12 x13 x14 x15 x16 x17 x18 x19 x20 x21 x22 x23 x24 x25 x26 x27 x28 x29 x30) (k0_pay31 x0 x1 x2 x3 x4 x5 x6 x7 x8 x9 x10 x11 x12 x13 x14 x15 x16 x17 x18 x19 x20 x21 x22 x23 x24 x25 x26 x27 x28 x29 x30) (k0_pay19 (k0_pay29 x0 x1 x2 x3 x4 x5 x6 x7 x8 x9 x10 x11 x12 x13 x14 x15 x16 x17 x18 x19 x20 x21 x22 x23 x24 x25 x26 x27 x28 x29 x30) (k0_pay30 x0 x1 x2 x3 x4 x5 x6 x7 x8 x9 x10 x11 x12 x13 x14 x15 x16 x17 x18 x19 x20 x21 x22 x23 x24 x25 x26 x27 x28 x29 x30) (View.ld x25 r0_9)) (View.ld x26 r0_11) (View.ld x27 r0_2) (View.ld x28 r0_2) (View.ld x29 r0_2) (View.ld x30 r0_2)⟩]

/-- Its stores tile the buffer (checked by evaluation), so they cover it. -/
theorem cover0_31 (p0 : Vec F S3840x768 .bf16) (y : S3840x768.Idx) :
    ∃ pc ∈ ([⟨r0_6, p0⟩] : List (View.Piece (Elt F) S3840x768 .bf16)), y ∈ pc.1.set :=
  View.cover_of_tiled [⟨r0_6, p0⟩] S3840x768.size (by rfl) y

/-- Window 32's staging buffer after the body, from the input windows' blocks: its 1 store as pieces, LAST
    FIRST (Lib/Pipeline/FrameBody.lean `View.canon`; the payloads are the skeleton's and the values stated above). -/
def out0_32 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : Vec F S3840x768 .fp8e4m3 :=
  View.canon [⟨r0_6, k0_pay13 (k0_pay28 x0 x1 x2 x3 x4 x5 x6 x7 x8 x9 x10 x11 x12 x13 x14 x15 x16 x17 x18 x19 x20 x21 x22 x23 x24 x25 x26 x27 x28 x29 x30)⟩]

/-- Its stores tile the buffer (checked by evaluation), so they cover it. -/
theorem cover0_32 (p0 : Vec F S3840x768 .fp8e4m3) (y : S3840x768.Idx) :
    ∃ pc ∈ ([⟨r0_6, p0⟩] : List (View.Piece (Elt F) S3840x768 .fp8e4m3)), y ∈ pc.1.set :=
  View.cover_of_tiled [⟨r0_6, p0⟩] S3840x768.size (by rfl) y

/-- Window 33's staging buffer after the body, from the input windows' blocks: its 1 store as pieces, LAST
    FIRST (Lib/Pipeline/FrameBody.lean `View.canon`; the payloads are the skeleton's and the values stated above). -/
def out0_33 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : Vec F S120x32 .f32 :=
  View.canon [⟨r0_7, k0_pay14 (k0_pay28 x0 x1 x2 x3 x4 x5 x6 x7 x8 x9 x10 x11 x12 x13 x14 x15 x16 x17 x18 x19 x20 x21 x22 x23 x24 x25 x26 x27 x28 x29 x30)⟩]

/-- Its stores tile the buffer (checked by evaluation), so they cover it. -/
theorem cover0_33 (p0 : Vec F S120x32 .f32) (y : S120x32.Idx) :
    ∃ pc ∈ ([⟨r0_7, p0⟩] : List (View.Piece (Elt F) S120x32 .f32)), y ∈ pc.1.set :=
  View.cover_of_tiled [⟨r0_7, p0⟩] S120x32.size (by rfl) y

/-- Window 34's staging buffer after the body, from the input windows' blocks: its 1 store as pieces, LAST
    FIRST (Lib/Pipeline/FrameBody.lean `View.canon`; the payloads are the skeleton's and the values stated above). -/
def out0_34 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : Vec F S3840x3072 .fp8e4m3 :=
  View.canon [⟨r0_10, k0_pay20 (k0_pay29 x0 x1 x2 x3 x4 x5 x6 x7 x8 x9 x10 x11 x12 x13 x14 x15 x16 x17 x18 x19 x20 x21 x22 x23 x24 x25 x26 x27 x28 x29 x30) (k0_pay30 x0 x1 x2 x3 x4 x5 x6 x7 x8 x9 x10 x11 x12 x13 x14 x15 x16 x17 x18 x19 x20 x21 x22 x23 x24 x25 x26 x27 x28 x29 x30) (View.ld x25 r0_9)⟩]

/-- Its stores tile the buffer (checked by evaluation), so they cover it. -/
theorem cover0_34 (p0 : Vec F S3840x3072 .fp8e4m3) (y : S3840x3072.Idx) :
    ∃ pc ∈ ([⟨r0_10, p0⟩] : List (View.Piece (Elt F) S3840x3072 .fp8e4m3)), y ∈ pc.1.set :=
  View.cover_of_tiled [⟨r0_10, p0⟩] S3840x3072.size (by rfl) y

/-- Window 35's staging buffer after the body, from the input windows' blocks: its 1 store as pieces, LAST
    FIRST (Lib/Pipeline/FrameBody.lean `View.canon`; the payloads are the skeleton's and the values stated above). -/
def out0_35 (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) : Vec F S120x32 .f32 :=
  View.canon [⟨r0_7, k0_pay21 (k0_pay31 x0 x1 x2 x3 x4 x5 x6 x7 x8 x9 x10 x11 x12 x13 x14 x15 x16 x17 x18 x19 x20 x21 x22 x23 x24 x25 x26 x27 x28 x29 x30)⟩]

/-- Its stores tile the buffer (checked by evaluation), so they cover it. -/
theorem cover0_35 (p0 : Vec F S120x32 .f32) (y : S120x32.Idx) :
    ∃ pc ∈ ([⟨r0_7, p0⟩] : List (View.Piece (Elt F) S120x32 .f32)), y ∈ pc.1.set :=
  View.cover_of_tiled [⟨r0_7, p0⟩] S120x32.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S120x32x768 .bf16) (harg0 : arg0.IsWhole) (arg1 : Memref sig .tc .vmem S120x577x1024 .fp8e4m3) (harg1 : arg1.IsWhole) (arg2 : Memref sig .tc .vmem S120x577 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768 .f32) (harg7 : arg7.IsWhole) (arg8 : Memref sig .tc .vmem S768 .f32) (harg8 : arg8.IsWhole) (arg9 : Memref sig .tc .vmem S768 .f32) (harg9 : arg9.IsWhole) (arg10 : Memref sig .tc .vmem S768 .f32) (harg10 : arg10.IsWhole) (arg11 : Memref sig .tc .vmem S768 .f32) (harg11 : arg11.IsWhole) (arg12 : Memref sig .tc .vmem S768x768 .bf16) (harg12 : arg12.IsWhole) (arg13 : Memref sig .tc .vmem S768x768 .bf16) (harg13 : arg13.IsWhole) (arg14 : Memref sig .tc .vmem S768 .f32) (harg14 : arg14.IsWhole) (arg15 : Memref sig .tc .vmem S768 .f32) (harg15 : arg15.IsWhole) (arg16 : Memref sig .tc .vmem S1024x768 .fp8e4m3) (harg16 : arg16.IsWhole) (arg17 : Memref sig .tc .vmem S1024x768 .fp8e4m3) (harg17 : arg17.IsWhole) (arg18 : Memref sig .tc .vmem S768 .f32) (harg18 : arg18.IsWhole) (arg19 : Memref sig .tc .vmem S768 .f32) (harg19 : arg19.IsWhole) (arg20 : Memref sig .tc .vmem S768 .f32) (harg20 : arg20.IsWhole) (arg21 : Memref sig .tc .vmem S768 .f32) (harg21 : arg21.IsWhole) (arg22 : Memref sig .tc .vmem S768 .f32) (harg22 : arg22.IsWhole) (arg23 : Memref sig .tc .vmem S768x3072 .fp8e4m3) (harg23 : arg23.IsWhole) (arg24 : Memref sig .tc .vmem S3072 .f32) (harg24 : arg24.IsWhole) (arg25 : Memref sig .tc .vmem S3072 .f32) (harg25 : arg25.IsWhole) (arg26 : Memref sig .tc .vmem S3072x768 .fp8e4m3) (harg26 : arg26.IsWhole) (arg27 : Memref sig .tc .vmem S768 .f32) (harg27 : arg27.IsWhole) (arg28 : Memref sig .tc .vmem S768 .f32) (harg28 : arg28.IsWhole) (arg29 : Memref sig .tc .vmem S768 .f32) (harg29 : arg29.IsWhole) (arg30 : Memref sig .tc .vmem S768 .f32) (harg30 : arg30.IsWhole) (arg31 : Memref sig .tc .vmem S3840x768 .bf16) (harg31 : arg31.IsWhole) (arg32 : Memref sig .tc .vmem S3840x768 .fp8e4m3) (harg32 : arg32.IsWhole) (arg33 : Memref sig .tc .vmem S120x32 .f32) (harg33 : arg33.IsWhole) (arg34 : Memref sig .tc .vmem S3840x3072 .fp8e4m3) (harg34 : arg34.IsWhole) (arg35 : Memref sig .tc .vmem S120x32 .f32) (harg35 : arg35.IsWhole)
    (x0 : Vec F S120x32x768 .bf16) (x1 : Vec F S120x577x1024 .fp8e4m3) (x2 : Vec F S120x577 .f32) (x3 : Vec F S768x768 .bf16) (x4 : Vec F S768x768 .bf16) (x5 : Vec F S768x768 .bf16) (x6 : Vec F S768x768 .bf16) (x7 : Vec F S768 .f32) (x8 : Vec F S768 .f32) (x9 : Vec F S768 .f32) (x10 : Vec F S768 .f32) (x11 : Vec F S768 .f32) (x12 : Vec F S768x768 .bf16) (x13 : Vec F S768x768 .bf16) (x14 : Vec F S768 .f32) (x15 : Vec F S768 .f32) (x16 : Vec F S1024x768 .fp8e4m3) (x17 : Vec F S1024x768 .fp8e4m3) (x18 : Vec F S768 .f32) (x19 : Vec F S768 .f32) (x20 : Vec F S768 .f32) (x21 : Vec F S768 .f32) (x22 : Vec F S768 .f32) (x23 : Vec F S768x3072 .fp8e4m3) (x24 : Vec F S3072 .f32) (x25 : Vec F S3072 .f32) (x26 : Vec F S3072x768 .fp8e4m3) (x27 : Vec F S768 .f32) (x28 : Vec F S768 .f32) (x29 : Vec F S768 .f32) (x30 : Vec F S768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare (out0_31 x0 x1 x2 x3 x4 x5 x6 x7 x8 x9 x10 x11 x12 x13 x14 x15 x16 x17 x18 x19 x20 x21 x22 x23 x24 x25 x26 x27 x28 x29 x30) ∗ owns (c : Thread nD τ) arg32 fullShare (out0_32 x0 x1 x2 x3 x4 x5 x6 x7 x8 x9 x10 x11 x12 x13 x14 x15 x16 x17 x18 x19 x20 x21 x22 x23 x24 x25 x26 x27 x28 x29 x30) ∗ owns (c : Thread nD τ) arg33 fullShare (out0_33 x0 x1 x2 x3 x4 x5 x6 x7 x8 x9 x10 x11 x12 x13 x14 x15 x16 x17 x18 x19 x20 x21 x22 x23 x24 x25 x26 x27 x28 x29 x30) ∗ owns (c : Thread nD τ) arg34 fullShare (out0_34 x0 x1 x2 x3 x4 x5 x6 x7 x8 x9 x10 x11 x12 x13 x14 x15 x16 x17 x18 x19 x20 x21 x22 x23 x24 x25 x26 x27 x28 x29 x30) ∗ owns (c : Thread nD τ) arg35 fullShare (out0_35 x0 x1 x2 x3 x4 x5 x6 x7 x8 x9 x10 x11 x12 x13 x14 x15 x16 x17 x18 x19 x20 x21 x22 x23 x24 x25 x26 x27 x28 x29 x30)) -∗ K ⟨⟩))
      ⊢ wp frame (wpE (defs₀ (F := F)) Variants.none c none) E (cc0__reference_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0__reference_body_eq_skeleton]; unfold cc0__reference_body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%d31, %f31, -, H31⟩, ⟨%d32, %f32, -, H32⟩, ⟨%d33, %f33, -, H33⟩, ⟨%d34, %f34, -, H34⟩, ⟨%d35, %f35, -, H35⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  iexists _; isplitr
  swap; · iexact H35
  ipureintro
  refine (View.read_writes_eq_canon _ _ _ (cover0_35 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]

/-- Each input's current staging buffer holds its block at every point, fetched there or not (Lib/Pipeline/FrameBody.lean
    `Dat.before_in_eq_fetched`: unfetched, the index has not moved), the window uncut and never idle. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl)
    (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl)
    (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl)
    (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl)
    (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl)
    (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl)
    (fun t => by rw [after0_20]; unfold Dat.blockOf iblk; rw [A_eq]; try rfl) t d).trans
    (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl)
    (fun t => by rw [after0_21]; unfold Dat.blockOf iblk; rw [A_eq]; try rfl) t d).trans
    (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl)
    (fun t => by rw [after0_22]; unfold Dat.blockOf iblk; rw [A_eq]; try rfl) t d).trans
    (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl)
    (fun t => by rw [after0_23]; unfold Dat.blockOf iblk; rw [A_eq]; try rfl) t d).trans
    (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl)
    (fun t => by rw [after0_24]; unfold Dat.blockOf iblk; rw [A_eq]; try rfl) t d).trans
    (by unfold Dat.fetched Dat.blockOf iblk; rw [A_eq]; try rfl)
theorem before0_25 (c : Dev nD) (t : Fin cfg0.N) (d) : (dats m 0 c).before 25 t d = iblk m c 25 t :=
  ((dats m 0 c).before_in_eq_fetched 25 rfl (fun _ => rfl) (fun _ _ _ => rfl)
    (fun t => by rw [after0_25]; unfold Dat.blockOf iblk; rw [A_eq]; try rfl) t d).trans
    (by unfold Dat.fetched Dat.blockOf iblk; rw [A_eq]; try rfl)
theorem before0_26 (c : Dev nD) (t : Fin cfg0.N) (d) : (dats m 0 c).before 26 t d = iblk m c 26 t :=
  ((dats m 0 c).before_in_eq_fetched 26 rfl (fun _ => rfl) (fun _ _ _ => rfl)
    (fun t => by rw [after0_26]; unfold Dat.blockOf iblk; rw [A_eq]; try rfl) t d).trans
    (by unfold Dat.fetched Dat.blockOf iblk; rw [A_eq]; try rfl)
theorem before0_27 (c : Dev nD) (t : Fin cfg0.N) (d) : (dats m 0 c).before 27 t d = iblk m c 27 t :=
  ((dats m 0 c).before_in_eq_fetched 27 rfl (fun _ => rfl) (fun _ _ _ => rfl)
    (fun t => by rw [after0_27]; unfold Dat.blockOf iblk; rw [A_eq]; try rfl) t d).trans
    (by unfold Dat.fetched Dat.blockOf iblk; rw [A_eq]; try rfl)
theorem before0_28 (c : Dev nD) (t : Fin cfg0.N) (d) : (dats m 0 c).before 28 t d = iblk m c 28 t :=
  ((dats m 0 c).before_in_eq_fetched 28 rfl (fun _ => rfl) (fun _ _ _ => rfl)
    (fun t => by rw [after0_28]; unfold Dat.blockOf iblk; rw [A_eq]; try rfl) t d).trans
    (by unfold Dat.fetched Dat.blockOf iblk; rw [A_eq]; try rfl)
theorem before0_29 (c : Dev nD) (t : Fin cfg0.N) (d) : (dats m 0 c).before 29 t d = iblk m c 29 t :=
  ((dats m 0 c).before_in_eq_fetched 29 rfl (fun _ => rfl) (fun _ _ _ => rfl)
    (fun t => by rw [after0_29]; unfold Dat.blockOf iblk; rw [A_eq]; try rfl) t d).trans
    (by unfold Dat.fetched Dat.blockOf iblk; rw [A_eq]; try rfl)
theorem before0_30 (c : Dev nD) (t : Fin cfg0.N) (d) : (dats m 0 c).before 30 t d = iblk m c 30 t :=
  ((dats m 0 c).before_in_eq_fetched 30 rfl (fun _ => rfl) (fun _ _ _ => rfl)
    (fun t => by rw [after0_30]; unfold Dat.blockOf iblk; rw [A_eq]; try rfl) t d).trans
    (by unfold Dat.fetched Dat.blockOf iblk; rw [A_eq]; try rfl)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t))

set_option maxHeartbeats 2000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  isplitl [H32]; · iexists _; iexact H32
  isplitl [H33]; · iexists _; iexact H33
  isplitl [H34]; · iexists _; iexact H34
  isplitl [H35]; · iexists _; iexact H35
  iintro ⟨H0, H1, H2, H3, H4, H5, H6, H7, H8, H9, H10, H11, H12, H13, H14, H15, H16, H17, H18, H19, H20, H21, H22, H23, H24, H25, H26, H27, H28, H29, H30, H31, H32, H33, H34, H35⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

end Cert.ReferenceIdeal.Run

end
-- ==== Proof.RefRun.Value.lean ====
/- What the reference leaves in each of its five results, as functions of its arguments. -/
module

public import proofs.«01_k».proof.Proof.RefRun.Frame
public import Idealize.ShloMosaic.Lib.Pipeline.Value

@[expose] public section

set_option maxHeartbeats 4000000

noncomputable section

namespace Cert.ReferenceIdeal.Run

open Cert.ReferenceIdeal.Gen
open Cert.ReferenceIdeal Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The windows: each input's block of the one grid point is its whole array, which is an argument as launched -/

theorem iblk0_eq (c : Dev nD) (t : Fin cfg0.N) : iblk m c 0 t = m ((c : Thread nD τ).loc main_arg0) := by
  have z := (by decide +kernel : ∀ (t : Fin grid0.N) (a : Fin 3), win0_0.index t a = 0) t
  have e : ∀ j : S120x32x768.Idx, ((cfg0.win 0).blk t).view.emb j = j := fun j => funext fun a => Fin.ext (by
    show win0_0.index t a * _ + 1 * (j a).val = _; rw [z, Nat.zero_mul, Nat.zero_add, Nat.one_mul])
  refine Eq.trans (funext fun j => ?_) (V_main_arg0 m c)
  show V m c main_arg0 (((cfg0.win 0).blk t).view.emb j) = V m c main_arg0 j; rw [e]

theorem iblk1_eq (c : Dev nD) (t : Fin cfg0.N) : iblk m c 1 t = m ((c : Thread nD τ).loc main_arg1) := by
  have z := (by decide +kernel : ∀ (t : Fin grid0.N) (a : Fin 3), win0_1.index t a = 0) t
  have e : ∀ j : S120x577x1024.Idx, ((cfg0.win 1).blk t).view.emb j = j := fun j => funext fun a => Fin.ext (by
    show win0_1.index t a * _ + 1 * (j a).val = _; rw [z, Nat.zero_mul, Nat.zero_add, Nat.one_mul])
  refine Eq.trans (funext fun j => ?_) (V_main_arg1 m c)
  show V m c main_arg1 (((cfg0.win 1).blk t).view.emb j) = V m c main_arg1 j; rw [e]

theorem iblk2_eq (c : Dev nD) (t : Fin cfg0.N) : iblk m c 2 t = m ((c : Thread nD τ).loc main_arg2) := by
  have z := (by decide +kernel : ∀ (t : Fin grid0.N) (a : Fin 2), win0_2.index t a = 0) t
  have e : ∀ j : S120x577.Idx, ((cfg0.win 2).blk t).view.emb j = j := fun j => funext fun a => Fin.ext (by
    show win0_2.index t a * _ + 1 * (j a).val = _; rw [z, Nat.zero_mul, Nat.zero_add, Nat.one_mul])
  refine Eq.trans (funext fun j => ?_) (V_main_arg2 m c)
  show V m c main_arg2 (((cfg0.win 2).blk t).view.emb j) = V m c main_arg2 j; rw [e]

theorem iblk3_eq (c : Dev nD) (t : Fin cfg0.N) : iblk m c 3 t = m ((c : Thread nD τ).loc main_arg3) := by
  have z := (by decide +kernel : ∀ (t : Fin grid0.N) (a : Fin 2), win0_3.index t a = 0) t
  have e : ∀ j : S768x768.Idx, ((cfg0.win 3).blk t).view.emb j = j := fun j => funext fun a => Fin.ext (by
    show win0_3.index t a * _ + 1 * (j a).val = _; rw [z, Nat.zero_mul, Nat.zero_add, Nat.one_mul])
  refine Eq.trans (funext fun j => ?_) (V_main_arg3 m c)
  show V m c main_arg3 (((cfg0.win 3).blk t).view.emb j) = V m c main_arg3 j; rw [e]

theorem iblk4_eq (c : Dev nD) (t : Fin cfg0.N) : iblk m c 4 t = m ((c : Thread nD τ).loc main_arg4) := by
  have z := (by decide +kernel : ∀ (t : Fin grid0.N) (a : Fin 2), win0_4.index t a = 0) t
  have e : ∀ j : S768x768.Idx, ((cfg0.win 4).blk t).view.emb j = j := fun j => funext fun a => Fin.ext (by
    show win0_4.index t a * _ + 1 * (j a).val = _; rw [z, Nat.zero_mul, Nat.zero_add, Nat.one_mul])
  refine Eq.trans (funext fun j => ?_) (V_main_arg4 m c)
  show V m c main_arg4 (((cfg0.win 4).blk t).view.emb j) = V m c main_arg4 j; rw [e]

theorem iblk5_eq (c : Dev nD) (t : Fin cfg0.N) : iblk m c 5 t = m ((c : Thread nD τ).loc main_arg5) := by
  have z := (by decide +kernel : ∀ (t : Fin grid0.N) (a : Fin 2), win0_5.index t a = 0) t
  have e : ∀ j : S768x768.Idx, ((cfg0.win 5).blk t).view.emb j = j := fun j => funext fun a => Fin.ext (by
    show win0_5.index t a * _ + 1 * (j a).val = _; rw [z, Nat.zero_mul, Nat.zero_add, Nat.one_mul])
  refine Eq.trans (funext fun j => ?_) (V_main_arg5 m c)
  show V m c main_arg5 (((cfg0.win 5).blk t).view.emb j) = V m c main_arg5 j; rw [e]

theorem iblk6_eq (c : Dev nD) (t : Fin cfg0.N) : iblk m c 6 t = m ((c : Thread nD τ).loc main_arg6) := by
  have z := (by decide +kernel : ∀ (t : Fin grid0.N) (a : Fin 2), win0_6.index t a = 0) t
  have e : ∀ j : S768x768.Idx, ((cfg0.win 6).blk t).view.emb j = j := fun j => funext fun a => Fin.ext (by
    show win0_6.index t a * _ + 1 * (j a).val = _; rw [z, Nat.zero_mul, Nat.zero_add, Nat.one_mul])
  refine Eq.trans (funext fun j => ?_) (V_main_arg6 m c)
  show V m c main_arg6 (((cfg0.win 6).blk t).view.emb j) = V m c main_arg6 j; rw [e]

theorem iblk7_eq (c : Dev nD) (t : Fin cfg0.N) : iblk m c 7 t = m ((c : Thread nD τ).loc main_arg7) := by
  have z := (by decide +kernel : ∀ (t : Fin grid0.N) (a : Fin 1), win0_7.index t a = 0) t
  have e : ∀ j : S768.Idx, ((cfg0.win 7).blk t).view.emb j = j := fun j => funext fun a => Fin.ext (by
    show win0_7.index t a * _ + 1 * (j a).val = _; rw [z, Nat.zero_mul, Nat.zero_add, Nat.one_mul])
  refine Eq.trans (funext fun j => ?_) (V_main_arg7 m c)
  show V m c main_arg7 (((cfg0.win 7).blk t).view.emb j) = V m c main_arg7 j; rw [e]

theorem iblk8_eq (c : Dev nD) (t : Fin cfg0.N) : iblk m c 8 t = m ((c : Thread nD τ).loc main_arg8) := by
  have z := (by decide +kernel : ∀ (t : Fin grid0.N) (a : Fin 1), win0_8.index t a = 0) t
  have e : ∀ j : S768.Idx, ((cfg0.win 8).blk t).view.emb j = j := fun j => funext fun a => Fin.ext (by
    show win0_8.index t a * _ + 1 * (j a).val = _; rw [z, Nat.zero_mul, Nat.zero_add, Nat.one_mul])
  refine Eq.trans (funext fun j => ?_) (V_main_arg8 m c)
  show V m c main_arg8 (((cfg0.win 8).blk t).view.emb j) = V m c main_arg8 j; rw [e]

theorem iblk9_eq (c : Dev nD) (t : Fin cfg0.N) : iblk m c 9 t = m ((c : Thread nD τ).loc main_arg9) := by
  have z := (by decide +kernel : ∀ (t : Fin grid0.N) (a : Fin 1), win0_9.index t a = 0) t
  have e : ∀ j : S768.Idx, ((cfg0.win 9).blk t).view.emb j = j := fun j => funext fun a => Fin.ext (by
    show win0_9.index t a * _ + 1 * (j a).val = _; rw [z, Nat.zero_mul, Nat.zero_add, Nat.one_mul])
  refine Eq.trans (funext fun j => ?_) (V_main_arg9 m c)
  show V m c main_arg9 (((cfg0.win 9).blk t).view.emb j) = V m c main_arg9 j; rw [e]

theorem iblk10_eq (c : Dev nD) (t : Fin cfg0.N) : iblk m c 10 t = m ((c : Thread nD τ).loc main_arg10) := by
  have z := (by decide +kernel : ∀ (t : Fin grid0.N) (a : Fin 1), win0_10.index t a = 0) t
  have e : ∀ j : S768.Idx, ((cfg0.win 10).blk t).view.emb j = j := fun j => funext fun a => Fin.ext (by
    show win0_10.index t a * _ + 1 * (j a).val = _; rw [z, Nat.zero_mul, Nat.zero_add, Nat.one_mul])
  refine Eq.trans (funext fun j => ?_) (V_main_arg10 m c)
  show V m c main_arg10 (((cfg0.win 10).blk t).view.emb j) = V m c main_arg10 j; rw [e]

theorem iblk11_eq (c : Dev nD) (t : Fin cfg0.N) : iblk m c 11 t = m ((c : Thread nD τ).loc main_arg11) := by
  have z := (by decide +kernel : ∀ (t : Fin grid0.N) (a : Fin 1), win0_11.index t a = 0) t
  have e : ∀ j : S768.Idx, ((cfg0.win 11).blk t).view.emb j = j := fun j => funext fun a => Fin.ext (by
    show win0_11.index t a * _ + 1 * (j a).val = _; rw [z, Nat.zero_mul, Nat.zero_add, Nat.one_mul])
  refine Eq.trans (funext fun j => ?_) (V_main_arg11 m c)
  show V m c main_arg11 (((cfg0.win 11).blk t).view.emb j) = V m c main_arg11 j; rw [e]

theorem iblk12_eq (c : Dev nD) (t : Fin cfg0.N) : iblk m c 12 t = m ((c : Thread nD τ).loc main_arg12) := by
  have z := (by decide +kernel : ∀ (t : Fin grid0.N) (a : Fin 2), win0_12.index t a = 0) t
  have e : ∀ j : S768x768.Idx, ((cfg0.win 12).blk t).view.emb j = j := fun j => funext fun a => Fin.ext (by
    show win0_12.index t a * _ + 1 * (j a).val = _; rw [z, Nat.zero_mul, Nat.zero_add, Nat.one_mul])
  refine Eq.trans (funext fun j => ?_) (V_main_arg12 m c)
  show V m c main_arg12 (((cfg0.win 12).blk t).view.emb j) = V m c main_arg12 j; rw [e]

theorem iblk13_eq (c : Dev nD) (t : Fin cfg0.N) : iblk m c 13 t = m ((c : Thread nD τ).loc main_arg13) := by
  have z := (by decide +kernel : ∀ (t : Fin grid0.N) (a : Fin 2), win0_13.index t a = 0) t
  have e : ∀ j : S768x768.Idx, ((cfg0.win 13).blk t).view.emb j = j := fun j => funext fun a => Fin.ext (by
    show win0_13.index t a * _ + 1 * (j a).val = _; rw [z, Nat.zero_mul, Nat.zero_add, Nat.one_mul])
  refine Eq.trans (funext fun j => ?_) (V_main_arg13 m c)
  show V m c main_arg13 (((cfg0.win 13).blk t).view.emb j) = V m c main_arg13 j; rw [e]

theorem iblk14_eq (c : Dev nD) (t : Fin cfg0.N) : iblk m c 14 t = m ((c : Thread nD τ).loc main_arg14) := by
  have z := (by decide +kernel : ∀ (t : Fin grid0.N) (a : Fin 1), win0_14.index t a = 0) t
  have e : ∀ j : S768.Idx, ((cfg0.win 14).blk t).view.emb j = j := fun j => funext fun a => Fin.ext (by
    show win0_14.index t a * _ + 1 * (j a).val = _; rw [z, Nat.zero_mul, Nat.zero_add, Nat.one_mul])
  refine Eq.trans (funext fun j => ?_) (V_main_arg14 m c)
  show V m c main_arg14 (((cfg0.win 14).blk t).view.emb j) = V m c main_arg14 j; rw [e]

theorem iblk15_eq (c : Dev nD) (t : Fin cfg0.N) : iblk m c 15 t = m ((c : Thread nD τ).loc main_arg15) := by
  have z := (by decide +kernel : ∀ (t : Fin grid0.N) (a : Fin 1), win0_15.index t a = 0) t
  have e : ∀ j : S768.Idx, ((cfg0.win 15).blk t).view.emb j = j := fun j => funext fun a => Fin.ext (by
    show win0_15.index t a * _ + 1 * (j a).val = _; rw [z, Nat.zero_mul, Nat.zero_add, Nat.one_mul])
  refine Eq.trans (funext fun j => ?_) (V_main_arg15 m c)
  show V m c main_arg15 (((cfg0.win 15).blk t).view.emb j) = V m c main_arg15 j; rw [e]

theorem iblk16_eq (c : Dev nD) (t : Fin cfg0.N) : iblk m c 16 t = m ((c : Thread nD τ).loc main_arg16) := by
  have z := (by decide +kernel : ∀ (t : Fin grid0.N) (a : Fin 2), win0_16.index t a = 0) t
  have e : ∀ j : S1024x768.Idx, ((cfg0.win 16).blk t).view.emb j = j := fun j => funext fun a => Fin.ext (by
    show win0_16.index t a * _ + 1 * (j a).val = _; rw [z, Nat.zero_mul, Nat.zero_add, Nat.one_mul])
  refine Eq.trans (funext fun j => ?_) (V_main_arg16 m c)
  show V m c main_arg16 (((cfg0.win 16).blk t).view.emb j) = V m c main_arg16 j; rw [e]

theorem iblk17_eq (c : Dev nD) (t : Fin cfg0.N) : iblk m c 17 t = m ((c : Thread nD τ).loc main_arg17) := by
  have z := (by decide +kernel : ∀ (t : Fin grid0.N) (a : Fin 2), win0_17.index t a = 0) t
  have e : ∀ j : S1024x768.Idx, ((cfg0.win 17).blk t).view.emb j = j := fun j => funext fun a => Fin.ext (by
    show win0_17.index t a * _ + 1 * (j a).val = _; rw [z, Nat.zero_mul, Nat.zero_add, Nat.one_mul])
  refine Eq.trans (funext fun j => ?_) (V_main_arg17 m c)
  show V m c main_arg17 (((cfg0.win 17).blk t).view.emb j) = V m c main_arg17 j; rw [e]

theorem iblk18_eq (c : Dev nD) (t : Fin cfg0.N) : iblk m c 18 t = m ((c : Thread nD τ).loc main_arg18) := by
  have z := (by decide +kernel : ∀ (t : Fin grid0.N) (a : Fin 1), win0_18.index t a = 0) t
  have e : ∀ j : S768.Idx, ((cfg0.win 18).blk t).view.emb j = j := fun j => funext fun a => Fin.ext (by
    show win0_18.index t a * _ + 1 * (j a).val = _; rw [z, Nat.zero_mul, Nat.zero_add, Nat.one_mul])
  refine Eq.trans (funext fun j => ?_) (V_main_arg18 m c)
  show V m c main_arg18 (((cfg0.win 18).blk t).view.emb j) = V m c main_arg18 j; rw [e]

theorem iblk19_eq (c : Dev nD) (t : Fin cfg0.N) : iblk m c 19 t = m ((c : Thread nD τ).loc main_arg19) := by
  have z := (by decide +kernel : ∀ (t : Fin grid0.N) (a : Fin 1), win0_19.index t a = 0) t
  have e : ∀ j : S768.Idx, ((cfg0.win 19).blk t).view.emb j = j := fun j => funext fun a => Fin.ext (by
    show win0_19.index t a * _ + 1 * (j a).val = _; rw [z, Nat.zero_mul, Nat.zero_add, Nat.one_mul])
  refine Eq.trans (funext fun j => ?_) (V_main_arg19 m c)
  show V m c main_arg19 (((cfg0.win 19).blk t).view.emb j) = V m c main_arg19 j; rw [e]

theorem iblk20_eq (c : Dev nD) (t : Fin cfg0.N) : iblk m c 20 t = m ((c : Thread nD τ).loc main_arg20) := by
  have z := (by decide +kernel : ∀ (t : Fin grid0.N) (a : Fin 1), win0_20.index t a = 0) t
  have e : ∀ j : S768.Idx, ((cfg0.win 20).blk t).view.emb j = j := fun j => funext fun a => Fin.ext (by
    show win0_20.index t a * _ + 1 * (j a).val = _; rw [z, Nat.zero_mul, Nat.zero_add, Nat.one_mul])
  refine Eq.trans (funext fun j => ?_) (V_main_arg20 m c)
  show V m c main_arg20 (((cfg0.win 20).blk t).view.emb j) = V m c main_arg20 j; rw [e]

theorem iblk21_eq (c : Dev nD) (t : Fin cfg0.N) : iblk m c 21 t = m ((c : Thread nD τ).loc main_arg21) := by
  have z := (by decide +kernel : ∀ (t : Fin grid0.N) (a : Fin 1), win0_21.index t a = 0) t
  have e : ∀ j : S768.Idx, ((cfg0.win 21).blk t).view.emb j = j := fun j => funext fun a => Fin.ext (by
    show win0_21.index t a * _ + 1 * (j a).val = _; rw [z, Nat.zero_mul, Nat.zero_add, Nat.one_mul])
  refine Eq.trans (funext fun j => ?_) (V_main_arg21 m c)
  show V m c main_arg21 (((cfg0.win 21).blk t).view.emb j) = V m c main_arg21 j; rw [e]

theorem iblk22_eq (c : Dev nD) (t : Fin cfg0.N) : iblk m c 22 t = m ((c : Thread nD τ).loc main_arg22) := by
  have z := (by decide +kernel : ∀ (t : Fin grid0.N) (a : Fin 1), win0_22.index t a = 0) t
  have e : ∀ j : S768.Idx, ((cfg0.win 22).blk t).view.emb j = j := fun j => funext fun a => Fin.ext (by
    show win0_22.index t a * _ + 1 * (j a).val = _; rw [z, Nat.zero_mul, Nat.zero_add, Nat.one_mul])
  refine Eq.trans (funext fun j => ?_) (V_main_arg22 m c)
  show V m c main_arg22 (((cfg0.win 22).blk t).view.emb j) = V m c main_arg22 j; rw [e]

theorem iblk23_eq (c : Dev nD) (t : Fin cfg0.N) : iblk m c 23 t = m ((c : Thread nD τ).loc main_arg23) := by
  have z := (by decide +kernel : ∀ (t : Fin grid0.N) (a : Fin 2), win0_23.index t a = 0) t
  have e : ∀ j : S768x3072.Idx, ((cfg0.win 23).blk t).view.emb j = j := fun j => funext fun a => Fin.ext (by
    show win0_23.index t a * _ + 1 * (j a).val = _; rw [z, Nat.zero_mul, Nat.zero_add, Nat.one_mul])
  refine Eq.trans (funext fun j => ?_) (V_main_arg23 m c)
  show V m c main_arg23 (((cfg0.win 23).blk t).view.emb j) = V m c main_arg23 j; rw [e]

theorem iblk24_eq (c : Dev nD) (t : Fin cfg0.N) : iblk m c 24 t = m ((c : Thread nD τ).loc main_arg24) := by
  have z := (by decide +kernel : ∀ (t : Fin grid0.N) (a : Fin 1), win0_24.index t a = 0) t
  have e : ∀ j : S3072.Idx, ((cfg0.win 24).blk t).view.emb j = j := fun j => funext fun a => Fin.ext (by
    show win0_24.index t a * _ + 1 * (j a).val = _; rw [z, Nat.zero_mul, Nat.zero_add, Nat.one_mul])
  refine Eq.trans (funext fun j => ?_) (V_main_arg24 m c)
  show V m c main_arg24 (((cfg0.win 24).blk t).view.emb j) = V m c main_arg24 j; rw [e]

theorem iblk25_eq (c : Dev nD) (t : Fin cfg0.N) : iblk m c 25 t = m ((c : Thread nD τ).loc main_arg25) := by
  have z := (by decide +kernel : ∀ (t : Fin grid0.N) (a : Fin 1), win0_25.index t a = 0) t
  have e : ∀ j : S3072.Idx, ((cfg0.win 25).blk t).view.emb j = j := fun j => funext fun a => Fin.ext (by
    show win0_25.index t a * _ + 1 * (j a).val = _; rw [z, Nat.zero_mul, Nat.zero_add, Nat.one_mul])
  refine Eq.trans (funext fun j => ?_) (V_main_arg25 m c)
  show V m c main_arg25 (((cfg0.win 25).blk t).view.emb j) = V m c main_arg25 j; rw [e]

theorem iblk26_eq (c : Dev nD) (t : Fin cfg0.N) : iblk m c 26 t = m ((c : Thread nD τ).loc main_arg26) := by
  have z := (by decide +kernel : ∀ (t : Fin grid0.N) (a : Fin 2), win0_26.index t a = 0) t
  have e : ∀ j : S3072x768.Idx, ((cfg0.win 26).blk t).view.emb j = j := fun j => funext fun a => Fin.ext (by
    show win0_26.index t a * _ + 1 * (j a).val = _; rw [z, Nat.zero_mul, Nat.zero_add, Nat.one_mul])
  refine Eq.trans (funext fun j => ?_) (V_main_arg26 m c)
  show V m c main_arg26 (((cfg0.win 26).blk t).view.emb j) = V m c main_arg26 j; rw [e]

theorem iblk27_eq (c : Dev nD) (t : Fin cfg0.N) : iblk m c 27 t = m ((c : Thread nD τ).loc main_arg27) := by
  have z := (by decide +kernel : ∀ (t : Fin grid0.N) (a : Fin 1), win0_27.index t a = 0) t
  have e : ∀ j : S768.Idx, ((cfg0.win 27).blk t).view.emb j = j := fun j => funext fun a => Fin.ext (by
    show win0_27.index t a * _ + 1 * (j a).val = _; rw [z, Nat.zero_mul, Nat.zero_add, Nat.one_mul])
  refine Eq.trans (funext fun j => ?_) (V_main_arg27 m c)
  show V m c main_arg27 (((cfg0.win 27).blk t).view.emb j) = V m c main_arg27 j; rw [e]

theorem iblk28_eq (c : Dev nD) (t : Fin cfg0.N) : iblk m c 28 t = m ((c : Thread nD τ).loc main_arg28) := by
  have z := (by decide +kernel : ∀ (t : Fin grid0.N) (a : Fin 1), win0_28.index t a = 0) t
  have e : ∀ j : S768.Idx, ((cfg0.win 28).blk t).view.emb j = j := fun j => funext fun a => Fin.ext (by
    show win0_28.index t a * _ + 1 * (j a).val = _; rw [z, Nat.zero_mul, Nat.zero_add, Nat.one_mul])
  refine Eq.trans (funext fun j => ?_) (V_main_arg28 m c)
  show V m c main_arg28 (((cfg0.win 28).blk t).view.emb j) = V m c main_arg28 j; rw [e]

theorem iblk29_eq (c : Dev nD) (t : Fin cfg0.N) : iblk m c 29 t = m ((c : Thread nD τ).loc main_arg29) := by
  have z := (by decide +kernel : ∀ (t : Fin grid0.N) (a : Fin 1), win0_29.index t a = 0) t
  have e : ∀ j : S768.Idx, ((cfg0.win 29).blk t).view.emb j = j := fun j => funext fun a => Fin.ext (by
    show win0_29.index t a * _ + 1 * (j a).val = _; rw [z, Nat.zero_mul, Nat.zero_add, Nat.one_mul])
  refine Eq.trans (funext fun j => ?_) (V_main_arg29 m c)
  show V m c main_arg29 (((cfg0.win 29).blk t).view.emb j) = V m c main_arg29 j; rw [e]

theorem iblk30_eq (c : Dev nD) (t : Fin cfg0.N) : iblk m c 30 t = m ((c : Thread nD τ).loc main_arg30) := by
  have z := (by decide +kernel : ∀ (t : Fin grid0.N) (a : Fin 1), win0_30.index t a = 0) t
  have e : ∀ j : S768.Idx, ((cfg0.win 30).blk t).view.emb j = j := fun j => funext fun a => Fin.ext (by
    show win0_30.index t a * _ + 1 * (j a).val = _; rw [z, Nat.zero_mul, Nat.zero_add, Nat.one_mul])
  refine Eq.trans (funext fun j => ?_) (V_main_arg30 m c)
  show V m c main_arg30 (((cfg0.win 30).blk t).view.emb j) = V m c main_arg30 j; rw [e]

/-! ## The results -/

/-- Result 1 of the reference: what the body computes from the arguments as launched. -/
def res31 (c : Dev nD) : Vec F S3840x768 .bf16 :=
  out0_31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))

/-- An index of window 31's block is the same index of its array. -/
theorem emb31 (t : Fin cfg0.N) (j : S3840x768.Idx) : ((cfg0.win 31).blk t).view.emb j = j := by
  have z := (by decide +kernel : ∀ (t : Fin grid0.N) (a : Fin 2), win0_31.index t a = 0) t
  funext a; apply Fin.ext
  show win0_31.index t a * _ + 1 * (j a).val = _; rw [z, Nat.zero_mul, Nat.zero_add, Nat.one_mul]

/-- Cutting the point's block out of `X` and reading `X` through the block's view give the same. -/
theorem cut31_eq (t : Fin cfg0.N) (X : Vec F S3840x768 .bf16) :
    (cfg0.win 31).cut (grid0.coords t) X = ((cfg0.win 31).blk t).view.read (Elt F) X := by
  funext j
  show X j = X (((cfg0.win 31).blk t).view.emb j)
  rw [emb31]

/-- What the one point writes back is its block of `res31`. -/
theorem flushed31_eq (c : Dev nD) (t : Fin cfg0.N) :
    (dats m 0 c).flushed 31 t = ((cfg0.win 31).blk t).view.read (Elt F) (res31 m c) := by
  have e : (dats m 0 c).after 31 t = res31 m c := by
    rw [after0_31]; unfold res31
    rw [iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq, iblk26_eq, iblk27_eq, iblk28_eq, iblk29_eq, iblk30_eq]
  show (cfg0.win 31).cut (grid0.coords t) ((dats m 0 c).after 31 t) = _
  rw [e]
  exact cut31_eq t _

/-- Every index of the array is in the point's block. -/
theorem covered31 (i : S3840x768.Idx) :
    ∃ t : Fin cfg0.N, (cfg0.win 31).flush t = true ∧ i ∈ ((cfg0.win 31).blk t).view.set :=
  ⟨(⟨0, by decide⟩ : Fin cfg0.N), flush0_31 _, by have h := ((cfg0.win 31).blk (⟨0, by decide⟩ : Fin cfg0.N)).view.emb_mem_set i; rwa [emb31] at h⟩

/-- The array after the run is `res31`. -/
theorem final31 (c : Dev nD) : (dats m 0 c).arrAt 31 cfg0.N = res31 m c :=
  (dats m 0 c).arrAt_eq_of_cover 31 (res31 m c) (fun t _ => flushed31_eq m c t) covered31

/-- Result 2 of the reference: what the body computes from the arguments as launched. -/
def res32 (c : Dev nD) : Vec F S3840x768 .fp8e4m3 :=
  out0_32 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))

/-- An index of window 32's block is the same index of its array. -/
theorem emb32 (t : Fin cfg0.N) (j : S3840x768.Idx) : ((cfg0.win 32).blk t).view.emb j = j := by
  have z := (by decide +kernel : ∀ (t : Fin grid0.N) (a : Fin 2), win0_32.index t a = 0) t
  funext a; apply Fin.ext
  show win0_32.index t a * _ + 1 * (j a).val = _; rw [z, Nat.zero_mul, Nat.zero_add, Nat.one_mul]

/-- Cutting the point's block out of `X` and reading `X` through the block's view give the same. -/
theorem cut32_eq (t : Fin cfg0.N) (X : Vec F S3840x768 .fp8e4m3) :
    (cfg0.win 32).cut (grid0.coords t) X = ((cfg0.win 32).blk t).view.read (Elt F) X := by
  funext j
  show X j = X (((cfg0.win 32).blk t).view.emb j)
  rw [emb32]

/-- What the one point writes back is its block of `res32`. -/
theorem flushed32_eq (c : Dev nD) (t : Fin cfg0.N) :
    (dats m 0 c).flushed 32 t = ((cfg0.win 32).blk t).view.read (Elt F) (res32 m c) := by
  have e : (dats m 0 c).after 32 t = res32 m c := by
    rw [after0_32]; unfold res32
    rw [iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq, iblk26_eq, iblk27_eq, iblk28_eq, iblk29_eq, iblk30_eq]
  show (cfg0.win 32).cut (grid0.coords t) ((dats m 0 c).after 32 t) = _
  rw [e]
  exact cut32_eq t _

/-- Every index of the array is in the point's block. -/
theorem covered32 (i : S3840x768.Idx) :
    ∃ t : Fin cfg0.N, (cfg0.win 32).flush t = true ∧ i ∈ ((cfg0.win 32).blk t).view.set :=
  ⟨(⟨0, by decide⟩ : Fin cfg0.N), flush0_32 _, by have h := ((cfg0.win 32).blk (⟨0, by decide⟩ : Fin cfg0.N)).view.emb_mem_set i; rwa [emb32] at h⟩

/-- The array after the run is `res32`. -/
theorem final32 (c : Dev nD) : (dats m 0 c).arrAt 32 cfg0.N = res32 m c :=
  (dats m 0 c).arrAt_eq_of_cover 32 (res32 m c) (fun t _ => flushed32_eq m c t) covered32

/-- Result 3 of the reference: what the body computes from the arguments as launched. -/
def res33 (c : Dev nD) : Vec F S120x32 .f32 :=
  out0_33 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))

/-- An index of window 33's block is the same index of its array. -/
theorem emb33 (t : Fin cfg0.N) (j : S120x32.Idx) : ((cfg0.win 33).blk t).view.emb j = j := by
  have z := (by decide +kernel : ∀ (t : Fin grid0.N) (a : Fin 2), win0_33.index t a = 0) t
  funext a; apply Fin.ext
  show win0_33.index t a * _ + 1 * (j a).val = _; rw [z, Nat.zero_mul, Nat.zero_add, Nat.one_mul]

/-- Cutting the point's block out of `X` and reading `X` through the block's view give the same. -/
theorem cut33_eq (t : Fin cfg0.N) (X : Vec F S120x32 .f32) :
    (cfg0.win 33).cut (grid0.coords t) X = ((cfg0.win 33).blk t).view.read (Elt F) X := by
  funext j
  show X j = X (((cfg0.win 33).blk t).view.emb j)
  rw [emb33]

/-- What the one point writes back is its block of `res33`. -/
theorem flushed33_eq (c : Dev nD) (t : Fin cfg0.N) :
    (dats m 0 c).flushed 33 t = ((cfg0.win 33).blk t).view.read (Elt F) (res33 m c) := by
  have e : (dats m 0 c).after 33 t = res33 m c := by
    rw [after0_33]; unfold res33
    rw [iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq, iblk26_eq, iblk27_eq, iblk28_eq, iblk29_eq, iblk30_eq]
  show (cfg0.win 33).cut (grid0.coords t) ((dats m 0 c).after 33 t) = _
  rw [e]
  exact cut33_eq t _

/-- Every index of the array is in the point's block. -/
theorem covered33 (i : S120x32.Idx) :
    ∃ t : Fin cfg0.N, (cfg0.win 33).flush t = true ∧ i ∈ ((cfg0.win 33).blk t).view.set :=
  ⟨(⟨0, by decide⟩ : Fin cfg0.N), flush0_33 _, by have h := ((cfg0.win 33).blk (⟨0, by decide⟩ : Fin cfg0.N)).view.emb_mem_set i; rwa [emb33] at h⟩

/-- The array after the run is `res33`. -/
theorem final33 (c : Dev nD) : (dats m 0 c).arrAt 33 cfg0.N = res33 m c :=
  (dats m 0 c).arrAt_eq_of_cover 33 (res33 m c) (fun t _ => flushed33_eq m c t) covered33

/-- Result 4 of the reference: what the body computes from the arguments as launched. -/
def res34 (c : Dev nD) : Vec F S3840x3072 .fp8e4m3 :=
  out0_34 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))

/-- An index of window 34's block is the same index of its array. -/
theorem emb34 (t : Fin cfg0.N) (j : S3840x3072.Idx) : ((cfg0.win 34).blk t).view.emb j = j := by
  have z := (by decide +kernel : ∀ (t : Fin grid0.N) (a : Fin 2), win0_34.index t a = 0) t
  funext a; apply Fin.ext
  show win0_34.index t a * _ + 1 * (j a).val = _; rw [z, Nat.zero_mul, Nat.zero_add, Nat.one_mul]

/-- Cutting the point's block out of `X` and reading `X` through the block's view give the same. -/
theorem cut34_eq (t : Fin cfg0.N) (X : Vec F S3840x3072 .fp8e4m3) :
    (cfg0.win 34).cut (grid0.coords t) X = ((cfg0.win 34).blk t).view.read (Elt F) X := by
  funext j
  show X j = X (((cfg0.win 34).blk t).view.emb j)
  rw [emb34]

/-- What the one point writes back is its block of `res34`. -/
theorem flushed34_eq (c : Dev nD) (t : Fin cfg0.N) :
    (dats m 0 c).flushed 34 t = ((cfg0.win 34).blk t).view.read (Elt F) (res34 m c) := by
  have e : (dats m 0 c).after 34 t = res34 m c := by
    rw [after0_34]; unfold res34
    rw [iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq, iblk26_eq, iblk27_eq, iblk28_eq, iblk29_eq, iblk30_eq]
  show (cfg0.win 34).cut (grid0.coords t) ((dats m 0 c).after 34 t) = _
  rw [e]
  exact cut34_eq t _

/-- Every index of the array is in the point's block. -/
theorem covered34 (i : S3840x3072.Idx) :
    ∃ t : Fin cfg0.N, (cfg0.win 34).flush t = true ∧ i ∈ ((cfg0.win 34).blk t).view.set :=
  ⟨(⟨0, by decide⟩ : Fin cfg0.N), flush0_34 _, by have h := ((cfg0.win 34).blk (⟨0, by decide⟩ : Fin cfg0.N)).view.emb_mem_set i; rwa [emb34] at h⟩

/-- The array after the run is `res34`. -/
theorem final34 (c : Dev nD) : (dats m 0 c).arrAt 34 cfg0.N = res34 m c :=
  (dats m 0 c).arrAt_eq_of_cover 34 (res34 m c) (fun t _ => flushed34_eq m c t) covered34

/-- Result 5 of the reference: what the body computes from the arguments as launched. -/
def res35 (c : Dev nD) : Vec F S120x32 .f32 :=
  out0_35 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))

/-- An index of window 35's block is the same index of its array. -/
theorem emb35 (t : Fin cfg0.N) (j : S120x32.Idx) : ((cfg0.win 35).blk t).view.emb j = j := by
  have z := (by decide +kernel : ∀ (t : Fin grid0.N) (a : Fin 2), win0_35.index t a = 0) t
  funext a; apply Fin.ext
  show win0_35.index t a * _ + 1 * (j a).val = _; rw [z, Nat.zero_mul, Nat.zero_add, Nat.one_mul]

/-- Cutting the point's block out of `X` and reading `X` through the block's view give the same. -/
theorem cut35_eq (t : Fin cfg0.N) (X : Vec F S120x32 .f32) :
    (cfg0.win 35).cut (grid0.coords t) X = ((cfg0.win 35).blk t).view.read (Elt F) X := by
  funext j
  show X j = X (((cfg0.win 35).blk t).view.emb j)
  rw [emb35]

/-- What the one point writes back is its block of `res35`. -/
theorem flushed35_eq (c : Dev nD) (t : Fin cfg0.N) :
    (dats m 0 c).flushed 35 t = ((cfg0.win 35).blk t).view.read (Elt F) (res35 m c) := by
  have e : (dats m 0 c).after 35 t = res35 m c := by
    rw [after0_35]; unfold res35
    rw [iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq, iblk26_eq, iblk27_eq, iblk28_eq, iblk29_eq, iblk30_eq]
  show (cfg0.win 35).cut (grid0.coords t) ((dats m 0 c).after 35 t) = _
  rw [e]
  exact cut35_eq t _

/-- Every index of the array is in the point's block. -/
theorem covered35 (i : S120x32.Idx) :
    ∃ t : Fin cfg0.N, (cfg0.win 35).flush t = true ∧ i ∈ ((cfg0.win 35).blk t).view.set :=
  ⟨(⟨0, by decide⟩ : Fin cfg0.N), flush0_35 _, by have h := ((cfg0.win 35).blk (⟨0, by decide⟩ : Fin cfg0.N)).view.emb_mem_set i; rwa [emb35] at h⟩

/-- The array after the run is `res35`. -/
theorem final35 (c : Dev nD) : (dats m 0 c).arrAt 35 cfg0.N = res35 m c :=
  (dats m 0 c).arrAt_eq_of_cover 35 (res35 m c) (fun t _ => flushed35_eq m c t) covered35

set_option maxHeartbeats 4000000 in
/-- The reference's run: each result is its function of the arguments, the arguments are unchanged. -/
theorem run : θ_run defs (onTc (τ := τ) (main (F := F))) ⟨m, fun _ => 0, ρ⟩ fun r => ∀ c : Dev nD,
      r.2.mem ((c : Thread nD τ).loc main_v0_0) = res31 m c
      ∧ r.2.mem ((c : Thread nD τ).loc main_v0_1) = res32 m c
      ∧ r.2.mem ((c : Thread nD τ).loc main_v0_2) = res33 m c
      ∧ r.2.mem ((c : Thread nD τ).loc main_v0_3) = res34 m c
      ∧ r.2.mem ((c : Thread nD τ).loc main_v0_4) = res35 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30) :=
  (θ_run defs _ _).mono (fun r h c => ⟨((h c).1 31).trans (final31 m c),
    ((h c).1 32).trans (final32 m c),
    ((h c).1 33).trans (final33 m c),
    ((h c).1 34).trans (final34 m c),
    ((h c).1 35).trans (final35 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c))),
    ((h c).1 12).trans (((dats m 0 c).arrAt_in 12 rfl _).trans ((A_eq m c 12).trans (V_main_arg12 m c))),
    ((h c).1 13).trans (((dats m 0 c).arrAt_in 13 rfl _).trans ((A_eq m c 13).trans (V_main_arg13 m c))),
    ((h c).1 14).trans (((dats m 0 c).arrAt_in 14 rfl _).trans ((A_eq m c 14).trans (V_main_arg14 m c))),
    ((h c).1 15).trans (((dats m 0 c).arrAt_in 15 rfl _).trans ((A_eq m c 15).trans (V_main_arg15 m c))),
    ((h c).1 16).trans (((dats m 0 c).arrAt_in 16 rfl _).trans ((A_eq m c 16).trans (V_main_arg16 m c))),
    ((h c).1 17).trans (((dats m 0 c).arrAt_in 17 rfl _).trans ((A_eq m c 17).trans (V_main_arg17 m c))),
    ((h c).1 18).trans (((dats m 0 c).arrAt_in 18 rfl _).trans ((A_eq m c 18).trans (V_main_arg18 m c))),
    ((h c).1 19).trans (((dats m 0 c).arrAt_in 19 rfl _).trans ((A_eq m c 19).trans (V_main_arg19 m c))),
    ((h c).1 20).trans (((dats m 0 c).arrAt_in 20 rfl _).trans ((A_eq m c 20).trans (V_main_arg20 m c))),
    ((h c).1 21).trans (((dats m 0 c).arrAt_in 21 rfl _).trans ((A_eq m c 21).trans (V_main_arg21 m c))),
    ((h c).1 22).trans (((dats m 0 c).arrAt_in 22 rfl _).trans ((A_eq m c 22).trans (V_main_arg22 m c))),
    ((h c).1 23).trans (((dats m 0 c).arrAt_in 23 rfl _).trans ((A_eq m c 23).trans (V_main_arg23 m c))),
    ((h c).1 24).trans (((dats m 0 c).arrAt_in 24 rfl _).trans ((A_eq m c 24).trans (V_main_arg24 m c))),
    ((h c).1 25).trans (((dats m 0 c).arrAt_in 25 rfl _).trans ((A_eq m c 25).trans (V_main_arg25 m c))),
    ((h c).1 26).trans (((dats m 0 c).arrAt_in 26 rfl _).trans ((A_eq m c 26).trans (V_main_arg26 m c))),
    ((h c).1 27).trans (((dats m 0 c).arrAt_in 27 rfl _).trans ((A_eq m c 27).trans (V_main_arg27 m c))),
    ((h c).1 28).trans (((dats m 0 c).arrAt_in 28 rfl _).trans ((A_eq m c 28).trans (V_main_arg28 m c))),
    ((h c).1 29).trans (((dats m 0 c).arrAt_in 29 rfl _).trans ((A_eq m c 29).trans (V_main_arg29 m c))),
    ((h c).1 30).trans (((dats m 0 c).arrAt_in 30 rfl _).trans ((A_eq m c 30).trans (V_main_arg30 m c)))⟩) (run_main m ρ)

end Cert.ReferenceIdeal.Run

end
-- ==== Proof.BitsRun.Kit.lean ====
/- What the run of the body of `Cert.Kernel` is stated over: the frame claim from a run over relational proof data,
   the staging memrefs of every window, the six scratch buffers as memrefs, the invariant opened. -/
module

public import proofs.«01_k».proof.Proof.Gen.Kernel.Frame
public import proofs.«01_k».proof.Proof.Gen.Kernel.Skeleton
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 2160000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      (Pipeline.RDat.FramePost.arr_in h c 12 rfl).trans ((hA c 12).trans (V_main_arg12 m c)),
      (Pipeline.RDat.FramePost.arr_in h c 13 rfl).trans ((hA c 13).trans (V_main_arg13 m c)),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      (Pipeline.RDat.FramePost.arr_in h c 17 rfl).trans ((hA c 17).trans (V_main_arg17 m c)),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      (Pipeline.RDat.FramePost.arr_in h c 23 rfl).trans ((hA c 23).trans (V_main_arg23 m c)),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      (Pipeline.RDat.FramePost.arr_in h c 26 rfl).trans ((hA c 26).trans (V_main_arg26 m c)),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S256x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x577x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x577 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x768 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S768x768 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x768 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x768 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x768 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S768x1024 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x768 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S768x1 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x768 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x768 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x768 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x768 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S768x3072 .fp8e4m3 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x3072 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x3072 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S3072x768 .fp8e4m3 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S1x768 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x768 .f32 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S1x768 .f32 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S1x768 .f32 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S256x768 .bf16 := win0_31.stage (cfg0.slots t 31)
abbrev hs0_31 (t : Fin cfg0.N) : (ms0_31 t).IsWhole := hstage0_31 ((cfg0.slots t 31).cast nbuf0_31)
abbrev ms0_32 (t : Fin cfg0.N) : Memref sig .tc .vmem S256x768 .fp8e4m3 := win0_32.stage (cfg0.slots t 32)
abbrev hs0_32 (t : Fin cfg0.N) : (ms0_32 t).IsWhole := hstage0_32 ((cfg0.slots t 32).cast nbuf0_32)
abbrev ms0_33 (t : Fin cfg0.N) : Memref sig .tc .vmem S8x32 .f32 := win0_33.stage (cfg0.slots t 33)
abbrev hs0_33 (t : Fin cfg0.N) : (ms0_33 t).IsWhole := hstage0_33 ((cfg0.slots t 33).cast nbuf0_33)
abbrev ms0_34 (t : Fin cfg0.N) : Memref sig .tc .vmem S256x3072 .fp8e4m3 := win0_34.stage (cfg0.slots t 34)
abbrev hs0_34 (t : Fin cfg0.N) : (ms0_34 t).IsWhole := hstage0_34 ((cfg0.slots t 34).cast nbuf0_34)
abbrev ms0_35 (t : Fin cfg0.N) : Memref sig .tc .vmem S8x32 .f32 := win0_35.stage (cfg0.slots t 35)
abbrev hs0_35 (t : Fin cfg0.N) : (ms0_35 t).IsWhole := hstage0_35 ((cfg0.slots t 35).cast nbuf0_35)
/-- The scratch operands: whole scoped buffers of the kernel's own, passed beside the windows. -/
abbrev scM0_0 : Memref sig .tc .vmem S256x768 .f32 := Memref.whole cc0_scratch0
abbrev scM0_1 : Memref sig .tc .vmem S256x768 .bf16 := Memref.whole cc0_scratch1
abbrev scM0_2 : Memref sig .tc .vmem S256x768 .bf16 := Memref.whole cc0_scratch2
abbrev scM0_3 : Memref sig .tc .vmem S768x640 .bf16 := Memref.whole cc0_scratch3
abbrev scM0_4 : Memref sig .tc .vmem S640x768 .bf16 := Memref.whole cc0_scratch4
abbrev scM0_5 : Memref sig .tc .vmem S577x8 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Run

end
-- ==== Proof.BitsRun.Body.lean ====
/- The run of the whole body of `Cert.Kernel`: from any contents of outputs and scratch to some contents. -/
module

public import proofs.«01_k».proof.Proof.BitsRun.Kit

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 40000000 in
/-- The body's triple: on whole staging memrefs — the inputs' at their contents,
    the FORGOTTEN outputs' (31, 32, 33, 34, 35) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S256x768 .bf16) (harg1 : arg1.IsWhole) (arg2 : Memref sig .tc .vmem S8x577x1024 .fp8e4m3) (harg2 : arg2.IsWhole) (arg3 : Memref sig .tc .vmem S8x577 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S768x1024 .fp8e4m3) (harg17 : arg17.IsWhole) (arg18 : Memref sig .tc .vmem S1024x768 .fp8e4m3) (harg18 : arg18.IsWhole) (arg19 : Memref sig .tc .vmem S768x1 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .f32) (harg37 : arg37.IsWhole) (arg38 : Memref sig .tc .vmem S256x768 .bf16) (harg38 : arg38.IsWhole) (arg39 : Memref sig .tc .vmem S256x768 .bf16) (harg39 : arg39.IsWhole) (arg40 : Memref sig .tc .vmem S768x640 .bf16) (harg40 : arg40.IsWhole) (arg41 : Memref sig .tc .vmem S640x768 .bf16) (harg41 : arg41.IsWhole) (arg42 : Memref sig .tc .vmem S577x8 .f32) (harg42 : arg42.IsWhole)
    (x0 : Vec F S256x768 .bf16) (x1 : Vec F S8x577x1024 .fp8e4m3) (x2 : Vec F S8x577 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S768x1024 .fp8e4m3) (x17 : Vec F S1024x768 .fp8e4m3) (x18 : Vec F S768x1 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)) -∗ K ⟨⟩))
          ⊢ wp frame (wpE (defs₀ (F := F)) Variants.none c none) E (cc0_qformer_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
    intro E K
    simp only [cc0_qformer_layer_eq_skeleton]; unfold cc0_qformer_layer_skel
    simp only [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%d31, %f31, -, H31⟩, ⟨%d32, %f32, -, H32⟩, ⟨%d33, %f33, -, H33⟩, ⟨%d34, %f34, -, H34⟩, ⟨%d35, %f35, -, H35⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg31.eq_unread hf30
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]
    · iexists _; isplitr; · ipureintro; exact harg30.read_unread _
      iexact H29
    isplitl [H30]
    · iexists _; isplitr; · ipureintro; exact harg31.read_unread _
      iexact H30
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [H34]
    · iexists _, _; isplitr; swap; · iexact H34
      ipureintro; rfl
    isplitl [H35]
    · iexists _, _; isplitr; swap; · iexact H35
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Run

end
-- ==== Proof.BitsRun.Frame.lean ====
/- The frame of `Cert.Kernel`: proof data with the outputs forgotten, the body obligation, the run, the frame. -/
module

public import proofs.«01_k».proof.Proof.BitsRun.Body

@[expose] public section

set_option maxHeartbeats 4000000
-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (31, 32, 33, 34, 35): nothing reads what the kernel leaves in them, so nothing
    of it is named (Lib/Pipeline/Dat.lean `Dat.toRForget`). -/
def forgets0 : Fin 36 → Bool := fun w => w.val == 31 || w.val == 32 || w.val == 33 || w.val == 34 || w.val == 35

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, h⟩ => Pipeline.Dat.unnamed (cfg := cfg0) ⟨31, h⟩ t
    | ⟨32, h⟩ => Pipeline.Dat.unnamed (cfg := cfg0) ⟨32, h⟩ t
    | ⟨33, h⟩ => Pipeline.Dat.unnamed (cfg := cfg0) ⟨33, h⟩ t
    | ⟨34, h⟩ => Pipeline.Dat.unnamed (cfg := cfg0) ⟨34, h⟩ t
    | ⟨35, h⟩ => Pipeline.Dat.unnamed (cfg := cfg0) ⟨35, h⟩ t
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare d)
    ∗ (∃ d, owns (c : Thread nD τ) (ms0_32 t) fullShare d)
    ∗ (∃ d, owns (c : Thread nD τ) (ms0_33 t) fullShare d)
    ∗ (∃ d, owns (c : Thread nD τ) (ms0_34 t) fullShare d)
    ∗ (∃ d, owns (c : Thread nD τ) (ms0_35 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ (∃ d, owns (c : Thread nD τ) (ms0_31 t) fullShare d)
    ∗ (∃ d, owns (c : Thread nD τ) (ms0_32 t) fullShare d)
    ∗ (∃ d, owns (c : Thread nD τ) (ms0_33 t) fullShare d)
    ∗ (∃ d, owns (c : Thread nD τ) (ms0_34 t) fullShare d)
    ∗ (∃ d, owns (c : Thread nD τ) (ms0_35 t) fullShare d))

set_option maxHeartbeats 4000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  isplitl [H32]; · iexists _; iexact H32
  isplitl [H33]; · iexists _; iexact H33
  isplitl [H34]; · iexists _; iexact H34
  isplitl [H35]; · iexists _; iexact H35
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, H20, H21, H22, H23, H24, H25, H26, H27, H28, H29, H30, H31, H32, H33, H34, H35, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 31, 32, 33, 34, 35) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.Kernel.Run

end
-- ==== Proof.IdealRun.Kit.lean ====
/- What the run of the body of `Cert.KernelIdeal` is stated over: the frame claim from a run over relational proof data,
   the staging memrefs of every window, the six scratch buffers as memrefs, the invariant opened. -/
module

public import proofs.«01_k».proof.Proof.Gen.KernelIdeal.Frame
public import proofs.«01_k».proof.Proof.Gen.KernelIdeal.Skeleton
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- Each window's current staging memref at point `t`, spelled as the pipeline passes it (`bodyAt0`), and its wholeness. -/
abbrev ms0_0 (t : Fin cfg0.N) : Memref sig .tc .vmem S256x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x577x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x577 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x768 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S768x768 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x768 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x768 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x768 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S768x1024 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x768 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S768x1 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x768 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x768 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x768 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x768 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S768x3072 .fp8e4m3 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x3072 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x3072 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S3072x768 .fp8e4m3 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S1x768 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x768 .f32 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S1x768 .f32 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S1x768 .f32 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S256x768 .bf16 := win0_31.stage (cfg0.slots t 31)
abbrev hs0_31 (t : Fin cfg0.N) : (ms0_31 t).IsWhole := hstage0_31 ((cfg0.slots t 31).cast nbuf0_31)
abbrev ms0_32 (t : Fin cfg0.N) : Memref sig .tc .vmem S256x768 .fp8e4m3 := win0_32.stage (cfg0.slots t 32)
abbrev hs0_32 (t : Fin cfg0.N) : (ms0_32 t).IsWhole := hstage0_32 ((cfg0.slots t 32).cast nbuf0_32)
abbrev ms0_33 (t : Fin cfg0.N) : Memref sig .tc .vmem S8x32 .f32 := win0_33.stage (cfg0.slots t 33)
abbrev hs0_33 (t : Fin cfg0.N) : (ms0_33 t).IsWhole := hstage0_33 ((cfg0.slots t 33).cast nbuf0_33)
abbrev ms0_34 (t : Fin cfg0.N) : Memref sig .tc .vmem S256x3072 .fp8e4m3 := win0_34.stage (cfg0.slots t 34)
abbrev hs0_34 (t : Fin cfg0.N) : (ms0_34 t).IsWhole := hstage0_34 ((cfg0.slots t 34).cast nbuf0_34)
abbrev ms0_35 (t : Fin cfg0.N) : Memref sig .tc .vmem S8x32 .f32 := win0_35.stage (cfg0.slots t 35)
abbrev hs0_35 (t : Fin cfg0.N) : (ms0_35 t).IsWhole := hstage0_35 ((cfg0.slots t 35).cast nbuf0_35)
/-- The scratch operands: whole scoped buffers of the kernel's own, passed beside the windows. -/
abbrev scM0_0 : Memref sig .tc .vmem S256x768 .f32 := Memref.whole cc0_scratch0
abbrev scM0_1 : Memref sig .tc .vmem S256x768 .bf16 := Memref.whole cc0_scratch1
abbrev scM0_2 : Memref sig .tc .vmem S256x768 .bf16 := Memref.whole cc0_scratch2
abbrev scM0_3 : Memref sig .tc .vmem S768x640 .bf16 := Memref.whole cc0_scratch3
abbrev scM0_4 : Memref sig .tc .vmem S640x768 .bf16 := Memref.whole cc0_scratch4
abbrev scM0_5 : Memref sig .tc .vmem S577x8 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Run

end
-- ==== Proof.IdealRun.Exec.lean ====
/- The run of the whole body of `Cert.KernelIdeal`: the pieces it writes into each output. -/
module

public import proofs.«01_k».proof.Proof.IdealRun.Kit

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 40000000 in
/-- The run of the body over whole memrefs at given contents: the inputs' at `x0 … x30`, the outputs' and the
    scratch at any `f…`.  It leaves the inputs as they were, and each output at the writes of a list of pieces
    the run finds. -/
noncomputable def kernelRun (c : Dev nD) (i : grid0.Coords) (arg1 : Memref sig .tc .vmem S256x768 .bf16) (harg1 : arg1.IsWhole) (arg2 : Memref sig .tc .vmem S8x577x1024 .fp8e4m3) (harg2 : arg2.IsWhole) (arg3 : Memref sig .tc .vmem S8x577 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S768x1024 .fp8e4m3) (harg17 : arg17.IsWhole) (arg18 : Memref sig .tc .vmem S1024x768 .fp8e4m3) (harg18 : arg18.IsWhole) (arg19 : Memref sig .tc .vmem S768x1 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .f32) (harg37 : arg37.IsWhole) (arg38 : Memref sig .tc .vmem S256x768 .bf16) (harg38 : arg38.IsWhole) (arg39 : Memref sig .tc .vmem S256x768 .bf16) (harg39 : arg39.IsWhole) (arg40 : Memref sig .tc .vmem S768x640 .bf16) (harg40 : arg40.IsWhole) (arg41 : Memref sig .tc .vmem S640x768 .bf16) (harg41 : arg41.IsWhole) (arg42 : Memref sig .tc .vmem S577x8 .f32) (harg42 : arg42.IsWhole)
    (x0 : Vec F S256x768 .bf16) (x1 : Vec F S8x577x1024 .fp8e4m3) (x2 : Vec F S8x577 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S768x1024 .fp8e4m3) (x17 : Vec F S1024x768 .fp8e4m3) (x18 : Vec F S768x1 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32)
    (f31 : arg32.view.ty.Contents (Elt F)) (f32 : arg33.view.ty.Contents (Elt F)) (f33 : arg34.view.ty.Contents (Elt F)) (f34 : arg35.view.ty.Contents (Elt F)) (f35 : arg36.view.ty.Contents (Elt F)) (fs0 : arg37.view.ty.Contents (Elt F)) (fs1 : arg38.view.ty.Contents (Elt F)) (fs2 : arg39.view.ty.Contents (Elt F)) (fs3 : arg40.view.ty.Contents (Elt F)) (fs4 : arg41.view.ty.Contents (Elt F)) (fs5 : arg42.view.ty.Contents (Elt F)) :
    Σ' (L31 : List (View.Piece (Elt F) S256x768 .bf16)), Σ' (L32 : List (View.Piece (Elt F) S256x768 .fp8e4m3)), Σ' (L33 : List (View.Piece (Elt F) S8x32 .f32)), Σ' (L34 : List (View.Piece (Elt F) S256x3072 .fp8e4m3)), { L35 : List (View.Piece (Elt F) S8x32 .f32) //
      ∀ (E : Set ℕ) (K : PUnit → sProp 𝕄),
        iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} harg7.unread x6) ∗ (arg8.view.loc (c : Thread nD τ) ↦[arg8.view.set]{fullShare} harg8.unread x7) ∗ (arg9.view.loc (c : Thread nD τ) ↦[arg9.view.set]{fullShare} harg9.unread x8) ∗ (arg10.view.loc (c : Thread nD τ) ↦[arg10.view.set]{fullShare} harg10.unread x9) ∗ (arg11.view.loc (c : Thread nD τ) ↦[arg11.view.set]{fullShare} harg11.unread x10) ∗ (arg12.view.loc (c : Thread nD τ) ↦[arg12.view.set]{fullShare} harg12.unread x11) ∗ (arg13.view.loc (c : Thread nD τ) ↦[arg13.view.set]{fullShare} harg13.unread x12) ∗ (arg14.view.loc (c : Thread nD τ) ↦[arg14.view.set]{fullShare} harg14.unread x13) ∗ (arg15.view.loc (c : Thread nD τ) ↦[arg15.view.set]{fullShare} harg15.unread x14) ∗ (arg16.view.loc (c : Thread nD τ) ↦[arg16.view.set]{fullShare} harg16.unread x15) ∗ (arg17.view.loc (c : Thread nD τ) ↦[arg17.view.set]{fullShare} harg17.unread x16) ∗ (arg18.view.loc (c : Thread nD τ) ↦[arg18.view.set]{fullShare} harg18.unread x17) ∗ (arg19.view.loc (c : Thread nD τ) ↦[arg19.view.set]{fullShare} harg19.unread x18) ∗ (arg20.view.loc (c : Thread nD τ) ↦[arg20.view.set]{fullShare} harg20.unread x19) ∗ (arg21.view.loc (c : Thread nD τ) ↦[arg21.view.set]{fullShare} harg21.unread x20) ∗ (arg22.view.loc (c : Thread nD τ) ↦[arg22.view.set]{fullShare} harg22.unread x21) ∗ (arg23.view.loc (c : Thread nD τ) ↦[arg23.view.set]{fullShare} harg23.unread x22) ∗ (arg24.view.loc (c : Thread nD τ) ↦[arg24.view.set]{fullShare} harg24.unread x23) ∗ (arg25.view.loc (c : Thread nD τ) ↦[arg25.view.set]{fullShare} harg25.unread x24) ∗ (arg26.view.loc (c : Thread nD τ) ↦[arg26.view.set]{fullShare} harg26.unread x25) ∗ (arg27.view.loc (c : Thread nD τ) ↦[arg27.view.set]{fullShare} harg27.unread x26) ∗ (arg28.view.loc (c : Thread nD τ) ↦[arg28.view.set]{fullShare} harg28.unread x27) ∗ (arg29.view.loc (c : Thread nD τ) ↦[arg29.view.set]{fullShare} harg29.unread x28) ∗ (arg30.view.loc (c : Thread nD τ) ↦[arg30.view.set]{fullShare} harg30.unread x29) ∗ (arg31.view.loc (c : Thread nD τ) ↦[arg31.view.set]{fullShare} harg31.unread x30) ∗ (arg32.view.loc (c : Thread nD τ) ↦[arg32.view.set]{fullShare} f31) ∗ (arg33.view.loc (c : Thread nD τ) ↦[arg33.view.set]{fullShare} f32) ∗ (arg34.view.loc (c : Thread nD τ) ↦[arg34.view.set]{fullShare} f33) ∗ (arg35.view.loc (c : Thread nD τ) ↦[arg35.view.set]{fullShare} f34) ∗ (arg36.view.loc (c : Thread nD τ) ↦[arg36.view.set]{fullShare} f35) ∗ (arg37.view.loc (c : Thread nD τ) ↦[arg37.view.set]{fullShare} fs0) ∗ (arg38.view.loc (c : Thread nD τ) ↦[arg38.view.set]{fullShare} fs1) ∗ (arg39.view.loc (c : Thread nD τ) ↦[arg39.view.set]{fullShare} fs2) ∗ (arg40.view.loc (c : Thread nD τ) ↦[arg40.view.set]{fullShare} fs3) ∗ (arg41.view.loc (c : Thread nD τ) ↦[arg41.view.set]{fullShare} fs4) ∗ (arg42.view.loc (c : Thread nD τ) ↦[arg42.view.set]{fullShare} fs5)
            ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} harg7.unread x6) ∗ (arg8.view.loc (c : Thread nD τ) ↦[arg8.view.set]{fullShare} harg8.unread x7) ∗ (arg9.view.loc (c : Thread nD τ) ↦[arg9.view.set]{fullShare} harg9.unread x8) ∗ (arg10.view.loc (c : Thread nD τ) ↦[arg10.view.set]{fullShare} harg10.unread x9) ∗ (arg11.view.loc (c : Thread nD τ) ↦[arg11.view.set]{fullShare} harg11.unread x10) ∗ (arg12.view.loc (c : Thread nD τ) ↦[arg12.view.set]{fullShare} harg12.unread x11) ∗ (arg13.view.loc (c : Thread nD τ) ↦[arg13.view.set]{fullShare} harg13.unread x12) ∗ (arg14.view.loc (c : Thread nD τ) ↦[arg14.view.set]{fullShare} harg14.unread x13) ∗ (arg15.view.loc (c : Thread nD τ) ↦[arg15.view.set]{fullShare} harg15.unread x14) ∗ (arg16.view.loc (c : Thread nD τ) ↦[arg16.view.set]{fullShare} harg16.unread x15) ∗ (arg17.view.loc (c : Thread nD τ) ↦[arg17.view.set]{fullShare} harg17.unread x16) ∗ (arg18.view.loc (c : Thread nD τ) ↦[arg18.view.set]{fullShare} harg18.unread x17) ∗ (arg19.view.loc (c : Thread nD τ) ↦[arg19.view.set]{fullShare} harg19.unread x18) ∗ (arg20.view.loc (c : Thread nD τ) ↦[arg20.view.set]{fullShare} harg20.unread x19) ∗ (arg21.view.loc (c : Thread nD τ) ↦[arg21.view.set]{fullShare} harg21.unread x20) ∗ (arg22.view.loc (c : Thread nD τ) ↦[arg22.view.set]{fullShare} harg22.unread x21) ∗ (arg23.view.loc (c : Thread nD τ) ↦[arg23.view.set]{fullShare} harg23.unread x22) ∗ (arg24.view.loc (c : Thread nD τ) ↦[arg24.view.set]{fullShare} harg24.unread x23) ∗ (arg25.view.loc (c : Thread nD τ) ↦[arg25.view.set]{fullShare} harg25.unread x24) ∗ (arg26.view.loc (c : Thread nD τ) ↦[arg26.view.set]{fullShare} harg26.unread x25) ∗ (arg27.view.loc (c : Thread nD τ) ↦[arg27.view.set]{fullShare} harg27.unread x26) ∗ (arg28.view.loc (c : Thread nD τ) ↦[arg28.view.set]{fullShare} harg28.unread x27) ∗ (arg29.view.loc (c : Thread nD τ) ↦[arg29.view.set]{fullShare} harg29.unread x28) ∗ (arg30.view.loc (c : Thread nD τ) ↦[arg30.view.set]{fullShare} harg30.unread x29) ∗ (arg31.view.loc (c : Thread nD τ) ↦[arg31.view.set]{fullShare} harg31.unread x30) ∗ (arg32.view.loc (c : Thread nD τ) ↦[arg32.view.set]{fullShare} arg32.view.writes (Elt F) f31 L31) ∗ (arg33.view.loc (c : Thread nD τ) ↦[arg33.view.set]{fullShare} arg33.view.writes (Elt F) f32 L32) ∗ (arg34.view.loc (c : Thread nD τ) ↦[arg34.view.set]{fullShare} arg34.view.writes (Elt F) f33 L33) ∗ (arg35.view.loc (c : Thread nD τ) ↦[arg35.view.set]{fullShare} arg35.view.writes (Elt F) f34 L34) ∗ (arg36.view.loc (c : Thread nD τ) ↦[arg36.view.set]{fullShare} arg36.view.writes (Elt F) f35 L35) ∗ (∃ f, (arg37.view.loc (c : Thread nD τ) ↦[arg37.view.set]{fullShare} f)) ∗ (∃ f, (arg38.view.loc (c : Thread nD τ) ↦[arg38.view.set]{fullShare} f)) ∗ (∃ f, (arg39.view.loc (c : Thread nD τ) ↦[arg39.view.set]{fullShare} f)) ∗ (∃ f, (arg40.view.loc (c : Thread nD τ) ↦[arg40.view.set]{fullShare} f)) ∗ (∃ f, (arg41.view.loc (c : Thread nD τ) ↦[arg41.view.set]{fullShare} f)) ∗ (∃ f, (arg42.view.loc (c : Thread nD τ) ↦[arg42.view.set]{fullShare} f))) -∗ K ⟨⟩))
          ⊢ wp frame (wpE (defs₀ (F := F)) Variants.none c none) E (cc0_qformer_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, ?_, ?_, fun E K => ?run⟩
  case run =>
    iintro ⟨H0, H1, H2, H3, H4, H5, H6, H7, H8, H9, H10, H11, H12, H13, H14, H15, H16, H17, H18, H19, H20, H21, H22, H23, H24, H25, H26, H27, H28, H29, H30, H31, H32, H33, H34, H35, HS0, HS1, HS2, HS3, HS4, HS5, Hk⟩
    simp only [cc0_qformer_layer_eq_skeleton]; unfold cc0_qformer_layer_skel
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Run

end
-- ==== Proof.IdealRun.RunOwns.lean ====
/- The triple of the body of `Cert.KernelIdeal` on whole memrefs, with what it leaves in its results named. -/
module

public import proofs.«01_k».proof.Proof.IdealRun.Exec

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body's triple on whole memrefs, its results named: what the run writes reads back as `r31 … r35`, whatever the memory held. -/
theorem kernelRun_owns (c : Dev nD) (i : grid0.Coords) (a1 : Memref sig .tc .vmem S256x768 .bf16) (p1 : a1.IsWhole) (a2 : Memref sig .tc .vmem S8x577x1024 .fp8e4m3) (p2 : a2.IsWhole) (a3 : Memref sig .tc .vmem S8x577 .f32) (p3 : a3.IsWhole) (a4 : Memref sig .tc .vmem S768x768 .bf16) (p4 : a4.IsWhole) (a5 : Memref sig .tc .vmem S768x768 .bf16) (p5 : a5.IsWhole) (a6 : Memref sig .tc .vmem S768x768 .bf16) (p6 : a6.IsWhole) (a7 : Memref sig .tc .vmem S768x768 .bf16) (p7 : a7.IsWhole) (a8 : Memref sig .tc .vmem S1x768 .f32) (p8 : a8.IsWhole) (a9 : Memref sig .tc .vmem S1x768 .f32) (p9 : a9.IsWhole) (a10 : Memref sig .tc .vmem S1x768 .f32) (p10 : a10.IsWhole) (a11 : Memref sig .tc .vmem S1x768 .f32) (p11 : a11.IsWhole) (a12 : Memref sig .tc .vmem S1x768 .f32) (p12 : a12.IsWhole) (a13 : Memref sig .tc .vmem S768x768 .bf16) (p13 : a13.IsWhole) (a14 : Memref sig .tc .vmem S768x768 .bf16) (p14 : a14.IsWhole) (a15 : Memref sig .tc .vmem S1x768 .f32) (p15 : a15.IsWhole) (a16 : Memref sig .tc .vmem S1x768 .f32) (p16 : a16.IsWhole) (a17 : Memref sig .tc .vmem S768x1024 .fp8e4m3) (p17 : a17.IsWhole) (a18 : Memref sig .tc .vmem S1024x768 .fp8e4m3) (p18 : a18.IsWhole) (a19 : Memref sig .tc .vmem S768x1 .f32) (p19 : a19.IsWhole) (a20 : Memref sig .tc .vmem S1x768 .f32) (p20 : a20.IsWhole) (a21 : Memref sig .tc .vmem S1x768 .f32) (p21 : a21.IsWhole) (a22 : Memref sig .tc .vmem S1x768 .f32) (p22 : a22.IsWhole) (a23 : Memref sig .tc .vmem S1x768 .f32) (p23 : a23.IsWhole) (a24 : Memref sig .tc .vmem S768x3072 .fp8e4m3) (p24 : a24.IsWhole) (a25 : Memref sig .tc .vmem S1x3072 .f32) (p25 : a25.IsWhole) (a26 : Memref sig .tc .vmem S1x3072 .f32) (p26 : a26.IsWhole) (a27 : Memref sig .tc .vmem S3072x768 .fp8e4m3) (p27 : a27.IsWhole) (a28 : Memref sig .tc .vmem S1x768 .f32) (p28 : a28.IsWhole) (a29 : Memref sig .tc .vmem S1x768 .f32) (p29 : a29.IsWhole) (a30 : Memref sig .tc .vmem S1x768 .f32) (p30 : a30.IsWhole) (a31 : Memref sig .tc .vmem S1x768 .f32) (p31 : a31.IsWhole) (a32 : Memref sig .tc .vmem S256x768 .bf16) (p32 : a32.IsWhole) (a33 : Memref sig .tc .vmem S256x768 .fp8e4m3) (p33 : a33.IsWhole) (a34 : Memref sig .tc .vmem S8x32 .f32) (p34 : a34.IsWhole) (a35 : Memref sig .tc .vmem S256x3072 .fp8e4m3) (p35 : a35.IsWhole) (a36 : Memref sig .tc .vmem S8x32 .f32) (p36 : a36.IsWhole) (a37 : Memref sig .tc .vmem S256x768 .f32) (p37 : a37.IsWhole) (a38 : Memref sig .tc .vmem S256x768 .bf16) (p38 : a38.IsWhole) (a39 : Memref sig .tc .vmem S256x768 .bf16) (p39 : a39.IsWhole) (a40 : Memref sig .tc .vmem S768x640 .bf16) (p40 : a40.IsWhole) (a41 : Memref sig .tc .vmem S640x768 .bf16) (p41 : a41.IsWhole) (a42 : Memref sig .tc .vmem S577x8 .f32) (p42 : a42.IsWhole)
    (x0 : Vec F S256x768 .bf16) (x1 : Vec F S8x577x1024 .fp8e4m3) (x2 : Vec F S8x577 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S768x1024 .fp8e4m3) (x17 : Vec F S1024x768 .fp8e4m3) (x18 : Vec F S768x1 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32)
    (r31 : Vec F S256x768 .bf16) (r32 : Vec F S256x768 .fp8e4m3) (r33 : Vec F S8x32 .f32) (r34 : Vec F S256x3072 .fp8e4m3) (r35 : Vec F S8x32 .f32)
    (h31 : ∀ f31 f32 f33 f34 f35 fs0 fs1 fs2 fs3 fs4 fs5, a32.view.read (Elt F) (a32.view.writes (Elt F) f31 (kernelRun c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 x0 x1 x2 x3 x4 x5 x6 x7 x8 x9 x10 x11 x12 x13 x14 x15 x16 x17 x18 x19 x20 x21 x22 x23 x24 x25 x26 x27 x28 x29 x30 f31 f32 f33 f34 f35 fs0 fs1 fs2 fs3 fs4 fs5).1) = r31)
    (h32 : ∀ f31 f32 f33 f34 f35 fs0 fs1 fs2 fs3 fs4 fs5, a33.view.read (Elt F) (a33.view.writes (Elt F) f32 (kernelRun c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 x0 x1 x2 x3 x4 x5 x6 x7 x8 x9 x10 x11 x12 x13 x14 x15 x16 x17 x18 x19 x20 x21 x22 x23 x24 x25 x26 x27 x28 x29 x30 f31 f32 f33 f34 f35 fs0 fs1 fs2 fs3 fs4 fs5).2.1) = r32)
    (h33 : ∀ f31 f32 f33 f34 f35 fs0 fs1 fs2 fs3 fs4 fs5, a34.view.read (Elt F) (a34.view.writes (Elt F) f33 (kernelRun c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 x0 x1 x2 x3 x4 x5 x6 x7 x8 x9 x10 x11 x12 x13 x14 x15 x16 x17 x18 x19 x20 x21 x22 x23 x24 x25 x26 x27 x28 x29 x30 f31 f32 f33 f34 f35 fs0 fs1 fs2 fs3 fs4 fs5).2.2.1) = r33)
    (h34 : ∀ f31 f32 f33 f34 f35 fs0 fs1 fs2 fs3 fs4 fs5, a35.view.read (Elt F) (a35.view.writes (Elt F) f34 (kernelRun c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 x0 x1 x2 x3 x4 x5 x6 x7 x8 x9 x10 x11 x12 x13 x14 x15 x16 x17 x18 x19 x20 x21 x22 x23 x24 x25 x26 x27 x28 x29 x30 f31 f32 f33 f34 f35 fs0 fs1 fs2 fs3 fs4 fs5).2.2.2.1) = r34)
    (h35 : ∀ f31 f32 f33 f34 f35 fs0 fs1 fs2 fs3 fs4 fs5, a36.view.read (Elt F) (a36.view.writes (Elt F) f35 (kernelRun c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 x0 x1 x2 x3 x4 x5 x6 x7 x8 x9 x10 x11 x12 x13 x14 x15 x16 x17 x18 x19 x20 x21 x22 x23 x24 x25 x26 x27 x28 x29 x30 f31 f32 f33 f34 f35 fs0 fs1 fs2 fs3 fs4 fs5).2.2.2.2.val) = r35) :
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ owns (c : Thread nD τ) a15 fullShare x14 ∗ owns (c : Thread nD τ) a16 fullShare x15 ∗ owns (c : Thread nD τ) a17 fullShare x16 ∗ owns (c : Thread nD τ) a18 fullShare x17 ∗ owns (c : Thread nD τ) a19 fullShare x18 ∗ owns (c : Thread nD τ) a20 fullShare x19 ∗ owns (c : Thread nD τ) a21 fullShare x20 ∗ owns (c : Thread nD τ) a22 fullShare x21 ∗ owns (c : Thread nD τ) a23 fullShare x22 ∗ owns (c : Thread nD τ) a24 fullShare x23 ∗ owns (c : Thread nD τ) a25 fullShare x24 ∗ owns (c : Thread nD τ) a26 fullShare x25 ∗ owns (c : Thread nD τ) a27 fullShare x26 ∗ owns (c : Thread nD τ) a28 fullShare x27 ∗ owns (c : Thread nD τ) a29 fullShare x28 ∗ owns (c : Thread nD τ) a30 fullShare x29 ∗ owns (c : Thread nD τ) a31 fullShare x30 ∗ (∃ d, owns (c : Thread nD τ) a32 fullShare d) ∗ (∃ d, owns (c : Thread nD τ) a33 fullShare d) ∗ (∃ d, owns (c : Thread nD τ) a34 fullShare d) ∗ (∃ d, owns (c : Thread nD τ) a35 fullShare d) ∗ (∃ d, owns (c : Thread nD τ) a36 fullShare d) ∗ (∃ d, owns (c : Thread nD τ) a37 fullShare d) ∗ (∃ d, owns (c : Thread nD τ) a38 fullShare d) ∗ (∃ d, owns (c : Thread nD τ) a39 fullShare d) ∗ (∃ d, owns (c : Thread nD τ) a40 fullShare d) ∗ (∃ d, owns (c : Thread nD τ) a41 fullShare d) ∗ (∃ d, owns (c : Thread nD τ) a42 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ owns (c : Thread nD τ) a15 fullShare x14 ∗ owns (c : Thread nD τ) a16 fullShare x15 ∗ owns (c : Thread nD τ) a17 fullShare x16 ∗ owns (c : Thread nD τ) a18 fullShare x17 ∗ owns (c : Thread nD τ) a19 fullShare x18 ∗ owns (c : Thread nD τ) a20 fullShare x19 ∗ owns (c : Thread nD τ) a21 fullShare x20 ∗ owns (c : Thread nD τ) a22 fullShare x21 ∗ owns (c : Thread nD τ) a23 fullShare x22 ∗ owns (c : Thread nD τ) a24 fullShare x23 ∗ owns (c : Thread nD τ) a25 fullShare x24 ∗ owns (c : Thread nD τ) a26 fullShare x25 ∗ owns (c : Thread nD τ) a27 fullShare x26 ∗ owns (c : Thread nD τ) a28 fullShare x27 ∗ owns (c : Thread nD τ) a29 fullShare x28 ∗ owns (c : Thread nD τ) a30 fullShare x29 ∗ owns (c : Thread nD τ) a31 fullShare x30 ∗ owns (c : Thread nD τ) a32 fullShare r31 ∗ owns (c : Thread nD τ) a33 fullShare r32 ∗ owns (c : Thread nD τ) a34 fullShare r33 ∗ owns (c : Thread nD τ) a35 fullShare r34 ∗ owns (c : Thread nD τ) a36 fullShare r35 ∗ (∃ d, owns (c : Thread nD τ) a37 fullShare d) ∗ (∃ d, owns (c : Thread nD τ) a38 fullShare d) ∗ (∃ d, owns (c : Thread nD τ) a39 fullShare d) ∗ (∃ d, owns (c : Thread nD τ) a40 fullShare d) ∗ (∃ d, owns (c : Thread nD τ) a41 fullShare d) ∗ (∃ d, owns (c : Thread nD τ) a42 fullShare d)) -∗ K ⟨⟩))
          ⊢ wp frame (wpE (defs₀ (F := F)) Variants.none c none) E (cc0_qformer_layer i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42) K := by
    intro E K
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%d31, %f31, -, H31⟩, ⟨%d32, %f32, -, H32⟩, ⟨%d33, %f33, -, H33⟩, ⟨%d34, %f34, -, H34⟩, ⟨%d35, %f35, -, H35⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    iapply ((kernelRun c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 x0 x1 x2 x3 x4 x5 x6 x7 x8 x9 x10 x11 x12 x13 x14 x15 x16 x17 x18 x19 x20 x21 x22 x23 x24 x25 x26 x27 x28 x29 x30 f31 f32 f33 f34 f35 fs0 fs1 fs2 fs3 fs4 fs5).2.2.2.2.property E K)
    isplitl [H0]; · rw [← p1.eq_unread hf0]; iexact H0
    isplitl [H1]; · rw [← p2.eq_unread hf1]; iexact H1
    isplitl [H2]; · rw [← p3.eq_unread hf2]; iexact H2
    isplitl [H3]; · rw [← p4.eq_unread hf3]; iexact H3
    isplitl [H4]; · rw [← p5.eq_unread hf4]; iexact H4
    isplitl [H5]; · rw [← p6.eq_unread hf5]; iexact H5
    isplitl [H6]; · rw [← p7.eq_unread hf6]; iexact H6
    isplitl [H7]; · rw [← p8.eq_unread hf7]; iexact H7
    isplitl [H8]; · rw [← p9.eq_unread hf8]; iexact H8
    isplitl [H9]; · rw [← p10.eq_unread hf9]; iexact H9
    isplitl [H10]; · rw [← p11.eq_unread hf10]; iexact H10
    isplitl [H11]; · rw [← p12.eq_unread hf11]; iexact H11
    isplitl [H12]; · rw [← p13.eq_unread hf12]; iexact H12
    isplitl [H13]; · rw [← p14.eq_unread hf13]; iexact H13
    isplitl [H14]; · rw [← p15.eq_unread hf14]; iexact H14
    isplitl [H15]; · rw [← p16.eq_unread hf15]; iexact H15
    isplitl [H16]; · rw [← p17.eq_unread hf16]; iexact H16
    isplitl [H17]; · rw [← p18.eq_unread hf17]; iexact H17
    isplitl [H18]; · rw [← p19.eq_unread hf18]; iexact H18
    isplitl [H19]; · rw [← p20.eq_unread hf19]; iexact H19
    isplitl [H20]; · rw [← p21.eq_unread hf20]; iexact H20
    isplitl [H21]; · rw [← p22.eq_unread hf21]; iexact H21
    isplitl [H22]; · rw [← p23.eq_unread hf22]; iexact H22
    isplitl [H23]; · rw [← p24.eq_unread hf23]; iexact H23
    isplitl [H24]; · rw [← p25.eq_unread hf24]; iexact H24
    isplitl [H25]; · rw [← p26.eq_unread hf25]; iexact H25
    isplitl [H26]; · rw [← p27.eq_unread hf26]; iexact H26
    isplitl [H27]; · rw [← p28.eq_unread hf27]; iexact H27
    isplitl [H28]; · rw [← p29.eq_unread hf28]; iexact H28
    isplitl [H29]; · rw [← p30.eq_unread hf29]; iexact H29
    isplitl [H30]; · rw [← p31.eq_unread hf30]; iexact H30
    isplitl [H31]; · iexact H31
    isplitl [H32]; · iexact H32
    isplitl [H33]; · iexact H33
    isplitl [H34]; · iexact H34
    isplitl [H35]; · iexact H35
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, H14, H15, H16, H17, H18, H19, H20, H21, H22, H23, H24, H25, H26, H27, H28, H29, H30, H31, H32, H33, H34, H35, ⟨%fT0, HS0⟩, ⟨%fT1, HS1⟩, ⟨%fT2, HS2⟩, ⟨%fT3, HS3⟩, ⟨%fT4, HS4⟩, ⟨%fT5, HS5⟩⟩
    iapply Hk
    isplitl [H0]
    · iexists _; isplitr; · ipureintro; exact p1.read_unread _
      iexact H0
    isplitl [H1]
    · iexists _; isplitr; · ipureintro; exact p2.read_unread _
      iexact H1
    isplitl [H2]
    · iexists _; isplitr; · ipureintro; exact p3.read_unread _
      iexact H2
    isplitl [H3]
    · iexists _; isplitr; · ipureintro; exact p4.read_unread _
      iexact H3
    isplitl [H4]
    · iexists _; isplitr; · ipureintro; exact p5.read_unread _
      iexact H4
    isplitl [H5]
    · iexists _; isplitr; · ipureintro; exact p6.read_unread _
      iexact H5
    isplitl [H6]
    · iexists _; isplitr; · ipureintro; exact p7.read_unread _
      iexact H6
    isplitl [H7]
    · iexists _; isplitr; · ipureintro; exact p8.read_unread _
      iexact H7
    isplitl [H8]
    · iexists _; isplitr; · ipureintro; exact p9.read_unread _
      iexact H8
    isplitl [H9]
    · iexists _; isplitr; · ipureintro; exact p10.read_unread _
      iexact H9
    isplitl [H10]
    · iexists _; isplitr; · ipureintro; exact p11.read_unread _
      iexact H10
    isplitl [H11]
    · iexists _; isplitr; · ipureintro; exact p12.read_unread _
      iexact H11
    isplitl [H12]
    · iexists _; isplitr; · ipureintro; exact p13.read_unread _
      iexact H12
    isplitl [H13]
    · iexists _; isplitr; · ipureintro; exact p14.read_unread _
      iexact H13
    isplitl [H14]
    · iexists _; isplitr; · ipureintro; exact p15.read_unread _
      iexact H14
    isplitl [H15]
    · iexists _; isplitr; · ipureintro; exact p16.read_unread _
      iexact H15
    isplitl [H16]
    · iexists _; isplitr; · ipureintro; exact p17.read_unread _
      iexact H16
    isplitl [H17]
    · iexists _; isplitr; · ipureintro; exact p18.read_unread _
      iexact H17
    isplitl [H18]
    · iexists _; isplitr; · ipureintro; exact p19.read_unread _
      iexact H18
    isplitl [H19]
    · iexists _; isplitr; · ipureintro; exact p20.read_unread _
      iexact H19
    isplitl [H20]
    · iexists _; isplitr; · ipureintro; exact p21.read_unread _
      iexact H20
    isplitl [H21]
    · iexists _; isplitr; · ipureintro; exact p22.read_unread _
      iexact H21
    isplitl [H22]
    · iexists _; isplitr; · ipureintro; exact p23.read_unread _
      iexact H22
    isplitl [H23]
    · iexists _; isplitr; · ipureintro; exact p24.read_unread _
      iexact H23
    isplitl [H24]
    · iexists _; isplitr; · ipureintro; exact p25.read_unread _
      iexact H24
    isplitl [H25]
    · iexists _; isplitr; · ipureintro; exact p26.read_unread _
      iexact H25
    isplitl [H26]
    · iexists _; isplitr; · ipureintro; exact p27.read_unread _
      iexact H26
    isplitl [H27]
    · iexists _; isplitr; · ipureintro; exact p28.read_unread _
      iexact H27
    isplitl [H28]
    · iexists _; isplitr; · ipureintro; exact p29.read_unread _
      iexact H28
    isplitl [H29]
    · iexists _; isplitr; · ipureintro; exact p30.read_unread _
      iexact H29
    isplitl [H30]
    · iexists _; isplitr; · ipureintro; exact p31.read_unread _
      iexact H30
    isplitl [H31]
    · iexists _; isplitr; swap; · iexact H31
      ipureintro; exact h31 _ _ _ _ _ _ _ _ _ _ _
    isplitl [H32]
    · iexists _; isplitr; swap; · iexact H32
      ipureintro; exact h32 _ _ _ _ _ _ _ _ _ _ _
    isplitl [H33]
    · iexists _; isplitr; swap; · iexact H33
      ipureintro; exact h33 _ _ _ _ _ _ _ _ _ _ _
    isplitl [H34]
    · iexists _; isplitr; swap; · iexact H34
      ipureintro; exact h34 _ _ _ _ _ _ _ _ _ _ _
    isplitl [H35]
    · iexists _; isplitr; swap; · iexact H35
      ipureintro; exact h35 _ _ _ _ _ _ _ _ _ _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Run

end
-- ==== Proof.Value.Model.lean ====
/- The values the body of `Cert.KernelIdeal` computes, as functions of the blocks it reads and of what two of its
   scratch buffers held before. -/
module

public import proofs.«01_k».proof.Proof.IdealRun.Exec
public import Idealize.ShloMosaic.PureOps.Ideal

@[expose] public section

noncomputable section

namespace Cert.KernelIdeal.Model

open Cert.KernelIdeal.Gen Cert.KernelIdeal.Run
open Idealize.ShloMosaic Idealize.ShloMosaic.TcCoe

/-- The blocks the body reads. -/
structure Blk where
  x0 : Vec Ideal S256x768 .bf16
  x1 : Vec Ideal S8x577x1024 .fp8e4m3
  x2 : Vec Ideal S8x577 .f32
  x3 : Vec Ideal S768x768 .bf16
  x4 : Vec Ideal S768x768 .bf16
  x5 : Vec Ideal S768x768 .bf16
  x6 : Vec Ideal S768x768 .bf16
  x7 : Vec Ideal S1x768 .f32
  x8 : Vec Ideal S1x768 .f32
  x9 : Vec Ideal S1x768 .f32
  x10 : Vec Ideal S1x768 .f32
  x11 : Vec Ideal S1x768 .f32
  x12 : Vec Ideal S768x768 .bf16
  x13 : Vec Ideal S768x768 .bf16
  x14 : Vec Ideal S1x768 .f32
  x15 : Vec Ideal S1x768 .f32
  x16 : Vec Ideal S768x1024 .fp8e4m3
  x17 : Vec Ideal S1024x768 .fp8e4m3
  x18 : Vec Ideal S768x1 .f32
  x19 : Vec Ideal S1x768 .f32
  x20 : Vec Ideal S1x768 .f32
  x21 : Vec Ideal S1x768 .f32
  x22 : Vec Ideal S1x768 .f32
  x23 : Vec Ideal S768x3072 .fp8e4m3
  x24 : Vec Ideal S1x3072 .f32
  x25 : Vec Ideal S1x3072 .f32
  x26 : Vec Ideal S3072x768 .fp8e4m3
  x27 : Vec Ideal S1x768 .f32
  x28 : Vec Ideal S1x768 .f32
  x29 : Vec Ideal S1x768 .f32
  x30 : Vec Ideal S1x768 .f32

/-- What a buffer that read `y` reads after the writes `L`, the last first. -/
def over {s : Shape} {e : EltTy} : List (View.Piece (Elt Ideal) s e) → (s.Idx → Elt Ideal e) → s.Idx → Elt Ideal e
  | [], y => y
  | p :: L, y => p.1.overlay (over L y) p.2

/-- What a load through `r` reads after the writes `L`, which cover it. -/
def cov {s : Shape} {e : EltTy} (L : List (View.Piece (Elt Ideal) s e)) (r : Rect s) : r.shape.Idx → Elt Ideal e :=
  View.ld (View.canon L) r

def HS4_1 : List (View.Piece (Elt Ideal) S640x768 .bf16) := [⟨Rect.unit ![576, 0] S64x768.size inb_S640x768_S64x768_576_0, (k0_pay59 (F := Ideal))⟩]

def v1 (X : Blk) := k0_pay2 X.x0

def v8 (X : Blk) := k0_pay3 X.x0 X.x3 X.x7

def v11 (X : Blk) := k0_pay4 X.x0 X.x4

def v18 (X : Blk) := k0_pay5 X.x0 X.x5 X.x8

def v70 := k0_pay9 k0_pay6 k0_pay7 k0_pay8 0#32

def v619 (X : Blk) := k0_pay52 (v8 X) (v11 X) (v18 X) v70

def v573 (X : Blk) := k0_pay50 (v8 X) (v11 X) (v18 X) v70

def v485 (X : Blk) := k0_pay48 (v8 X)

def v530 (X : Blk) := k0_pay49 (v11 X) (v18 X) v70 (v485 X)

def v439 (X : Blk) := k0_pay46 (v8 X)

def v118 := iota Kind.tc S128x128 32 [1] iota_S128x128_d1_w32

def cst_137 : Ideal .bf16 := FloatOps.ofBits .bf16 0#16

def v393 (X : Blk) := k0_pay43 (v8 X)

def v347 (X : Blk) := k0_pay39 (v8 X)

def v301 (X : Blk) := k0_pay34 (v8 X)

def v255 (X : Blk) := k0_pay30 (v8 X)

def v209 (X : Blk) := k0_pay26 (v8 X)

def v217 (X : Blk) := k0_pay28 (v8 X)

def v163 (X : Blk) := k0_pay21 (v8 X)

def v171 (X : Blk) := k0_pay23 (v8 X)

def v117 (X : Blk) := k0_pay15 (v8 X)

def v125 (X : Blk) := k0_pay17 (v8 X)

def v71 (X : Blk) := k0_pay10 (v8 X)

def v79 (X : Blk) := k0_pay12 (v8 X)

def HS2_1 (X : Blk) : List (View.Piece (Elt Ideal) S256x768 .bf16) := [⟨Rect.unit ![0, 0] S128x128.size inb_S256x768_S128x128_0_0, k0_pay14 (v11 X) (v18 X) v70 (v71 X) k0_pay11 (v79 X) k0_pay13⟩]

def HS2_2 (X : Blk) : List (View.Piece (Elt Ideal) S256x768 .bf16) := ⟨Rect.unit ![0, 128] S128x128.size inb_S256x768_S128x128_0_128, k0_pay20 (v11 X) (v18 X) v70 (v117 X) v118 k0_pay16 (v125 X) k0_pay18 k0_pay19⟩ :: HS2_1 X

def HS2_3 (X : Blk) : List (View.Piece (Elt Ideal) S256x768 .bf16) := ⟨Rect.unit ![0, 256] S128x128.size inb_S256x768_S128x128_0_256, k0_pay25 (v11 X) (v18 X) v70 (v163 X) v118 k0_pay22 (v171 X) k0_pay24⟩ :: HS2_2 X

def HS2_4 (X : Blk) : List (View.Piece (Elt Ideal) S256x768 .bf16) := ⟨Rect.unit ![0, 384] S128x128.size inb_S256x768_S128x128_0_384, k0_pay29 (v11 X) (v18 X) v70 (v209 X) v118 k0_pay27 (v217 X) 64#32⟩ :: HS2_3 X

def HS2_5 (X : Blk) : List (View.Piece (Elt Ideal) S256x768 .bf16) := ⟨Rect.unit ![0, 512] S128x128.size inb_S256x768_S128x128_0_512, k0_pay33 (v11 X) (v18 X) v70 (v255 X) v118 k0_pay31 k0_pay32⟩ :: HS2_4 X

def HS2_6 (X : Blk) : List (View.Piece (Elt Ideal) S256x768 .bf16) := ⟨Rect.unit ![0, 640] S128x128.size inb_S256x768_S128x128_0_640, k0_pay38 (v11 X) (v18 X) v70 (v301 X) v118 k0_pay35 k0_pay36 k0_pay37⟩ :: HS2_5 X

def HS2_7 (X : Blk) : List (View.Piece (Elt Ideal) S256x768 .bf16) := ⟨Rect.unit ![128, 0] S128x128.size inb_S256x768_S128x128_128_0, k0_pay42 (v11 X) (v18 X) v70 (v347 X) v118 k0_pay40 k0_pay41⟩ :: HS2_6 X

def HS2_8 (X : Blk) : List (View.Piece (Elt Ideal) S256x768 .bf16) := ⟨Rect.unit ![128, 128] S128x128.size inb_S256x768_S128x128_128_128, k0_pay45 (v11 X) (v18 X) v70 (v393 X) v118 k0_pay44 0#32⟩ :: HS2_7 X

def HS2_9 (X : Blk) : List (View.Piece (Elt Ideal) S256x768 .bf16) := ⟨Rect.unit ![128, 256] S128x128.size inb_S256x768_S128x128_128_256, k0_pay47 (v11 X) (v18 X) v70 (v439 X) v118 cst_137⟩ :: HS2_8 X

def HS2_10 (X : Blk) : List (View.Piece (Elt Ideal) S256x768 .bf16) := ⟨Rect.unit ![128, 384] S128x128.size inb_S256x768_S128x128_128_384, v530 X⟩ :: HS2_9 X

def HS2_11 (X : Blk) : List (View.Piece (Elt Ideal) S256x768 .bf16) := ⟨Rect.unit ![128, 512] S128x128.size inb_S256x768_S128x128_128_512, k0_pay51 (v573 X)⟩ :: HS2_10 X

def HS2_12 (X : Blk) : List (View.Piece (Elt Ideal) S256x768 .bf16) := ⟨Rect.unit ![128, 640] S128x128.size inb_S256x768_S128x128_128_640, k0_pay53 (v619 X)⟩ :: HS2_11 X

def v623 (X : Blk) := cov (HS2_12 X) (Rect.unit ![0, 0] S256x768.size inb_S256x768_S256x768_0_0)

def v655 (X : Blk) := k0_pay54 (v1 X) (v623 X) X.x6 X.x9 X.x10 X.x11

def HS1_1 (X : Blk) : List (View.Piece (Elt Ideal) S256x768 .bf16) := [⟨Rect.unit ![0, 0] S256x768.size inb_S256x768_S256x768_0_0, k0_pay56 (v655 X) X.x12 X.x14⟩]

def v2464 (X : Blk) := cov (HS1_1 X) (Rect.unit ![224, 512] S32x256.size inb_S256x768_S32x256_224_512)

def v716 := iota Kind.tc S32x256 32 [1] iota_S32x256_d1_w32

def v2472 (X : Blk) := k0_pay189 (v2464 X)

def v2478 (X : Blk) := k0_pay190 (v2464 X)

def v2484 (X : Blk) := k0_pay191 (v2464 X)

def v2075 (X : Blk) := k0_pay161 (View.ld X.x1 (Rect.unit ![6, 0, 0] S1x577x1024.size inb_S8x577x1024_S1x577x1024_6_0_0)) X.x16 (View.ld X.x2 (Rect.unit ![6, 0] S1x577.size inb_S8x577_S1x577_6_0))

def v690 (X : Blk) := X.x18

def v1382 (X : Blk) := k0_pay111 (View.ld X.x1 (Rect.unit ![3, 0, 0] S1x577x1024.size inb_S8x577x1024_S1x577x1024_3_0_0)) X.x16 (View.ld X.x2 (Rect.unit ![3, 0] S1x577.size inb_S8x577_S1x577_3_0))

def v689 (X : Blk) := k0_pay61 (View.ld X.x1 (Rect.unit ![0, 0, 0] S1x577x1024.size inb_S8x577x1024_S1x577x1024_0_0_0)) X.x16 (View.ld X.x2 (Rect.unit ![0, 0] S1x577.size inb_S8x577_S1x577_0_0))

def HS3_1 (X : Blk) : List (View.Piece (Elt Ideal) S768x640 .bf16) := [⟨Rect.unit ![0, 0] S768x577.size inb_S768x640_S768x577_0_0, k0_pay62 (v689 X) (v690 X)⟩]

def HS3_2 (X : Blk) : List (View.Piece (Elt Ideal) S768x640 .bf16) := ⟨Rect.unit ![0, 0] S768x577.size inb_S768x640_S768x577_0_0, k0_pay80 (View.ld X.x1 (Rect.unit ![1, 0, 0] S1x577x1024.size inb_S8x577x1024_S1x577x1024_1_0_0)) X.x16 (View.ld X.x2 (Rect.unit ![1, 0] S1x577.size inb_S8x577_S1x577_1_0)) X.x18⟩ :: HS3_1 X

def HS3_3 (X : Blk) : List (View.Piece (Elt Ideal) S768x640 .bf16) := ⟨Rect.unit ![0, 0] S768x577.size inb_S768x640_S768x577_0_0, k0_pay95 (View.ld X.x1 (Rect.unit ![2, 0, 0] S1x577x1024.size inb_S8x577x1024_S1x577x1024_2_0_0)) X.x16 (View.ld X.x2 (Rect.unit ![2, 0] S1x577.size inb_S8x577_S1x577_2_0)) X.x18⟩ :: HS3_2 X

def HS3_4 (X : Blk) : List (View.Piece (Elt Ideal) S768x640 .bf16) := ⟨Rect.unit ![0, 0] S768x577.size inb_S768x640_S768x577_0_0, k0_pay112 (v1382 X) (v690 X)⟩ :: HS3_3 X

def HS3_5 (X : Blk) : List (View.Piece (Elt Ideal) S768x640 .bf16) := ⟨Rect.unit ![0, 0] S768x577.size inb_S768x640_S768x577_0_0, k0_pay130 (View.ld X.x1 (Rect.unit ![4, 0, 0] S1x577x1024.size inb_S8x577x1024_S1x577x1024_4_0_0)) X.x16 (View.ld X.x2 (Rect.unit ![4, 0] S1x577.size inb_S8x577_S1x577_4_0)) X.x18⟩ :: HS3_4 X

def HS3_6 (X : Blk) : List (View.Piece (Elt Ideal) S768x640 .bf16) := ⟨Rect.unit ![0, 0] S768x577.size inb_S768x640_S768x577_0_0, k0_pay145 (View.ld X.x1 (Rect.unit ![5, 0, 0] S1x577x1024.size inb_S8x577x1024_S1x577x1024_5_0_0)) X.x16 (View.ld X.x2 (Rect.unit ![5, 0] S1x577.size inb_S8x577_S1x577_5_0)) X.x18⟩ :: HS3_5 X

def HS3_7 (X : Blk) : List (View.Piece (Elt Ideal) S768x640 .bf16) := ⟨Rect.unit ![0, 0] S768x577.size inb_S768x640_S768x577_0_0, k0_pay162 (v2075 X) (v690 X)⟩ :: HS3_6 X

def HS3_8 (X : Blk) : List (View.Piece (Elt Ideal) S768x640 .bf16) := ⟨Rect.unit ![0, 0] S768x577.size inb_S768x640_S768x577_0_0, k0_pay180 (View.ld X.x1 (Rect.unit ![7, 0, 0] S1x577x1024.size inb_S8x577x1024_S1x577x1024_7_0_0)) X.x16 (View.ld X.x2 (Rect.unit ![7, 0] S1x577.size inb_S8x577_S1x577_7_0)) X.x18⟩ :: HS3_7 X

def HS5_1 (X : Blk) : List (View.Piece (Elt Ideal) S577x8 .f32) := [⟨Rect.unit ![0, 0] S577x8.size inb_S577x8_S577x8_0_0, k0_pay57 X.x2⟩]

def v2317 (X : Blk) := cov (HS5_1 X) (Rect.unit ![0, 7] S577x1.size inb_S577x8_S577x1_0_7)

def v2319 (X : Blk) := k0_pay181 (View.ld X.x1 (Rect.unit ![7, 0, 0] S1x577x1024.size inb_S8x577x1024_S1x577x1024_7_0_0)) X.x17 (v2317 X)

def v2069 (X : Blk) := k0_pay160 (View.ld X.x1 (Rect.unit ![6, 0, 0] S1x577x1024.size inb_S8x577x1024_S1x577x1024_6_0_0))

def v2086 (X : Blk) := cov (HS5_1 X) (Rect.unit ![0, 6] S577x1.size inb_S577x8_S577x1_0_6)

def v1855 (X : Blk) := cov (HS5_1 X) (Rect.unit ![0, 5] S577x1.size inb_S577x8_S577x1_0_5)

def v1624 (X : Blk) := cov (HS5_1 X) (Rect.unit ![0, 4] S577x1.size inb_S577x8_S577x1_0_4)

def v1626 (X : Blk) := k0_pay131 (View.ld X.x1 (Rect.unit ![4, 0, 0] S1x577x1024.size inb_S8x577x1024_S1x577x1024_4_0_0)) X.x17 (v1624 X)

def v1376 (X : Blk) := k0_pay110 (View.ld X.x1 (Rect.unit ![3, 0, 0] S1x577x1024.size inb_S8x577x1024_S1x577x1024_3_0_0))

def v1393 (X : Blk) := cov (HS5_1 X) (Rect.unit ![0, 3] S577x1.size inb_S577x8_S577x1_0_3)

def v1162 (X : Blk) := cov (HS5_1 X) (Rect.unit ![0, 2] S577x1.size inb_S577x8_S577x1_0_2)

def v931 (X : Blk) := cov (HS5_1 X) (Rect.unit ![0, 1] S577x1.size inb_S577x8_S577x1_0_1)

def v933 (X : Blk) := k0_pay81 (View.ld X.x1 (Rect.unit ![1, 0, 0] S1x577x1024.size inb_S8x577x1024_S1x577x1024_1_0_0)) X.x17 (v931 X)

def v683 (X : Blk) := k0_pay60 (View.ld X.x1 (Rect.unit ![0, 0, 0] S1x577x1024.size inb_S8x577x1024_S1x577x1024_0_0_0))

def v700 (X : Blk) := cov (HS5_1 X) (Rect.unit ![0, 0] S577x1.size inb_S577x8_S577x1_0_0)

def HS4_2 (X : Blk) (y4 : Vec Ideal S640x768 .bf16) : List (View.Piece (Elt Ideal) S640x768 .bf16) := ⟨Rect.unit ![0, 0] S578x768.size inb_S640x768_S578x768_0_0, (fun prev => updateSlice prev (k0_pay63 (v683 X) X.x17 (v700 X) X.x19 X.x20) ![0, 0] slices_S578x768_S577x768_0_0) (View.ld (over HS4_1 y4) (Rect.unit ![0, 0] S578x768.size inb_S640x768_S578x768_0_0))⟩ :: HS4_1

def old (X : Blk) (y4 : Vec Ideal S640x768 .bf16) := cov (HS4_2 X y4) (Rect.unit ![0, 0] S578x768.size inb_S640x768_S578x768_0_0)

def HS4_3 (X : Blk) (y4 : Vec Ideal S640x768 .bf16) : List (View.Piece (Elt Ideal) S640x768 .bf16) := ⟨Rect.unit ![0, 0] S578x768.size inb_S640x768_S578x768_0_0, (fun prev => updateSlice prev (k0_pay82 (v933 X) X.x19 X.x20) ![0, 0] slices_S578x768_S577x768_0_0) (old X y4)⟩ :: HS4_2 X y4

def old_1 (X : Blk) (y4 : Vec Ideal S640x768 .bf16) := cov (HS4_3 X y4) (Rect.unit ![0, 0] S578x768.size inb_S640x768_S578x768_0_0)

def HS4_4 (X : Blk) (y4 : Vec Ideal S640x768 .bf16) : List (View.Piece (Elt Ideal) S640x768 .bf16) := ⟨Rect.unit ![0, 0] S578x768.size inb_S640x768_S578x768_0_0, (fun prev => updateSlice prev (k0_pay96 (View.ld X.x1 (Rect.unit ![2, 0, 0] S1x577x1024.size inb_S8x577x1024_S1x577x1024_2_0_0)) X.x17 (v1162 X) X.x19 X.x20) ![0, 0] slices_S578x768_S577x768_0_0) (old_1 X y4)⟩ :: HS4_3 X y4

def old_2 (X : Blk) (y4 : Vec Ideal S640x768 .bf16) := cov (HS4_4 X y4) (Rect.unit ![0, 0] S578x768.size inb_S640x768_S578x768_0_0)

def HS4_5 (X : Blk) (y4 : Vec Ideal S640x768 .bf16) : List (View.Piece (Elt Ideal) S640x768 .bf16) := ⟨Rect.unit ![0, 0] S578x768.size inb_S640x768_S578x768_0_0, (fun prev => updateSlice prev (k0_pay113 (v1376 X) X.x17 (v1393 X) X.x19 X.x20) ![0, 0] slices_S578x768_S577x768_0_0) (old_2 X y4)⟩ :: HS4_4 X y4

def old_3 (X : Blk) (y4 : Vec Ideal S640x768 .bf16) := cov (HS4_5 X y4) (Rect.unit ![0, 0] S578x768.size inb_S640x768_S578x768_0_0)

def HS4_6 (X : Blk) (y4 : Vec Ideal S640x768 .bf16) : List (View.Piece (Elt Ideal) S640x768 .bf16) := ⟨Rect.unit ![0, 0] S578x768.size inb_S640x768_S578x768_0_0, (fun prev => updateSlice prev (k0_pay132 (v1626 X) X.x19 X.x20) ![0, 0] slices_S578x768_S577x768_0_0) (old_3 X y4)⟩ :: HS4_5 X y4

def old_4 (X : Blk) (y4 : Vec Ideal S640x768 .bf16) := cov (HS4_6 X y4) (Rect.unit ![0, 0] S578x768.size inb_S640x768_S578x768_0_0)

def HS4_7 (X : Blk) (y4 : Vec Ideal S640x768 .bf16) : List (View.Piece (Elt Ideal) S640x768 .bf16) := ⟨Rect.unit ![0, 0] S578x768.size inb_S640x768_S578x768_0_0, (fun prev => updateSlice prev (k0_pay146 (View.ld X.x1 (Rect.unit ![5, 0, 0] S1x577x1024.size inb_S8x577x1024_S1x577x1024_5_0_0)) X.x17 (v1855 X) X.x19 X.x20) ![0, 0] slices_S578x768_S577x768_0_0) (old_4 X y4)⟩ :: HS4_6 X y4

def old_5 (X : Blk) (y4 : Vec Ideal S640x768 .bf16) := cov (HS4_7 X y4) (Rect.unit ![0, 0] S578x768.size inb_S640x768_S578x768_0_0)

def HS4_8 (X : Blk) (y4 : Vec Ideal S640x768 .bf16) : List (View.Piece (Elt Ideal) S640x768 .bf16) := ⟨Rect.unit ![0, 0] S578x768.size inb_S640x768_S578x768_0_0, (fun prev => updateSlice prev (k0_pay163 (v2069 X) X.x17 (v2086 X) X.x19 X.x20) ![0, 0] slices_S578x768_S577x768_0_0) (old_5 X y4)⟩ :: HS4_7 X y4

def old_6 (X : Blk) (y4 : Vec Ideal S640x768 .bf16) := cov (HS4_8 X y4) (Rect.unit ![0, 0] S578x768.size inb_S640x768_S578x768_0_0)

def HS4_9 (X : Blk) (y4 : Vec Ideal S640x768 .bf16) : List (View.Piece (Elt Ideal) S640x768 .bf16) := ⟨Rect.unit ![0, 0] S578x768.size inb_S640x768_S578x768_0_0, (fun prev => updateSlice prev (k0_pay182 (v2319 X) X.x19 X.x20) ![0, 0] slices_S578x768_S577x768_0_0) (old_6 X y4)⟩ :: HS4_8 X y4

def v2510 (X : Blk) (y4 : Vec Ideal S640x768 .bf16) := cov (HS4_9 X y4) (Rect.unit ![0, 512] S640x256.size inb_S640x768_S640x256_0_512)

def v2529 (X : Blk) (y3 : Vec Ideal S768x640 .bf16) (y4 : Vec Ideal S640x768 .bf16) := k0_pay193 k0_pay58 (v2464 X) v716 k0_pay188 (v2472 X) (v2478 X) (v2484 X) k0_pay192 (View.ld (over (HS3_8 X) y3) (Rect.unit ![512, 0] S256x640.size inb_S768x640_S256x640_512_0)) (v2510 X y4)

def v847 (X : Blk) := cov (HS1_1 X) (Rect.unit ![0, 512] S32x256.size inb_S256x768_S32x256_0_512)

def v893 (X : Blk) (y4 : Vec Ideal S640x768 .bf16) := cov (HS4_2 X y4) (Rect.unit ![0, 512] S640x256.size inb_S640x768_S640x256_0_512)

def v896 (X : Blk) (y3 : Vec Ideal S768x640 .bf16) (y4 : Vec Ideal S640x768 .bf16) := k0_pay77 k0_pay58 (v847 X) v716 k0_pay74 k0_pay75 (View.ld (over (HS3_1 X) y3) (Rect.unit ![512, 0] S256x640.size inb_S768x640_S256x640_512_0)) (v893 X y4)

def v2398 (X : Blk) := cov (HS1_1 X) (Rect.unit ![224, 256] S32x256.size inb_S256x768_S32x256_224_256)

def v2443 (X : Blk) (y3 : Vec Ideal S768x640 .bf16) := k0_pay186 k0_pay58 (v2398 X) v716 k0_pay185 (0#32) (View.ld (over (HS3_8 X) y3) (Rect.unit ![256, 0] S256x640.size inb_S768x640_S256x640_256_0))

def v2444 (X : Blk) (y4 : Vec Ideal S640x768 .bf16) := cov (HS4_9 X y4) (Rect.unit ![0, 256] S640x256.size inb_S640x768_S640x256_0_256)

def v2332 (X : Blk) := cov (HS1_1 X) (Rect.unit ![224, 0] S32x256.size inb_S256x768_S32x256_224_0)

def v2359 (X : Blk) := k0_pay183 (v2332 X)

def v2378 (X : Blk) (y4 : Vec Ideal S640x768 .bf16) := cov (HS4_9 X y4) (Rect.unit ![0, 0] S640x256.size inb_S640x768_S640x256_0_0)

def v2233 (X : Blk) := cov (HS1_1 X) (Rect.unit ![192, 512] S32x256.size inb_S256x768_S32x256_192_512)

def v2279 (X : Blk) (y4 : Vec Ideal S640x768 .bf16) := cov (HS4_8 X y4) (Rect.unit ![0, 512] S640x256.size inb_S640x768_S640x256_0_512)

def v2280 (X : Blk) (y3 : Vec Ideal S768x640 .bf16) (y4 : Vec Ideal S640x768 .bf16) := k0_pay176 k0_pay58 (v2233 X) v716 k0_pay174 k0_pay175 (View.ld (over (HS3_7 X) y3) (Rect.unit ![512, 0] S256x640.size inb_S768x640_S256x640_512_0)) (v2279 X y4)

def v2282 (X : Blk) (y3 : Vec Ideal S768x640 .bf16) (y4 : Vec Ideal S640x768 .bf16) := k0_pay177 k0_pay58 (v2233 X) v716 k0_pay174 k0_pay175 (View.ld (over (HS3_7 X) y3) (Rect.unit ![512, 0] S256x640.size inb_S768x640_S256x640_512_0)) (v2279 X y4)

def v2167 (X : Blk) := cov (HS1_1 X) (Rect.unit ![192, 256] S32x256.size inb_S256x768_S32x256_192_256)

def v2198 (X : Blk) (y3 : Vec Ideal S768x640 .bf16) := k0_pay172 k0_pay58 (v2167 X) (View.ld (over (HS3_7 X) y3) (Rect.unit ![256, 0] S256x640.size inb_S768x640_S256x640_256_0))

def v2213 (X : Blk) (y4 : Vec Ideal S640x768 .bf16) := cov (HS4_8 X y4) (Rect.unit ![0, 256] S640x256.size inb_S640x768_S640x256_0_256)

def v2101 (X : Blk) := cov (HS1_1 X) (Rect.unit ![192, 0] S32x256.size inb_S256x768_S32x256_192_0)

def v2109 (X : Blk) := k0_pay165 (v2101 X)

def v2147 (X : Blk) (y4 : Vec Ideal S640x768 .bf16) := cov (HS4_8 X y4) (Rect.unit ![0, 0] S640x256.size inb_S640x768_S640x256_0_0)

def v2148 (X : Blk) (y3 : Vec Ideal S768x640 .bf16) (y4 : Vec Ideal S640x768 .bf16) := k0_pay167 k0_pay58 (v2101 X) v716 k0_pay164 (v2109 X) k0_pay166 (View.ld (over (HS3_7 X) y3) (Rect.unit ![0, 0] S256x640.size inb_S768x640_S256x640_0_0)) (v2147 X y4)

def v2154 (X : Blk) (y3 : Vec Ideal S768x640 .bf16) (y4 : Vec Ideal S640x768 .bf16) := k0_pay168 k0_pay58 (v2101 X) v716 k0_pay164 (v2109 X) k0_pay166 (View.ld (over (HS3_7 X) y3) (Rect.unit ![0, 0] S256x640.size inb_S768x640_S256x640_0_0)) (v2147 X y4)

def v2157 (X : Blk) (y3 : Vec Ideal S768x640 .bf16) (y4 : Vec Ideal S640x768 .bf16) := k0_pay170 k0_pay58 (v2101 X) v716 k0_pay164 (v2109 X) k0_pay166 (View.ld (over (HS3_7 X) y3) (Rect.unit ![0, 0] S256x640.size inb_S768x640_S256x640_0_0)) (v2147 X y4)

def v2002 (X : Blk) := cov (HS1_1 X) (Rect.unit ![160, 512] S32x256.size inb_S256x768_S32x256_160_512)

def v2037 (X : Blk) (y3 : Vec Ideal S768x640 .bf16) := k0_pay158 k0_pay58 (v2002 X) (View.ld (over (HS3_6 X) y3) (Rect.unit ![512, 0] S256x640.size inb_S768x640_S256x640_512_0))

def cst_523 : Ideal .f32 := FloatOps.ofBits .f32 1040187392#32

def v2048 (X : Blk) (y4 : Vec Ideal S640x768 .bf16) := cov (HS4_7 X y4) (Rect.unit ![0, 512] S640x256.size inb_S640x768_S640x256_0_512)

def v1936 (X : Blk) := cov (HS1_1 X) (Rect.unit ![160, 256] S32x256.size inb_S256x768_S32x256_160_256)

def v1944 (X : Blk) := k0_pay152 (v1936 X)

def v1950 (X : Blk) := k0_pay153 (v1936 X)

def v1982 (X : Blk) (y4 : Vec Ideal S640x768 .bf16) := cov (HS4_7 X y4) (Rect.unit ![0, 256] S640x256.size inb_S640x768_S640x256_0_256)

def v1997 (X : Blk) (y3 : Vec Ideal S768x640 .bf16) (y4 : Vec Ideal S640x768 .bf16) := k0_pay156 k0_pay58 (v1936 X) v716 k0_pay151 (v1944 X) (v1950 X) k0_pay154 k0_pay155 (View.ld (over (HS3_6 X) y3) (Rect.unit ![256, 0] S256x640.size inb_S768x640_S256x640_256_0)) (v1982 X y4)

def v1870 (X : Blk) := cov (HS1_1 X) (Rect.unit ![160, 0] S32x256.size inb_S256x768_S32x256_160_0)

def v1908 (X : Blk) (y3 : Vec Ideal S768x640 .bf16) := k0_pay147 k0_pay58 (v1870 X) (View.ld (over (HS3_6 X) y3) (Rect.unit ![0, 0] S256x640.size inb_S768x640_S256x640_0_0))

def v1910 (X : Blk) (y3 : Vec Ideal S768x640 .bf16) := k0_pay148 k0_pay58 (v1870 X) (View.ld (over (HS3_6 X) y3) (Rect.unit ![0, 0] S256x640.size inb_S768x640_S256x640_0_0))

def v1916 (X : Blk) (y4 : Vec Ideal S640x768 .bf16) := cov (HS4_7 X y4) (Rect.unit ![0, 0] S640x256.size inb_S640x768_S640x256_0_0)

def v1771 (X : Blk) := cov (HS1_1 X) (Rect.unit ![128, 512] S32x256.size inb_S256x768_S32x256_128_512)

def v1779 (X : Blk) := k0_pay139 (v1771 X)

def v1785 (X : Blk) := k0_pay140 (v1771 X)

def v1791 (X : Blk) := k0_pay141 (v1771 X)

def v1817 (X : Blk) (y4 : Vec Ideal S640x768 .bf16) := cov (HS4_6 X y4) (Rect.unit ![0, 512] S640x256.size inb_S640x768_S640x256_0_512)

def v1836 (X : Blk) (y3 : Vec Ideal S768x640 .bf16) (y4 : Vec Ideal S640x768 .bf16) := k0_pay143 k0_pay58 (v1771 X) v716 k0_pay138 (v1779 X) (v1785 X) (v1791 X) k0_pay142 (View.ld (over (HS3_5 X) y3) (Rect.unit ![512, 0] S256x640.size inb_S768x640_S256x640_512_0)) (v1817 X y4)

def v1705 (X : Blk) := cov (HS1_1 X) (Rect.unit ![128, 256] S32x256.size inb_S256x768_S32x256_128_256)

def v1750 (X : Blk) (y3 : Vec Ideal S768x640 .bf16) := k0_pay136 k0_pay58 (v1705 X) v716 k0_pay135 (0#32) (View.ld (over (HS3_5 X) y3) (Rect.unit ![256, 0] S256x640.size inb_S768x640_S256x640_256_0))

def v1751 (X : Blk) (y4 : Vec Ideal S640x768 .bf16) := cov (HS4_6 X y4) (Rect.unit ![0, 256] S640x256.size inb_S640x768_S640x256_0_256)

def v1639 (X : Blk) := cov (HS1_1 X) (Rect.unit ![128, 0] S32x256.size inb_S256x768_S32x256_128_0)

def v1666 (X : Blk) := k0_pay133 (v1639 X)

def v1685 (X : Blk) (y4 : Vec Ideal S640x768 .bf16) := cov (HS4_6 X y4) (Rect.unit ![0, 0] S640x256.size inb_S640x768_S640x256_0_0)

def v1540 (X : Blk) := cov (HS1_1 X) (Rect.unit ![96, 512] S32x256.size inb_S256x768_S32x256_96_512)

def v1586 (X : Blk) (y4 : Vec Ideal S640x768 .bf16) := cov (HS4_5 X y4) (Rect.unit ![0, 512] S640x256.size inb_S640x768_S640x256_0_512)

def v1587 (X : Blk) (y3 : Vec Ideal S768x640 .bf16) (y4 : Vec Ideal S640x768 .bf16) := k0_pay126 k0_pay58 (v1540 X) v716 k0_pay124 k0_pay125 (View.ld (over (HS3_4 X) y3) (Rect.unit ![512, 0] S256x640.size inb_S768x640_S256x640_512_0)) (v1586 X y4)

def v1589 (X : Blk) (y3 : Vec Ideal S768x640 .bf16) (y4 : Vec Ideal S640x768 .bf16) := k0_pay127 k0_pay58 (v1540 X) v716 k0_pay124 k0_pay125 (View.ld (over (HS3_4 X) y3) (Rect.unit ![512, 0] S256x640.size inb_S768x640_S256x640_512_0)) (v1586 X y4)

def v1474 (X : Blk) := cov (HS1_1 X) (Rect.unit ![96, 256] S32x256.size inb_S256x768_S32x256_96_256)

def v1505 (X : Blk) (y3 : Vec Ideal S768x640 .bf16) := k0_pay122 k0_pay58 (v1474 X) (View.ld (over (HS3_4 X) y3) (Rect.unit ![256, 0] S256x640.size inb_S768x640_S256x640_256_0))

def v1520 (X : Blk) (y4 : Vec Ideal S640x768 .bf16) := cov (HS4_5 X y4) (Rect.unit ![0, 256] S640x256.size inb_S640x768_S640x256_0_256)

def v1408 (X : Blk) := cov (HS1_1 X) (Rect.unit ![96, 0] S32x256.size inb_S256x768_S32x256_96_0)

def v1416 (X : Blk) := k0_pay115 (v1408 X)

def v1454 (X : Blk) (y4 : Vec Ideal S640x768 .bf16) := cov (HS4_5 X y4) (Rect.unit ![0, 0] S640x256.size inb_S640x768_S640x256_0_0)

def v1455 (X : Blk) (y3 : Vec Ideal S768x640 .bf16) (y4 : Vec Ideal S640x768 .bf16) := k0_pay117 k0_pay58 (v1408 X) v716 k0_pay114 (v1416 X) k0_pay116 (View.ld (over (HS3_4 X) y3) (Rect.unit ![0, 0] S256x640.size inb_S768x640_S256x640_0_0)) (v1454 X y4)

def v1461 (X : Blk) (y3 : Vec Ideal S768x640 .bf16) (y4 : Vec Ideal S640x768 .bf16) := k0_pay118 k0_pay58 (v1408 X) v716 k0_pay114 (v1416 X) k0_pay116 (View.ld (over (HS3_4 X) y3) (Rect.unit ![0, 0] S256x640.size inb_S768x640_S256x640_0_0)) (v1454 X y4)

def v1464 (X : Blk) (y3 : Vec Ideal S768x640 .bf16) (y4 : Vec Ideal S640x768 .bf16) := k0_pay120 k0_pay58 (v1408 X) v716 k0_pay114 (v1416 X) k0_pay116 (View.ld (over (HS3_4 X) y3) (Rect.unit ![0, 0] S256x640.size inb_S768x640_S256x640_0_0)) (v1454 X y4)

def v1309 (X : Blk) := cov (HS1_1 X) (Rect.unit ![64, 512] S32x256.size inb_S256x768_S32x256_64_512)

def v1344 (X : Blk) (y3 : Vec Ideal S768x640 .bf16) := k0_pay108 k0_pay58 (v1309 X) (View.ld (over (HS3_3 X) y3) (Rect.unit ![512, 0] S256x640.size inb_S768x640_S256x640_512_0))

def v1355 (X : Blk) (y4 : Vec Ideal S640x768 .bf16) := cov (HS4_4 X y4) (Rect.unit ![0, 512] S640x256.size inb_S640x768_S640x256_0_512)

def v1243 (X : Blk) := cov (HS1_1 X) (Rect.unit ![64, 256] S32x256.size inb_S256x768_S32x256_64_256)

def v1251 (X : Blk) := k0_pay102 (v1243 X)

def v1257 (X : Blk) := k0_pay103 (v1243 X)

def v1289 (X : Blk) (y4 : Vec Ideal S640x768 .bf16) := cov (HS4_4 X y4) (Rect.unit ![0, 256] S640x256.size inb_S640x768_S640x256_0_256)

def v1304 (X : Blk) (y3 : Vec Ideal S768x640 .bf16) (y4 : Vec Ideal S640x768 .bf16) := k0_pay106 k0_pay58 (v1243 X) v716 k0_pay101 (v1251 X) (v1257 X) k0_pay104 k0_pay105 (View.ld (over (HS3_3 X) y3) (Rect.unit ![256, 0] S256x640.size inb_S768x640_S256x640_256_0)) (v1289 X y4)

def v1177 (X : Blk) := cov (HS1_1 X) (Rect.unit ![64, 0] S32x256.size inb_S256x768_S32x256_64_0)

def v1215 (X : Blk) (y3 : Vec Ideal S768x640 .bf16) := k0_pay97 k0_pay58 (v1177 X) (View.ld (over (HS3_3 X) y3) (Rect.unit ![0, 0] S256x640.size inb_S768x640_S256x640_0_0))

def v1217 (X : Blk) (y3 : Vec Ideal S768x640 .bf16) := k0_pay98 k0_pay58 (v1177 X) (View.ld (over (HS3_3 X) y3) (Rect.unit ![0, 0] S256x640.size inb_S768x640_S256x640_0_0))

def v1223 (X : Blk) (y4 : Vec Ideal S640x768 .bf16) := cov (HS4_4 X y4) (Rect.unit ![0, 0] S640x256.size inb_S640x768_S640x256_0_0)

def v1078 (X : Blk) := cov (HS1_1 X) (Rect.unit ![32, 512] S32x256.size inb_S256x768_S32x256_32_512)

def v1086 (X : Blk) := k0_pay89 (v1078 X)

def v1092 (X : Blk) := k0_pay90 (v1078 X)

def v1098 (X : Blk) := k0_pay91 (v1078 X)

def v1124 (X : Blk) (y4 : Vec Ideal S640x768 .bf16) := cov (HS4_3 X y4) (Rect.unit ![0, 512] S640x256.size inb_S640x768_S640x256_0_512)

def v1143 (X : Blk) (y3 : Vec Ideal S768x640 .bf16) (y4 : Vec Ideal S640x768 .bf16) := k0_pay93 k0_pay58 (v1078 X) v716 k0_pay88 (v1086 X) (v1092 X) (v1098 X) k0_pay92 (View.ld (over (HS3_2 X) y3) (Rect.unit ![512, 0] S256x640.size inb_S768x640_S256x640_512_0)) (v1124 X y4)

def v1012 (X : Blk) := cov (HS1_1 X) (Rect.unit ![32, 256] S32x256.size inb_S256x768_S32x256_32_256)

def v1057 (X : Blk) (y3 : Vec Ideal S768x640 .bf16) := k0_pay86 k0_pay58 (v1012 X) v716 k0_pay85 (0#32) (View.ld (over (HS3_2 X) y3) (Rect.unit ![256, 0] S256x640.size inb_S768x640_S256x640_256_0))

def v1058 (X : Blk) (y4 : Vec Ideal S640x768 .bf16) := cov (HS4_3 X y4) (Rect.unit ![0, 256] S640x256.size inb_S640x768_S640x256_0_256)

def v946 (X : Blk) := cov (HS1_1 X) (Rect.unit ![32, 0] S32x256.size inb_S256x768_S32x256_32_0)

def v973 (X : Blk) := k0_pay83 (v946 X)

def v992 (X : Blk) (y4 : Vec Ideal S640x768 .bf16) := cov (HS4_3 X y4) (Rect.unit ![0, 0] S640x256.size inb_S640x768_S640x256_0_0)

def v894 (X : Blk) (y3 : Vec Ideal S768x640 .bf16) (y4 : Vec Ideal S640x768 .bf16) := k0_pay76 k0_pay58 (v847 X) v716 k0_pay74 k0_pay75 (View.ld (over (HS3_1 X) y3) (Rect.unit ![512, 0] S256x640.size inb_S768x640_S256x640_512_0)) (v893 X y4)

def v781 (X : Blk) := cov (HS1_1 X) (Rect.unit ![0, 256] S32x256.size inb_S256x768_S32x256_0_256)

def v812 (X : Blk) (y3 : Vec Ideal S768x640 .bf16) := k0_pay72 k0_pay58 (v781 X) (View.ld (over (HS3_1 X) y3) (Rect.unit ![256, 0] S256x640.size inb_S768x640_S256x640_256_0))

def v827 (X : Blk) (y4 : Vec Ideal S640x768 .bf16) := cov (HS4_2 X y4) (Rect.unit ![0, 256] S640x256.size inb_S640x768_S640x256_0_256)

def v715 (X : Blk) := cov (HS1_1 X) (Rect.unit ![0, 0] S32x256.size inb_S256x768_S32x256_0_0)

def v723 (X : Blk) := k0_pay65 (v715 X)

def v761 (X : Blk) (y4 : Vec Ideal S640x768 .bf16) := cov (HS4_2 X y4) (Rect.unit ![0, 0] S640x256.size inb_S640x768_S640x256_0_0)

def v762 (X : Blk) (y3 : Vec Ideal S768x640 .bf16) (y4 : Vec Ideal S640x768 .bf16) := k0_pay67 k0_pay58 (v715 X) v716 k0_pay64 (v723 X) k0_pay66 (View.ld (over (HS3_1 X) y3) (Rect.unit ![0, 0] S256x640.size inb_S768x640_S256x640_0_0)) (v761 X y4)

def v768 (X : Blk) (y3 : Vec Ideal S768x640 .bf16) (y4 : Vec Ideal S640x768 .bf16) := k0_pay68 k0_pay58 (v715 X) v716 k0_pay64 (v723 X) k0_pay66 (View.ld (over (HS3_1 X) y3) (Rect.unit ![0, 0] S256x640.size inb_S768x640_S256x640_0_0)) (v761 X y4)

def v771 (X : Blk) (y3 : Vec Ideal S768x640 .bf16) (y4 : Vec Ideal S640x768 .bf16) := k0_pay70 k0_pay58 (v715 X) v716 k0_pay64 (v723 X) k0_pay66 (View.ld (over (HS3_1 X) y3) (Rect.unit ![0, 0] S256x640.size inb_S768x640_S256x640_0_0)) (v761 X y4)

def HS2_13 (X : Blk) (y3 : Vec Ideal S768x640 .bf16) (y4 : Vec Ideal S640x768 .bf16) : List (View.Piece (Elt Ideal) S256x768 .bf16) := ⟨Rect.unit ![0, 0] S32x256.size inb_S256x768_S32x256_0_0, k0_pay71 (v762 X y3 y4) v716 (v768 X y3 y4) k0_pay69 (v771 X y3 y4)⟩ :: HS2_12 X

def HS2_14 (X : Blk) (y3 : Vec Ideal S768x640 .bf16) (y4 : Vec Ideal S640x768 .bf16) : List (View.Piece (Elt Ideal) S256x768 .bf16) := ⟨Rect.unit ![0, 256] S32x256.size inb_S256x768_S32x256_0_256, k0_pay73 (v812 X y3) (v827 X y4)⟩ :: HS2_13 X y3 y4

def HS2_15 (X : Blk) (y3 : Vec Ideal S768x640 .bf16) (y4 : Vec Ideal S640x768 .bf16) : List (View.Piece (Elt Ideal) S256x768 .bf16) := ⟨Rect.unit ![0, 512] S32x256.size inb_S256x768_S32x256_0_512, k0_pay78 (v894 X y3 y4) v716 (v896 X y3 y4) 64#32⟩ :: HS2_14 X y3 y4

def HS2_16 (X : Blk) (y3 : Vec Ideal S768x640 .bf16) (y4 : Vec Ideal S640x768 .bf16) : List (View.Piece (Elt Ideal) S256x768 .bf16) := ⟨Rect.unit ![32, 0] S32x256.size inb_S256x768_S32x256_32_0, k0_pay84 k0_pay58 (v973 X) (View.ld (over (HS3_2 X) y3) (Rect.unit ![0, 0] S256x640.size inb_S768x640_S256x640_0_0)) (v992 X y4)⟩ :: HS2_15 X y3 y4

def HS2_17 (X : Blk) (y3 : Vec Ideal S768x640 .bf16) (y4 : Vec Ideal S640x768 .bf16) : List (View.Piece (Elt Ideal) S256x768 .bf16) := ⟨Rect.unit ![32, 256] S32x256.size inb_S256x768_S32x256_32_256, k0_pay87 (v1057 X y3) (v1058 X y4)⟩ :: HS2_16 X y3 y4

def HS2_18 (X : Blk) (y3 : Vec Ideal S768x640 .bf16) (y4 : Vec Ideal S640x768 .bf16) : List (View.Piece (Elt Ideal) S256x768 .bf16) := ⟨Rect.unit ![32, 512] S32x256.size inb_S256x768_S32x256_32_512, v1143 X y3 y4⟩ :: HS2_17 X y3 y4

def HS2_19 (X : Blk) (y3 : Vec Ideal S768x640 .bf16) (y4 : Vec Ideal S640x768 .bf16) : List (View.Piece (Elt Ideal) S256x768 .bf16) := ⟨Rect.unit ![64, 0] S32x256.size inb_S256x768_S32x256_64_0, k0_pay100 (v1215 X y3) (v1217 X y3) k0_pay99 (v1223 X y4)⟩ :: HS2_18 X y3 y4

def HS2_20 (X : Blk) (y3 : Vec Ideal S768x640 .bf16) (y4 : Vec Ideal S640x768 .bf16) : List (View.Piece (Elt Ideal) S256x768 .bf16) := ⟨Rect.unit ![64, 256] S32x256.size inb_S256x768_S32x256_64_256, k0_pay107 (v1304 X y3 y4)⟩ :: HS2_19 X y3 y4

def HS2_21 (X : Blk) (y3 : Vec Ideal S768x640 .bf16) (y4 : Vec Ideal S640x768 .bf16) : List (View.Piece (Elt Ideal) S256x768 .bf16) := ⟨Rect.unit ![64, 512] S32x256.size inb_S256x768_S32x256_64_512, k0_pay109 (v1344 X y3) cst_523 (v1355 X y4)⟩ :: HS2_20 X y3 y4

def HS2_22 (X : Blk) (y3 : Vec Ideal S768x640 .bf16) (y4 : Vec Ideal S640x768 .bf16) : List (View.Piece (Elt Ideal) S256x768 .bf16) := ⟨Rect.unit ![96, 0] S32x256.size inb_S256x768_S32x256_96_0, k0_pay121 (v1455 X y3 y4) v716 (v1461 X y3 y4) k0_pay119 (v1464 X y3 y4)⟩ :: HS2_21 X y3 y4

def HS2_23 (X : Blk) (y3 : Vec Ideal S768x640 .bf16) (y4 : Vec Ideal S640x768 .bf16) : List (View.Piece (Elt Ideal) S256x768 .bf16) := ⟨Rect.unit ![96, 256] S32x256.size inb_S256x768_S32x256_96_256, k0_pay123 (v1505 X y3) (v1520 X y4)⟩ :: HS2_22 X y3 y4

def HS2_24 (X : Blk) (y3 : Vec Ideal S768x640 .bf16) (y4 : Vec Ideal S640x768 .bf16) : List (View.Piece (Elt Ideal) S256x768 .bf16) := ⟨Rect.unit ![96, 512] S32x256.size inb_S256x768_S32x256_96_512, k0_pay128 (v1587 X y3 y4) v716 (v1589 X y3 y4) 64#32⟩ :: HS2_23 X y3 y4

def HS2_25 (X : Blk) (y3 : Vec Ideal S768x640 .bf16) (y4 : Vec Ideal S640x768 .bf16) : List (View.Piece (Elt Ideal) S256x768 .bf16) := ⟨Rect.unit ![128, 0] S32x256.size inb_S256x768_S32x256_128_0, k0_pay134 k0_pay58 (v1666 X) (View.ld (over (HS3_5 X) y3) (Rect.unit ![0, 0] S256x640.size inb_S768x640_S256x640_0_0)) (v1685 X y4)⟩ :: HS2_24 X y3 y4

def HS2_26 (X : Blk) (y3 : Vec Ideal S768x640 .bf16) (y4 : Vec Ideal S640x768 .bf16) : List (View.Piece (Elt Ideal) S256x768 .bf16) := ⟨Rect.unit ![128, 256] S32x256.size inb_S256x768_S32x256_128_256, k0_pay137 (v1750 X y3) (v1751 X y4)⟩ :: HS2_25 X y3 y4

def HS2_27 (X : Blk) (y3 : Vec Ideal S768x640 .bf16) (y4 : Vec Ideal S640x768 .bf16) : List (View.Piece (Elt Ideal) S256x768 .bf16) := ⟨Rect.unit ![128, 512] S32x256.size inb_S256x768_S32x256_128_512, v1836 X y3 y4⟩ :: HS2_26 X y3 y4

def HS2_28 (X : Blk) (y3 : Vec Ideal S768x640 .bf16) (y4 : Vec Ideal S640x768 .bf16) : List (View.Piece (Elt Ideal) S256x768 .bf16) := ⟨Rect.unit ![160, 0] S32x256.size inb_S256x768_S32x256_160_0, k0_pay150 (v1908 X y3) (v1910 X y3) k0_pay149 (v1916 X y4)⟩ :: HS2_27 X y3 y4

def HS2_29 (X : Blk) (y3 : Vec Ideal S768x640 .bf16) (y4 : Vec Ideal S640x768 .bf16) : List (View.Piece (Elt Ideal) S256x768 .bf16) := ⟨Rect.unit ![160, 256] S32x256.size inb_S256x768_S32x256_160_256, k0_pay157 (v1997 X y3 y4)⟩ :: HS2_28 X y3 y4

def HS2_30 (X : Blk) (y3 : Vec Ideal S768x640 .bf16) (y4 : Vec Ideal S640x768 .bf16) : List (View.Piece (Elt Ideal) S256x768 .bf16) := ⟨Rect.unit ![160, 512] S32x256.size inb_S256x768_S32x256_160_512, k0_pay159 (v2037 X y3) cst_523 (v2048 X y4)⟩ :: HS2_29 X y3 y4

def HS2_31 (X : Blk) (y3 : Vec Ideal S768x640 .bf16) (y4 : Vec Ideal S640x768 .bf16) : List (View.Piece (Elt Ideal) S256x768 .bf16) := ⟨Rect.unit ![192, 0] S32x256.size inb_S256x768_S32x256_192_0, k0_pay171 (v2148 X y3 y4) v716 (v2154 X y3 y4) k0_pay169 (v2157 X y3 y4)⟩ :: HS2_30 X y3 y4

def HS2_32 (X : Blk) (y3 : Vec Ideal S768x640 .bf16) (y4 : Vec Ideal S640x768 .bf16) : List (View.Piece (Elt Ideal) S256x768 .bf16) := ⟨Rect.unit ![192, 256] S32x256.size inb_S256x768_S32x256_192_256, k0_pay173 (v2198 X y3) (v2213 X y4)⟩ :: HS2_31 X y3 y4

def HS2_33 (X : Blk) (y3 : Vec Ideal S768x640 .bf16) (y4 : Vec Ideal S640x768 .bf16) : List (View.Piece (Elt Ideal) S256x768 .bf16) := ⟨Rect.unit ![192, 512] S32x256.size inb_S256x768_S32x256_192_512, k0_pay178 (v2280 X y3 y4) v716 (v2282 X y3 y4) 64#32⟩ :: HS2_32 X y3 y4

def HS2_34 (X : Blk) (y3 : Vec Ideal S768x640 .bf16) (y4 : Vec Ideal S640x768 .bf16) : List (View.Piece (Elt Ideal) S256x768 .bf16) := ⟨Rect.unit ![224, 0] S32x256.size inb_S256x768_S32x256_224_0, k0_pay184 k0_pay58 (v2359 X) (View.ld (over (HS3_8 X) y3) (Rect.unit ![0, 0] S256x640.size inb_S768x640_S256x640_0_0)) (v2378 X y4)⟩ :: HS2_33 X y3 y4

def HS2_35 (X : Blk) (y3 : Vec Ideal S768x640 .bf16) (y4 : Vec Ideal S640x768 .bf16) : List (View.Piece (Elt Ideal) S256x768 .bf16) := ⟨Rect.unit ![224, 256] S32x256.size inb_S256x768_S32x256_224_256, k0_pay187 (v2443 X y3) (v2444 X y4)⟩ :: HS2_34 X y3 y4

def HS2_36 (X : Blk) (y3 : Vec Ideal S768x640 .bf16) (y4 : Vec Ideal S640x768 .bf16) : List (View.Piece (Elt Ideal) S256x768 .bf16) := ⟨Rect.unit ![224, 512] S32x256.size inb_S256x768_S32x256_224_512, v2529 X y3 y4⟩ :: HS2_35 X y3 y4

def v2530 (X : Blk) (y3 : Vec Ideal S768x640 .bf16) (y4 : Vec Ideal S640x768 .bf16) := cov (HS2_36 X y3 y4) (Rect.unit ![0, 0] S256x768.size inb_S256x768_S256x768_0_0)

def HS0_1 (X : Blk) : List (View.Piece (Elt Ideal) S256x768 .f32) := [⟨Rect.unit ![0, 0] S256x768.size inb_S256x768_S256x768_0_0, k0_pay55 (v1 X) (v623 X) X.x6 X.x9 X.x10 X.x11⟩]

def v2537 (X : Blk) := cov (HS0_1 X) (Rect.unit ![0, 0] S256x768.size inb_S256x768_S256x768_0_0)

def v2567 (X : Blk) (y3 : Vec Ideal S768x640 .bf16) (y4 : Vec Ideal S640x768 .bf16) := k0_pay195 (v2530 X y3 y4) X.x13 X.x15 (v2537 X) X.x21 X.x22

def cst_1065 : Ideal .f32 := FloatOps.ofBits .f32 2113929216#32

def v2606 (X : Blk) (y3 : Vec Ideal S768x640 .bf16) (y4 : Vec Ideal S640x768 .bf16) := k0_pay197 (v2567 X y3 y4) cst_1065

def v2562 (X : Blk) (y3 : Vec Ideal S768x640 .bf16) (y4 : Vec Ideal S640x768 .bf16) := k0_pay194 (v2530 X y3 y4) X.x13 X.x15 (v2537 X) X.x21 X.x22

def v2569 (X : Blk) (y3 : Vec Ideal S768x640 .bf16) (y4 : Vec Ideal S640x768 .bf16) := k0_pay196 (v2567 X y3 y4) cst_1065

def v2612 (X : Blk) (y3 : Vec Ideal S768x640 .bf16) (y4 : Vec Ideal S640x768 .bf16) := k0_pay198 (v2567 X y3 y4) cst_1065

def v2653 (X : Blk) (y3 : Vec Ideal S768x640 .bf16) (y4 : Vec Ideal S640x768 .bf16) := k0_pay200 (v2567 X y3 y4) (v2569 X y3 y4) (v2606 X y3 y4) (v2612 X y3 y4)

def v2655 (X : Blk) (y3 : Vec Ideal S768x640 .bf16) (y4 : Vec Ideal S640x768 .bf16) := k0_pay201 (v2567 X y3 y4) (v2569 X y3 y4) (v2606 X y3 y4) (v2612 X y3 y4)

def v2691 (X : Blk) (y3 : Vec Ideal S768x640 .bf16) (y4 : Vec Ideal S640x768 .bf16) := k0_pay205 (v2562 X y3 y4) (v2653 X y3 y4) (v2655 X y3 y4) (23#32) X.x23 X.x24 X.x25

def v2694 (X : Blk) (y3 : Vec Ideal S768x640 .bf16) (y4 : Vec Ideal S640x768 .bf16) := k0_pay206 (v2562 X y3 y4) (v2653 X y3 y4) (v2655 X y3 y4) (23#32) X.x23 X.x24 X.x25

def v2704 (X : Blk) (y3 : Vec Ideal S768x640 .bf16) (y4 : Vec Ideal S640x768 .bf16) := k0_pay210 (v2691 X y3 y4) (v2694 X y3 y4) k0_pay207

def v2697 (X : Blk) (y3 : Vec Ideal S768x640 .bf16) (y4 : Vec Ideal S640x768 .bf16) := k0_pay208 (v2691 X y3 y4) (v2694 X y3 y4) k0_pay207

def v2732 (X : Blk) (y3 : Vec Ideal S768x640 .bf16) (y4 : Vec Ideal S640x768 .bf16) := k0_pay211 (v2691 X y3 y4) (v2694 X y3 y4) k0_pay207

def H33_1 (X : Blk) (y3 : Vec Ideal S768x640 .bf16) (y4 : Vec Ideal S640x768 .bf16) : List (View.Piece (Elt Ideal) S8x32 .f32) := [⟨Rect.unit ![0, 0] S8x32.size inb_S8x32_S8x32_0_0, k0_pay203 (v2653 X y3 y4)⟩]

def v2702 (X : Blk) (y3 : Vec Ideal S768x640 .bf16) (y4 : Vec Ideal S640x768 .bf16) := k0_pay209 (v2691 X y3 y4) (v2694 X y3 y4) k0_pay207

def v2823 (X : Blk) := k0_pay219 X.x28

def v2738 (X : Blk) (y3 : Vec Ideal S768x640 .bf16) (y4 : Vec Ideal S640x768 .bf16) := k0_pay212 (v2691 X y3 y4) (v2694 X y3 y4) k0_pay207

def v2783 (X : Blk) (y3 : Vec Ideal S768x640 .bf16) (y4 : Vec Ideal S640x768 .bf16) := k0_pay214 (v2702 X y3 y4) (v2704 X y3 y4) (v2732 X y3 y4) (v2738 X y3 y4) k0_pay213

def v2820 (X : Blk) (y3 : Vec Ideal S768x640 .bf16) (y4 : Vec Ideal S640x768 .bf16) := k0_pay218 (v2697 X y3 y4) (v2783 X y3 y4) (127#32) X.x26 X.x27

def H32_1 (X : Blk) (y3 : Vec Ideal S768x640 .bf16) (y4 : Vec Ideal S640x768 .bf16) : List (View.Piece (Elt Ideal) S256x768 .fp8e4m3) := [⟨Rect.unit ![0, 0] S256x768.size inb_S256x768_S256x768_0_0, k0_pay202 (v2562 X y3 y4) (v2655 X y3 y4) 23#32⟩]

end Cert.KernelIdeal.Model

end
-- ==== Proof.Value.ModelEq.lean ====
/- The values the run of the body names are those of the model. -/
module

public import proofs.«01_k».proof.Proof.Value.Model
public import Idealize.ShloMosaic.Lib.VecWindow

@[expose] public section

noncomputable section

namespace Cert.KernelIdeal.Model

open Cert.KernelIdeal.Gen Cert.KernelIdeal.Run Cert.KernelIdeal.Run.kernelRun
open Idealize.SL
open Idealize.ShloMosaic Idealize.ShloMosaic.TcCoe

theorem ld_all {sp : Space} {s : Shape} {e : EltTy} {m : Memref sig .tc sp s e} (h : m.IsWhole) (x : s.Idx → Elt Ideal e)
    {off : Fin s.rank → ℕ} (inb : ∀ a, off a + s.size a ≤ s.size a) :
    m.view.readAt (Elt Ideal) (Rect.unit off s.size inb).toLoadRect (h.unread x) = x := by
  rw [View.readAt_full, h.read_unread]

theorem ld_part {sp : Space} {s : Shape} {e : EltTy} {m : Memref sig .tc sp s e} (h : m.IsWhole) (x : s.Idx → Elt Ideal e) (r : Rect s) :
    m.view.readAt (Elt Ideal) r.toLoadRect (h.unread x) = View.ld x r := by
  rw [View.readAt_eq_ld, h.read_unread]

theorem ld_cov {sp : Space} {s : Shape} {e : EltTy} (v : View sig .tc sp s e) (L : List (View.Piece (Elt Ideal) s e)) (r : Rect s) :
    v.readCov L r.toLoadRect = cov L r := View.readCov_eq_canon' v L r.toLoadRect

theorem read_over {sp : Space} {s : Shape} {e : EltTy} (v : View sig .tc sp s e) (f : v.ty.Contents (Elt Ideal)) :
    ∀ L : List (View.Piece (Elt Ideal) s e), v.read (Elt Ideal) (v.writes (Elt Ideal) f L) = over L (v.read (Elt Ideal) f)
  | [] => rfl
  | p :: L => by
    funext y
    rw [over]
    by_cases hy : y ∈ p.1.set
    · obtain ⟨r, w⟩ := p
      obtain ⟨x, rfl⟩ : ∃ x, r.emb x = y := r.exists_idx_of_mem hy
      rw [View.read_writes_cons_emb, Rect.overlay_emb]
    · have hy' : y ∉ Finset.univ.map p.1.emb := by rwa [Rect.map_emb_univ]
      rw [View.writes_cons, View.read_slice_write_of_not_mem p.1 _ _ _ hy', Rect.overlay_of_not_mem _ _ _ hy, read_over v f L]

theorem ld_over {sp : Space} {s : Shape} {e : EltTy} (v : View sig .tc sp s e) (f : v.ty.Contents (Elt Ideal))
    (L : List (View.Piece (Elt Ideal) s e)) (r : Rect s) :
    v.readAt (Elt Ideal) r.toLoadRect (v.writes (Elt Ideal) f L) = View.ld (over L (v.read (Elt Ideal) f)) r := by
  rw [View.readAt_eq_ld, read_over]

variable (X : Blk)
variable (a1 : Memref sig .tc .vmem S256x768 .bf16) (h1 : a1.IsWhole)
variable (a2 : Memref sig .tc .vmem S8x577x1024 .fp8e4m3) (h2 : a2.IsWhole)
variable (a3 : Memref sig .tc .vmem S8x577 .f32) (h3 : a3.IsWhole)
variable (a4 : Memref sig .tc .vmem S768x768 .bf16) (h4 : a4.IsWhole)
variable (a5 : Memref sig .tc .vmem S768x768 .bf16) (h5 : a5.IsWhole)
variable (a6 : Memref sig .tc .vmem S768x768 .bf16) (h6 : a6.IsWhole)
variable (a7 : Memref sig .tc .vmem S768x768 .bf16) (h7 : a7.IsWhole)
variable (a8 : Memref sig .tc .vmem S1x768 .f32) (h8 : a8.IsWhole)
variable (a9 : Memref sig .tc .vmem S1x768 .f32) (h9 : a9.IsWhole)
variable (a10 : Memref sig .tc .vmem S1x768 .f32) (h10 : a10.IsWhole)
variable (a11 : Memref sig .tc .vmem S1x768 .f32) (h11 : a11.IsWhole)
variable (a12 : Memref sig .tc .vmem S1x768 .f32) (h12 : a12.IsWhole)
variable (a13 : Memref sig .tc .vmem S768x768 .bf16) (h13 : a13.IsWhole)
variable (a14 : Memref sig .tc .vmem S768x768 .bf16) (h14 : a14.IsWhole)
variable (a15 : Memref sig .tc .vmem S1x768 .f32) (h15 : a15.IsWhole)
variable (a16 : Memref sig .tc .vmem S1x768 .f32) (h16 : a16.IsWhole)
variable (a17 : Memref sig .tc .vmem S768x1024 .fp8e4m3) (h17 : a17.IsWhole)
variable (a18 : Memref sig .tc .vmem S1024x768 .fp8e4m3) (h18 : a18.IsWhole)
variable (a19 : Memref sig .tc .vmem S768x1 .f32) (h19 : a19.IsWhole)
variable (a20 : Memref sig .tc .vmem S1x768 .f32) (h20 : a20.IsWhole)
variable (a21 : Memref sig .tc .vmem S1x768 .f32) (h21 : a21.IsWhole)
variable (a22 : Memref sig .tc .vmem S1x768 .f32) (h22 : a22.IsWhole)
variable (a23 : Memref sig .tc .vmem S1x768 .f32) (h23 : a23.IsWhole)
variable (a24 : Memref sig .tc .vmem S768x3072 .fp8e4m3) (h24 : a24.IsWhole)
variable (a25 : Memref sig .tc .vmem S1x3072 .f32) (h25 : a25.IsWhole)
variable (a26 : Memref sig .tc .vmem S1x3072 .f32) (h26 : a26.IsWhole)
variable (a27 : Memref sig .tc .vmem S3072x768 .fp8e4m3) (h27 : a27.IsWhole)
variable (a28 : Memref sig .tc .vmem S1x768 .f32) (h28 : a28.IsWhole)
variable (a29 : Memref sig .tc .vmem S1x768 .f32) (h29 : a29.IsWhole)
variable (a30 : Memref sig .tc .vmem S1x768 .f32) (h30 : a30.IsWhole)
variable (a31 : Memref sig .tc .vmem S1x768 .f32) (h31 : a31.IsWhole)
variable (a32 : Memref sig .tc .vmem S256x768 .bf16) (h32 : a32.IsWhole)
variable (a33 : Memref sig .tc .vmem S256x768 .fp8e4m3) (h33 : a33.IsWhole)
variable (a34 : Memref sig .tc .vmem S8x32 .f32) (h34 : a34.IsWhole)
variable (a35 : Memref sig .tc .vmem S256x3072 .fp8e4m3) (h35 : a35.IsWhole)
variable (a36 : Memref sig .tc .vmem S8x32 .f32) (h36 : a36.IsWhole)
variable (a37 : Memref sig .tc .vmem S256x768 .f32) (h37 : a37.IsWhole)
variable (a38 : Memref sig .tc .vmem S256x768 .bf16) (h38 : a38.IsWhole)
variable (a39 : Memref sig .tc .vmem S256x768 .bf16) (h39 : a39.IsWhole)
variable (a40 : Memref sig .tc .vmem S768x640 .bf16) (h40 : a40.IsWhole)
variable (a41 : Memref sig .tc .vmem S640x768 .bf16) (h41 : a41.IsWhole)
variable (a42 : Memref sig .tc .vmem S577x8 .f32) (h42 : a42.IsWhole)
variable (fs3 : a40.view.ty.Contents (Elt Ideal)) (fs4 : a41.view.ty.Contents (Elt Ideal))

theorem HS4_1_eq :
    sl.HS4_1 (F := Ideal) = HS4_1  := by
  simp only [sl.HS4_1, HS4_1, ↓ld_all, ld_part, ld_cov, ld_over]

theorem v1_eq :
    sl.v1 (F := Ideal) a1 h1 X.x0 = v1 X := by
  simp only [sl.v1, v1, ↓ld_all, ld_part, ld_cov, ld_over]

theorem v8_eq :
    sl.v8 (F := Ideal) a1 h1 a4 h4 a8 h8 X.x0 X.x3 X.x7 = v8 X := by
  simp only [sl.v8, v8, ↓ld_all, ld_part, ld_cov, ld_over]

theorem v11_eq :
    sl.v11 (F := Ideal) a1 h1 a5 h5 X.x0 X.x4 = v11 X := by
  simp only [sl.v11, v11, ↓ld_all, ld_part, ld_cov, ld_over]

theorem v18_eq :
    sl.v18 (F := Ideal) a1 h1 a6 h6 a9 h9 X.x0 X.x5 X.x8 = v18 X := by
  simp only [sl.v18, v18, ↓ld_all, ld_part, ld_cov, ld_over]

theorem v70_eq :
    sl.v70  = v70  := by
  simp only [sl.v70, v70, ↓ld_all, ld_part, ld_cov, ld_over]

theorem v619_eq :
    sl.v619 (F := Ideal) a1 h1 a4 h4 a5 h5 a6 h6 a8 h8 a9 h9 X.x0 X.x3 X.x4 X.x5 X.x7 X.x8 = v619 X := by
  simp only [sl.v619, v619, ↓ld_all, ld_part, ld_cov, ld_over, v8_eq, v11_eq, v18_eq, v70_eq]

theorem v573_eq :
    sl.v573 (F := Ideal) a1 h1 a4 h4 a5 h5 a6 h6 a8 h8 a9 h9 X.x0 X.x3 X.x4 X.x5 X.x7 X.x8 = v573 X := by
  simp only [sl.v573, v573, ↓ld_all, ld_part, ld_cov, ld_over, v8_eq, v11_eq, v18_eq, v70_eq]

theorem v485_eq :
    sl.v485 (F := Ideal) a1 h1 a4 h4 a8 h8 X.x0 X.x3 X.x7 = v485 X := by
  simp only [sl.v485, v485, ↓ld_all, ld_part, ld_cov, ld_over, v8_eq]

theorem v530_eq :
    sl.v530 (F := Ideal) a1 h1 a4 h4 a5 h5 a6 h6 a8 h8 a9 h9 X.x0 X.x3 X.x4 X.x5 X.x7 X.x8 = v530 X := by
  simp only [sl.v530, v530, ↓ld_all, ld_part, ld_cov, ld_over, v11_eq, v18_eq, v70_eq, v485_eq]

theorem v439_eq :
    sl.v439 (F := Ideal) a1 h1 a4 h4 a8 h8 X.x0 X.x3 X.x7 = v439 X := by
  simp only [sl.v439, v439, ↓ld_all, ld_part, ld_cov, ld_over, v8_eq]

theorem v118_eq :
    sl.v118  = v118  := by
  simp only [sl.v118, v118, ↓ld_all, ld_part, ld_cov, ld_over]

theorem cst_137_eq :
    sl.cst_137 (F := Ideal)  = cst_137  := by
  simp only [sl.cst_137, cst_137, ↓ld_all, ld_part, ld_cov, ld_over]

theorem v393_eq :
    sl.v393 (F := Ideal) a1 h1 a4 h4 a8 h8 X.x0 X.x3 X.x7 = v393 X := by
  simp only [sl.v393, v393, ↓ld_all, ld_part, ld_cov, ld_over, v8_eq]

theorem v347_eq :
    sl.v347 (F := Ideal) a1 h1 a4 h4 a8 h8 X.x0 X.x3 X.x7 = v347 X := by
  simp only [sl.v347, v347, ↓ld_all, ld_part, ld_cov, ld_over, v8_eq]

theorem v301_eq :
    sl.v301 (F := Ideal) a1 h1 a4 h4 a8 h8 X.x0 X.x3 X.x7 = v301 X := by
  simp only [sl.v301, v301, ↓ld_all, ld_part, ld_cov, ld_over, v8_eq]

theorem v255_eq :
    sl.v255 (F := Ideal) a1 h1 a4 h4 a8 h8 X.x0 X.x3 X.x7 = v255 X := by
  simp only [sl.v255, v255, ↓ld_all, ld_part, ld_cov, ld_over, v8_eq]

theorem v209_eq :
    sl.v209 (F := Ideal) a1 h1 a4 h4 a8 h8 X.x0 X.x3 X.x7 = v209 X := by
  simp only [sl.v209, v209, ↓ld_all, ld_part, ld_cov, ld_over, v8_eq]

theorem v217_eq :
    sl.v217 (F := Ideal) a1 h1 a4 h4 a8 h8 X.x0 X.x3 X.x7 = v217 X := by
  simp only [sl.v217, v217, ↓ld_all, ld_part, ld_cov, ld_over, v8_eq]

theorem v163_eq :
    sl.v163 (F := Ideal) a1 h1 a4 h4 a8 h8 X.x0 X.x3 X.x7 = v163 X := by
  simp only [sl.v163, v163, ↓ld_all, ld_part, ld_cov, ld_over, v8_eq]

theorem v171_eq :
    sl.v171 (F := Ideal) a1 h1 a4 h4 a8 h8 X.x0 X.x3 X.x7 = v171 X := by
  simp only [sl.v171, v171, ↓ld_all, ld_part, ld_cov, ld_over, v8_eq]

theorem v117_eq :
    sl.v117 (F := Ideal) a1 h1 a4 h4 a8 h8 X.x0 X.x3 X.x7 = v117 X := by
  simp only [sl.v117, v117, ↓ld_all, ld_part, ld_cov, ld_over, v8_eq]

theorem v125_eq :
    sl.v125 (F := Ideal) a1 h1 a4 h4 a8 h8 X.x0 X.x3 X.x7 = v125 X := by
  simp only [sl.v125, v125, ↓ld_all, ld_part, ld_cov, ld_over, v8_eq]

theorem v71_eq :
    sl.v71 (F := Ideal) a1 h1 a4 h4 a8 h8 X.x0 X.x3 X.x7 = v71 X := by
  simp only [sl.v71, v71, ↓ld_all, ld_part, ld_cov, ld_over, v8_eq]

theorem v79_eq :
    sl.v79 (F := Ideal) a1 h1 a4 h4 a8 h8 X.x0 X.x3 X.x7 = v79 X := by
  simp only [sl.v79, v79, ↓ld_all, ld_part, ld_cov, ld_over, v8_eq]

theorem HS2_1_eq :
    sl.HS2_1 (F := Ideal) a1 h1 a4 h4 a5 h5 a6 h6 a8 h8 a9 h9 X.x0 X.x3 X.x4 X.x5 X.x7 X.x8 = HS2_1 X := by
  simp only [sl.HS2_1, HS2_1, ↓ld_all, ld_part, ld_cov, ld_over, v11_eq, v18_eq, v70_eq, v71_eq, v79_eq]

theorem HS2_2_eq :
    sl.HS2_2 (F := Ideal) a1 h1 a4 h4 a5 h5 a6 h6 a8 h8 a9 h9 X.x0 X.x3 X.x4 X.x5 X.x7 X.x8 = HS2_2 X := by
  simp only [sl.HS2_2, HS2_2, ↓ld_all, ld_part, ld_cov, ld_over, v11_eq, v18_eq, v70_eq, v117_eq, v118_eq, v125_eq, HS2_1_eq]

theorem HS2_3_eq :
    sl.HS2_3 (F := Ideal) a1 h1 a4 h4 a5 h5 a6 h6 a8 h8 a9 h9 X.x0 X.x3 X.x4 X.x5 X.x7 X.x8 = HS2_3 X := by
  simp only [sl.HS2_3, HS2_3, ↓ld_all, ld_part, ld_cov, ld_over, v11_eq, v18_eq, v70_eq, v163_eq, v118_eq, v171_eq, HS2_2_eq]

theorem HS2_4_eq :
    sl.HS2_4 (F := Ideal) a1 h1 a4 h4 a5 h5 a6 h6 a8 h8 a9 h9 X.x0 X.x3 X.x4 X.x5 X.x7 X.x8 = HS2_4 X := by
  simp only [sl.HS2_4, HS2_4, ↓ld_all, ld_part, ld_cov, ld_over, v11_eq, v18_eq, v70_eq, v209_eq, v118_eq, v217_eq, HS2_3_eq]

theorem HS2_5_eq :
    sl.HS2_5 (F := Ideal) a1 h1 a4 h4 a5 h5 a6 h6 a8 h8 a9 h9 X.x0 X.x3 X.x4 X.x5 X.x7 X.x8 = HS2_5 X := by
  simp only [sl.HS2_5, HS2_5, ↓ld_all, ld_part, ld_cov, ld_over, v11_eq, v18_eq, v70_eq, v255_eq, v118_eq, HS2_4_eq]

theorem HS2_6_eq :
    sl.HS2_6 (F := Ideal) a1 h1 a4 h4 a5 h5 a6 h6 a8 h8 a9 h9 X.x0 X.x3 X.x4 X.x5 X.x7 X.x8 = HS2_6 X := by
  simp only [sl.HS2_6, HS2_6, ↓ld_all, ld_part, ld_cov, ld_over, v11_eq, v18_eq, v70_eq, v301_eq, v118_eq, HS2_5_eq]

theorem HS2_7_eq :
    sl.HS2_7 (F := Ideal) a1 h1 a4 h4 a5 h5 a6 h6 a8 h8 a9 h9 X.x0 X.x3 X.x4 X.x5 X.x7 X.x8 = HS2_7 X := by
  simp only [sl.HS2_7, HS2_7, ↓ld_all, ld_part, ld_cov, ld_over, v11_eq, v18_eq, v70_eq, v347_eq, v118_eq, HS2_6_eq]

theorem HS2_8_eq :
    sl.HS2_8 (F := Ideal) a1 h1 a4 h4 a5 h5 a6 h6 a8 h8 a9 h9 X.x0 X.x3 X.x4 X.x5 X.x7 X.x8 = HS2_8 X := by
  simp only [sl.HS2_8, HS2_8, ↓ld_all, ld_part, ld_cov, ld_over, v11_eq, v18_eq, v70_eq, v393_eq, v118_eq, HS2_7_eq]

theorem HS2_9_eq :
    sl.HS2_9 (F := Ideal) a1 h1 a4 h4 a5 h5 a6 h6 a8 h8 a9 h9 X.x0 X.x3 X.x4 X.x5 X.x7 X.x8 = HS2_9 X := by
  simp only [sl.HS2_9, HS2_9, ↓ld_all, ld_part, ld_cov, ld_over, v11_eq, v18_eq, v70_eq, v439_eq, v118_eq, cst_137_eq, HS2_8_eq]

theorem HS2_10_eq :
    sl.HS2_10 (F := Ideal) a1 h1 a4 h4 a5 h5 a6 h6 a8 h8 a9 h9 X.x0 X.x3 X.x4 X.x5 X.x7 X.x8 = HS2_10 X := by
  simp only [sl.HS2_10, HS2_10, ↓ld_all, ld_part, ld_cov, ld_over, v530_eq, HS2_9_eq]

theorem HS2_11_eq :
    sl.HS2_11 (F := Ideal) a1 h1 a4 h4 a5 h5 a6 h6 a8 h8 a9 h9 X.x0 X.x3 X.x4 X.x5 X.x7 X.x8 = HS2_11 X := by
  simp only [sl.HS2_11, HS2_11, ↓ld_all, ld_part, ld_cov, ld_over, v573_eq, HS2_10_eq]

theorem HS2_12_eq :
    sl.HS2_12 (F := Ideal) a1 h1 a4 h4 a5 h5 a6 h6 a8 h8 a9 h9 X.x0 X.x3 X.x4 X.x5 X.x7 X.x8 = HS2_12 X := by
  simp only [sl.HS2_12, HS2_12, ↓ld_all, ld_part, ld_cov, ld_over, v619_eq, HS2_11_eq]

theorem v623_eq :
    sl.v623 (F := Ideal) a1 h1 a4 h4 a5 h5 a6 h6 a8 h8 a9 h9 a39 X.x0 X.x3 X.x4 X.x5 X.x7 X.x8 = v623 X := by
  simp only [sl.v623, v623, ↓ld_all, ld_part, ld_cov, ld_over, HS2_12_eq]

theorem v655_eq :
    sl.v655 (F := Ideal) a1 h1 a4 h4 a5 h5 a6 h6 a7 h7 a8 h8 a9 h9 a10 h10 a11 h11 a12 h12 a39 X.x0 X.x3 X.x4 X.x5 X.x6 X.x7 X.x8 X.x9 X.x10 X.x11 = v655 X := by
  simp only [sl.v655, v655, ↓ld_all, ld_part, ld_cov, ld_over, v1_eq, v623_eq]

theorem HS1_1_eq :
    sl.HS1_1 (F := Ideal) a1 h1 a4 h4 a5 h5 a6 h6 a7 h7 a8 h8 a9 h9 a10 h10 a11 h11 a12 h12 a13 h13 a15 h15 a39 X.x0 X.x3 X.x4 X.x5 X.x6 X.x7 X.x8 X.x9 X.x10 X.x11 X.x12 X.x14 = HS1_1 X := by
  simp only [sl.HS1_1, HS1_1, ↓ld_all, ld_part, ld_cov, ld_over, v655_eq]

theorem v2464_eq :
    sl.v2464 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2464 X := by
  simp only [sl.v2464, v2464, ↓ld_all, ld_part, ld_cov, ld_over, HS1_1_eq]

theorem v716_eq :
    sl.v716  = v716  := by
  simp only [sl.v716, v716, ↓ld_all, ld_part, ld_cov, ld_over]

theorem v2472_eq :
    sl.v2472 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2472 X := by
  simp only [sl.v2472, v2472, ↓ld_all, ld_part, ld_cov, ld_over, v2464_eq]

theorem v2478_eq :
    sl.v2478 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2478 X := by
  simp only [sl.v2478, v2478, ↓ld_all, ld_part, ld_cov, ld_over, v2464_eq]

theorem v2484_eq :
    sl.v2484 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2484 X := by
  simp only [sl.v2484, v2484, ↓ld_all, ld_part, ld_cov, ld_over, v2464_eq]

theorem v2075_eq :
    sl.v2075 (F := Ideal) a2 h2 a3 h3 a17 h17 X.x1 X.x2 X.x16 = v2075 X := by
  simp only [sl.v2075, v2075, ↓ld_all, ld_part, ld_cov, ld_over]

theorem v690_eq :
    sl.v690 (F := Ideal) a19 h19 X.x18 = v690 X := by
  simp only [sl.v690, v690, ↓ld_all, ld_part, ld_cov, ld_over]

theorem v1382_eq :
    sl.v1382 (F := Ideal) a2 h2 a3 h3 a17 h17 X.x1 X.x2 X.x16 = v1382 X := by
  simp only [sl.v1382, v1382, ↓ld_all, ld_part, ld_cov, ld_over]

theorem v689_eq :
    sl.v689 (F := Ideal) a2 h2 a3 h3 a17 h17 X.x1 X.x2 X.x16 = v689 X := by
  simp only [sl.v689, v689, ↓ld_all, ld_part, ld_cov, ld_over]

theorem HS3_1_eq :
    sl.HS3_1 (F := Ideal) a2 h2 a3 h3 a17 h17 a19 h19 X.x1 X.x2 X.x16 X.x18 = HS3_1 X := by
  simp only [sl.HS3_1, HS3_1, ↓ld_all, ld_part, ld_cov, ld_over, v689_eq, v690_eq]

theorem HS3_2_eq :
    sl.HS3_2 (F := Ideal) a2 h2 a3 h3 a17 h17 a19 h19 X.x1 X.x2 X.x16 X.x18 = HS3_2 X := by
  simp only [sl.HS3_2, HS3_2, ↓ld_all, ld_part, ld_cov, ld_over, HS3_1_eq]

theorem HS3_3_eq :
    sl.HS3_3 (F := Ideal) a2 h2 a3 h3 a17 h17 a19 h19 X.x1 X.x2 X.x16 X.x18 = HS3_3 X := by
  simp only [sl.HS3_3, HS3_3, ↓ld_all, ld_part, ld_cov, ld_over, HS3_2_eq]

theorem HS3_4_eq :
    sl.HS3_4 (F := Ideal) a2 h2 a3 h3 a17 h17 a19 h19 X.x1 X.x2 X.x16 X.x18 = HS3_4 X := by
  simp only [sl.HS3_4, HS3_4, ↓ld_all, ld_part, ld_cov, ld_over, v1382_eq, v690_eq, HS3_3_eq]

theorem HS3_5_eq :
    sl.HS3_5 (F := Ideal) a2 h2 a3 h3 a17 h17 a19 h19 X.x1 X.x2 X.x16 X.x18 = HS3_5 X := by
  simp only [sl.HS3_5, HS3_5, ↓ld_all, ld_part, ld_cov, ld_over, HS3_4_eq]

theorem HS3_6_eq :
    sl.HS3_6 (F := Ideal) a2 h2 a3 h3 a17 h17 a19 h19 X.x1 X.x2 X.x16 X.x18 = HS3_6 X := by
  simp only [sl.HS3_6, HS3_6, ↓ld_all, ld_part, ld_cov, ld_over, HS3_5_eq]

theorem HS3_7_eq :
    sl.HS3_7 (F := Ideal) a2 h2 a3 h3 a17 h17 a19 h19 X.x1 X.x2 X.x16 X.x18 = HS3_7 X := by
  simp only [sl.HS3_7, HS3_7, ↓ld_all, ld_part, ld_cov, ld_over, v2075_eq, v690_eq, HS3_6_eq]

theorem HS3_8_eq :
    sl.HS3_8 (F := Ideal) a2 h2 a3 h3 a17 h17 a19 h19 X.x1 X.x2 X.x16 X.x18 = HS3_8 X := by
  simp only [sl.HS3_8, HS3_8, ↓ld_all, ld_part, ld_cov, ld_over, HS3_7_eq]

theorem HS5_1_eq :
    sl.HS5_1 (F := Ideal) a3 h3 X.x2 = HS5_1 X := by
  simp only [sl.HS5_1, HS5_1, ↓ld_all, ld_part, ld_cov, ld_over]

theorem v2317_eq :
    sl.v2317 (F := Ideal) a3 h3 a42 X.x2 = v2317 X := by
  simp only [sl.v2317, v2317, ↓ld_all, ld_part, ld_cov, ld_over, HS5_1_eq]

theorem v2319_eq :
    sl.v2319 (F := Ideal) a2 h2 a3 h3 a18 h18 a42 X.x1 X.x2 X.x17 = v2319 X := by
  simp only [sl.v2319, v2319, ↓ld_all, ld_part, ld_cov, ld_over, v2317_eq]

theorem v2069_eq :
    sl.v2069 (F := Ideal) a2 h2 X.x1 = v2069 X := by
  simp only [sl.v2069, v2069, ↓ld_all, ld_part, ld_cov, ld_over]

theorem v2086_eq :
    sl.v2086 (F := Ideal) a3 h3 a42 X.x2 = v2086 X := by
  simp only [sl.v2086, v2086, ↓ld_all, ld_part, ld_cov, ld_over, HS5_1_eq]

theorem v1855_eq :
    sl.v1855 (F := Ideal) a3 h3 a42 X.x2 = v1855 X := by
  simp only [sl.v1855, v1855, ↓ld_all, ld_part, ld_cov, ld_over, HS5_1_eq]

theorem v1624_eq :
    sl.v1624 (F := Ideal) a3 h3 a42 X.x2 = v1624 X := by
  simp only [sl.v1624, v1624, ↓ld_all, ld_part, ld_cov, ld_over, HS5_1_eq]

theorem v1626_eq :
    sl.v1626 (F := Ideal) a2 h2 a3 h3 a18 h18 a42 X.x1 X.x2 X.x17 = v1626 X := by
  simp only [sl.v1626, v1626, ↓ld_all, ld_part, ld_cov, ld_over, v1624_eq]

theorem v1376_eq :
    sl.v1376 (F := Ideal) a2 h2 X.x1 = v1376 X := by
  simp only [sl.v1376, v1376, ↓ld_all, ld_part, ld_cov, ld_over]

theorem v1393_eq :
    sl.v1393 (F := Ideal) a3 h3 a42 X.x2 = v1393 X := by
  simp only [sl.v1393, v1393, ↓ld_all, ld_part, ld_cov, ld_over, HS5_1_eq]

theorem v1162_eq :
    sl.v1162 (F := Ideal) a3 h3 a42 X.x2 = v1162 X := by
  simp only [sl.v1162, v1162, ↓ld_all, ld_part, ld_cov, ld_over, HS5_1_eq]

theorem v931_eq :
    sl.v931 (F := Ideal) a3 h3 a42 X.x2 = v931 X := by
  simp only [sl.v931, v931, ↓ld_all, ld_part, ld_cov, ld_over, HS5_1_eq]

theorem v933_eq :
    sl.v933 (F := Ideal) a2 h2 a3 h3 a18 h18 a42 X.x1 X.x2 X.x17 = v933 X := by
  simp only [sl.v933, v933, ↓ld_all, ld_part, ld_cov, ld_over, v931_eq]

theorem v683_eq :
    sl.v683 (F := Ideal) a2 h2 X.x1 = v683 X := by
  simp only [sl.v683, v683, ↓ld_all, ld_part, ld_cov, ld_over]

theorem v700_eq :
    sl.v700 (F := Ideal) a3 h3 a42 X.x2 = v700 X := by
  simp only [sl.v700, v700, ↓ld_all, ld_part, ld_cov, ld_over, HS5_1_eq]

theorem HS4_2_eq :
    sl.HS4_2 (F := Ideal) a2 h2 a3 h3 a18 h18 a20 h20 a21 h21 a41 a42 X.x1 X.x2 X.x17 X.x19 X.x20 fs4 = HS4_2 X (a41.view.read (Elt Ideal) fs4) := by
  simp only [sl.HS4_2, HS4_2, ↓ld_all, ld_part, ld_cov, ld_over, v683_eq, v700_eq, HS4_1_eq]

theorem old_eq :
    sl.old (F := Ideal) a2 h2 a3 h3 a18 h18 a20 h20 a21 h21 a41 a42 X.x1 X.x2 X.x17 X.x19 X.x20 fs4 = old X (a41.view.read (Elt Ideal) fs4) := by
  simp only [sl.old, old, ↓ld_all, ld_part, ld_cov, ld_over, HS4_2_eq]

theorem HS4_3_eq :
    sl.HS4_3 (F := Ideal) a2 h2 a3 h3 a18 h18 a20 h20 a21 h21 a41 a42 X.x1 X.x2 X.x17 X.x19 X.x20 fs4 = HS4_3 X (a41.view.read (Elt Ideal) fs4) := by
  simp only [sl.HS4_3, HS4_3, ↓ld_all, ld_part, ld_cov, ld_over, v933_eq, old_eq, HS4_2_eq]

theorem old_1_eq :
    sl.old_1 (F := Ideal) a2 h2 a3 h3 a18 h18 a20 h20 a21 h21 a41 a42 X.x1 X.x2 X.x17 X.x19 X.x20 fs4 = old_1 X (a41.view.read (Elt Ideal) fs4) := by
  simp only [sl.old_1, old_1, ↓ld_all, ld_part, ld_cov, ld_over, HS4_3_eq]

theorem HS4_4_eq :
    sl.HS4_4 (F := Ideal) a2 h2 a3 h3 a18 h18 a20 h20 a21 h21 a41 a42 X.x1 X.x2 X.x17 X.x19 X.x20 fs4 = HS4_4 X (a41.view.read (Elt Ideal) fs4) := by
  simp only [sl.HS4_4, HS4_4, ↓ld_all, ld_part, ld_cov, ld_over, v1162_eq, old_1_eq, HS4_3_eq]

theorem old_2_eq :
    sl.old_2 (F := Ideal) a2 h2 a3 h3 a18 h18 a20 h20 a21 h21 a41 a42 X.x1 X.x2 X.x17 X.x19 X.x20 fs4 = old_2 X (a41.view.read (Elt Ideal) fs4) := by
  simp only [sl.old_2, old_2, ↓ld_all, ld_part, ld_cov, ld_over, HS4_4_eq]

theorem HS4_5_eq :
    sl.HS4_5 (F := Ideal) a2 h2 a3 h3 a18 h18 a20 h20 a21 h21 a41 a42 X.x1 X.x2 X.x17 X.x19 X.x20 fs4 = HS4_5 X (a41.view.read (Elt Ideal) fs4) := by
  simp only [sl.HS4_5, HS4_5, ↓ld_all, ld_part, ld_cov, ld_over, v1376_eq, v1393_eq, old_2_eq, HS4_4_eq]

theorem old_3_eq :
    sl.old_3 (F := Ideal) a2 h2 a3 h3 a18 h18 a20 h20 a21 h21 a41 a42 X.x1 X.x2 X.x17 X.x19 X.x20 fs4 = old_3 X (a41.view.read (Elt Ideal) fs4) := by
  simp only [sl.old_3, old_3, ↓ld_all, ld_part, ld_cov, ld_over, HS4_5_eq]

theorem HS4_6_eq :
    sl.HS4_6 (F := Ideal) a2 h2 a3 h3 a18 h18 a20 h20 a21 h21 a41 a42 X.x1 X.x2 X.x17 X.x19 X.x20 fs4 = HS4_6 X (a41.view.read (Elt Ideal) fs4) := by
  simp only [sl.HS4_6, HS4_6, ↓ld_all, ld_part, ld_cov, ld_over, v1626_eq, old_3_eq, HS4_5_eq]

theorem old_4_eq :
    sl.old_4 (F := Ideal) a2 h2 a3 h3 a18 h18 a20 h20 a21 h21 a41 a42 X.x1 X.x2 X.x17 X.x19 X.x20 fs4 = old_4 X (a41.view.read (Elt Ideal) fs4) := by
  simp only [sl.old_4, old_4, ↓ld_all, ld_part, ld_cov, ld_over, HS4_6_eq]

theorem HS4_7_eq :
    sl.HS4_7 (F := Ideal) a2 h2 a3 h3 a18 h18 a20 h20 a21 h21 a41 a42 X.x1 X.x2 X.x17 X.x19 X.x20 fs4 = HS4_7 X (a41.view.read (Elt Ideal) fs4) := by
  simp only [sl.HS4_7, HS4_7, ↓ld_all, ld_part, ld_cov, ld_over, v1855_eq, old_4_eq, HS4_6_eq]

theorem old_5_eq :
    sl.old_5 (F := Ideal) a2 h2 a3 h3 a18 h18 a20 h20 a21 h21 a41 a42 X.x1 X.x2 X.x17 X.x19 X.x20 fs4 = old_5 X (a41.view.read (Elt Ideal) fs4) := by
  simp only [sl.old_5, old_5, ↓ld_all, ld_part, ld_cov, ld_over, HS4_7_eq]

theorem HS4_8_eq :
    sl.HS4_8 (F := Ideal) a2 h2 a3 h3 a18 h18 a20 h20 a21 h21 a41 a42 X.x1 X.x2 X.x17 X.x19 X.x20 fs4 = HS4_8 X (a41.view.read (Elt Ideal) fs4) := by
  simp only [sl.HS4_8, HS4_8, ↓ld_all, ld_part, ld_cov, ld_over, v2069_eq, v2086_eq, old_5_eq, HS4_7_eq]

theorem old_6_eq :
    sl.old_6 (F := Ideal) a2 h2 a3 h3 a18 h18 a20 h20 a21 h21 a41 a42 X.x1 X.x2 X.x17 X.x19 X.x20 fs4 = old_6 X (a41.view.read (Elt Ideal) fs4) := by
  simp only [sl.old_6, old_6, ↓ld_all, ld_part, ld_cov, ld_over, HS4_8_eq]

theorem HS4_9_eq :
    sl.HS4_9 (F := Ideal) a2 h2 a3 h3 a18 h18 a20 h20 a21 h21 a41 a42 X.x1 X.x2 X.x17 X.x19 X.x20 fs4 = HS4_9 X (a41.view.read (Elt Ideal) fs4) := by
  simp only [sl.HS4_9, HS4_9, ↓ld_all, ld_part, ld_cov, ld_over, v2319_eq, old_6_eq, HS4_8_eq]

theorem v2510_eq :
    sl.v2510 (F := Ideal) a2 h2 a3 h3 a18 h18 a20 h20 a21 h21 a41 a42 X.x1 X.x2 X.x17 X.x19 X.x20 fs4 = v2510 X (a41.view.read (Elt Ideal) fs4) := by
  simp only [sl.v2510, v2510, ↓ld_all, ld_part, ld_cov, ld_over, HS4_9_eq]

theorem v2529_eq :
    sl.v2529 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v2529 X (a40.view.read (Elt Ideal) fs3) (a41.view.read (Elt Ideal) fs4) := by
  simp only [sl.v2529, v2529, ↓ld_all, ld_part, ld_cov, ld_over, v2464_eq, v716_eq, v2472_eq, v2478_eq, v2484_eq, HS3_8_eq, v2510_eq]

theorem v847_eq :
    sl.v847 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v847 X := by
  simp only [sl.v847, v847, ↓ld_all, ld_part, ld_cov, ld_over, HS1_1_eq]

theorem v893_eq :
    sl.v893 (F := Ideal) a2 h2 a3 h3 a18 h18 a20 h20 a21 h21 a41 a42 X.x1 X.x2 X.x17 X.x19 X.x20 fs4 = v893 X (a41.view.read (Elt Ideal) fs4) := by
  simp only [sl.v893, v893, ↓ld_all, ld_part, ld_cov, ld_over, HS4_2_eq]

theorem v896_eq :
    sl.v896 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v896 X (a40.view.read (Elt Ideal) fs3) (a41.view.read (Elt Ideal) fs4) := by
  simp only [sl.v896, v896, ↓ld_all, ld_part, ld_cov, ld_over, v847_eq, v716_eq, HS3_1_eq, v893_eq]

theorem v2398_eq :
    sl.v2398 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2398 X := by
  simp only [sl.v2398, v2398, ↓ld_all, ld_part, ld_cov, ld_over, HS1_1_eq]

theorem v2443_eq :
    sl.v2443 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v2443 X (a40.view.read (Elt Ideal) fs3) := by
  simp only [sl.v2443, v2443, ↓ld_all, ld_part, ld_cov, ld_over, v2398_eq, v716_eq, HS3_8_eq]

theorem v2444_eq :
    sl.v2444 (F := Ideal) a2 h2 a3 h3 a18 h18 a20 h20 a21 h21 a41 a42 X.x1 X.x2 X.x17 X.x19 X.x20 fs4 = v2444 X (a41.view.read (Elt Ideal) fs4) := by
  simp only [sl.v2444, v2444, ↓ld_all, ld_part, ld_cov, ld_over, HS4_9_eq]

theorem v2332_eq :
    sl.v2332 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2332 X := by
  simp only [sl.v2332, v2332, ↓ld_all, ld_part, ld_cov, ld_over, HS1_1_eq]

theorem v2359_eq :
    sl.v2359 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2359 X := by
  simp only [sl.v2359, v2359, ↓ld_all, ld_part, ld_cov, ld_over, v2332_eq]

theorem v2378_eq :
    sl.v2378 (F := Ideal) a2 h2 a3 h3 a18 h18 a20 h20 a21 h21 a41 a42 X.x1 X.x2 X.x17 X.x19 X.x20 fs4 = v2378 X (a41.view.read (Elt Ideal) fs4) := by
  simp only [sl.v2378, v2378, ↓ld_all, ld_part, ld_cov, ld_over, HS4_9_eq]

theorem v2233_eq :
    sl.v2233 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2233 X := by
  simp only [sl.v2233, v2233, ↓ld_all, ld_part, ld_cov, ld_over, HS1_1_eq]

theorem v2279_eq :
    sl.v2279 (F := Ideal) a2 h2 a3 h3 a18 h18 a20 h20 a21 h21 a41 a42 X.x1 X.x2 X.x17 X.x19 X.x20 fs4 = v2279 X (a41.view.read (Elt Ideal) fs4) := by
  simp only [sl.v2279, v2279, ↓ld_all, ld_part, ld_cov, ld_over, HS4_8_eq]

theorem v2280_eq :
    sl.v2280 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v2280 X (a40.view.read (Elt Ideal) fs3) (a41.view.read (Elt Ideal) fs4) := by
  simp only [sl.v2280, v2280, ↓ld_all, ld_part, ld_cov, ld_over, v2233_eq, v716_eq, HS3_7_eq, v2279_eq]

theorem v2282_eq :
    sl.v2282 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v2282 X (a40.view.read (Elt Ideal) fs3) (a41.view.read (Elt Ideal) fs4) := by
  simp only [sl.v2282, v2282, ↓ld_all, ld_part, ld_cov, ld_over, v2233_eq, v716_eq, HS3_7_eq, v2279_eq]

theorem v2167_eq :
    sl.v2167 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2167 X := by
  simp only [sl.v2167, v2167, ↓ld_all, ld_part, ld_cov, ld_over, HS1_1_eq]

theorem v2198_eq :
    sl.v2198 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v2198 X (a40.view.read (Elt Ideal) fs3) := by
  simp only [sl.v2198, v2198, ↓ld_all, ld_part, ld_cov, ld_over, v2167_eq, HS3_7_eq]

theorem v2213_eq :
    sl.v2213 (F := Ideal) a2 h2 a3 h3 a18 h18 a20 h20 a21 h21 a41 a42 X.x1 X.x2 X.x17 X.x19 X.x20 fs4 = v2213 X (a41.view.read (Elt Ideal) fs4) := by
  simp only [sl.v2213, v2213, ↓ld_all, ld_part, ld_cov, ld_over, HS4_8_eq]

theorem v2101_eq :
    sl.v2101 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2101 X := by
  simp only [sl.v2101, v2101, ↓ld_all, ld_part, ld_cov, ld_over, HS1_1_eq]

theorem v2109_eq :
    sl.v2109 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2109 X := by
  simp only [sl.v2109, v2109, ↓ld_all, ld_part, ld_cov, ld_over, v2101_eq]

theorem v2147_eq :
    sl.v2147 (F := Ideal) a2 h2 a3 h3 a18 h18 a20 h20 a21 h21 a41 a42 X.x1 X.x2 X.x17 X.x19 X.x20 fs4 = v2147 X (a41.view.read (Elt Ideal) fs4) := by
  simp only [sl.v2147, v2147, ↓ld_all, ld_part, ld_cov, ld_over, HS4_8_eq]

theorem v2148_eq :
    sl.v2148 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v2148 X (a40.view.read (Elt Ideal) fs3) (a41.view.read (Elt Ideal) fs4) := by
  simp only [sl.v2148, v2148, ↓ld_all, ld_part, ld_cov, ld_over, v2101_eq, v716_eq, v2109_eq, HS3_7_eq, v2147_eq]

theorem v2154_eq :
    sl.v2154 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v2154 X (a40.view.read (Elt Ideal) fs3) (a41.view.read (Elt Ideal) fs4) := by
  simp only [sl.v2154, v2154, ↓ld_all, ld_part, ld_cov, ld_over, v2101_eq, v716_eq, v2109_eq, HS3_7_eq, v2147_eq]

theorem v2157_eq :
    sl.v2157 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v2157 X (a40.view.read (Elt Ideal) fs3) (a41.view.read (Elt Ideal) fs4) := by
  simp only [sl.v2157, v2157, ↓ld_all, ld_part, ld_cov, ld_over, v2101_eq, v716_eq, v2109_eq, HS3_7_eq, v2147_eq]

theorem v2002_eq :
    sl.v2002 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v2002 X := by
  simp only [sl.v2002, v2002, ↓ld_all, ld_part, ld_cov, ld_over, HS1_1_eq]

theorem v2037_eq :
    sl.v2037 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v2037 X (a40.view.read (Elt Ideal) fs3) := by
  simp only [sl.v2037, v2037, ↓ld_all, ld_part, ld_cov, ld_over, v2002_eq, HS3_6_eq]

theorem cst_523_eq :
    sl.cst_523 (F := Ideal)  = cst_523  := by
  simp only [sl.cst_523, cst_523, ↓ld_all, ld_part, ld_cov, ld_over]

theorem v2048_eq :
    sl.v2048 (F := Ideal) a2 h2 a3 h3 a18 h18 a20 h20 a21 h21 a41 a42 X.x1 X.x2 X.x17 X.x19 X.x20 fs4 = v2048 X (a41.view.read (Elt Ideal) fs4) := by
  simp only [sl.v2048, v2048, ↓ld_all, ld_part, ld_cov, ld_over, HS4_7_eq]

theorem v1936_eq :
    sl.v1936 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1936 X := by
  simp only [sl.v1936, v1936, ↓ld_all, ld_part, ld_cov, ld_over, HS1_1_eq]

theorem v1944_eq :
    sl.v1944 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1944 X := by
  simp only [sl.v1944, v1944, ↓ld_all, ld_part, ld_cov, ld_over, v1936_eq]

theorem v1950_eq :
    sl.v1950 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1950 X := by
  simp only [sl.v1950, v1950, ↓ld_all, ld_part, ld_cov, ld_over, v1936_eq]

theorem v1982_eq :
    sl.v1982 (F := Ideal) a2 h2 a3 h3 a18 h18 a20 h20 a21 h21 a41 a42 X.x1 X.x2 X.x17 X.x19 X.x20 fs4 = v1982 X (a41.view.read (Elt Ideal) fs4) := by
  simp only [sl.v1982, v1982, ↓ld_all, ld_part, ld_cov, ld_over, HS4_7_eq]

theorem v1997_eq :
    sl.v1997 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v1997 X (a40.view.read (Elt Ideal) fs3) (a41.view.read (Elt Ideal) fs4) := by
  simp only [sl.v1997, v1997, ↓ld_all, ld_part, ld_cov, ld_over, v1936_eq, v716_eq, v1944_eq, v1950_eq, HS3_6_eq, v1982_eq]

theorem v1870_eq :
    sl.v1870 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1870 X := by
  simp only [sl.v1870, v1870, ↓ld_all, ld_part, ld_cov, ld_over, HS1_1_eq]

theorem v1908_eq :
    sl.v1908 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v1908 X (a40.view.read (Elt Ideal) fs3) := by
  simp only [sl.v1908, v1908, ↓ld_all, ld_part, ld_cov, ld_over, v1870_eq, HS3_6_eq]

theorem v1910_eq :
    sl.v1910 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v1910 X (a40.view.read (Elt Ideal) fs3) := by
  simp only [sl.v1910, v1910, ↓ld_all, ld_part, ld_cov, ld_over, v1870_eq, HS3_6_eq]

theorem v1916_eq :
    sl.v1916 (F := Ideal) a2 h2 a3 h3 a18 h18 a20 h20 a21 h21 a41 a42 X.x1 X.x2 X.x17 X.x19 X.x20 fs4 = v1916 X (a41.view.read (Elt Ideal) fs4) := by
  simp only [sl.v1916, v1916, ↓ld_all, ld_part, ld_cov, ld_over, HS4_7_eq]

theorem v1771_eq :
    sl.v1771 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1771 X := by
  simp only [sl.v1771, v1771, ↓ld_all, ld_part, ld_cov, ld_over, HS1_1_eq]

theorem v1779_eq :
    sl.v1779 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1779 X := by
  simp only [sl.v1779, v1779, ↓ld_all, ld_part, ld_cov, ld_over, v1771_eq]

theorem v1785_eq :
    sl.v1785 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1785 X := by
  simp only [sl.v1785, v1785, ↓ld_all, ld_part, ld_cov, ld_over, v1771_eq]

theorem v1791_eq :
    sl.v1791 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1791 X := by
  simp only [sl.v1791, v1791, ↓ld_all, ld_part, ld_cov, ld_over, v1771_eq]

theorem v1817_eq :
    sl.v1817 (F := Ideal) a2 h2 a3 h3 a18 h18 a20 h20 a21 h21 a41 a42 X.x1 X.x2 X.x17 X.x19 X.x20 fs4 = v1817 X (a41.view.read (Elt Ideal) fs4) := by
  simp only [sl.v1817, v1817, ↓ld_all, ld_part, ld_cov, ld_over, HS4_6_eq]

theorem v1836_eq :
    sl.v1836 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v1836 X (a40.view.read (Elt Ideal) fs3) (a41.view.read (Elt Ideal) fs4) := by
  simp only [sl.v1836, v1836, ↓ld_all, ld_part, ld_cov, ld_over, v1771_eq, v716_eq, v1779_eq, v1785_eq, v1791_eq, HS3_5_eq, v1817_eq]

theorem v1705_eq :
    sl.v1705 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1705 X := by
  simp only [sl.v1705, v1705, ↓ld_all, ld_part, ld_cov, ld_over, HS1_1_eq]

theorem v1750_eq :
    sl.v1750 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v1750 X (a40.view.read (Elt Ideal) fs3) := by
  simp only [sl.v1750, v1750, ↓ld_all, ld_part, ld_cov, ld_over, v1705_eq, v716_eq, HS3_5_eq]

theorem v1751_eq :
    sl.v1751 (F := Ideal) a2 h2 a3 h3 a18 h18 a20 h20 a21 h21 a41 a42 X.x1 X.x2 X.x17 X.x19 X.x20 fs4 = v1751 X (a41.view.read (Elt Ideal) fs4) := by
  simp only [sl.v1751, v1751, ↓ld_all, ld_part, ld_cov, ld_over, HS4_6_eq]

theorem v1639_eq :
    sl.v1639 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1639 X := by
  simp only [sl.v1639, v1639, ↓ld_all, ld_part, ld_cov, ld_over, HS1_1_eq]

theorem v1666_eq :
    sl.v1666 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1666 X := by
  simp only [sl.v1666, v1666, ↓ld_all, ld_part, ld_cov, ld_over, v1639_eq]

theorem v1685_eq :
    sl.v1685 (F := Ideal) a2 h2 a3 h3 a18 h18 a20 h20 a21 h21 a41 a42 X.x1 X.x2 X.x17 X.x19 X.x20 fs4 = v1685 X (a41.view.read (Elt Ideal) fs4) := by
  simp only [sl.v1685, v1685, ↓ld_all, ld_part, ld_cov, ld_over, HS4_6_eq]

theorem v1540_eq :
    sl.v1540 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1540 X := by
  simp only [sl.v1540, v1540, ↓ld_all, ld_part, ld_cov, ld_over, HS1_1_eq]

theorem v1586_eq :
    sl.v1586 (F := Ideal) a2 h2 a3 h3 a18 h18 a20 h20 a21 h21 a41 a42 X.x1 X.x2 X.x17 X.x19 X.x20 fs4 = v1586 X (a41.view.read (Elt Ideal) fs4) := by
  simp only [sl.v1586, v1586, ↓ld_all, ld_part, ld_cov, ld_over, HS4_5_eq]

theorem v1587_eq :
    sl.v1587 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v1587 X (a40.view.read (Elt Ideal) fs3) (a41.view.read (Elt Ideal) fs4) := by
  simp only [sl.v1587, v1587, ↓ld_all, ld_part, ld_cov, ld_over, v1540_eq, v716_eq, HS3_4_eq, v1586_eq]

theorem v1589_eq :
    sl.v1589 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v1589 X (a40.view.read (Elt Ideal) fs3) (a41.view.read (Elt Ideal) fs4) := by
  simp only [sl.v1589, v1589, ↓ld_all, ld_part, ld_cov, ld_over, v1540_eq, v716_eq, HS3_4_eq, v1586_eq]

theorem v1474_eq :
    sl.v1474 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1474 X := by
  simp only [sl.v1474, v1474, ↓ld_all, ld_part, ld_cov, ld_over, HS1_1_eq]

theorem v1505_eq :
    sl.v1505 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v1505 X (a40.view.read (Elt Ideal) fs3) := by
  simp only [sl.v1505, v1505, ↓ld_all, ld_part, ld_cov, ld_over, v1474_eq, HS3_4_eq]

theorem v1520_eq :
    sl.v1520 (F := Ideal) a2 h2 a3 h3 a18 h18 a20 h20 a21 h21 a41 a42 X.x1 X.x2 X.x17 X.x19 X.x20 fs4 = v1520 X (a41.view.read (Elt Ideal) fs4) := by
  simp only [sl.v1520, v1520, ↓ld_all, ld_part, ld_cov, ld_over, HS4_5_eq]

theorem v1408_eq :
    sl.v1408 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1408 X := by
  simp only [sl.v1408, v1408, ↓ld_all, ld_part, ld_cov, ld_over, HS1_1_eq]

theorem v1416_eq :
    sl.v1416 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1416 X := by
  simp only [sl.v1416, v1416, ↓ld_all, ld_part, ld_cov, ld_over, v1408_eq]

theorem v1454_eq :
    sl.v1454 (F := Ideal) a2 h2 a3 h3 a18 h18 a20 h20 a21 h21 a41 a42 X.x1 X.x2 X.x17 X.x19 X.x20 fs4 = v1454 X (a41.view.read (Elt Ideal) fs4) := by
  simp only [sl.v1454, v1454, ↓ld_all, ld_part, ld_cov, ld_over, HS4_5_eq]

theorem v1455_eq :
    sl.v1455 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v1455 X (a40.view.read (Elt Ideal) fs3) (a41.view.read (Elt Ideal) fs4) := by
  simp only [sl.v1455, v1455, ↓ld_all, ld_part, ld_cov, ld_over, v1408_eq, v716_eq, v1416_eq, HS3_4_eq, v1454_eq]

theorem v1461_eq :
    sl.v1461 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v1461 X (a40.view.read (Elt Ideal) fs3) (a41.view.read (Elt Ideal) fs4) := by
  simp only [sl.v1461, v1461, ↓ld_all, ld_part, ld_cov, ld_over, v1408_eq, v716_eq, v1416_eq, HS3_4_eq, v1454_eq]

theorem v1464_eq :
    sl.v1464 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v1464 X (a40.view.read (Elt Ideal) fs3) (a41.view.read (Elt Ideal) fs4) := by
  simp only [sl.v1464, v1464, ↓ld_all, ld_part, ld_cov, ld_over, v1408_eq, v716_eq, v1416_eq, HS3_4_eq, v1454_eq]

theorem v1309_eq :
    sl.v1309 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1309 X := by
  simp only [sl.v1309, v1309, ↓ld_all, ld_part, ld_cov, ld_over, HS1_1_eq]

theorem v1344_eq :
    sl.v1344 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v1344 X (a40.view.read (Elt Ideal) fs3) := by
  simp only [sl.v1344, v1344, ↓ld_all, ld_part, ld_cov, ld_over, v1309_eq, HS3_3_eq]

theorem v1355_eq :
    sl.v1355 (F := Ideal) a2 h2 a3 h3 a18 h18 a20 h20 a21 h21 a41 a42 X.x1 X.x2 X.x17 X.x19 X.x20 fs4 = v1355 X (a41.view.read (Elt Ideal) fs4) := by
  simp only [sl.v1355, v1355, ↓ld_all, ld_part, ld_cov, ld_over, HS4_4_eq]

theorem v1243_eq :
    sl.v1243 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1243 X := by
  simp only [sl.v1243, v1243, ↓ld_all, ld_part, ld_cov, ld_over, HS1_1_eq]

theorem v1251_eq :
    sl.v1251 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1251 X := by
  simp only [sl.v1251, v1251, ↓ld_all, ld_part, ld_cov, ld_over, v1243_eq]

theorem v1257_eq :
    sl.v1257 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1257 X := by
  simp only [sl.v1257, v1257, ↓ld_all, ld_part, ld_cov, ld_over, v1243_eq]

theorem v1289_eq :
    sl.v1289 (F := Ideal) a2 h2 a3 h3 a18 h18 a20 h20 a21 h21 a41 a42 X.x1 X.x2 X.x17 X.x19 X.x20 fs4 = v1289 X (a41.view.read (Elt Ideal) fs4) := by
  simp only [sl.v1289, v1289, ↓ld_all, ld_part, ld_cov, ld_over, HS4_4_eq]

theorem v1304_eq :
    sl.v1304 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v1304 X (a40.view.read (Elt Ideal) fs3) (a41.view.read (Elt Ideal) fs4) := by
  simp only [sl.v1304, v1304, ↓ld_all, ld_part, ld_cov, ld_over, v1243_eq, v716_eq, v1251_eq, v1257_eq, HS3_3_eq, v1289_eq]

theorem v1177_eq :
    sl.v1177 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1177 X := by
  simp only [sl.v1177, v1177, ↓ld_all, ld_part, ld_cov, ld_over, HS1_1_eq]

theorem v1215_eq :
    sl.v1215 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v1215 X (a40.view.read (Elt Ideal) fs3) := by
  simp only [sl.v1215, v1215, ↓ld_all, ld_part, ld_cov, ld_over, v1177_eq, HS3_3_eq]

theorem v1217_eq :
    sl.v1217 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v1217 X (a40.view.read (Elt Ideal) fs3) := by
  simp only [sl.v1217, v1217, ↓ld_all, ld_part, ld_cov, ld_over, v1177_eq, HS3_3_eq]

theorem v1223_eq :
    sl.v1223 (F := Ideal) a2 h2 a3 h3 a18 h18 a20 h20 a21 h21 a41 a42 X.x1 X.x2 X.x17 X.x19 X.x20 fs4 = v1223 X (a41.view.read (Elt Ideal) fs4) := by
  simp only [sl.v1223, v1223, ↓ld_all, ld_part, ld_cov, ld_over, HS4_4_eq]

theorem v1078_eq :
    sl.v1078 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1078 X := by
  simp only [sl.v1078, v1078, ↓ld_all, ld_part, ld_cov, ld_over, HS1_1_eq]

theorem v1086_eq :
    sl.v1086 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1086 X := by
  simp only [sl.v1086, v1086, ↓ld_all, ld_part, ld_cov, ld_over, v1078_eq]

theorem v1092_eq :
    sl.v1092 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1092 X := by
  simp only [sl.v1092, v1092, ↓ld_all, ld_part, ld_cov, ld_over, v1078_eq]

theorem v1098_eq :
    sl.v1098 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1098 X := by
  simp only [sl.v1098, v1098, ↓ld_all, ld_part, ld_cov, ld_over, v1078_eq]

theorem v1124_eq :
    sl.v1124 (F := Ideal) a2 h2 a3 h3 a18 h18 a20 h20 a21 h21 a41 a42 X.x1 X.x2 X.x17 X.x19 X.x20 fs4 = v1124 X (a41.view.read (Elt Ideal) fs4) := by
  simp only [sl.v1124, v1124, ↓ld_all, ld_part, ld_cov, ld_over, HS4_3_eq]

theorem v1143_eq :
    sl.v1143 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v1143 X (a40.view.read (Elt Ideal) fs3) (a41.view.read (Elt Ideal) fs4) := by
  simp only [sl.v1143, v1143, ↓ld_all, ld_part, ld_cov, ld_over, v1078_eq, v716_eq, v1086_eq, v1092_eq, v1098_eq, HS3_2_eq, v1124_eq]

theorem v1012_eq :
    sl.v1012 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v1012 X := by
  simp only [sl.v1012, v1012, ↓ld_all, ld_part, ld_cov, ld_over, HS1_1_eq]

theorem v1057_eq :
    sl.v1057 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v1057 X (a40.view.read (Elt Ideal) fs3) := by
  simp only [sl.v1057, v1057, ↓ld_all, ld_part, ld_cov, ld_over, v1012_eq, v716_eq, HS3_2_eq]

theorem v1058_eq :
    sl.v1058 (F := Ideal) a2 h2 a3 h3 a18 h18 a20 h20 a21 h21 a41 a42 X.x1 X.x2 X.x17 X.x19 X.x20 fs4 = v1058 X (a41.view.read (Elt Ideal) fs4) := by
  simp only [sl.v1058, v1058, ↓ld_all, ld_part, ld_cov, ld_over, HS4_3_eq]

theorem v946_eq :
    sl.v946 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v946 X := by
  simp only [sl.v946, v946, ↓ld_all, ld_part, ld_cov, ld_over, HS1_1_eq]

theorem v973_eq :
    sl.v973 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v973 X := by
  simp only [sl.v973, v973, ↓ld_all, ld_part, ld_cov, ld_over, v946_eq]

theorem v992_eq :
    sl.v992 (F := Ideal) a2 h2 a3 h3 a18 h18 a20 h20 a21 h21 a41 a42 X.x1 X.x2 X.x17 X.x19 X.x20 fs4 = v992 X (a41.view.read (Elt Ideal) fs4) := by
  simp only [sl.v992, v992, ↓ld_all, ld_part, ld_cov, ld_over, HS4_3_eq]

theorem v894_eq :
    sl.v894 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v894 X (a40.view.read (Elt Ideal) fs3) (a41.view.read (Elt Ideal) fs4) := by
  simp only [sl.v894, v894, ↓ld_all, ld_part, ld_cov, ld_over, v847_eq, v716_eq, HS3_1_eq, v893_eq]

theorem v781_eq :
    sl.v781 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v781 X := by
  simp only [sl.v781, v781, ↓ld_all, ld_part, ld_cov, ld_over, HS1_1_eq]

theorem v812_eq :
    sl.v812 (F := Ideal) a1 h1 a2 h2 a3 h3 a4 h4 a5 h5 a6 h6 a7 h7 a8 h8 a9 h9 a10 h10 a11 h11 a12 h12 a13 h13 a15 h15 a17 h17 a19 h19 a38 a39 a40 X.x0 X.x1 X.x2 X.x3 X.x4 X.x5 X.x6 X.x7 X.x8 X.x9 X.x10 X.x11 X.x12 X.x14 X.x16 X.x18 fs3 = v812 X (a40.view.read (Elt Ideal) fs3) := by
  simp only [sl.v812, v812, ↓ld_all, ld_part, ld_cov, ld_over, v781_eq, HS3_1_eq]

theorem v827_eq :
    sl.v827 (F := Ideal) a2 h2 a3 h3 a18 h18 a20 h20 a21 h21 a41 a42 X.x1 X.x2 X.x17 X.x19 X.x20 fs4 = v827 X (a41.view.read (Elt Ideal) fs4) := by
  simp only [sl.v827, v827, ↓ld_all, ld_part, ld_cov, ld_over, HS4_2_eq]

theorem v715_eq :
    sl.v715 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v715 X := by
  simp only [sl.v715, v715, ↓ld_all, ld_part, ld_cov, ld_over, HS1_1_eq]

theorem v723_eq :
    sl.v723 (F := Ideal) a1 h1 a4 h4 a5 h5 a6 h6 a7 h7 a8 h8 a9 h9 a10 h10 a11 h11 a12 h12 a13 h13 a15 h15 a38 a39 X.x0 X.x3 X.x4 X.x5 X.x6 X.x7 X.x8 X.x9 X.x10 X.x11 X.x12 X.x14 = v723 X := by
  simp only [sl.v723, v723, ↓ld_all, ld_part, ld_cov, ld_over, v715_eq]

theorem v761_eq :
    sl.v761 (F := Ideal) a2 h2 a3 h3 a18 h18 a20 h20 a21 h21 a41 a42 X.x1 X.x2 X.x17 X.x19 X.x20 fs4 = v761 X (a41.view.read (Elt Ideal) fs4) := by
  simp only [sl.v761, v761, ↓ld_all, ld_part, ld_cov, ld_over, HS4_2_eq]

theorem v762_eq :
    sl.v762 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v762 X (a40.view.read (Elt Ideal) fs3) (a41.view.read (Elt Ideal) fs4) := by
  simp only [sl.v762, v762, ↓ld_all, ld_part, ld_cov, ld_over, v715_eq, v716_eq, v723_eq, HS3_1_eq, v761_eq]

theorem v768_eq :
    sl.v768 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v768 X (a40.view.read (Elt Ideal) fs3) (a41.view.read (Elt Ideal) fs4) := by
  simp only [sl.v768, v768, ↓ld_all, ld_part, ld_cov, ld_over, v715_eq, v716_eq, v723_eq, HS3_1_eq, v761_eq]

theorem v771_eq :
    sl.v771 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v771 X (a40.view.read (Elt Ideal) fs3) (a41.view.read (Elt Ideal) fs4) := by
  simp only [sl.v771, v771, ↓ld_all, ld_part, ld_cov, ld_over, v715_eq, v716_eq, v723_eq, HS3_1_eq, v761_eq]

theorem HS2_13_eq :
    sl.HS2_13 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_13 X (a40.view.read (Elt Ideal) fs3) (a41.view.read (Elt Ideal) fs4) := by
  simp only [sl.HS2_13, HS2_13, ↓ld_all, ld_part, ld_cov, ld_over, v762_eq, v716_eq, v768_eq, v771_eq, HS2_12_eq]

theorem HS2_14_eq :
    sl.HS2_14 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_14 X (a40.view.read (Elt Ideal) fs3) (a41.view.read (Elt Ideal) fs4) := by
  simp only [sl.HS2_14, HS2_14, ↓ld_all, ld_part, ld_cov, ld_over, v812_eq, v827_eq, HS2_13_eq]

theorem HS2_15_eq :
    sl.HS2_15 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_15 X (a40.view.read (Elt Ideal) fs3) (a41.view.read (Elt Ideal) fs4) := by
  simp only [sl.HS2_15, HS2_15, ↓ld_all, ld_part, ld_cov, ld_over, v894_eq, v716_eq, v896_eq, HS2_14_eq]

theorem HS2_16_eq :
    sl.HS2_16 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_16 X (a40.view.read (Elt Ideal) fs3) (a41.view.read (Elt Ideal) fs4) := by
  simp only [sl.HS2_16, HS2_16, ↓ld_all, ld_part, ld_cov, ld_over, v973_eq, HS3_2_eq, v992_eq, HS2_15_eq]

theorem HS2_17_eq :
    sl.HS2_17 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_17 X (a40.view.read (Elt Ideal) fs3) (a41.view.read (Elt Ideal) fs4) := by
  simp only [sl.HS2_17, HS2_17, ↓ld_all, ld_part, ld_cov, ld_over, v1057_eq, v1058_eq, HS2_16_eq]

theorem HS2_18_eq :
    sl.HS2_18 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_18 X (a40.view.read (Elt Ideal) fs3) (a41.view.read (Elt Ideal) fs4) := by
  simp only [sl.HS2_18, HS2_18, ↓ld_all, ld_part, ld_cov, ld_over, v1143_eq, HS2_17_eq]

theorem HS2_19_eq :
    sl.HS2_19 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_19 X (a40.view.read (Elt Ideal) fs3) (a41.view.read (Elt Ideal) fs4) := by
  simp only [sl.HS2_19, HS2_19, ↓ld_all, ld_part, ld_cov, ld_over, v1215_eq, v1217_eq, v1223_eq, HS2_18_eq]

theorem HS2_20_eq :
    sl.HS2_20 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_20 X (a40.view.read (Elt Ideal) fs3) (a41.view.read (Elt Ideal) fs4) := by
  simp only [sl.HS2_20, HS2_20, ↓ld_all, ld_part, ld_cov, ld_over, v1304_eq, HS2_19_eq]

theorem HS2_21_eq :
    sl.HS2_21 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_21 X (a40.view.read (Elt Ideal) fs3) (a41.view.read (Elt Ideal) fs4) := by
  simp only [sl.HS2_21, HS2_21, ↓ld_all, ld_part, ld_cov, ld_over, v1344_eq, cst_523_eq, v1355_eq, HS2_20_eq]

theorem HS2_22_eq :
    sl.HS2_22 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_22 X (a40.view.read (Elt Ideal) fs3) (a41.view.read (Elt Ideal) fs4) := by
  simp only [sl.HS2_22, HS2_22, ↓ld_all, ld_part, ld_cov, ld_over, v1455_eq, v716_eq, v1461_eq, v1464_eq, HS2_21_eq]

theorem HS2_23_eq :
    sl.HS2_23 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_23 X (a40.view.read (Elt Ideal) fs3) (a41.view.read (Elt Ideal) fs4) := by
  simp only [sl.HS2_23, HS2_23, ↓ld_all, ld_part, ld_cov, ld_over, v1505_eq, v1520_eq, HS2_22_eq]

theorem HS2_24_eq :
    sl.HS2_24 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_24 X (a40.view.read (Elt Ideal) fs3) (a41.view.read (Elt Ideal) fs4) := by
  simp only [sl.HS2_24, HS2_24, ↓ld_all, ld_part, ld_cov, ld_over, v1587_eq, v716_eq, v1589_eq, HS2_23_eq]

theorem HS2_25_eq :
    sl.HS2_25 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_25 X (a40.view.read (Elt Ideal) fs3) (a41.view.read (Elt Ideal) fs4) := by
  simp only [sl.HS2_25, HS2_25, ↓ld_all, ld_part, ld_cov, ld_over, v1666_eq, HS3_5_eq, v1685_eq, HS2_24_eq]

theorem HS2_26_eq :
    sl.HS2_26 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_26 X (a40.view.read (Elt Ideal) fs3) (a41.view.read (Elt Ideal) fs4) := by
  simp only [sl.HS2_26, HS2_26, ↓ld_all, ld_part, ld_cov, ld_over, v1750_eq, v1751_eq, HS2_25_eq]

theorem HS2_27_eq :
    sl.HS2_27 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_27 X (a40.view.read (Elt Ideal) fs3) (a41.view.read (Elt Ideal) fs4) := by
  simp only [sl.HS2_27, HS2_27, ↓ld_all, ld_part, ld_cov, ld_over, v1836_eq, HS2_26_eq]

theorem HS2_28_eq :
    sl.HS2_28 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_28 X (a40.view.read (Elt Ideal) fs3) (a41.view.read (Elt Ideal) fs4) := by
  simp only [sl.HS2_28, HS2_28, ↓ld_all, ld_part, ld_cov, ld_over, v1908_eq, v1910_eq, v1916_eq, HS2_27_eq]

theorem HS2_29_eq :
    sl.HS2_29 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_29 X (a40.view.read (Elt Ideal) fs3) (a41.view.read (Elt Ideal) fs4) := by
  simp only [sl.HS2_29, HS2_29, ↓ld_all, ld_part, ld_cov, ld_over, v1997_eq, HS2_28_eq]

theorem HS2_30_eq :
    sl.HS2_30 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_30 X (a40.view.read (Elt Ideal) fs3) (a41.view.read (Elt Ideal) fs4) := by
  simp only [sl.HS2_30, HS2_30, ↓ld_all, ld_part, ld_cov, ld_over, v2037_eq, cst_523_eq, v2048_eq, HS2_29_eq]

theorem HS2_31_eq :
    sl.HS2_31 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_31 X (a40.view.read (Elt Ideal) fs3) (a41.view.read (Elt Ideal) fs4) := by
  simp only [sl.HS2_31, HS2_31, ↓ld_all, ld_part, ld_cov, ld_over, v2148_eq, v716_eq, v2154_eq, v2157_eq, HS2_30_eq]

theorem HS2_32_eq :
    sl.HS2_32 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_32 X (a40.view.read (Elt Ideal) fs3) (a41.view.read (Elt Ideal) fs4) := by
  simp only [sl.HS2_32, HS2_32, ↓ld_all, ld_part, ld_cov, ld_over, v2198_eq, v2213_eq, HS2_31_eq]

theorem HS2_33_eq :
    sl.HS2_33 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_33 X (a40.view.read (Elt Ideal) fs3) (a41.view.read (Elt Ideal) fs4) := by
  simp only [sl.HS2_33, HS2_33, ↓ld_all, ld_part, ld_cov, ld_over, v2280_eq, v716_eq, v2282_eq, HS2_32_eq]

theorem HS2_34_eq :
    sl.HS2_34 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_34 X (a40.view.read (Elt Ideal) fs3) (a41.view.read (Elt Ideal) fs4) := by
  simp only [sl.HS2_34, HS2_34, ↓ld_all, ld_part, ld_cov, ld_over, v2359_eq, HS3_8_eq, v2378_eq, HS2_33_eq]

theorem HS2_35_eq :
    sl.HS2_35 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_35 X (a40.view.read (Elt Ideal) fs3) (a41.view.read (Elt Ideal) fs4) := by
  simp only [sl.HS2_35, HS2_35, ↓ld_all, ld_part, ld_cov, ld_over, v2443_eq, v2444_eq, HS2_34_eq]

theorem HS2_36_eq :
    sl.HS2_36 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = HS2_36 X (a40.view.read (Elt Ideal) fs3) (a41.view.read (Elt Ideal) fs4) := by
  simp only [sl.HS2_36, HS2_36, ↓ld_all, ld_part, ld_cov, ld_over, v2529_eq, HS2_35_eq]

theorem v2530_eq :
    sl.v2530 (F := Ideal) a1 h1 a2 h2 a3 h3 a4 h4 a5 h5 a6 h6 a7 h7 a8 h8 a9 h9 a10 h10 a11 h11 a12 h12 a13 h13 a15 h15 a17 h17 a18 h18 a19 h19 a20 h20 a21 h21 a38 a39 a40 a41 a42 X.x0 X.x1 X.x2 X.x3 X.x4 X.x5 X.x6 X.x7 X.x8 X.x9 X.x10 X.x11 X.x12 X.x14 X.x16 X.x17 X.x18 X.x19 X.x20 fs3 fs4 = v2530 X (a40.view.read (Elt Ideal) fs3) (a41.view.read (Elt Ideal) fs4) := by
  simp only [sl.v2530, v2530, ↓ld_all, ld_part, ld_cov, ld_over, HS2_36_eq]

theorem HS0_1_eq :
    sl.HS0_1 (F := Ideal) a1 h1 a4 h4 a5 h5 a6 h6 a7 h7 a8 h8 a9 h9 a10 h10 a11 h11 a12 h12 a39 X.x0 X.x3 X.x4 X.x5 X.x6 X.x7 X.x8 X.x9 X.x10 X.x11 = HS0_1 X := by
  simp only [sl.HS0_1, HS0_1, ↓ld_all, ld_part, ld_cov, ld_over, v1_eq, v623_eq]

theorem v2537_eq :
    sl.v2537 (F := Ideal) a1 h1 a4 h4 a5 h5 a6 h6 a7 h7 a8 h8 a9 h9 a10 h10 a11 h11 a12 h12 a37 a39 X.x0 X.x3 X.x4 X.x5 X.x6 X.x7 X.x8 X.x9 X.x10 X.x11 = v2537 X := by
  simp only [sl.v2537, v2537, ↓ld_all, ld_part, ld_cov, ld_over, HS0_1_eq]

theorem v2567_eq :
    sl.v2567 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 fs3 fs4 = v2567 X (a40.view.read (Elt Ideal) fs3) (a41.view.read (Elt Ideal) fs4) := by
  simp only [sl.v2567, v2567, ↓ld_all, ld_part, ld_cov, ld_over, v2530_eq, v2537_eq]

theorem cst_1065_eq :
    sl.cst_1065 (F := Ideal)  = cst_1065  := by
  simp only [sl.cst_1065, cst_1065, ↓ld_all, ld_part, ld_cov, ld_over]

theorem v2606_eq :
    sl.v2606 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 fs3 fs4 = v2606 X (a40.view.read (Elt Ideal) fs3) (a41.view.read (Elt Ideal) fs4) := by
  simp only [sl.v2606, v2606, ↓ld_all, ld_part, ld_cov, ld_over, v2567_eq, cst_1065_eq]

theorem v2562_eq :
    sl.v2562 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 fs3 fs4 = v2562 X (a40.view.read (Elt Ideal) fs3) (a41.view.read (Elt Ideal) fs4) := by
  simp only [sl.v2562, v2562, ↓ld_all, ld_part, ld_cov, ld_over, v2530_eq, v2537_eq]

theorem v2569_eq :
    sl.v2569 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 fs3 fs4 = v2569 X (a40.view.read (Elt Ideal) fs3) (a41.view.read (Elt Ideal) fs4) := by
  simp only [sl.v2569, v2569, ↓ld_all, ld_part, ld_cov, ld_over, v2567_eq, cst_1065_eq]

theorem v2612_eq :
    sl.v2612 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 fs3 fs4 = v2612 X (a40.view.read (Elt Ideal) fs3) (a41.view.read (Elt Ideal) fs4) := by
  simp only [sl.v2612, v2612, ↓ld_all, ld_part, ld_cov, ld_over, v2567_eq, cst_1065_eq]

theorem v2653_eq :
    sl.v2653 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 fs3 fs4 = v2653 X (a40.view.read (Elt Ideal) fs3) (a41.view.read (Elt Ideal) fs4) := by
  simp only [sl.v2653, v2653, ↓ld_all, ld_part, ld_cov, ld_over, v2567_eq, v2569_eq, v2606_eq, v2612_eq]

theorem v2655_eq :
    sl.v2655 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 fs3 fs4 = v2655 X (a40.view.read (Elt Ideal) fs3) (a41.view.read (Elt Ideal) fs4) := by
  simp only [sl.v2655, v2655, ↓ld_all, ld_part, ld_cov, ld_over, v2567_eq, v2569_eq, v2606_eq, v2612_eq]

theorem v2691_eq :
    sl.v2691 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 fs3 fs4 = v2691 X (a40.view.read (Elt Ideal) fs3) (a41.view.read (Elt Ideal) fs4) := by
  simp only [sl.v2691, v2691, ↓ld_all, ld_part, ld_cov, ld_over, v2562_eq, v2653_eq, v2655_eq]

theorem v2694_eq :
    sl.v2694 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 fs3 fs4 = v2694 X (a40.view.read (Elt Ideal) fs3) (a41.view.read (Elt Ideal) fs4) := by
  simp only [sl.v2694, v2694, ↓ld_all, ld_part, ld_cov, ld_over, v2562_eq, v2653_eq, v2655_eq]

theorem v2704_eq :
    sl.v2704 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 fs3 fs4 = v2704 X (a40.view.read (Elt Ideal) fs3) (a41.view.read (Elt Ideal) fs4) := by
  simp only [sl.v2704, v2704, ↓ld_all, ld_part, ld_cov, ld_over, v2691_eq, v2694_eq]

theorem v2697_eq :
    sl.v2697 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 fs3 fs4 = v2697 X (a40.view.read (Elt Ideal) fs3) (a41.view.read (Elt Ideal) fs4) := by
  simp only [sl.v2697, v2697, ↓ld_all, ld_part, ld_cov, ld_over, v2691_eq, v2694_eq]

theorem v2732_eq :
    sl.v2732 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 fs3 fs4 = v2732 X (a40.view.read (Elt Ideal) fs3) (a41.view.read (Elt Ideal) fs4) := by
  simp only [sl.v2732, v2732, ↓ld_all, ld_part, ld_cov, ld_over, v2691_eq, v2694_eq]

theorem H33_1_eq :
    sl.H33_1 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 fs3 fs4 = H33_1 X (a40.view.read (Elt Ideal) fs3) (a41.view.read (Elt Ideal) fs4) := by
  simp only [sl.H33_1, H33_1, ↓ld_all, ld_part, ld_cov, ld_over, v2653_eq]

theorem v2702_eq :
    sl.v2702 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 fs3 fs4 = v2702 X (a40.view.read (Elt Ideal) fs3) (a41.view.read (Elt Ideal) fs4) := by
  simp only [sl.v2702, v2702, ↓ld_all, ld_part, ld_cov, ld_over, v2691_eq, v2694_eq]

theorem v2823_eq :
    sl.v2823 (F := Ideal) a29 h29 X.x28 = v2823 X := by
  simp only [sl.v2823, v2823, ↓ld_all, ld_part, ld_cov, ld_over]

theorem v2738_eq :
    sl.v2738 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 fs3 fs4 = v2738 X (a40.view.read (Elt Ideal) fs3) (a41.view.read (Elt Ideal) fs4) := by
  simp only [sl.v2738, v2738, ↓ld_all, ld_part, ld_cov, ld_over, v2691_eq, v2694_eq]

theorem v2783_eq :
    sl.v2783 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 fs3 fs4 = v2783 X (a40.view.read (Elt Ideal) fs3) (a41.view.read (Elt Ideal) fs4) := by
  simp only [sl.v2783, v2783, ↓ld_all, ld_part, ld_cov, ld_over, v2702_eq, v2704_eq, v2732_eq, v2738_eq]

theorem v2820_eq :
    sl.v2820 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 X.x27 fs3 fs4 = v2820 X (a40.view.read (Elt Ideal) fs3) (a41.view.read (Elt Ideal) fs4) := by
  simp only [sl.v2820, v2820, ↓ld_all, ld_part, ld_cov, ld_over, v2697_eq, v2783_eq]

theorem H32_1_eq :
    sl.H32_1 (F := Ideal) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a37 a38 a39 a40 a41 a42 X.x0 X.x1 X.x2 X.x3 X.x4 X.x5 X.x6 X.x7 X.x8 X.x9 X.x10 X.x11 X.x12 X.x13 X.x14 X.x15 X.x16 X.x17 X.x18 X.x19 X.x20 X.x21 X.x22 fs3 fs4 = H32_1 X (a40.view.read (Elt Ideal) fs3) (a41.view.read (Elt Ideal) fs4) := by
  simp only [sl.H32_1, H32_1, ↓ld_all, ld_part, ld_cov, ld_over, v2562_eq, v2655_eq]

end Cert.KernelIdeal.Model

end
-- ==== Proof.Value.Spec.lean ====
/- The layer's mathematics, one image at a time: what both programs compute over the extended reals. -/
module

public import Idealize.ShloMosaic.PureOps.Ideal

@[expose] public section

noncomputable section

namespace Cert.Spec

open Idealize.ShloMosaic

/-- A row, of `n` extended reals. -/
abbrev Row (n : ℕ) := Fin n → EReal

/-- An image's hidden rows, its tokens and their scales. -/
structure Image where
  x : Fin 32 → Row 768
  img : Fin 577 → Row 1024
  ts : Row 577

/-- The layer's weights. -/
structure Weights where
  sq : Fin 768 → Row 768
  sk : Fin 768 → Row 768
  sv : Fin 768 → Row 768
  so : Fin 768 → Row 768
  bsq : Row 768
  bsv : Row 768
  bso : Row 768
  g1 : Row 768
  b1 : Row 768
  cq : Fin 768 → Row 768
  co : Fin 768 → Row 768
  bcq : Row 768
  bco : Row 768
  ck : Fin 1024 → Row 768
  cv : Fin 1024 → Row 768
  sck : Row 768
  scv : Row 768
  bcv : Row 768
  g2 : Row 768
  b2 : Row 768
  ff1 : Fin 768 → Row 3072
  sff1 : Row 3072
  bff1 : Row 3072
  ff2 : Fin 3072 → Row 768
  sff2 : Row 768
  bff2 : Row 768
  g3 : Row 768
  b3 : Row 768

/-- A row times a matrix. -/
def lin {k n : ℕ} (a : Row k) (w : Fin k → Row n) : Row n := fun j => ∑ l, a l * w l j

/-- The greatest of a row's entries. -/
def rowMax {n : ℕ} (s : Row n) : EReal := Finset.fold max (Ideal.ofBits FTy.f32 0xFF800000#32) s Finset.univ

/-- The exponentials of a row of scores. -/
def expo {n : ℕ} (s : Row n) : Row n := fun t => Ideal.exp (s t - rowMax s)

/-- The probabilities of a row of scores. -/
def soft {n : ℕ} (s : Row n) : Row n := fun t => expo s t * Ideal.div 1 (∑ u, expo s u)

/-- Lane `d` of head `h`. -/
def lane (h : Fin 12) (d : Fin 64) : Fin 768 := ⟨h.val * 64 + d.val, by omega⟩

/-- The head of a lane. -/
def head (c : Fin 768) : Fin 12 := ⟨c.val / 64, by omega⟩

/-- The scores of a query row against the keys, in one head. -/
def scores {n : ℕ} (q : Row 768) (k : Fin n → Row 768) (h : Fin 12) : Row n :=
  fun t => (∑ d, q (lane h d) * k t (lane h d)) * Ideal.ofBits FTy.f32 0x3E000000#32

/-- Attention of a query row over keys and values, head by head. -/
def attend {n : ℕ} (q : Row 768) (k v : Fin n → Row 768) : Row 768 :=
  fun c => ∑ t, v t c * soft (scores q k (head c)) t

/-- A row less its mean. -/
def centre (h : Row 768) : Row 768 := fun j => h j - Ideal.div (∑ l, h l) (Ideal.ofBits FTy.f32 0x44400000#32)

/-- Layer normalisation of a row. -/
def norm (h g b : Row 768) : Row 768 := fun j =>
  centre h j * Ideal.rsqrt (Ideal.div (∑ l, centre h l * centre h l) (Ideal.ofBits FTy.f32 0x44400000#32) + Ideal.ofBits FTy.f32 0x2B8CBCCC#32)
    * g j + b j

/-- The power of two of exponent `j - 126`. -/
def pow (j : Fin 253) : EReal :=
  FloatOps.exp2 (F := Ideal) (φ := .f32) (FloatOps.sitofp (F := Ideal) FTy.f32 (IntOp.subi (BitVec.ofNat 32 j.val) 126#32))

/-- The scale of a row of greatest magnitude `448 v`: the least power of two above `v`, among `2^-126 … 2^126`; 1 at 0. -/
def scaleOf (v : EReal) : EReal :=
  if v = 0 then 1
  else Finset.fold min (Ideal.ofBits FTy.f32 0x7F800000#32)
    (fun j : Fin 253 => if v < pow j then pow j else Ideal.ofBits FTy.f32 0x7E800000#32) Finset.univ

/-- A 448th of the greatest magnitude of a row. -/
def amax {n : ℕ} (r : Row n) : EReal :=
  rowMax (fun l => FloatOps.absf (F := Ideal) (φ := .f32) (r l)) * Ideal.ofBits FTy.f32 0x3B124925#32

/-- The scale of a row. -/
def scale {n : ℕ} (r : Row n) : EReal := scaleOf (amax r)

/-- The codes of a row. -/
def codes {n : ℕ} (r : Row n) : Row n := fun j =>
  min (Ideal.ofBits FTy.f32 0x43E00000#32) (max (Ideal.ofBits FTy.f32 0xC3E00000#32) (r j * Ideal.div 1 (scale r)))

/-- The Gaussian error linear unit. -/
def gelu (f : EReal) : EReal :=
  Ideal.ofBits FTy.f32 0x3F000000#32 * f * (1 + FloatOps.erf (F := Ideal) (φ := .f32) (f * Ideal.ofBits FTy.f32 0x3F3504F3#32))

variable (W : Weights) (I : Image)

def q (s : Fin 32) : Row 768 := fun j => lin (I.x s) W.sq j + W.bsq j
def k (s : Fin 32) : Row 768 := lin (I.x s) W.sk
def v (s : Fin 32) : Row 768 := fun j => lin (I.x s) W.sv j + W.bsv j

/-- The rows after self-attention. -/
def h1 (s : Fin 32) : Row 768 :=
  norm (fun j => I.x s j + (lin (attend (q W I s) (k W I) (v W I)) W.so j + W.bso j)) W.g1 W.b1

def cq (s : Fin 32) : Row 768 := fun j => lin (h1 W I s) W.cq j + W.bcq j
def ck (t : Fin 577) : Row 768 := fun j => lin (I.img t) W.ck j * I.ts t * W.sck j
def cv (t : Fin 577) : Row 768 := fun j => lin (I.img t) W.cv j * I.ts t * W.scv j + W.bcv j

/-- The rows after cross-attention. -/
def h2 (s : Fin 32) : Row 768 :=
  norm (fun j => h1 W I s j + (lin (attend (cq W I s) (ck W I) (cv W I)) W.co j + W.bco j)) W.g2 W.b2

/-- The hidden rows of the feed-forward part. -/
def g (s : Fin 32) : Row 3072 :=
  fun j => gelu (lin (codes (h2 W I s)) W.ff1 j * scale (h2 W I s) * W.sff1 j + W.bff1 j)

/-- The layer's rows. -/
def out (s : Fin 32) : Row 768 :=
  norm (fun j => h2 W I s j + (lin (codes (g W I s)) W.ff2 j * scale (g W I s) * W.sff2 j + W.bff2 j)) W.g3 W.b3

end Cert.Spec

end
-- ==== Proof.Value.Soft.lean ====
/- Softmax over the extended reals: lanes masked by minus infinity drop out, and a positive factor may be applied to
   the scores or to their differences from the greatest. -/
module

public import proofs.«01_k».proof.Proof.Value.Spec

@[expose] public section

noncomputable section

namespace Cert.Spec

open Idealize.ShloMosaic

/-- The pattern of minus infinity. -/
theorem ofBits_neg_inf : Ideal.ofBits FTy.f32 0xFF800000#32 = ⊥ := by simp [Ideal.ofBits, Ideal.ieee]

/-- The pattern of one eighth. -/
theorem ofBits_eighth : Ideal.ofBits FTy.f32 0x3E000000#32 = (((1 : ℝ) / 8 : ℝ) : EReal) := by
  simp [Ideal.ofBits, Ideal.ieee, -EReal.coe_mul]; norm_num

/-- The greatest of a row, as a supremum. -/
theorem rowMax_eq_sup {n : ℕ} (s : Row n) : rowMax s = Finset.univ.sup s := by
  rw [rowMax, ofBits_neg_inf]; rfl

/-- A row that is minus infinity off the range of `f` has the greatest entry of the row read through `f`. -/
theorem rowMax_masked {n m : ℕ} (f : Fin n → Fin m) (s : Row m) (h : ∀ t, t ∉ Set.range f → s t = ⊥) :
    rowMax s = rowMax (fun t => s (f t)) := by
  rw [rowMax_eq_sup, rowMax_eq_sup]
  apply le_antisymm
  · refine Finset.sup_le fun t _ => ?_
    by_cases ht : t ∈ Set.range f
    · obtain ⟨u, rfl⟩ := ht
      exact Finset.le_sup (f := fun t => s (f t)) (Finset.mem_univ u)
    · rw [h t ht]; exact bot_le
  · exact Finset.sup_le fun t _ => Finset.le_sup (f := s) (Finset.mem_univ (f t))

/-- A positive real factor comes out of a greatest entry. -/
theorem rowMax_mul {n : ℕ} (s : Row n) (c : ℝ) (hc : 0 < c) : rowMax (fun t => s t * (c : EReal)) = rowMax s * (c : EReal) := by
  rw [rowMax_eq_sup, rowMax_eq_sup]
  have hm : Monotone fun x : EReal => x * (c : EReal) := fun a b hab => mul_le_mul_of_nonneg_right hab (by exact_mod_cast hc.le)
  exact (Finset.comp_sup_eq_sup_comp (fun x : EReal => x * (c : EReal)) (fun a b => hm.map_sup a b) (EReal.bot_mul_coe_of_pos hc)).symm

/-- A positive real factor distributes over a difference. -/
theorem sub_mul_pos (a b : EReal) (c : ℝ) (hc : 0 < c) : (a - b) * (c : EReal) = a * (c : EReal) - b * (c : EReal) := by
  induction a with
  | bot => rw [EReal.bot_sub, EReal.bot_mul_coe_of_pos hc, EReal.bot_sub]
  | top =>
    induction b with
    | bot => rw [EReal.top_sub_bot, EReal.top_mul_coe_of_pos hc, EReal.bot_mul_coe_of_pos hc, EReal.top_sub_bot]
    | top => rw [EReal.sub_top, EReal.top_mul_coe_of_pos hc, EReal.bot_mul_coe_of_pos hc, EReal.sub_top]
    | coe b => rw [EReal.top_sub_coe, EReal.top_mul_coe_of_pos hc, ← EReal.coe_mul, EReal.top_sub_coe]
  | coe a =>
    induction b with
    | bot => rw [EReal.coe_sub_bot, EReal.top_mul_coe_of_pos hc, EReal.bot_mul_coe_of_pos hc, ← EReal.coe_mul, EReal.coe_sub_bot]
    | top => rw [EReal.sub_top, EReal.bot_mul_coe_of_pos hc, EReal.top_mul_coe_of_pos hc, EReal.sub_top]
    | coe b => rw [← EReal.coe_sub, ← EReal.coe_mul, ← EReal.coe_mul, ← EReal.coe_mul, ← EReal.coe_sub, sub_mul]

/-- A masked softmax, its differences scaled, against values: the softmax of the scaled scores in the range of the
    mask against the values there. -/
theorem soft_masked {n m : ℕ} (f : Fin n → Fin m) (hf : Function.Injective f) (s v : Row m)
    (h : ∀ t, t ∉ Set.range f → s t = ⊥) :
    (∑ t, Ideal.exp ((s t - rowMax s) * Ideal.ofBits FTy.f32 0x3E000000#32)
        * Ideal.div 1 (∑ u, Ideal.exp ((s u - rowMax s) * Ideal.ofBits FTy.f32 0x3E000000#32)) * v t)
      = ∑ t, v (f t) * soft (fun t => s (f t) * Ideal.ofBits FTy.f32 0x3E000000#32) t := by
  rw [ofBits_eighth]
  have hc : (0 : ℝ) < 1 / 8 := by norm_num
  have e (t) : Ideal.exp ((s (f t) - rowMax s) * (((1 : ℝ) / 8 : ℝ) : EReal)) = expo (fun t => s (f t) * (((1 : ℝ) / 8 : ℝ) : EReal)) t := by
    rw [expo, rowMax_mul _ _ hc, ← rowMax_masked f s h, sub_mul_pos _ _ _ hc]
  have z (t) (ht : t ∉ Set.range f) : Ideal.exp ((s t - rowMax s) * (((1 : ℝ) / 8 : ℝ) : EReal)) = 0 := by
    rw [h t ht, EReal.bot_sub, EReal.bot_mul_coe_of_pos hc, Ideal.exp_bot]
  have su : (∑ u, Ideal.exp ((s u - rowMax s) * (((1 : ℝ) / 8 : ℝ) : EReal))) = ∑ u, expo (fun t => s (f t) * (((1 : ℝ) / 8 : ℝ) : EReal)) u :=
    (Fintype.sum_of_injective f hf _ _ z fun t => (e t).symm).symm
  rw [su]
  refine (Fintype.sum_of_injective f hf _ _ (fun t ht => ?_) fun t => ?_).symm
  · rw [z t ht, zero_mul, zero_mul]
  · rw [e t, soft, mul_comm]

/-- A sum of products, one factor zero off the range of `f`, is the sum over `f`. -/
theorem sum_masked {n m : ℕ} (f : Fin n → Fin m) (hf : Function.Injective f) (q k : Row m) (h : ∀ t, t ∉ Set.range f → q t = 0) :
    (∑ t, q t * k t) = ∑ t, q (f t) * k (f t) :=
  (Fintype.sum_of_injective f hf _ _ (fun t ht => by rw [h t ht, zero_mul]) fun t => rfl).symm

end Cert.Spec

end
-- ==== Proof.Value.SelfTile.lean ====
/- One self-attention tile: four images and two heads at a time. -/
module

public import proofs.«01_k».proof.Proof.Value.Model
public import proofs.«01_k».proof.Proof.Value.Soft
public import Idealize.ShloMosaic.Lib.Pointwise

@[expose] public section

noncomputable section

namespace Cert.KernelIdeal.Model

open Cert.KernelIdeal.Gen Cert.KernelIdeal.Run
open Idealize.ShloMosaic Idealize.ShloMosaic.TcCoe

/-- The query rows twice, each head's lanes alone. -/
def stackQ (q : FVec Ideal S128x128 .bf16) : FVec Ideal S256x128 .bf16 :=
  have v73 : FVec Ideal S128x128 .bf16 := broadcast S128x128 (Scalar.ofBits .bf16 0x0000#16)
  have v72 : IVec S128x128 32 := iota .tc S128x128 32 [1] iota_S128x128_d1_w32
  have v74 : IVec S128x128 32 := broadcast S128x128 0#32
  have v75 : IVec S128x128 1 := cmpi .sge v72 v74
  have v76 : IVec S128x128 32 := broadcast S128x128 64#32
  have v77 : IVec S128x128 1 := cmpi .slt v72 v76
  have v78 : IVec S128x128 1 := andi v75 v77
  have v79 : FVec Ideal S128x128 .bf16 := select v78 q v73
  have v80 : IVec S128x128 32 := broadcast S128x128 64#32
  have v81 : IVec S128x128 1 := cmpi .sge v72 v80
  have v82 : IVec S128x128 32 := broadcast S128x128 128#32
  have v83 : IVec S128x128 1 := cmpi .slt v72 v82
  have v84 : IVec S128x128 1 := andi v81 v83
  have v85 : FVec Ideal S128x128 .bf16 := select v84 q v73
  concatenate S256x128 0 [⟨S128x128, v79⟩, ⟨S128x128, v85⟩] concatenates_S128x128_S128x128_S256x128_d0

/-- The masked scores. -/
def selfScores (m : IVec S256x128 1) (a : FVec Ideal S256x128 .bf16) (k : FVec Ideal S128x128 .bf16) : FVec Ideal S256x128 .f32 :=
  select m (matmul dot_S256x128_S128x128_S256x128_1_1_0_0_n_n none a k (constant S256x128 .f32 0x00000000#32))
    (broadcast S256x128 (Scalar.ofBits .f32 0xFF800000#32))

/-- The probabilities of rows of scores. -/
def selfSoft (s : FVec Ideal S256x128 .f32) : FVec Ideal S256x128 .bf16 :=
  have v91 : FVec Ideal S256 .f32 := multiReduction .maximumf [1] S256 s 0xFF800000#32 reduces_S256x128_S256 (.inl rfl) rfl
  have v92 : FVec Ideal S256x1 .f32 := shapeCast S256x1 v91 shapeCasts_S256_S256x1
  have v93 : FVec Ideal S256x128 .f32 := broadcastTo S256x128 v92 broadcasts_S256x1_S256x128
  have v94 : FVec Ideal S256x128 .f32 := subf s v93
  have cst_30 : Ideal .f32 := Scalar.ofBits .f32 0x3E000000#32
  have v95 : FVec Ideal S256x128 .f32 := broadcast S256x128 cst_30
  have v96 : FVec Ideal S256x128 .f32 := mulf v94 v95
  have v97 : FVec Ideal S256x128 .f32 := exp v96
  have v98 : FVec Ideal S256 .f32 := multiReduction .add [1] S256 v97 0x00000000#32 reduces_S256x128_S256 (.inl rfl) rfl
  have v99 : FVec Ideal S256x1 .f32 := shapeCast S256x1 v98 shapeCasts_S256_S256x1
  have cst_32 : Ideal .f32 := Scalar.ofBits .f32 0x3F800000#32
  have v100 : FVec Ideal S256x1 .f32 := broadcast S256x1 cst_32
  have v101 : FVec Ideal S256x1 .f32 := divf v100 v99
  have v102 : FVec Ideal S256x128 .f32 := broadcastTo S256x128 v101 broadcasts_S256x1_S256x128
  have v103 : FVec Ideal S256x128 .f32 := mulf v97 v102
  truncf .bf16 v103 bitsLt_bf16_f32

/-- The probabilities against the values, each lane from its head's rows. -/
def selfValues (p : FVec Ideal S256x128 .bf16) (v : FVec Ideal S128x128 .bf16) : FVec Ideal S128x128 .bf16 :=
  have v106 : FVec Ideal S256x128 .f32 := matmul dot_S256x128_S128x128_S256x128_1_0_0_1_n_n none p v (constant S256x128 .f32 0x00000000#32)
  have v107 : IVec S128x128 32 := iota .tc S128x128 32 [1] iota_S128x128_d1_w32
  have v108 : FVec Ideal S128x128 .f32 := extractStridedSlice S128x128 ![0, 0] v106 slices_S256x128_o0_0_S128x128
  have v109 : IVec S128x128 32 := broadcast S128x128 64#32
  have v110 : IVec S128x128 1 := cmpi .sge v107 v109
  have v111 : FVec Ideal S128x128 .f32 := extractStridedSlice S128x128 ![128, 0] v106 slices_S256x128_o128_0_S128x128
  have v112 : FVec Ideal S128x128 .f32 := select v110 v111 v108
  have v113 : FVec Ideal S128x128 .bf16 := truncf .bf16 v112 bitsLt_bf16_f32
  shapeCast S128x128 v113 shapeCasts_S128x128_S128x128

/-- One tile. -/
def selfTile (m : IVec S256x128 1) (q k v : FVec Ideal S128x128 .bf16) : FVec Ideal S128x128 .bf16 :=
  selfValues (selfSoft (selfScores m (stackQ q) k)) v

theorem lt64 : ∀ j : Fin 128, IntOp.cmpi CmpIPredicate.slt (BitVec.ofNat 32 j.val) 64#32 = if j.val / 64 = 0 then 1#1 else 0#1 := by decide +kernel
theorem ge64 : ∀ j : Fin 128, IntOp.cmpi CmpIPredicate.sge (BitVec.ofNat 32 j.val) 64#32 = if j.val / 64 = 0 then 0#1 else 1#1 := by decide +kernel
theorem inLow : ∀ j : Fin 128, IntOp.andi (IntOp.cmpi CmpIPredicate.sge (BitVec.ofNat 32 j.val) 0#32) (IntOp.cmpi CmpIPredicate.slt (BitVec.ofNat 32 j.val) 64#32)
    = if j.val / 64 = 0 then 1#1 else 0#1 := by decide +kernel
theorem inHigh : ∀ j : Fin 128, IntOp.andi (IntOp.cmpi CmpIPredicate.sge (BitVec.ofNat 32 j.val) 64#32) (IntOp.cmpi CmpIPredicate.slt (BitVec.ofNat 32 j.val) 128#32)
    = if j.val / 64 = 1 then 1#1 else 0#1 := by decide +kernel

/-- The row of half `h` for row `u`. -/
def half (h : Fin 2) (u : Fin 128) : Fin 256 := ⟨h.val * 128 + u.val, by omega⟩

theorem sel1 {α : Type} (a b : α) : Scalar.select 1#1 a b = a := rfl
theorem sel0 {α : Type} (a b : α) : Scalar.select 0#1 a b = b := rfl

theorem stackQ_at (q : FVec Ideal S128x128 .bf16) (h : Fin 2) (u l : Fin 128) :
    stackQ q (ix2 (half h u) l) = if l.val / 64 = h.val then q (ix2 u l) else 0 := by
  pointwise [stackQ]
  rw [inLow, inHigh]
  match h with
  | 0 =>
    have e : (half 0 u).val = u.val := by simp [half]
    rw [dif_pos (by omega)]
    have e' : (⟨(half 0 u).val, by omega⟩ : Fin 128) = u := Fin.ext e
    rw [e']
    by_cases hl : l.val / 64 = 0
    · rw [if_pos hl, if_pos (by simpa using hl), sel1]
    · rw [if_neg hl, if_neg (by simpa using hl), sel0]
  | 1 =>
    have e : (half 1 u).val = 128 + u.val := by simp [half]
    rw [dif_neg (by omega)]
    have e' : (⟨(half 1 u).val - 128, by omega⟩ : Fin 128) = u := Fin.ext (by simp only; omega)
    rw [e']
    by_cases hl : l.val / 64 = 1
    · rw [if_pos hl, if_pos (by simpa using hl), sel1]
    · rw [if_neg hl, if_neg (by simpa using hl), sel0]

theorem selfScores_at (m : IVec S256x128 1) (a : FVec Ideal S256x128 .bf16) (k : FVec Ideal S128x128 .bf16) (i : Fin 256) (t : Fin 128) :
    selfScores m a k (ix2 i t) = Scalar.select (m (ix2 i t)) (∑ l, a (ix2 i l) * k (ix2 t l)) ⊥ := by
  rw [← Spec.ofBits_neg_inf]
  pointwise [selfScores]

theorem selfSoft_at (s : FVec Ideal S256x128 .f32) (i : Fin 256) (t : Fin 128) :
    selfSoft s (ix2 i t) = Ideal.exp ((s (ix2 i t) - Spec.rowMax fun t => s (ix2 i t)) * Ideal.ofBits FTy.f32 0x3E000000#32)
        * Ideal.div 1 (∑ u, Ideal.exp ((s (ix2 i u) - Spec.rowMax fun t => s (ix2 i t)) * Ideal.ofBits FTy.f32 0x3E000000#32)) := by
  pointwise [selfSoft]
  rfl

theorem selfValues_at (p : FVec Ideal S256x128 .bf16) (v : FVec Ideal S128x128 .bf16) (h : Fin 2) (u c : Fin 128) (hc : c.val / 64 = h.val) :
    selfValues p v (ix2 u c) = ∑ t, p (ix2 (half h u) t) * v (ix2 t c) := by
  pointwise [selfValues]
  rw [ge64]
  match h with
  | 0 =>
    have e' : (⟨u.val, by omega⟩ : Fin 256) = half 0 u := Fin.ext (by simp [half])
    rw [if_pos (by simpa using hc), sel0, e']
  | 1 =>
    have e' : (⟨128 + u.val, by omega⟩ : Fin 256) = half 1 u := Fin.ext (by simp [half])
    rw [if_neg (by simp at hc; omega), sel1, e']

theorem quot32 : ∀ j : Fin 128, Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 j.val) 32#32) 0#32))
          (IntOp.subi (IntOp.divsi ArithUnit.vector (BitVec.ofNat 32 j.val) 32#32) 1#32)
          (IntOp.divsi ArithUnit.vector (BitVec.ofNat 32 j.val) 32#32) = BitVec.ofNat 32 (j.val / 32) := by decide +kernel

theorem cmpEq : ∀ a b : Fin 4, IntOp.cmpi CmpIPredicate.eq (BitVec.ofNat 32 a.val) (BitVec.ofNat 32 b.val) = if a.val = b.val then 1#1 else 0#1 := by decide +kernel

/-- The mask: rows and columns of one image. -/
theorem mask_at (h : Fin 2) (u t : Fin 128) : k0_pay9 k0_pay6 k0_pay7 k0_pay8 0#32 (ix2 (half h u) t) = if u.val / 32 = t.val / 32 then 1#1 else 0#1 := by
  pointwise [k0_pay9, k0_pay6, k0_pay7, k0_pay8]
  have hb := cmpEq ⟨u.val / 32, by omega⟩ ⟨t.val / 32, by omega⟩
  match h with
  | 0 =>
    have e : (half 0 u).val = u.val := by simp [half]
    rw [dif_pos (by omega), e, quot32, quot32, hb]
  | 1 =>
    have e : (half 1 u).val - 128 = u.val := by simp [half]
    rw [dif_neg (by simp [half]), e, quot32, quot32, hb]

/-- Token `t` of the image of row `u`. -/
def mate (u : Fin 128) (t : Fin 32) : Fin 128 := ⟨u.val / 32 * 32 + t.val, by omega⟩

/-- Lane `d` of the half of lane `c`. -/
def mateLane (c : Fin 128) (d : Fin 64) : Fin 128 := ⟨c.val / 64 * 64 + d.val, by omega⟩

/-- A tile is attention within each image and each head. -/
theorem selfTile_at (q k v : FVec Ideal S128x128 .bf16) (u c : Fin 128) :
    selfTile (k0_pay9 k0_pay6 k0_pay7 k0_pay8 0#32) q k v (ix2 u c) = ∑ t, v (ix2 (mate u t) c)
      * Spec.soft (fun t => (∑ d, q (ix2 u (mateLane c d)) * k (ix2 (mate u t) (mateLane c d))) * Ideal.ofBits FTy.f32 0x3E000000#32) t := by
  obtain ⟨h, hh⟩ : ∃ h : Fin 2, c.val / 64 = h.val := ⟨⟨c.val / 64, by omega⟩, rfl⟩
  rw [selfTile, selfValues_at _ _ h _ _ hh]
  simp only [selfSoft_at]
  have hinj : Function.Injective (mate u) := fun a b e => Fin.ext (by have := congrArg Fin.val e; simp only [mate] at this; omega)
  have linj : Function.Injective (mateLane c) := fun a b e => Fin.ext (by have := congrArg Fin.val e; simp only [mateLane] at this; omega)
  rw [Spec.soft_masked (mate u) hinj (fun t => selfScores (k0_pay9 k0_pay6 k0_pay7 k0_pay8 0#32) (stackQ q) k (ix2 (half h u) t)) (fun t => v (ix2 t c))]
  · refine Finset.sum_congr rfl fun t _ => ?_
    congr 2
    funext t
    congr 1
    rw [selfScores_at, mask_at, if_pos (by simp only [mate]; omega), sel1]
    simp only [stackQ_at]
    rw [Spec.sum_masked (mateLane c) linj (fun l => if l.val / 64 = h.val then q (ix2 u l) else 0) (fun l => k (ix2 (mate u t) l))]
    · refine Finset.sum_congr rfl fun d _ => ?_
      rw [if_pos (by simp only [mateLane]; omega)]
    · intro l hl
      refine if_neg fun e => hl ⟨⟨l.val % 64, by omega⟩, Fin.ext ?_⟩
      simp only [mateLane]; omega
  · intro t ht
    rw [selfScores_at, mask_at, if_neg, sel0]
    intro e
    refine ht ⟨⟨t.val % 32, by omega⟩, Fin.ext ?_⟩
    simp only [mate]; omega

end Cert.KernelIdeal.Model

end
-- ==== Proof.Value.SelfAttn.lean ====
/- The self-attention tiles laid side by side. -/
module

public import proofs.«01_k».proof.Proof.Value.SelfTile

@[expose] public section

set_option maxHeartbeats 4000000

noncomputable section

namespace Cert.KernelIdeal.Model

open Cert.KernelIdeal.Gen Cert.KernelIdeal.Run
open Idealize.ShloMosaic Idealize.ShloMosaic.TcCoe

/-- One write of a list read at an index: the written value agrees with `G`, and so does the rest off the write. -/
theorem canon_step {s : Shape} {e : EltTy} (r : Rect s) (w : r.shape.Idx → Elt Ideal e) (L : List (View.Piece (Elt Ideal) s e)) (G : s.Idx → Elt Ideal e) (y : s.Idx)
    (hp : ∀ x, w x = G (r.emb x)) (h : y ∉ r.set → View.canon L y = G y) : View.canon (⟨r, w⟩ :: L) y = G y := by
  by_cases hy : y ∈ r.set
  · obtain ⟨x, rfl⟩ := r.exists_idx_of_mem hy
    exact (View.canon_cons_emb r w L x).trans (hp x)
  · rw [View.canon_cons_of_not_mem ⟨r, w⟩ L hy]
    exact h hy

/-- The place of an element of a rectangle. -/
theorem emb2 {a b a' b' : ℕ} (r c : ℕ) (inb) (i : Fin a') (j : Fin b') (hr : r + i.val < a) (hc : c + j.val < b) :
    (Rect.unit (s := ⟨2, ![a, b]⟩) ![r, c] ![a', b'] inb).emb (ix2 i j) = ix2 ⟨r + i.val, hr⟩ ⟨c + j.val, hc⟩ := by
  refine (eq_ix2 _).trans (congrArg₂ ix2 (Fin.ext ?_) (Fin.ext ?_))
  · show r + 1 * i.val = r + i.val
    omega
  · show c + 1 * j.val = c + j.val
    omega

/-- Which places a rectangle holds. -/
theorem mem2 {a b a' b' : ℕ} (r c : ℕ) (inb) (i : Fin a) (j : Fin b) (hr : r ≤ i.val ∧ i.val < r + a') (hc : c ≤ j.val ∧ j.val < c + b') :
    ix2 i j ∈ (Rect.unit (s := ⟨2, ![a, b]⟩) ![r, c] ![a', b'] inb).set :=
  Rect.mem_set_unit.mpr (Fin.forall_fin_two.mpr ⟨hr, hc⟩)

/-- Token `t` of the image of row `i`. -/
def tok (i : Fin 256) (t : Fin 32) : Fin 256 := ⟨i.val / 32 * 32 + t.val, by omega⟩

/-- Self-attention of every row over its image's rows. -/
def selfAll (q k v : FVec Ideal S256x768 .bf16) : FVec Ideal S256x768 .bf16 := fun y =>
  Spec.attend (fun c => q (ix2 (y 0) c)) (fun t c => k (ix2 (tok (y 0) t) c)) (fun t c => v (ix2 (tok (y 0) t) c)) (y 1)

/-- A slice read at an index. -/
theorem slice2 {a b a' b' : ℕ} {α : Type} (r c : ℕ) (q : (⟨2, ![a, b]⟩ : Shape).Idx → α) (hs) (i : Fin a') (j : Fin b') (hr : r + i.val < a) (hc : c + j.val < b) :
    extractStridedSlice ⟨2, ![a', b']⟩ ![r, c] q hs (ix2 i j) = q (ix2 ⟨r + i.val, hr⟩ ⟨c + j.val, hc⟩) :=
  congrArg q ((eq_ix2 _).trans (congrArg₂ ix2 (Fin.ext rfl) (Fin.ext rfl)))

/-- The tile at rows from `r` and columns from `c`. -/
def selfT (r c : ℕ) (hs : S256x768.Slices ![r, c] S128x128) (q k v : FVec Ideal S256x768 .bf16) : FVec Ideal S128x128 .bf16 :=
  selfTile v70 (extractStridedSlice S128x128 ![r, c] q hs) (extractStridedSlice S128x128 ![r, c] k hs) (extractStridedSlice S128x128 ![r, c] v hs)

/-- A tile holds its part of the attention. -/
theorem selfT_part (r c : ℕ) (hr : r = 0 ∨ r = 128) (hc : c + 128 ≤ 768) (hc' : c % 128 = 0) (q k v : FVec Ideal S256x768 .bf16) (hs) (inb)
    (x : S128x128.Idx) :
    selfT r c hs q k v x = selfAll q k v ((Rect.unit (s := S256x768) ![r, c] S128x128.size inb).emb x) := by
  obtain ⟨u, l, rfl⟩ : ∃ u l, x = ix2 u l := ⟨x 0, x 1, eq_ix2 x⟩
  refine (selfTile_at _ _ _ u l).trans ((congrArg (selfAll q k v) (emb2 (a := 256) (b := 768) (a' := 128) (b' := 128) r c inb u l (by omega) (by omega))).trans ?_).symm
  have e1 : ∀ t, (tok ⟨r + u.val, by omega⟩ t) = ⟨r + (mate u t).val, by omega⟩ := fun t => Fin.ext (by simp only [tok, mate]; omega)
  have e2 : ∀ d, (Spec.lane (Spec.head ⟨c + l.val, by omega⟩) d) = ⟨c + (mateLane l d).val, by omega⟩ := fun d => Fin.ext (by simp only [Spec.lane, Spec.head, mateLane]; omega)
  show ∑ t, v (ix2 (tok ⟨r + u.val, _⟩ t) ⟨c + l.val, _⟩) * Spec.soft (fun t => (∑ d, q (ix2 ⟨r + u.val, _⟩ (Spec.lane (Spec.head ⟨c + l.val, _⟩) d)) * k (ix2 (tok ⟨r + u.val, _⟩ t) (Spec.lane (Spec.head ⟨c + l.val, _⟩) d))) * Ideal.ofBits FTy.f32 0x3E000000#32) t = _
  simp only [e1, e2]
  refine Finset.sum_congr rfl fun t _ => congrArg₂ (· * ·) (slice2 r c v hs _ _ _ _).symm (congrFun (congrArg Spec.soft (funext fun t => congrArg (· * Ideal.ofBits FTy.f32 0x3E000000#32) (Finset.sum_congr rfl fun d _ => congrArg₂ (· * ·) (slice2 r c q hs _ _ _ _).symm (slice2 r c k hs _ _ _ _).symm))) t)

/-- Write 1 is a tile. -/
theorem selfPiece1 (X : Blk) : HS2_1 X = ⟨Rect.unit ![0, 0] S128x128.size inb_S256x768_S128x128_0_0, selfT 0 0 slices_S256x768_o0_0_S128x128 (v8 X) (v11 X) (v18 X)⟩ :: [] := rfl

/-- Write 2 is a tile. -/
theorem selfPiece2 (X : Blk) : HS2_2 X = ⟨Rect.unit ![0, 128] S128x128.size inb_S256x768_S128x128_0_128, selfT 0 128 slices_S256x768_o0_128_S128x128 (v8 X) (v11 X) (v18 X)⟩ :: HS2_1 X := rfl

/-- Write 3 is a tile. -/
theorem selfPiece3 (X : Blk) : HS2_3 X = ⟨Rect.unit ![0, 256] S128x128.size inb_S256x768_S128x128_0_256, selfT 0 256 slices_S256x768_o0_256_S128x128 (v8 X) (v11 X) (v18 X)⟩ :: HS2_2 X := rfl

/-- Write 4 is a tile. -/
theorem selfPiece4 (X : Blk) : HS2_4 X = ⟨Rect.unit ![0, 384] S128x128.size inb_S256x768_S128x128_0_384, selfT 0 384 slices_S256x768_o0_384_S128x128 (v8 X) (v11 X) (v18 X)⟩ :: HS2_3 X := rfl

/-- Write 5 is a tile. -/
theorem selfPiece5 (X : Blk) : HS2_5 X = ⟨Rect.unit ![0, 512] S128x128.size inb_S256x768_S128x128_0_512, selfT 0 512 slices_S256x768_o0_512_S128x128 (v8 X) (v11 X) (v18 X)⟩ :: HS2_4 X := rfl

/-- Write 6 is a tile. -/
theorem selfPiece6 (X : Blk) : HS2_6 X = ⟨Rect.unit ![0, 640] S128x128.size inb_S256x768_S128x128_0_640, selfT 0 640 slices_S256x768_o0_640_S128x128 (v8 X) (v11 X) (v18 X)⟩ :: HS2_5 X := rfl

/-- Write 7 is a tile. -/
theorem selfPiece7 (X : Blk) : HS2_7 X = ⟨Rect.unit ![128, 0] S128x128.size inb_S256x768_S128x128_128_0, selfT 128 0 slices_S256x768_o128_0_S128x128 (v8 X) (v11 X) (v18 X)⟩ :: HS2_6 X := rfl

/-- Write 8 is a tile. -/
theorem selfPiece8 (X : Blk) : HS2_8 X = ⟨Rect.unit ![128, 128] S128x128.size inb_S256x768_S128x128_128_128, selfT 128 128 slices_S256x768_o128_128_S128x128 (v8 X) (v11 X) (v18 X)⟩ :: HS2_7 X := rfl

/-- Write 9 is a tile. -/
theorem selfPiece9 (X : Blk) : HS2_9 X = ⟨Rect.unit ![128, 256] S128x128.size inb_S256x768_S128x128_128_256, selfT 128 256 slices_S256x768_o128_256_S128x128 (v8 X) (v11 X) (v18 X)⟩ :: HS2_8 X := rfl

/-- Write 10 is a tile. -/
theorem selfPiece10 (X : Blk) : HS2_10 X = ⟨Rect.unit ![128, 384] S128x128.size inb_S256x768_S128x128_128_384, selfT 128 384 slices_S256x768_o128_384_S128x128 (v8 X) (v11 X) (v18 X)⟩ :: HS2_9 X := rfl

/-- Write 11 is a tile. -/
theorem selfPiece11 (X : Blk) : HS2_11 X = ⟨Rect.unit ![128, 512] S128x128.size inb_S256x768_S128x128_128_512, selfT 128 512 slices_S256x768_o128_512_S128x128 (v8 X) (v11 X) (v18 X)⟩ :: HS2_10 X := rfl

/-- Write 12 is a tile. -/
theorem selfPiece12 (X : Blk) : HS2_12 X = ⟨Rect.unit ![128, 640] S128x128.size inb_S256x768_S128x128_128_640, selfT 128 640 slices_S256x768_o128_640_S128x128 (v8 X) (v11 X) (v18 X)⟩ :: HS2_11 X := rfl

/-- The writes together hold the attention. -/
theorem selfPieces_at (X : Blk) (i : Fin 256) (j : Fin 768) : View.canon (HS2_12 X) (ix2 i j) = selfAll (v8 X) (v11 X) (v18 X) (ix2 i j) := by
  rw [selfPiece12]
  refine canon_step (s := S256x768) (e := .bf16) (Rect.unit ![128, 640] S128x128.size inb_S256x768_S128x128_128_640) _ _ (selfAll (v8 X) (v11 X) (v18 X)) _ (selfT_part 128 640 (by omega) (by omega) (by omega) _ _ _ _ _) fun h12 => ?_
  have g12 : ¬((128 ≤ i.val ∧ i.val < 128 + 128) ∧ (640 ≤ j.val ∧ j.val < 640 + 128)) := fun g => h12 (mem2 128 640 _ i j g.1 g.2)
  rw [selfPiece11]
  refine canon_step (s := S256x768) (e := .bf16) (Rect.unit ![128, 512] S128x128.size inb_S256x768_S128x128_128_512) _ _ (selfAll (v8 X) (v11 X) (v18 X)) _ (selfT_part 128 512 (by omega) (by omega) (by omega) _ _ _ _ _) fun h11 => ?_
  have g11 : ¬((128 ≤ i.val ∧ i.val < 128 + 128) ∧ (512 ≤ j.val ∧ j.val < 512 + 128)) := fun g => h11 (mem2 128 512 _ i j g.1 g.2)
  rw [selfPiece10]
  refine canon_step (s := S256x768) (e := .bf16) (Rect.unit ![128, 384] S128x128.size inb_S256x768_S128x128_128_384) _ _ (selfAll (v8 X) (v11 X) (v18 X)) _ (selfT_part 128 384 (by omega) (by omega) (by omega) _ _ _ _ _) fun h10 => ?_
  have g10 : ¬((128 ≤ i.val ∧ i.val < 128 + 128) ∧ (384 ≤ j.val ∧ j.val < 384 + 128)) := fun g => h10 (mem2 128 384 _ i j g.1 g.2)
  rw [selfPiece9]
  refine canon_step (s := S256x768) (e := .bf16) (Rect.unit ![128, 256] S128x128.size inb_S256x768_S128x128_128_256) _ _ (selfAll (v8 X) (v11 X) (v18 X)) _ (selfT_part 128 256 (by omega) (by omega) (by omega) _ _ _ _ _) fun h9 => ?_
  have g9 : ¬((128 ≤ i.val ∧ i.val < 128 + 128) ∧ (256 ≤ j.val ∧ j.val < 256 + 128)) := fun g => h9 (mem2 128 256 _ i j g.1 g.2)
  rw [selfPiece8]
  refine canon_step (s := S256x768) (e := .bf16) (Rect.unit ![128, 128] S128x128.size inb_S256x768_S128x128_128_128) _ _ (selfAll (v8 X) (v11 X) (v18 X)) _ (selfT_part 128 128 (by omega) (by omega) (by omega) _ _ _ _ _) fun h8 => ?_
  have g8 : ¬((128 ≤ i.val ∧ i.val < 128 + 128) ∧ (128 ≤ j.val ∧ j.val < 128 + 128)) := fun g => h8 (mem2 128 128 _ i j g.1 g.2)
  rw [selfPiece7]
  refine canon_step (s := S256x768) (e := .bf16) (Rect.unit ![128, 0] S128x128.size inb_S256x768_S128x128_128_0) _ _ (selfAll (v8 X) (v11 X) (v18 X)) _ (selfT_part 128 0 (by omega) (by omega) (by omega) _ _ _ _ _) fun h7 => ?_
  have g7 : ¬((128 ≤ i.val ∧ i.val < 128 + 128) ∧ (0 ≤ j.val ∧ j.val < 0 + 128)) := fun g => h7 (mem2 128 0 _ i j g.1 g.2)
  rw [selfPiece6]
  refine canon_step (s := S256x768) (e := .bf16) (Rect.unit ![0, 640] S128x128.size inb_S256x768_S128x128_0_640) _ _ (selfAll (v8 X) (v11 X) (v18 X)) _ (selfT_part 0 640 (by omega) (by omega) (by omega) _ _ _ _ _) fun h6 => ?_
  have g6 : ¬((0 ≤ i.val ∧ i.val < 0 + 128) ∧ (640 ≤ j.val ∧ j.val < 640 + 128)) := fun g => h6 (mem2 0 640 _ i j g.1 g.2)
  rw [selfPiece5]
  refine canon_step (s := S256x768) (e := .bf16) (Rect.unit ![0, 512] S128x128.size inb_S256x768_S128x128_0_512) _ _ (selfAll (v8 X) (v11 X) (v18 X)) _ (selfT_part 0 512 (by omega) (by omega) (by omega) _ _ _ _ _) fun h5 => ?_
  have g5 : ¬((0 ≤ i.val ∧ i.val < 0 + 128) ∧ (512 ≤ j.val ∧ j.val < 512 + 128)) := fun g => h5 (mem2 0 512 _ i j g.1 g.2)
  rw [selfPiece4]
  refine canon_step (s := S256x768) (e := .bf16) (Rect.unit ![0, 384] S128x128.size inb_S256x768_S128x128_0_384) _ _ (selfAll (v8 X) (v11 X) (v18 X)) _ (selfT_part 0 384 (by omega) (by omega) (by omega) _ _ _ _ _) fun h4 => ?_
  have g4 : ¬((0 ≤ i.val ∧ i.val < 0 + 128) ∧ (384 ≤ j.val ∧ j.val < 384 + 128)) := fun g => h4 (mem2 0 384 _ i j g.1 g.2)
  rw [selfPiece3]
  refine canon_step (s := S256x768) (e := .bf16) (Rect.unit ![0, 256] S128x128.size inb_S256x768_S128x128_0_256) _ _ (selfAll (v8 X) (v11 X) (v18 X)) _ (selfT_part 0 256 (by omega) (by omega) (by omega) _ _ _ _ _) fun h3 => ?_
  have g3 : ¬((0 ≤ i.val ∧ i.val < 0 + 128) ∧ (256 ≤ j.val ∧ j.val < 256 + 128)) := fun g => h3 (mem2 0 256 _ i j g.1 g.2)
  rw [selfPiece2]
  refine canon_step (s := S256x768) (e := .bf16) (Rect.unit ![0, 128] S128x128.size inb_S256x768_S128x128_0_128) _ _ (selfAll (v8 X) (v11 X) (v18 X)) _ (selfT_part 0 128 (by omega) (by omega) (by omega) _ _ _ _ _) fun h2 => ?_
  have g2 : ¬((0 ≤ i.val ∧ i.val < 0 + 128) ∧ (128 ≤ j.val ∧ j.val < 128 + 128)) := fun g => h2 (mem2 0 128 _ i j g.1 g.2)
  rw [selfPiece1]
  refine canon_step (s := S256x768) (e := .bf16) (Rect.unit ![0, 0] S128x128.size inb_S256x768_S128x128_0_0) _ _ (selfAll (v8 X) (v11 X) (v18 X)) _ (selfT_part 0 0 (by omega) (by omega) (by omega) _ _ _ _ _) fun h1 => ?_
  have g1 : ¬((0 ≤ i.val ∧ i.val < 0 + 128) ∧ (0 ≤ j.val ∧ j.val < 0 + 128)) := fun g => h1 (mem2 0 0 _ i j g.1 g.2)
  omega

end Cert.KernelIdeal.Model

end
-- ==== Proof.Value.BlkRows.lean ====
/- The kernel's rows up to the queries of cross-attention. -/
module

public import proofs.«01_k».proof.Proof.Value.SelfAttn

@[expose] public section

set_option maxHeartbeats 4000000

noncomputable section

namespace Cert.KernelIdeal.Model

open Cert.KernelIdeal.Gen Cert.KernelIdeal.Run
open Idealize.ShloMosaic Idealize.ShloMosaic.TcCoe

/-- The row of token `s` of image `b` of a block. -/
def row (b : Fin 8) (s : Fin 32) : Fin 256 := ⟨32 * b.val + s.val, by omega⟩

/-- Image `b` of the blocks. -/
def imgOf (X : Blk) (b : Fin 8) : Spec.Image where
  x s j := X.x0 (ix2 (row b s) j)
  img t l := X.x1 (ix3 b t l)
  ts t := X.x2 (ix2 b t)

/-- The weights of the blocks. -/
def wOf (X : Blk) : Spec.Weights where
  sq l j := X.x3 (ix2 l j)
  sk l j := X.x4 (ix2 l j)
  sv l j := X.x5 (ix2 l j)
  so l j := X.x6 (ix2 l j)
  bsq j := X.x7 (ix2 0 j)
  bsv j := X.x8 (ix2 0 j)
  bso j := X.x9 (ix2 0 j)
  g1 j := X.x10 (ix2 0 j)
  b1 j := X.x11 (ix2 0 j)
  cq l j := X.x12 (ix2 l j)
  co l j := X.x13 (ix2 l j)
  bcq j := X.x14 (ix2 0 j)
  bco j := X.x15 (ix2 0 j)
  ck l j := X.x16 (ix2 j l)
  cv l j := X.x17 (ix2 l j)
  sck j := X.x18 (ix2 j 0)
  scv j := X.x19 (ix2 0 j)
  bcv j := X.x20 (ix2 0 j)
  g2 j := X.x21 (ix2 0 j)
  b2 j := X.x22 (ix2 0 j)
  ff1 l j := X.x23 (ix2 l j)
  sff1 j := X.x24 (ix2 0 j)
  bff1 j := X.x25 (ix2 0 j)
  ff2 l j := X.x26 (ix2 l j)
  sff2 j := X.x27 (ix2 0 j)
  bff2 j := X.x28 (ix2 0 j)
  g3 j := X.x29 (ix2 0 j)
  b3 j := X.x30 (ix2 0 j)

/-- The queries of self-attention. -/
theorem pay3_at (a : Vec Ideal S256x768 .bf16) (w : Vec Ideal S768x768 .bf16) (c : Vec Ideal S1x768 .f32) (i : Fin 256) (j : Fin 768) :
    k0_pay3 a w c (ix2 i j) = Spec.lin (fun l => a (ix2 i l)) (fun l j => w (ix2 l j)) j + c (ix2 0 j) := by
  pointwise [k0_pay3, k0_pay2]
  rfl

/-- The keys of self-attention. -/
theorem pay4_at (a : Vec Ideal S256x768 .bf16) (w : Vec Ideal S768x768 .bf16) (i : Fin 256) (j : Fin 768) :
    k0_pay4 a w (ix2 i j) = Spec.lin (fun l => a (ix2 i l)) (fun l j => w (ix2 l j)) j := by
  pointwise [k0_pay4, k0_pay2]
  rfl

/-- The values of self-attention. -/
theorem pay5_at (a : Vec Ideal S256x768 .bf16) (w : Vec Ideal S768x768 .bf16) (c : Vec Ideal S1x768 .f32) (i : Fin 256) (j : Fin 768) :
    k0_pay5 a w c (ix2 i j) = Spec.lin (fun l => a (ix2 i l)) (fun l j => w (ix2 l j)) j + c (ix2 0 j) := by
  pointwise [k0_pay5, k0_pay2]
  rfl

/-- The rows after self-attention. -/
theorem pay54_at (a o : Vec Ideal S256x768 .bf16) (w : Vec Ideal S768x768 .bf16) (c g b : Vec Ideal S1x768 .f32) (i : Fin 256) (j : Fin 768) :
    k0_pay54 a o w c g b (ix2 i j) = Spec.norm (fun j => a (ix2 i j) + (Spec.lin (fun l => o (ix2 i l)) (fun l j => w (ix2 l j)) j + c (ix2 0 j)))
      (fun j => g (ix2 0 j)) (fun j => b (ix2 0 j)) j := by
  pointwise [k0_pay54]
  rfl

/-- The same rows, as stored. -/
theorem pay55_at (a o : Vec Ideal S256x768 .bf16) (w : Vec Ideal S768x768 .bf16) (c g b : Vec Ideal S1x768 .f32) (i : Fin 256) (j : Fin 768) :
    k0_pay55 a o w c g b (ix2 i j) = k0_pay54 a o w c g b (ix2 i j) := by
  pointwise [k0_pay55]

/-- The queries of cross-attention. -/
theorem pay56_at (a : Vec Ideal S256x768 .f32) (w : Vec Ideal S768x768 .bf16) (c : Vec Ideal S1x768 .f32) (i : Fin 256) (j : Fin 768) :
    k0_pay56 a w c (ix2 i j) = Spec.lin (fun l => a (ix2 i l)) (fun l j => w (ix2 l j)) j + c (ix2 0 j) := by
  pointwise [k0_pay56]
  rfl

theorem tok_row (b : Fin 8) (s t : Fin 32) : tok (row b s) t = row b t := Fin.ext (by simp only [tok, row]; omega)

/-- Every row is a token of an image. -/
theorem exists_row (i : Fin 256) : ∃ b s, i = row b s :=
  ⟨⟨i.val / 32, by omega⟩, ⟨i.val % 32, by omega⟩, Fin.ext (by simp only [row]; omega)⟩

theorem v8_at (X : Blk) (b : Fin 8) (s : Fin 32) (j : Fin 768) : v8 X (ix2 (row b s) j) = Spec.q (wOf X) (imgOf X b) s j := pay3_at _ _ _ _ _
theorem v11_at (X : Blk) (b : Fin 8) (s : Fin 32) (j : Fin 768) : v11 X (ix2 (row b s) j) = Spec.k (wOf X) (imgOf X b) s j := pay4_at _ _ _ _
theorem v18_at (X : Blk) (b : Fin 8) (s : Fin 32) (j : Fin 768) : v18 X (ix2 (row b s) j) = Spec.v (wOf X) (imgOf X b) s j := pay5_at _ _ _ _ _

theorem v1_at (X : Blk) (i : Fin 256) (j : Fin 768) : v1 X (ix2 i j) = X.x0 (ix2 i j) := by pointwise [v1, k0_pay2]

theorem zero2 : (![0, 0] : Fin 2 → ℕ) = fun _ => 0 := by funext a; fin_cases a <;> rfl

/-- The heads' results together. -/
theorem v623_at (X : Blk) (b : Fin 8) (s : Fin 32) (j : Fin 768) :
    v623 X (ix2 (row b s) j) = Spec.attend (Spec.q (wOf X) (imgOf X b) s) (Spec.k (wOf X) (imgOf X b)) (Spec.v (wOf X) (imgOf X b)) j := by
  have e : v623 X = View.canon (HS2_12 X) := View.ld_unit_zero (S := S256x768) zero2 inb_S256x768_S256x768_0_0 (View.canon (HS2_12 X))
  rw [e, selfPieces_at]
  show Spec.attend (fun c => v8 X (ix2 (row b s) c)) (fun t c => v11 X (ix2 (tok (row b s) t) c)) (fun t c => v18 X (ix2 (tok (row b s) t) c)) j = _
  simp only [tok_row, v8_at, v11_at, v18_at]

/-- The rows after self-attention. -/
theorem v655_at (X : Blk) (b : Fin 8) (s : Fin 32) (j : Fin 768) : v655 X (ix2 (row b s) j) = Spec.h1 (wOf X) (imgOf X b) s j := by
  rw [v655, pay54_at]
  simp only [v623_at, v1_at]
  rfl

/-- The same rows, from where they were stored. -/
theorem v2537_at (X : Blk) (b : Fin 8) (s : Fin 32) (j : Fin 768) : v2537 X (ix2 (row b s) j) = Spec.h1 (wOf X) (imgOf X b) s j := by
  have e : v2537 X = k0_pay55 (v1 X) (v623 X) X.x6 X.x9 X.x10 X.x11 :=
    (View.ld_unit_zero (S := S256x768) zero2 inb_S256x768_S256x768_0_0 (View.canon (HS0_1 X))).trans (View.canon_unit_zero (S := S256x768) zero2 inb_S256x768_S256x768_0_0 _)
  rw [e, pay55_at]
  exact v655_at X b s j

/-- The stored queries of cross-attention. -/
def cqs (X : Blk) : FVec Ideal S256x768 .bf16 := k0_pay56 (v655 X) X.x12 X.x14

theorem HS1_canon (X : Blk) : View.canon (HS1_1 X) = cqs X := View.canon_unit_zero (S := S256x768) zero2 inb_S256x768_S256x768_0_0 _

theorem cqs_at (X : Blk) (b : Fin 8) (s : Fin 32) (j : Fin 768) : cqs X (ix2 (row b s) j) = Spec.cq (wOf X) (imgOf X b) s j := by
  rw [cqs, pay56_at]
  simp only [v655_at]
  rfl

end Cert.KernelIdeal.Model

end
-- ==== Proof.Value.CrossTile.lean ====
/- One cross-attention tile: one image and four heads at a time. -/
module

public import proofs.«01_k».proof.Proof.Value.Model
public import proofs.«01_k».proof.Proof.Value.Soft
public import Idealize.ShloMosaic.Lib.Pointwise

@[expose] public section

noncomputable section

namespace Cert.KernelIdeal.Model

open Cert.KernelIdeal.Gen Cert.KernelIdeal.Run
open Idealize.ShloMosaic Idealize.ShloMosaic.TcCoe

/-- The lanes from `a` to `b` of the query rows alone. -/
def pickQ (q : FVec Ideal S32x256 .bf16) (a b : BitVec 32) : FVec Ideal S32x256 .bf16 :=
  select (andi (cmpi .sge (iota .tc S32x256 32 [1] iota_S32x256_d1_w32) (broadcast S32x256 a)) (cmpi .slt (iota .tc S32x256 32 [1] iota_S32x256_d1_w32) (broadcast S32x256 b)))
    q (broadcast S32x256 (Scalar.ofBits .bf16 0x0000#16))

/-- The query rows four times, each head's lanes alone. -/
def stackX (q : FVec Ideal S32x256 .bf16) : FVec Ideal S128x256 .bf16 :=
  concatenate S128x256 0 [⟨S32x256, pickQ q 0#32 64#32⟩, ⟨S32x256, pickQ q 64#32 128#32⟩, ⟨S32x256, pickQ q 128#32 192#32⟩, ⟨S32x256, pickQ q 192#32 256#32⟩]
    concatenates_S32x256_S32x256_S32x256_S32x256_S128x256_d0

/-- The masked scores. -/
def crossScores (a : FVec Ideal S128x256 .bf16) (k : FVec Ideal S256x640 .bf16) : FVec Ideal S128x640 .f32 :=
  select k0_pay58 (matmul dot_S128x256_S256x640_S128x640_1_0_0_1_n_n none a k (constant S128x640 .f32 0x00000000#32))
    (broadcast S128x640 (Scalar.ofBits .f32 0xFF800000#32))

/-- The probabilities of rows of scores. -/
def crossSoft (s : FVec Ideal S128x640 .f32) : FVec Ideal S128x640 .bf16 :=
  have v747 : FVec Ideal S128 .f32 := multiReduction .maximumf [1] S128 s 0xFF800000#32 reduces_S128x640_S128 (.inl rfl) rfl
  have v748 : FVec Ideal S128x1 .f32 := shapeCast S128x1 v747 shapeCasts_S128_S128x1
  have v749 : FVec Ideal S128x640 .f32 := broadcastTo S128x640 v748 broadcasts_S128x1_S128x640
  have v750 : FVec Ideal S128x640 .f32 := subf s v749
  have v751 : FVec Ideal S128x640 .f32 := broadcast S128x640 (Scalar.ofBits .f32 0x3E000000#32)
  have v752 : FVec Ideal S128x640 .f32 := mulf v750 v751
  have v753 : FVec Ideal S128x640 .f32 := exp v752
  have v754 : FVec Ideal S128 .f32 := multiReduction .add [1] S128 v753 0x00000000#32 reduces_S128x640_S128 (.inl rfl) rfl
  have v755 : FVec Ideal S128x1 .f32 := shapeCast S128x1 v754 shapeCasts_S128_S128x1
  have v756 : FVec Ideal S128x1 .f32 := broadcast S128x1 (Scalar.ofBits .f32 0x3F800000#32)
  have v757 : FVec Ideal S128x1 .f32 := divf v756 v755
  have v758 : FVec Ideal S128x640 .f32 := broadcastTo S128x640 v757 broadcasts_S128x1_S128x640
  have v759 : FVec Ideal S128x640 .f32 := mulf v753 v758
  truncf .bf16 v759 bitsLt_bf16_f32

/-- Each lane from its head's rows. -/
def unstackX (v762 : FVec Ideal S128x256 .f32) : FVec Ideal S32x256 .bf16 :=
  have v763 : IVec S32x256 32 := iota .tc S32x256 32 [1] iota_S32x256_d1_w32
  have v764 : FVec Ideal S32x256 .f32 := extractStridedSlice S32x256 ![0, 0] v762 slices_S128x256_o0_0_S32x256
  have v766 : IVec S32x256 1 := cmpi .sge v763 (broadcast S32x256 64#32)
  have v767 : FVec Ideal S32x256 .f32 := extractStridedSlice S32x256 ![32, 0] v762 slices_S128x256_o32_0_S32x256
  have v768 : FVec Ideal S32x256 .f32 := select v766 v767 v764
  have v770 : IVec S32x256 1 := cmpi .sge v763 (broadcast S32x256 128#32)
  have v771 : FVec Ideal S32x256 .f32 := extractStridedSlice S32x256 ![64, 0] v762 slices_S128x256_o64_0_S32x256
  have v772 : FVec Ideal S32x256 .f32 := select v770 v771 v768
  have v774 : IVec S32x256 1 := cmpi .sge v763 (broadcast S32x256 192#32)
  have v775 : FVec Ideal S32x256 .f32 := extractStridedSlice S32x256 ![96, 0] v762 slices_S128x256_o96_0_S32x256
  have v776 : FVec Ideal S32x256 .f32 := select v774 v775 v772
  have v777 : FVec Ideal S32x256 .bf16 := truncf .bf16 v776 bitsLt_bf16_f32
  shapeCast S32x256 v777 shapeCasts_S32x256_S32x256

/-- The probabilities against the values. -/
def crossValues (p : FVec Ideal S128x640 .bf16) (v : FVec Ideal S640x256 .bf16) : FVec Ideal S128x256 .f32 :=
  matmul dot_S128x640_S640x256_S128x256_1_0_0_1_n_n none p v (constant S128x256 .f32 0x00000000#32)

/-- One tile. -/
def crossTile (q : FVec Ideal S32x256 .bf16) (k : FVec Ideal S256x640 .bf16) (v : FVec Ideal S640x256 .bf16) : FVec Ideal S32x256 .bf16 :=
  unstackX (crossValues (crossSoft (crossScores (stackX q) k)) v)

theorem xge0 : ∀ j : Fin 256, IntOp.cmpi CmpIPredicate.sge (BitVec.ofNat 32 j.val) 0#32 = 1#1 := by decide +kernel
theorem xge64 : ∀ j : Fin 256, IntOp.cmpi CmpIPredicate.sge (BitVec.ofNat 32 j.val) 64#32 = if 1 ≤ j.val / 64 then 1#1 else 0#1 := by decide +kernel
theorem xge128 : ∀ j : Fin 256, IntOp.cmpi CmpIPredicate.sge (BitVec.ofNat 32 j.val) 128#32 = if 2 ≤ j.val / 64 then 1#1 else 0#1 := by decide +kernel
theorem xge192 : ∀ j : Fin 256, IntOp.cmpi CmpIPredicate.sge (BitVec.ofNat 32 j.val) 192#32 = if 3 ≤ j.val / 64 then 1#1 else 0#1 := by decide +kernel
theorem xin0 : ∀ j : Fin 256, IntOp.andi (IntOp.cmpi CmpIPredicate.sge (BitVec.ofNat 32 j.val) 0#32) (IntOp.cmpi CmpIPredicate.slt (BitVec.ofNat 32 j.val) 64#32)
    = if j.val / 64 = 0 then 1#1 else 0#1 := by decide +kernel
theorem xin1 : ∀ j : Fin 256, IntOp.andi (IntOp.cmpi CmpIPredicate.sge (BitVec.ofNat 32 j.val) 64#32) (IntOp.cmpi CmpIPredicate.slt (BitVec.ofNat 32 j.val) 128#32)
    = if j.val / 64 = 1 then 1#1 else 0#1 := by decide +kernel
theorem xin2 : ∀ j : Fin 256, IntOp.andi (IntOp.cmpi CmpIPredicate.sge (BitVec.ofNat 32 j.val) 128#32) (IntOp.cmpi CmpIPredicate.slt (BitVec.ofNat 32 j.val) 192#32)
    = if j.val / 64 = 2 then 1#1 else 0#1 := by decide +kernel
theorem xin3 : ∀ j : Fin 256, IntOp.andi (IntOp.cmpi CmpIPredicate.sge (BitVec.ofNat 32 j.val) 192#32) (IntOp.cmpi CmpIPredicate.slt (BitVec.ofNat 32 j.val) 256#32)
    = if j.val / 64 = 3 then 1#1 else 0#1 := by decide +kernel
theorem live : ∀ j : Fin 640, IntOp.cmpi CmpIPredicate.slt (BitVec.ofNat 32 j.val) 577#32 = if j.val < 577 then 1#1 else 0#1 := by decide +kernel

theorem xsel1 {α : Type} (a b : α) : Scalar.select 1#1 a b = a := rfl
theorem xsel0 {α : Type} (a b : α) : Scalar.select 0#1 a b = b := rfl

/-- The row of quarter `h` for row `u`. -/
def quarter (h : Fin 4) (u : Fin 32) : Fin 128 := ⟨h.val * 32 + u.val, by omega⟩

theorem pickQ_at (q : FVec Ideal S32x256 .bf16) (a b : BitVec 32) (u : Fin 32) (l : Fin 256) :
    pickQ q a b (ix2 u l) = Scalar.select (IntOp.andi (IntOp.cmpi CmpIPredicate.sge (BitVec.ofNat 32 l.val) a) (IntOp.cmpi CmpIPredicate.slt (BitVec.ofNat 32 l.val) b)) (q (ix2 u l)) 0 := by
  pointwise [pickQ]

theorem stackX_at (q : FVec Ideal S32x256 .bf16) (h : Fin 4) (u : Fin 32) (l : Fin 256) :
    stackX q (ix2 (quarter h u) l) = if l.val / 64 = h.val then q (ix2 u l) else 0 := by
  pointwise [stackX]
  have hu := u.isLt
  obtain ⟨h, hh⟩ := h
  have hq : (quarter ⟨h, hh⟩ u).val = h * 32 + u.val := rfl
  rcases (by omega : h = 0 ∨ h = 1 ∨ h = 2 ∨ h = 3) with e | e | e | e <;> subst e
  · rw [dif_pos (by omega), pickQ_at, xin0]
    by_cases hl : l.val / 64 = 0
    · rw [if_pos hl, if_pos hl, xsel1]
      exact congrArg q (congrArg₂ ix2 (Fin.ext (by simp only [hq]; omega)) rfl)
    · rw [if_neg hl, if_neg hl, xsel0]
  · rw [dif_neg (by omega), dif_pos (by omega), pickQ_at, xin1]
    by_cases hl : l.val / 64 = 1
    · rw [if_pos hl, if_pos hl, xsel1]
      exact congrArg q (congrArg₂ ix2 (Fin.ext (by simp only [hq]; omega)) rfl)
    · rw [if_neg hl, if_neg hl, xsel0]
  · rw [dif_neg (by omega), dif_neg (by omega), dif_pos (by omega), pickQ_at, xin2]
    by_cases hl : l.val / 64 = 2
    · rw [if_pos hl, if_pos hl, xsel1]
      exact congrArg q (congrArg₂ ix2 (Fin.ext (by simp only [hq]; omega)) rfl)
    · rw [if_neg hl, if_neg hl, xsel0]
  · rw [dif_neg (by omega), dif_neg (by omega), dif_neg (by omega), pickQ_at, xin3]
    by_cases hl : l.val / 64 = 3
    · rw [if_pos hl, if_pos hl, xsel1]
      exact congrArg q (congrArg₂ ix2 (Fin.ext (by simp only [hq]; omega)) rfl)
    · rw [if_neg hl, if_neg hl, xsel0]

theorem crossScores_at (a : FVec Ideal S128x256 .bf16) (k : FVec Ideal S256x640 .bf16) (i : Fin 128) (t : Fin 640) :
    crossScores a k (ix2 i t) = Scalar.select (if t.val < 577 then 1#1 else 0#1) (∑ l, a (ix2 i l) * k (ix2 l t)) ⊥ := by
  rw [← Spec.ofBits_neg_inf, ← live]
  pointwise [crossScores, k0_pay58]

theorem crossSoft_at (s : FVec Ideal S128x640 .f32) (i : Fin 128) (t : Fin 640) :
    crossSoft s (ix2 i t) = Ideal.exp ((s (ix2 i t) - Spec.rowMax fun t => s (ix2 i t)) * Ideal.ofBits FTy.f32 0x3E000000#32)
        * Ideal.div 1 (∑ u, Ideal.exp ((s (ix2 i u) - Spec.rowMax fun t => s (ix2 i t)) * Ideal.ofBits FTy.f32 0x3E000000#32)) := by
  pointwise [crossSoft]
  rfl

theorem crossValues_at (p : FVec Ideal S128x640 .bf16) (v : FVec Ideal S640x256 .bf16) (i : Fin 128) (c : Fin 256) :
    crossValues p v (ix2 i c) = ∑ t, p (ix2 i t) * v (ix2 t c) := by
  pointwise [crossValues]

theorem unstackX_at (a : FVec Ideal S128x256 .f32) (h : Fin 4) (u : Fin 32) (c : Fin 256) (hc : c.val / 64 = h.val) :
    unstackX a (ix2 u c) = a (ix2 (quarter h u) c) := by
  pointwise [unstackX]
  rw [xge64, xge128, xge192, hc]
  obtain ⟨h, hh⟩ := h
  simp only [quarter]
  rcases (by omega : h = 0 ∨ h = 1 ∨ h = 2 ∨ h = 3) with e | e | e | e <;> subst e
  · exact congrArg a (congrArg₂ ix2 (Fin.ext (by simp)) rfl)
  · exact congrArg a (congrArg₂ ix2 (Fin.ext (by simp)) rfl)
  · exact congrArg a (congrArg₂ ix2 (Fin.ext (by simp)) rfl)
  · exact congrArg a (congrArg₂ ix2 (Fin.ext (by simp)) rfl)

/-- Lane `d` of the head of lane `c`. -/
def headLane (c : Fin 256) (d : Fin 64) : Fin 256 := ⟨c.val / 64 * 64 + d.val, by omega⟩

/-- Token `t` among the padded ones. -/
def padTok (t : Fin 577) : Fin 640 := ⟨t.val, by omega⟩

/-- A tile is attention over the image's tokens in each head. -/
theorem crossTile_at (q : FVec Ideal S32x256 .bf16) (k : FVec Ideal S256x640 .bf16) (v : FVec Ideal S640x256 .bf16) (u : Fin 32) (c : Fin 256) :
    crossTile q k v (ix2 u c) = ∑ t, v (ix2 (padTok t) c)
      * Spec.soft (fun t => (∑ d, q (ix2 u (headLane c d)) * k (ix2 (headLane c d) (padTok t))) * Ideal.ofBits FTy.f32 0x3E000000#32) t := by
  obtain ⟨h, hh⟩ : ∃ h : Fin 4, c.val / 64 = h.val := ⟨⟨c.val / 64, by omega⟩, rfl⟩
  rw [crossTile, unstackX_at _ h _ _ hh, crossValues_at]
  simp only [crossSoft_at]
  have hinj : Function.Injective padTok := fun a b e => Fin.ext (by have := congrArg Fin.val e; simpa only [padTok] using this)
  have linj : Function.Injective (headLane c) := fun a b e => Fin.ext (by have := congrArg Fin.val e; simp only [headLane] at this; omega)
  rw [Spec.soft_masked padTok hinj (fun t => crossScores (stackX q) k (ix2 (quarter h u) t)) (fun t => v (ix2 t c))]
  · refine Finset.sum_congr rfl fun t _ => ?_
    congr 2
    funext t
    congr 1
    rw [crossScores_at, if_pos (by simp only [padTok]; omega), xsel1]
    simp only [stackX_at]
    rw [Spec.sum_masked (headLane c) linj (fun l => if l.val / 64 = h.val then q (ix2 u l) else 0) (fun l => k (ix2 l (padTok t)))]
    · refine Finset.sum_congr rfl fun d _ => ?_
      rw [if_pos (by simp only [headLane]; omega)]
    · intro l hl
      refine if_neg fun e => hl ⟨⟨l.val % 64, by omega⟩, Fin.ext ?_⟩
      simp only [headLane]; omega
  · intro t ht
    rw [crossScores_at, if_neg, xsel0]
    exact fun e => ht ⟨⟨t.val, e⟩, Fin.ext rfl⟩

end Cert.KernelIdeal.Model

end
-- ==== Proof.Value.CrossRead.lean ====
/- What a cross-attention tile reads. -/
module

public import proofs.«01_k».proof.Proof.Value.BlkRows
public import proofs.«01_k».proof.Proof.Value.CrossTile

@[expose] public section

set_option maxHeartbeats 4000000

noncomputable section

namespace Cert.KernelIdeal.Model

open Cert.KernelIdeal.Gen Cert.KernelIdeal.Run
open Idealize.ShloMosaic Idealize.ShloMosaic.TcCoe

/-- Cross-attention of every row over its image's tokens. -/
def crossAll (X : Blk) : FVec Ideal S256x768 .bf16 := fun y =>
  Spec.attend (fun c => cqs X (ix2 (y 0) c)) (Spec.ck (wOf X) (imgOf X ⟨(y 0).val / 32, by have : (y 0).val < 256 := (y 0).isLt; omega⟩))
    (Spec.cv (wOf X) (imgOf X ⟨(y 0).val / 32, by have : (y 0).val < 256 := (y 0).isLt; omega⟩)) (y 1)

/-- A tile holds its part of the attention. -/
theorem crossTile_part (X : Blk) (b : Fin 8) (r c : ℕ) (hr : r = 32 * b.val) (hc : c + 256 ≤ 768) (hc' : c % 256 = 0)
    (q : FVec Ideal S32x256 .bf16) (k : FVec Ideal S256x640 .bf16) (v : FVec Ideal S640x256 .bf16)
    (hq : ∀ (u : Fin 32) (l : Fin 256), q (ix2 u l) = cqs X (ix2 ⟨r + u.val, by omega⟩ ⟨c + l.val, by omega⟩))
    (hk : ∀ (l : Fin 256) (t : Fin 577), k (ix2 l (padTok t)) = Spec.ck (wOf X) (imgOf X b) t ⟨c + l.val, by omega⟩)
    (hv : ∀ (t : Fin 577) (l : Fin 256), v (ix2 (padTok t) l) = Spec.cv (wOf X) (imgOf X b) t ⟨c + l.val, by omega⟩)
    (inb) (x : S32x256.Idx) :
    crossTile q k v x = crossAll X ((Rect.unit (s := S256x768) ![r, c] S32x256.size inb).emb x) := by
  obtain ⟨u, l, rfl⟩ : ∃ u l, x = ix2 u l := ⟨x 0, x 1, eq_ix2 x⟩
  refine (crossTile_at _ _ _ u l).trans ((congrArg (crossAll X) (emb2 (a := 256) (b := 768) (a' := 32) (b' := 256) r c inb u l (by omega) (by omega))).trans ?_).symm
  have eb : (⟨(r + u.val) / 32, by omega⟩ : Fin 8) = b := Fin.ext (by simp only []; omega)
  have e2 : ∀ d, (Spec.lane (Spec.head ⟨c + l.val, by omega⟩) d) = ⟨c + (headLane l d).val, by omega⟩ := fun d => Fin.ext (by simp only [Spec.lane, Spec.head, headLane]; omega)
  show Spec.attend (fun c => cqs X (ix2 ⟨r + u.val, _⟩ c)) (Spec.ck (wOf X) (imgOf X ⟨(r + u.val) / 32, _⟩)) (Spec.cv (wOf X) (imgOf X ⟨(r + u.val) / 32, _⟩)) ⟨c + l.val, _⟩ = _
  rw [eb]
  show ∑ t, Spec.cv (wOf X) (imgOf X b) t ⟨c + l.val, _⟩ * Spec.soft (fun t => (∑ d, cqs X (ix2 ⟨r + u.val, _⟩ (Spec.lane (Spec.head ⟨c + l.val, _⟩) d)) * Spec.ck (wOf X) (imgOf X b) t (Spec.lane (Spec.head ⟨c + l.val, _⟩) d)) * Ideal.ofBits FTy.f32 0x3E000000#32) t = _
  simp only [e2, hq, hk, hv]

/-- A keys' payload. -/
theorem pay80_at (a : Vec Ideal S1x577x1024 .fp8e4m3) (w : Vec Ideal S768x1024 .fp8e4m3) (ts : Vec Ideal S1x577 .f32) (sc : Vec Ideal S768x1 .f32)
    (i : Fin 768) (t : Fin 577) : k0_pay80 a w ts sc (ix2 i t) = (∑ l, w (ix2 i l) * a (ix3 0 t l)) * ts (ix2 0 t) * sc (ix2 i 0) := by
  pointwise [k0_pay80, k0_pay79]

/-- A values' payload. -/
theorem pay63_at (a : Vec Ideal S1x577x1024 .fp8e4m3) (w : Vec Ideal S1024x768 .fp8e4m3) (ts : Vec Ideal S577x1 .f32) (sc b : Vec Ideal S1x768 .f32)
    (t : Fin 577) (j : Fin 768) : k0_pay63 (k0_pay60 a) w ts sc b (ix2 t j) = (∑ l, a (ix3 0 t l) * w (ix2 l j)) * ts (ix2 t 0) * sc (ix2 0 j) + b (ix2 0 j) := by
  pointwise [k0_pay63, k0_pay60]

/-- The tokens of image `b`. -/
theorem img_ld (X : Blk) (b : Fin 8) (inb) (t : Fin 577) (l : Fin 1024) :
    View.ld X.x1 (Rect.unit (s := S8x577x1024) ![b.val, 0, 0] S1x577x1024.size inb) (ix3 0 t l) = (imgOf X b).img t l := by
  refine congrArg X.x1 ((eq_ix3 _).trans ?_)
  congr 1
  · exact Fin.ext (by show 0 + 1 * t.val = t.val; omega)
  · exact Fin.ext (by show 0 + 1 * l.val = l.val; omega)

/-- The scales of image `b`. -/
theorem ts_ld (X : Blk) (b : Fin 8) (inb) (t : Fin 577) :
    View.ld X.x2 (Rect.unit (s := S8x577) ![b.val, 0] S1x577.size inb) (ix2 0 t) = (imgOf X b).ts t := by
  refine congrArg X.x2 ((eq_ix2 _).trans (congrArg₂ ix2 ?_ ?_))
  · exact Fin.ext (by show b.val + 1 * 0 = b.val; omega)
  · exact Fin.ext (by show 0 + 1 * t.val = t.val; omega)

/-- The transposed scales. -/
theorem pay57_at (x : Vec Ideal S8x577 .f32) (t : Fin 577) (b : Fin 8) : k0_pay57 x (ix2 t b) = x (ix2 b t) := by
  pointwise [k0_pay57]

/-- A column of the transposed scales. -/
theorem col_ld (X : Blk) (b : Fin 8) (inb) (t : Fin 577) :
    cov (HS5_1 X) (Rect.unit (s := S577x8) ![0, b.val] S577x1.size inb) (ix2 t 0) = (imgOf X b).ts t := by
  have e : View.canon (HS5_1 X) = k0_pay57 X.x2 := View.canon_unit_zero (S := S577x8) zero2 inb_S577x8_S577x8_0_0 _
  rw [cov, e]
  refine (congrArg (k0_pay57 X.x2) (show _ = ix2 t b from (eq_ix2 _).trans (congrArg₂ ix2 ?_ ?_))).trans (pay57_at _ _ _)
  · exact Fin.ext (by show 0 + 1 * t.val = t.val; omega)
  · exact Fin.ext (by show b.val + 1 * 0 = b.val; omega)

/-- The keys of image `b`, transposed. -/
def keysT (X : Blk) (b : Fin 8) (ha : ∀ a, (![b.val, 0, 0] : Fin 3 → ℕ) a + S1x577x1024.size a ≤ S8x577x1024.size a) (hb : ∀ a, (![b.val, 0] : Fin 2 → ℕ) a + S1x577.size a ≤ S8x577.size a) : FVec Ideal S768x577 .bf16 :=
  k0_pay80 (View.ld X.x1 (Rect.unit (s := S8x577x1024) ![b.val, 0, 0] S1x577x1024.size ha)) X.x16 (View.ld X.x2 (Rect.unit (s := S8x577) ![b.val, 0] S1x577.size hb)) X.x18

/-- The values of image `b`. -/
def vals (X : Blk) (b : Fin 8) (ha : ∀ a, (![b.val, 0, 0] : Fin 3 → ℕ) a + S1x577x1024.size a ≤ S8x577x1024.size a) (hb : ∀ a, (![0, b.val] : Fin 2 → ℕ) a + S577x1.size a ≤ S577x8.size a) : FVec Ideal S577x768 .bf16 :=
  k0_pay63 (k0_pay60 (View.ld X.x1 (Rect.unit (s := S8x577x1024) ![b.val, 0, 0] S1x577x1024.size ha))) X.x17 (cov (HS5_1 X) (Rect.unit (s := S577x8) ![0, b.val] S577x1.size hb)) X.x19 X.x20

theorem keysT_at (X : Blk) (b : Fin 8) (ha : ∀ a, (![b.val, 0, 0] : Fin 3 → ℕ) a + S1x577x1024.size a ≤ S8x577x1024.size a) (hb : ∀ a, (![b.val, 0] : Fin 2 → ℕ) a + S1x577.size a ≤ S8x577.size a) (i : Fin 768) (t : Fin 577) : keysT X b ha hb (ix2 i t) = Spec.ck (wOf X) (imgOf X b) t i := by
  rw [keysT, pay80_at, ts_ld]
  exact congrArg (· * (wOf X).sck i) (congrArg (· * (imgOf X b).ts t) (Finset.sum_congr rfl fun l _ =>
    (mul_comm _ _).trans (congrArg (· * (wOf X).ck l i) (img_ld X b ha t l))))

theorem vals_at (X : Blk) (b : Fin 8) (ha : ∀ a, (![b.val, 0, 0] : Fin 3 → ℕ) a + S1x577x1024.size a ≤ S8x577x1024.size a) (hb : ∀ a, (![0, b.val] : Fin 2 → ℕ) a + S577x1.size a ≤ S577x8.size a) (t : Fin 577) (j : Fin 768) : vals X b ha hb (ix2 t j) = Spec.cv (wOf X) (imgOf X b) t j := by
  rw [vals, pay63_at, col_ld]
  exact congrArg (fun z : EReal => z * (imgOf X b).ts t * (wOf X).scv j + (wOf X).bcv j) (Finset.sum_congr rfl fun l _ =>
    congrArg (· * (wOf X).cv l j) (img_ld X b ha t l))

/-- The queries a tile reads. -/
theorem q_ld (X : Blk) (r c : ℕ) (inb) (u : Fin 32) (l : Fin 256) (hr : r + u.val < 256) (hc : c + l.val < 768) :
    cov (HS1_1 X) (Rect.unit (s := S256x768) ![r, c] S32x256.size inb) (ix2 u l) = cqs X (ix2 ⟨r + u.val, hr⟩ ⟨c + l.val, hc⟩) := by
  rw [cov, HS1_canon]
  exact congrArg (cqs X) (emb2 (a := 256) (b := 768) (a' := 32) (b' := 256) r c inb u l hr hc)

/-- The keys a tile reads. -/
theorem k_ld (X : Blk) (b : Fin 8) (ha : ∀ a, (![b.val, 0, 0] : Fin 3 → ℕ) a + S1x577x1024.size a ≤ S8x577x1024.size a) (hb : ∀ a, (![b.val, 0] : Fin 2 → ℕ) a + S1x577.size a ≤ S8x577.size a) (L : List (View.Piece (Elt Ideal) S768x640 .bf16)) (y3 : Vec Ideal S768x640 .bf16) (c : ℕ) (inb) (l : Fin 256) (t : Fin 577) (hc : c + l.val < 768) :
    View.ld (over ((⟨Rect.unit ![0, 0] S768x577.size inb_S768x640_S768x577_0_0, keysT X b ha hb⟩ : View.Piece (Elt Ideal) S768x640 .bf16) :: L) y3) (Rect.unit (s := S768x640) ![c, 0] S256x640.size inb) (ix2 l (padTok t))
      = Spec.ck (wOf X) (imgOf X b) t ⟨c + l.val, hc⟩ := by
  refine (congrArg (over ((⟨Rect.unit ![0, 0] S768x577.size inb_S768x640_S768x577_0_0, keysT X b ha hb⟩ : View.Piece (Elt Ideal) S768x640 .bf16) :: L) y3)
    ((emb2 (a := 768) (b := 640) (a' := 256) (b' := 640) c 0 inb l (padTok t) hc (by omega)).trans
      ((congrArg₂ ix2 (Fin.ext (by simp)) (Fin.ext (by simp [padTok]))).trans
        (emb2 (a := 768) (b := 640) (a' := 768) (b' := 577) 0 0 inb_S768x640_S768x577_0_0 ⟨c + l.val, hc⟩ t (by simp only []; omega) (by omega)).symm))).trans ?_
  exact (Rect.overlay_emb _ _ _ _).trans (keysT_at X b ha hb _ _)

/-- A value written over the first rows. -/
theorem update_at (prev : FVec Ideal S578x768 .bf16) (w : FVec Ideal S577x768 .bf16) (t : Fin 577) (j : Fin 768) :
    updateSlice prev w ![0, 0] slices_S578x768_S577x768_0_0 (ix2 (⟨t.val, by omega⟩ : Fin 578) j) = w (ix2 t j) := by
  rw [updateSlice, dif_pos]
  · exact congrArg w ((eq_ix2 _).trans (congrArg₂ ix2 (Fin.ext (by simp)) (Fin.ext (by simp))))
  · exact Fin.forall_fin_two.mpr ⟨⟨by simp, by simp⟩, ⟨by simp, by simp⟩⟩

/-- The values a tile reads. -/
theorem v_ld (X : Blk) (b : Fin 8) (ha : ∀ a, (![b.val, 0, 0] : Fin 3 → ℕ) a + S1x577x1024.size a ≤ S8x577x1024.size a) (hb : ∀ a, (![0, b.val] : Fin 2 → ℕ) a + S577x1.size a ≤ S577x8.size a) (L : List (View.Piece (Elt Ideal) S640x768 .bf16)) (prev : FVec Ideal S578x768 .bf16) (c : ℕ) (inb) (l : Fin 256) (t : Fin 577) (hc : c + l.val < 768) :
    cov ((⟨Rect.unit ![0, 0] S578x768.size inb_S640x768_S578x768_0_0, updateSlice prev (vals X b ha hb) ![0, 0] slices_S578x768_S577x768_0_0⟩ : View.Piece (Elt Ideal) S640x768 .bf16) :: L) (Rect.unit (s := S640x768) ![0, c] S640x256.size inb) (ix2 (padTok t) l)
      = Spec.cv (wOf X) (imgOf X b) t ⟨c + l.val, hc⟩ := by
  refine (congrArg (View.canon ((⟨Rect.unit ![0, 0] S578x768.size inb_S640x768_S578x768_0_0, updateSlice prev (vals X b ha hb) ![0, 0] slices_S578x768_S577x768_0_0⟩ : View.Piece (Elt Ideal) S640x768 .bf16) :: L))
    ((emb2 (a := 640) (b := 768) (a' := 640) (b' := 256) 0 c inb (padTok t) l (by omega) hc).trans
      ((congrArg₂ ix2 (Fin.ext (by simp [padTok])) (Fin.ext (by simp))).trans
        (emb2 (a := 640) (b := 768) (a' := 578) (b' := 768) 0 0 inb_S640x768_S578x768_0_0 ⟨t.val, by omega⟩ ⟨c + l.val, hc⟩ (by simp only []; omega) (by simp only []; omega)).symm))).trans ?_
  exact (View.canon_cons_emb _ _ _ _).trans ((update_at _ _ _ _).trans (vals_at X b ha hb _ _))

end Cert.KernelIdeal.Model

end
-- ==== Proof.Value.CrossOps.lean ====
/- The keys and values of each image, as written. -/
module

public import proofs.«01_k».proof.Proof.Value.CrossRead

@[expose] public section

set_option maxHeartbeats 4000000

noncomputable section

namespace Cert.KernelIdeal.Model

open Cert.KernelIdeal.Gen Cert.KernelIdeal.Run
open Idealize.ShloMosaic Idealize.ShloMosaic.TcCoe

theorem keysPiece0 (X : Blk) : HS3_1 X = ⟨Rect.unit ![0, 0] S768x577.size inb_S768x640_S768x577_0_0, keysT X 0 inb_S8x577x1024_S1x577x1024_0_0_0 inb_S8x577_S1x577_0_0⟩ :: [] := rfl
theorem valsPiece0 (X : Blk) (y4 : Vec Ideal S640x768 .bf16) : HS4_2 X y4 = ⟨Rect.unit ![0, 0] S578x768.size inb_S640x768_S578x768_0_0, updateSlice (View.ld (over HS4_1 y4) (Rect.unit ![0, 0] S578x768.size inb_S640x768_S578x768_0_0)) (vals X 0 inb_S8x577x1024_S1x577x1024_0_0_0 inb_S577x8_S577x1_0_0) ![0, 0] slices_S578x768_S577x768_0_0⟩ :: HS4_1 := rfl
theorem keysPiece1 (X : Blk) : HS3_2 X = ⟨Rect.unit ![0, 0] S768x577.size inb_S768x640_S768x577_0_0, keysT X 1 inb_S8x577x1024_S1x577x1024_1_0_0 inb_S8x577_S1x577_1_0⟩ :: HS3_1 X := rfl
theorem valsPiece1 (X : Blk) (y4 : Vec Ideal S640x768 .bf16) : HS4_3 X y4 = ⟨Rect.unit ![0, 0] S578x768.size inb_S640x768_S578x768_0_0, updateSlice (old X y4) (vals X 1 inb_S8x577x1024_S1x577x1024_1_0_0 inb_S577x8_S577x1_0_1) ![0, 0] slices_S578x768_S577x768_0_0⟩ :: HS4_2 X y4 := rfl
theorem keysPiece2 (X : Blk) : HS3_3 X = ⟨Rect.unit ![0, 0] S768x577.size inb_S768x640_S768x577_0_0, keysT X 2 inb_S8x577x1024_S1x577x1024_2_0_0 inb_S8x577_S1x577_2_0⟩ :: HS3_2 X := rfl
theorem valsPiece2 (X : Blk) (y4 : Vec Ideal S640x768 .bf16) : HS4_4 X y4 = ⟨Rect.unit ![0, 0] S578x768.size inb_S640x768_S578x768_0_0, updateSlice (old_1 X y4) (vals X 2 inb_S8x577x1024_S1x577x1024_2_0_0 inb_S577x8_S577x1_0_2) ![0, 0] slices_S578x768_S577x768_0_0⟩ :: HS4_3 X y4 := rfl
theorem keysPiece3 (X : Blk) : HS3_4 X = ⟨Rect.unit ![0, 0] S768x577.size inb_S768x640_S768x577_0_0, keysT X 3 inb_S8x577x1024_S1x577x1024_3_0_0 inb_S8x577_S1x577_3_0⟩ :: HS3_3 X := rfl
theorem valsPiece3 (X : Blk) (y4 : Vec Ideal S640x768 .bf16) : HS4_5 X y4 = ⟨Rect.unit ![0, 0] S578x768.size inb_S640x768_S578x768_0_0, updateSlice (old_2 X y4) (vals X 3 inb_S8x577x1024_S1x577x1024_3_0_0 inb_S577x8_S577x1_0_3) ![0, 0] slices_S578x768_S577x768_0_0⟩ :: HS4_4 X y4 := rfl
theorem keysPiece4 (X : Blk) : HS3_5 X = ⟨Rect.unit ![0, 0] S768x577.size inb_S768x640_S768x577_0_0, keysT X 4 inb_S8x577x1024_S1x577x1024_4_0_0 inb_S8x577_S1x577_4_0⟩ :: HS3_4 X := rfl
theorem valsPiece4 (X : Blk) (y4 : Vec Ideal S640x768 .bf16) : HS4_6 X y4 = ⟨Rect.unit ![0, 0] S578x768.size inb_S640x768_S578x768_0_0, updateSlice (old_3 X y4) (vals X 4 inb_S8x577x1024_S1x577x1024_4_0_0 inb_S577x8_S577x1_0_4) ![0, 0] slices_S578x768_S577x768_0_0⟩ :: HS4_5 X y4 := rfl
theorem keysPiece5 (X : Blk) : HS3_6 X = ⟨Rect.unit ![0, 0] S768x577.size inb_S768x640_S768x577_0_0, keysT X 5 inb_S8x577x1024_S1x577x1024_5_0_0 inb_S8x577_S1x577_5_0⟩ :: HS3_5 X := rfl
theorem valsPiece5 (X : Blk) (y4 : Vec Ideal S640x768 .bf16) : HS4_7 X y4 = ⟨Rect.unit ![0, 0] S578x768.size inb_S640x768_S578x768_0_0, updateSlice (old_4 X y4) (vals X 5 inb_S8x577x1024_S1x577x1024_5_0_0 inb_S577x8_S577x1_0_5) ![0, 0] slices_S578x768_S577x768_0_0⟩ :: HS4_6 X y4 := rfl
theorem keysPiece6 (X : Blk) : HS3_7 X = ⟨Rect.unit ![0, 0] S768x577.size inb_S768x640_S768x577_0_0, keysT X 6 inb_S8x577x1024_S1x577x1024_6_0_0 inb_S8x577_S1x577_6_0⟩ :: HS3_6 X := rfl
theorem valsPiece6 (X : Blk) (y4 : Vec Ideal S640x768 .bf16) : HS4_8 X y4 = ⟨Rect.unit ![0, 0] S578x768.size inb_S640x768_S578x768_0_0, updateSlice (old_5 X y4) (vals X 6 inb_S8x577x1024_S1x577x1024_6_0_0 inb_S577x8_S577x1_0_6) ![0, 0] slices_S578x768_S577x768_0_0⟩ :: HS4_7 X y4 := rfl
theorem keysPiece7 (X : Blk) : HS3_8 X = ⟨Rect.unit ![0, 0] S768x577.size inb_S768x640_S768x577_0_0, keysT X 7 inb_S8x577x1024_S1x577x1024_7_0_0 inb_S8x577_S1x577_7_0⟩ :: HS3_7 X := rfl
theorem valsPiece7 (X : Blk) (y4 : Vec Ideal S640x768 .bf16) : HS4_9 X y4 = ⟨Rect.unit ![0, 0] S578x768.size inb_S640x768_S578x768_0_0, updateSlice (old_6 X y4) (vals X 7 inb_S8x577x1024_S1x577x1024_7_0_0 inb_S577x8_S577x1_0_7) ![0, 0] slices_S578x768_S577x768_0_0⟩ :: HS4_8 X y4 := rfl

end Cert.KernelIdeal.Model

end
-- ==== Proof.Value.CrossPiecesA.lean ====
/- The first half of the cross-attention tiles, as written. -/
module

public import proofs.«01_k».proof.Proof.Value.CrossTile

@[expose] public section

set_option maxHeartbeats 4000000

noncomputable section

namespace Cert.KernelIdeal.Model

open Cert.KernelIdeal.Gen Cert.KernelIdeal.Run
open Idealize.ShloMosaic Idealize.ShloMosaic.TcCoe

/-- Write 13 is a tile. -/
theorem crossPiece13 (X : Blk) (y3 : Vec Ideal S768x640 .bf16) (y4 : Vec Ideal S640x768 .bf16) : HS2_13 X y3 y4 = ⟨Rect.unit ![0, 0] S32x256.size inb_S256x768_S32x256_0_0,
    crossTile (cov (HS1_1 X) (Rect.unit ![0, 0] S32x256.size inb_S256x768_S32x256_0_0)) (View.ld (over (HS3_1 X) y3) (Rect.unit ![0, 0] S256x640.size inb_S768x640_S256x640_0_0))
      (cov (HS4_2 X y4) (Rect.unit ![0, 0] S640x256.size inb_S640x768_S640x256_0_0))⟩ :: HS2_12 X := rfl

/-- Write 14 is a tile. -/
theorem crossPiece14 (X : Blk) (y3 : Vec Ideal S768x640 .bf16) (y4 : Vec Ideal S640x768 .bf16) : HS2_14 X y3 y4 = ⟨Rect.unit ![0, 256] S32x256.size inb_S256x768_S32x256_0_256,
    crossTile (cov (HS1_1 X) (Rect.unit ![0, 256] S32x256.size inb_S256x768_S32x256_0_256)) (View.ld (over (HS3_1 X) y3) (Rect.unit ![256, 0] S256x640.size inb_S768x640_S256x640_256_0))
      (cov (HS4_2 X y4) (Rect.unit ![0, 256] S640x256.size inb_S640x768_S640x256_0_256))⟩ :: HS2_13 X y3 y4 := rfl

/-- Write 15 is a tile. -/
theorem crossPiece15 (X : Blk) (y3 : Vec Ideal S768x640 .bf16) (y4 : Vec Ideal S640x768 .bf16) : HS2_15 X y3 y4 = ⟨Rect.unit ![0, 512] S32x256.size inb_S256x768_S32x256_0_512,
    crossTile (cov (HS1_1 X) (Rect.unit ![0, 512] S32x256.size inb_S256x768_S32x256_0_512)) (View.ld (over (HS3_1 X) y3) (Rect.unit ![512, 0] S256x640.size inb_S768x640_S256x640_512_0))
      (cov (HS4_2 X y4) (Rect.unit ![0, 512] S640x256.size inb_S640x768_S640x256_0_512))⟩ :: HS2_14 X y3 y4 := rfl

/-- Write 16 is a tile. -/
theorem crossPiece16 (X : Blk) (y3 : Vec Ideal S768x640 .bf16) (y4 : Vec Ideal S640x768 .bf16) : HS2_16 X y3 y4 = ⟨Rect.unit ![32, 0] S32x256.size inb_S256x768_S32x256_32_0,
    crossTile (cov (HS1_1 X) (Rect.unit ![32, 0] S32x256.size inb_S256x768_S32x256_32_0)) (View.ld (over (HS3_2 X) y3) (Rect.unit ![0, 0] S256x640.size inb_S768x640_S256x640_0_0))
      (cov (HS4_3 X y4) (Rect.unit ![0, 0] S640x256.size inb_S640x768_S640x256_0_0))⟩ :: HS2_15 X y3 y4 := rfl

/-- Write 17 is a tile. -/
theorem crossPiece17 (X : Blk) (y3 : Vec Ideal S768x640 .bf16) (y4 : Vec Ideal S640x768 .bf16) : HS2_17 X y3 y4 = ⟨Rect.unit ![32, 256] S32x256.size inb_S256x768_S32x256_32_256,
    crossTile (cov (HS1_1 X) (Rect.unit ![32, 256] S32x256.size inb_S256x768_S32x256_32_256)) (View.ld (over (HS3_2 X) y3) (Rect.unit ![256, 0] S256x640.size inb_S768x640_S256x640_256_0))
      (cov (HS4_3 X y4) (Rect.unit ![0, 256] S640x256.size inb_S640x768_S640x256_0_256))⟩ :: HS2_16 X y3 y4 := rfl

/-- Write 18 is a tile. -/
theorem crossPiece18 (X : Blk) (y3 : Vec Ideal S768x640 .bf16) (y4 : Vec Ideal S640x768 .bf16) : HS2_18 X y3 y4 = ⟨Rect.unit ![32, 512] S32x256.size inb_S256x768_S32x256_32_512,
    crossTile (cov (HS1_1 X) (Rect.unit ![32, 512] S32x256.size inb_S256x768_S32x256_32_512)) (View.ld (over (HS3_2 X) y3) (Rect.unit ![512, 0] S256x640.size inb_S768x640_S256x640_512_0))
      (cov (HS4_3 X y4) (Rect.unit ![0, 512] S640x256.size inb_S640x768_S640x256_0_512))⟩ :: HS2_17 X y3 y4 := rfl

/-- Write 19 is a tile. -/
theorem crossPiece19 (X : Blk) (y3 : Vec Ideal S768x640 .bf16) (y4 : Vec Ideal S640x768 .bf16) : HS2_19 X y3 y4 = ⟨Rect.unit ![64, 0] S32x256.size inb_S256x768_S32x256_64_0,
    crossTile (cov (HS1_1 X) (Rect.unit ![64, 0] S32x256.size inb_S256x768_S32x256_64_0)) (View.ld (over (HS3_3 X) y3) (Rect.unit ![0, 0] S256x640.size inb_S768x640_S256x640_0_0))
      (cov (HS4_4 X y4) (Rect.unit ![0, 0] S640x256.size inb_S640x768_S640x256_0_0))⟩ :: HS2_18 X y3 y4 := rfl

/-- Write 20 is a tile. -/
theorem crossPiece20 (X : Blk) (y3 : Vec Ideal S768x640 .bf16) (y4 : Vec Ideal S640x768 .bf16) : HS2_20 X y3 y4 = ⟨Rect.unit ![64, 256] S32x256.size inb_S256x768_S32x256_64_256,
    crossTile (cov (HS1_1 X) (Rect.unit ![64, 256] S32x256.size inb_S256x768_S32x256_64_256)) (View.ld (over (HS3_3 X) y3) (Rect.unit ![256, 0] S256x640.size inb_S768x640_S256x640_256_0))
      (cov (HS4_4 X y4) (Rect.unit ![0, 256] S640x256.size inb_S640x768_S640x256_0_256))⟩ :: HS2_19 X y3 y4 := rfl

/-- Write 21 is a tile. -/
theorem crossPiece21 (X : Blk) (y3 : Vec Ideal S768x640 .bf16) (y4 : Vec Ideal S640x768 .bf16) : HS2_21 X y3 y4 = ⟨Rect.unit ![64, 512] S32x256.size inb_S256x768_S32x256_64_512,
    crossTile (cov (HS1_1 X) (Rect.unit ![64, 512] S32x256.size inb_S256x768_S32x256_64_512)) (View.ld (over (HS3_3 X) y3) (Rect.unit ![512, 0] S256x640.size inb_S768x640_S256x640_512_0))
      (cov (HS4_4 X y4) (Rect.unit ![0, 512] S640x256.size inb_S640x768_S640x256_0_512))⟩ :: HS2_20 X y3 y4 := rfl

/-- Write 22 is a tile. -/
theorem crossPiece22 (X : Blk) (y3 : Vec Ideal S768x640 .bf16) (y4 : Vec Ideal S640x768 .bf16) : HS2_22 X y3 y4 = ⟨Rect.unit ![96, 0] S32x256.size inb_S256x768_S32x256_96_0,
    crossTile (cov (HS1_1 X) (Rect.unit ![96, 0] S32x256.size inb_S256x768_S32x256_96_0)) (View.ld (over (HS3_4 X) y3) (Rect.unit ![0, 0] S256x640.size inb_S768x640_S256x640_0_0))
      (cov (HS4_5 X y4) (Rect.unit ![0, 0] S640x256.size inb_S640x768_S640x256_0_0))⟩ :: HS2_21 X y3 y4 := rfl

/-- Write 23 is a tile. -/
theorem crossPiece23 (X : Blk) (y3 : Vec Ideal S768x640 .bf16) (y4 : Vec Ideal S640x768 .bf16) : HS2_23 X y3 y4 = ⟨Rect.unit ![96, 256] S32x256.size inb_S256x768_S32x256_96_256,
    crossTile (cov (HS1_1 X) (Rect.unit ![96, 256] S32x256.size inb_S256x768_S32x256_96_256)) (View.ld (over (HS3_4 X) y3) (Rect.unit ![256, 0] S256x640.size inb_S768x640_S256x640_256_0))
      (cov (HS4_5 X y4) (Rect.unit ![0, 256] S640x256.size inb_S640x768_S640x256_0_256))⟩ :: HS2_22 X y3 y4 := rfl

/-- Write 24 is a tile. -/
theorem crossPiece24 (X : Blk) (y3 : Vec Ideal S768x640 .bf16) (y4 : Vec Ideal S640x768 .bf16) : HS2_24 X y3 y4 = ⟨Rect.unit ![96, 512] S32x256.size inb_S256x768_S32x256_96_512,
    crossTile (cov (HS1_1 X) (Rect.unit ![96, 512] S32x256.size inb_S256x768_S32x256_96_512)) (View.ld (over (HS3_4 X) y3) (Rect.unit ![512, 0] S256x640.size inb_S768x640_S256x640_512_0))
      (cov (HS4_5 X y4) (Rect.unit ![0, 512] S640x256.size inb_S640x768_S640x256_0_512))⟩ :: HS2_23 X y3 y4 := rfl

end Cert.KernelIdeal.Model

end
-- ==== Proof.Value.CrossPiecesB.lean ====
/- The second half of the cross-attention tiles, as written. -/
module

public import proofs.«01_k».proof.Proof.Value.CrossTile

@[expose] public section

set_option maxHeartbeats 4000000

noncomputable section

namespace Cert.KernelIdeal.Model

open Cert.KernelIdeal.Gen Cert.KernelIdeal.Run
open Idealize.ShloMosaic Idealize.ShloMosaic.TcCoe

/-- Write 25 is a tile. -/
theorem crossPiece25 (X : Blk) (y3 : Vec Ideal S768x640 .bf16) (y4 : Vec Ideal S640x768 .bf16) : HS2_25 X y3 y4 = ⟨Rect.unit ![128, 0] S32x256.size inb_S256x768_S32x256_128_0,
    crossTile (cov (HS1_1 X) (Rect.unit ![128, 0] S32x256.size inb_S256x768_S32x256_128_0)) (View.ld (over (HS3_5 X) y3) (Rect.unit ![0, 0] S256x640.size inb_S768x640_S256x640_0_0))
      (cov (HS4_6 X y4) (Rect.unit ![0, 0] S640x256.size inb_S640x768_S640x256_0_0))⟩ :: HS2_24 X y3 y4 := rfl

/-- Write 26 is a tile. -/
theorem crossPiece26 (X : Blk) (y3 : Vec Ideal S768x640 .bf16) (y4 : Vec Ideal S640x768 .bf16) : HS2_26 X y3 y4 = ⟨Rect.unit ![128, 256] S32x256.size inb_S256x768_S32x256_128_256,
    crossTile (cov (HS1_1 X) (Rect.unit ![128, 256] S32x256.size inb_S256x768_S32x256_128_256)) (View.ld (over (HS3_5 X) y3) (Rect.unit ![256, 0] S256x640.size inb_S768x640_S256x640_256_0))
      (cov (HS4_6 X y4) (Rect.unit ![0, 256] S640x256.size inb_S640x768_S640x256_0_256))⟩ :: HS2_25 X y3 y4 := rfl

/-- Write 27 is a tile. -/
theorem crossPiece27 (X : Blk) (y3 : Vec Ideal S768x640 .bf16) (y4 : Vec Ideal S640x768 .bf16) : HS2_27 X y3 y4 = ⟨Rect.unit ![128, 512] S32x256.size inb_S256x768_S32x256_128_512,
    crossTile (cov (HS1_1 X) (Rect.unit ![128, 512] S32x256.size inb_S256x768_S32x256_128_512)) (View.ld (over (HS3_5 X) y3) (Rect.unit ![512, 0] S256x640.size inb_S768x640_S256x640_512_0))
      (cov (HS4_6 X y4) (Rect.unit ![0, 512] S640x256.size inb_S640x768_S640x256_0_512))⟩ :: HS2_26 X y3 y4 := rfl

/-- Write 28 is a tile. -/
theorem crossPiece28 (X : Blk) (y3 : Vec Ideal S768x640 .bf16) (y4 : Vec Ideal S640x768 .bf16) : HS2_28 X y3 y4 = ⟨Rect.unit ![160, 0] S32x256.size inb_S256x768_S32x256_160_0,
    crossTile (cov (HS1_1 X) (Rect.unit ![160, 0] S32x256.size inb_S256x768_S32x256_160_0)) (View.ld (over (HS3_6 X) y3) (Rect.unit ![0, 0] S256x640.size inb_S768x640_S256x640_0_0))
      (cov (HS4_7 X y4) (Rect.unit ![0, 0] S640x256.size inb_S640x768_S640x256_0_0))⟩ :: HS2_27 X y3 y4 := rfl

/-- Write 29 is a tile. -/
theorem crossPiece29 (X : Blk) (y3 : Vec Ideal S768x640 .bf16) (y4 : Vec Ideal S640x768 .bf16) : HS2_29 X y3 y4 = ⟨Rect.unit ![160, 256] S32x256.size inb_S256x768_S32x256_160_256,
    crossTile (cov (HS1_1 X) (Rect.unit ![160, 256] S32x256.size inb_S256x768_S32x256_160_256)) (View.ld (over (HS3_6 X) y3) (Rect.unit ![256, 0] S256x640.size inb_S768x640_S256x640_256_0))
      (cov (HS4_7 X y4) (Rect.unit ![0, 256] S640x256.size inb_S640x768_S640x256_0_256))⟩ :: HS2_28 X y3 y4 := rfl

/-- Write 30 is a tile. -/
theorem crossPiece30 (X : Blk) (y3 : Vec Ideal S768x640 .bf16) (y4 : Vec Ideal S640x768 .bf16) : HS2_30 X y3 y4 = ⟨Rect.unit ![160, 512] S32x256.size inb_S256x768_S32x256_160_512,
    crossTile (cov (HS1_1 X) (Rect.unit ![160, 512] S32x256.size inb_S256x768_S32x256_160_512)) (View.ld (over (HS3_6 X) y3) (Rect.unit ![512, 0] S256x640.size inb_S768x640_S256x640_512_0))
      (cov (HS4_7 X y4) (Rect.unit ![0, 512] S640x256.size inb_S640x768_S640x256_0_512))⟩ :: HS2_29 X y3 y4 := rfl

/-- Write 31 is a tile. -/
theorem crossPiece31 (X : Blk) (y3 : Vec Ideal S768x640 .bf16) (y4 : Vec Ideal S640x768 .bf16) : HS2_31 X y3 y4 = ⟨Rect.unit ![192, 0] S32x256.size inb_S256x768_S32x256_192_0,
    crossTile (cov (HS1_1 X) (Rect.unit ![192, 0] S32x256.size inb_S256x768_S32x256_192_0)) (View.ld (over (HS3_7 X) y3) (Rect.unit ![0, 0] S256x640.size inb_S768x640_S256x640_0_0))
      (cov (HS4_8 X y4) (Rect.unit ![0, 0] S640x256.size inb_S640x768_S640x256_0_0))⟩ :: HS2_30 X y3 y4 := rfl

/-- Write 32 is a tile. -/
theorem crossPiece32 (X : Blk) (y3 : Vec Ideal S768x640 .bf16) (y4 : Vec Ideal S640x768 .bf16) : HS2_32 X y3 y4 = ⟨Rect.unit ![192, 256] S32x256.size inb_S256x768_S32x256_192_256,
    crossTile (cov (HS1_1 X) (Rect.unit ![192, 256] S32x256.size inb_S256x768_S32x256_192_256)) (View.ld (over (HS3_7 X) y3) (Rect.unit ![256, 0] S256x640.size inb_S768x640_S256x640_256_0))
      (cov (HS4_8 X y4) (Rect.unit ![0, 256] S640x256.size inb_S640x768_S640x256_0_256))⟩ :: HS2_31 X y3 y4 := rfl

/-- Write 33 is a tile. -/
theorem crossPiece33 (X : Blk) (y3 : Vec Ideal S768x640 .bf16) (y4 : Vec Ideal S640x768 .bf16) : HS2_33 X y3 y4 = ⟨Rect.unit ![192, 512] S32x256.size inb_S256x768_S32x256_192_512,
    crossTile (cov (HS1_1 X) (Rect.unit ![192, 512] S32x256.size inb_S256x768_S32x256_192_512)) (View.ld (over (HS3_7 X) y3) (Rect.unit ![512, 0] S256x640.size inb_S768x640_S256x640_512_0))
      (cov (HS4_8 X y4) (Rect.unit ![0, 512] S640x256.size inb_S640x768_S640x256_0_512))⟩ :: HS2_32 X y3 y4 := rfl

/-- Write 34 is a tile. -/
theorem crossPiece34 (X : Blk) (y3 : Vec Ideal S768x640 .bf16) (y4 : Vec Ideal S640x768 .bf16) : HS2_34 X y3 y4 = ⟨Rect.unit ![224, 0] S32x256.size inb_S256x768_S32x256_224_0,
    crossTile (cov (HS1_1 X) (Rect.unit ![224, 0] S32x256.size inb_S256x768_S32x256_224_0)) (View.ld (over (HS3_8 X) y3) (Rect.unit ![0, 0] S256x640.size inb_S768x640_S256x640_0_0))
      (cov (HS4_9 X y4) (Rect.unit ![0, 0] S640x256.size inb_S640x768_S640x256_0_0))⟩ :: HS2_33 X y3 y4 := rfl

/-- Write 35 is a tile. -/
theorem crossPiece35 (X : Blk) (y3 : Vec Ideal S768x640 .bf16) (y4 : Vec Ideal S640x768 .bf16) : HS2_35 X y3 y4 = ⟨Rect.unit ![224, 256] S32x256.size inb_S256x768_S32x256_224_256,
    crossTile (cov (HS1_1 X) (Rect.unit ![224, 256] S32x256.size inb_S256x768_S32x256_224_256)) (View.ld (over (HS3_8 X) y3) (Rect.unit ![256, 0] S256x640.size inb_S768x640_S256x640_256_0))
      (cov (HS4_9 X y4) (Rect.unit ![0, 256] S640x256.size inb_S640x768_S640x256_0_256))⟩ :: HS2_34 X y3 y4 := rfl

/-- Write 36 is a tile. -/
theorem crossPiece36 (X : Blk) (y3 : Vec Ideal S768x640 .bf16) (y4 : Vec Ideal S640x768 .bf16) : HS2_36 X y3 y4 = ⟨Rect.unit ![224, 512] S32x256.size inb_S256x768_S32x256_224_512,
    crossTile (cov (HS1_1 X) (Rect.unit ![224, 512] S32x256.size inb_S256x768_S32x256_224_512)) (View.ld (over (HS3_8 X) y3) (Rect.unit ![512, 0] S256x640.size inb_S768x640_S256x640_512_0))
      (cov (HS4_9 X y4) (Rect.unit ![0, 512] S640x256.size inb_S640x768_S640x256_0_512))⟩ :: HS2_35 X y3 y4 := rfl

end Cert.KernelIdeal.Model

end
-- ==== Proof.Value.CrossAttn.lean ====
/- The cross-attention tiles laid side by side. -/
module

public import proofs.«01_k».proof.Proof.Value.CrossOps
public import proofs.«01_k».proof.Proof.Value.CrossPiecesA
public import proofs.«01_k».proof.Proof.Value.CrossPiecesB

@[expose] public section

set_option maxHeartbeats 4000000

noncomputable section

namespace Cert.KernelIdeal.Model

open Cert.KernelIdeal.Gen Cert.KernelIdeal.Run
open Idealize.ShloMosaic Idealize.ShloMosaic.TcCoe

/-- The writes together hold the attention. -/
theorem crossPieces_at (X : Blk) (y3 : Vec Ideal S768x640 .bf16) (y4 : Vec Ideal S640x768 .bf16) (i : Fin 256) (j : Fin 768) : View.canon (HS2_36 X y3 y4) (ix2 i j) = crossAll X (ix2 i j) := by
  rw [crossPiece36]
  refine canon_step (s := S256x768) (e := .bf16) (Rect.unit ![224, 512] S32x256.size inb_S256x768_S32x256_224_512) _ _ (crossAll X) _
    (crossTile_part X 7 224 512 (by decide) (by omega) (by omega) _ _ _ (fun u l => q_ld X 224 512 _ u l _ _)
      (fun l t => by rw [keysPiece7]; exact k_ld X 7 _ _ _ y3 512 _ l t _) (fun t l => by rw [valsPiece7]; exact v_ld X 7 _ _ _ _ 512 _ l t _) _) fun h36 => ?_
  have g36 : i.val / 32 * 3 + j.val / 256 ≠ 23 := fun g => h36 (mem2 224 512 _ i j (by omega) (by omega))
  clear h36
  rw [crossPiece35]
  refine canon_step (s := S256x768) (e := .bf16) (Rect.unit ![224, 256] S32x256.size inb_S256x768_S32x256_224_256) _ _ (crossAll X) _
    (crossTile_part X 7 224 256 (by decide) (by omega) (by omega) _ _ _ (fun u l => q_ld X 224 256 _ u l _ _)
      (fun l t => by rw [keysPiece7]; exact k_ld X 7 _ _ _ y3 256 _ l t _) (fun t l => by rw [valsPiece7]; exact v_ld X 7 _ _ _ _ 256 _ l t _) _) fun h35 => ?_
  have g35 : i.val / 32 * 3 + j.val / 256 ≠ 22 := fun g => h35 (mem2 224 256 _ i j (by omega) (by omega))
  clear h35
  rw [crossPiece34]
  refine canon_step (s := S256x768) (e := .bf16) (Rect.unit ![224, 0] S32x256.size inb_S256x768_S32x256_224_0) _ _ (crossAll X) _
    (crossTile_part X 7 224 0 (by decide) (by omega) (by omega) _ _ _ (fun u l => q_ld X 224 0 _ u l _ _)
      (fun l t => by rw [keysPiece7]; exact k_ld X 7 _ _ _ y3 0 _ l t _) (fun t l => by rw [valsPiece7]; exact v_ld X 7 _ _ _ _ 0 _ l t _) _) fun h34 => ?_
  have g34 : i.val / 32 * 3 + j.val / 256 ≠ 21 := fun g => h34 (mem2 224 0 _ i j (by omega) (by omega))
  clear h34
  rw [crossPiece33]
  refine canon_step (s := S256x768) (e := .bf16) (Rect.unit ![192, 512] S32x256.size inb_S256x768_S32x256_192_512) _ _ (crossAll X) _
    (crossTile_part X 6 192 512 (by decide) (by omega) (by omega) _ _ _ (fun u l => q_ld X 192 512 _ u l _ _)
      (fun l t => by rw [keysPiece6]; exact k_ld X 6 _ _ _ y3 512 _ l t _) (fun t l => by rw [valsPiece6]; exact v_ld X 6 _ _ _ _ 512 _ l t _) _) fun h33 => ?_
  have g33 : i.val / 32 * 3 + j.val / 256 ≠ 20 := fun g => h33 (mem2 192 512 _ i j (by omega) (by omega))
  clear h33
  rw [crossPiece32]
  refine canon_step (s := S256x768) (e := .bf16) (Rect.unit ![192, 256] S32x256.size inb_S256x768_S32x256_192_256) _ _ (crossAll X) _
    (crossTile_part X 6 192 256 (by decide) (by omega) (by omega) _ _ _ (fun u l => q_ld X 192 256 _ u l _ _)
      (fun l t => by rw [keysPiece6]; exact k_ld X 6 _ _ _ y3 256 _ l t _) (fun t l => by rw [valsPiece6]; exact v_ld X 6 _ _ _ _ 256 _ l t _) _) fun h32 => ?_
  have g32 : i.val / 32 * 3 + j.val / 256 ≠ 19 := fun g => h32 (mem2 192 256 _ i j (by omega) (by omega))
  clear h32
  rw [crossPiece31]
  refine canon_step (s := S256x768) (e := .bf16) (Rect.unit ![192, 0] S32x256.size inb_S256x768_S32x256_192_0) _ _ (crossAll X) _
    (crossTile_part X 6 192 0 (by decide) (by omega) (by omega) _ _ _ (fun u l => q_ld X 192 0 _ u l _ _)
      (fun l t => by rw [keysPiece6]; exact k_ld X 6 _ _ _ y3 0 _ l t _) (fun t l => by rw [valsPiece6]; exact v_ld X 6 _ _ _ _ 0 _ l t _) _) fun h31 => ?_
  have g31 : i.val / 32 * 3 + j.val / 256 ≠ 18 := fun g => h31 (mem2 192 0 _ i j (by omega) (by omega))
  clear h31
  rw [crossPiece30]
  refine canon_step (s := S256x768) (e := .bf16) (Rect.unit ![160, 512] S32x256.size inb_S256x768_S32x256_160_512) _ _ (crossAll X) _
    (crossTile_part X 5 160 512 (by decide) (by omega) (by omega) _ _ _ (fun u l => q_ld X 160 512 _ u l _ _)
      (fun l t => by rw [keysPiece5]; exact k_ld X 5 _ _ _ y3 512 _ l t _) (fun t l => by rw [valsPiece5]; exact v_ld X 5 _ _ _ _ 512 _ l t _) _) fun h30 => ?_
  have g30 : i.val / 32 * 3 + j.val / 256 ≠ 17 := fun g => h30 (mem2 160 512 _ i j (by omega) (by omega))
  clear h30
  rw [crossPiece29]
  refine canon_step (s := S256x768) (e := .bf16) (Rect.unit ![160, 256] S32x256.size inb_S256x768_S32x256_160_256) _ _ (crossAll X) _
    (crossTile_part X 5 160 256 (by decide) (by omega) (by omega) _ _ _ (fun u l => q_ld X 160 256 _ u l _ _)
      (fun l t => by rw [keysPiece5]; exact k_ld X 5 _ _ _ y3 256 _ l t _) (fun t l => by rw [valsPiece5]; exact v_ld X 5 _ _ _ _ 256 _ l t _) _) fun h29 => ?_
  have g29 : i.val / 32 * 3 + j.val / 256 ≠ 16 := fun g => h29 (mem2 160 256 _ i j (by omega) (by omega))
  clear h29
  rw [crossPiece28]
  refine canon_step (s := S256x768) (e := .bf16) (Rect.unit ![160, 0] S32x256.size inb_S256x768_S32x256_160_0) _ _ (crossAll X) _
    (crossTile_part X 5 160 0 (by decide) (by omega) (by omega) _ _ _ (fun u l => q_ld X 160 0 _ u l _ _)
      (fun l t => by rw [keysPiece5]; exact k_ld X 5 _ _ _ y3 0 _ l t _) (fun t l => by rw [valsPiece5]; exact v_ld X 5 _ _ _ _ 0 _ l t _) _) fun h28 => ?_
  have g28 : i.val / 32 * 3 + j.val / 256 ≠ 15 := fun g => h28 (mem2 160 0 _ i j (by omega) (by omega))
  clear h28
  rw [crossPiece27]
  refine canon_step (s := S256x768) (e := .bf16) (Rect.unit ![128, 512] S32x256.size inb_S256x768_S32x256_128_512) _ _ (crossAll X) _
    (crossTile_part X 4 128 512 (by decide) (by omega) (by omega) _ _ _ (fun u l => q_ld X 128 512 _ u l _ _)
      (fun l t => by rw [keysPiece4]; exact k_ld X 4 _ _ _ y3 512 _ l t _) (fun t l => by rw [valsPiece4]; exact v_ld X 4 _ _ _ _ 512 _ l t _) _) fun h27 => ?_
  have g27 : i.val / 32 * 3 + j.val / 256 ≠ 14 := fun g => h27 (mem2 128 512 _ i j (by omega) (by omega))
  clear h27
  rw [crossPiece26]
  refine canon_step (s := S256x768) (e := .bf16) (Rect.unit ![128, 256] S32x256.size inb_S256x768_S32x256_128_256) _ _ (crossAll X) _
    (crossTile_part X 4 128 256 (by decide) (by omega) (by omega) _ _ _ (fun u l => q_ld X 128 256 _ u l _ _)
      (fun l t => by rw [keysPiece4]; exact k_ld X 4 _ _ _ y3 256 _ l t _) (fun t l => by rw [valsPiece4]; exact v_ld X 4 _ _ _ _ 256 _ l t _) _) fun h26 => ?_
  have g26 : i.val / 32 * 3 + j.val / 256 ≠ 13 := fun g => h26 (mem2 128 256 _ i j (by omega) (by omega))
  clear h26
  rw [crossPiece25]
  refine canon_step (s := S256x768) (e := .bf16) (Rect.unit ![128, 0] S32x256.size inb_S256x768_S32x256_128_0) _ _ (crossAll X) _
    (crossTile_part X 4 128 0 (by decide) (by omega) (by omega) _ _ _ (fun u l => q_ld X 128 0 _ u l _ _)
      (fun l t => by rw [keysPiece4]; exact k_ld X 4 _ _ _ y3 0 _ l t _) (fun t l => by rw [valsPiece4]; exact v_ld X 4 _ _ _ _ 0 _ l t _) _) fun h25 => ?_
  have g25 : i.val / 32 * 3 + j.val / 256 ≠ 12 := fun g => h25 (mem2 128 0 _ i j (by omega) (by omega))
  clear h25
  rw [crossPiece24]
  refine canon_step (s := S256x768) (e := .bf16) (Rect.unit ![96, 512] S32x256.size inb_S256x768_S32x256_96_512) _ _ (crossAll X) _
    (crossTile_part X 3 96 512 (by decide) (by omega) (by omega) _ _ _ (fun u l => q_ld X 96 512 _ u l _ _)
      (fun l t => by rw [keysPiece3]; exact k_ld X 3 _ _ _ y3 512 _ l t _) (fun t l => by rw [valsPiece3]; exact v_ld X 3 _ _ _ _ 512 _ l t _) _) fun h24 => ?_
  have g24 : i.val / 32 * 3 + j.val / 256 ≠ 11 := fun g => h24 (mem2 96 512 _ i j (by omega) (by omega))
  clear h24
  rw [crossPiece23]
  refine canon_step (s := S256x768) (e := .bf16) (Rect.unit ![96, 256] S32x256.size inb_S256x768_S32x256_96_256) _ _ (crossAll X) _
    (crossTile_part X 3 96 256 (by decide) (by omega) (by omega) _ _ _ (fun u l => q_ld X 96 256 _ u l _ _)
      (fun l t => by rw [keysPiece3]; exact k_ld X 3 _ _ _ y3 256 _ l t _) (fun t l => by rw [valsPiece3]; exact v_ld X 3 _ _ _ _ 256 _ l t _) _) fun h23 => ?_
  have g23 : i.val / 32 * 3 + j.val / 256 ≠ 10 := fun g => h23 (mem2 96 256 _ i j (by omega) (by omega))
  clear h23
  rw [crossPiece22]
  refine canon_step (s := S256x768) (e := .bf16) (Rect.unit ![96, 0] S32x256.size inb_S256x768_S32x256_96_0) _ _ (crossAll X) _
    (crossTile_part X 3 96 0 (by decide) (by omega) (by omega) _ _ _ (fun u l => q_ld X 96 0 _ u l _ _)
      (fun l t => by rw [keysPiece3]; exact k_ld X 3 _ _ _ y3 0 _ l t _) (fun t l => by rw [valsPiece3]; exact v_ld X 3 _ _ _ _ 0 _ l t _) _) fun h22 => ?_
  have g22 : i.val / 32 * 3 + j.val / 256 ≠ 9 := fun g => h22 (mem2 96 0 _ i j (by omega) (by omega))
  clear h22
  rw [crossPiece21]
  refine canon_step (s := S256x768) (e := .bf16) (Rect.unit ![64, 512] S32x256.size inb_S256x768_S32x256_64_512) _ _ (crossAll X) _
    (crossTile_part X 2 64 512 (by decide) (by omega) (by omega) _ _ _ (fun u l => q_ld X 64 512 _ u l _ _)
      (fun l t => by rw [keysPiece2]; exact k_ld X 2 _ _ _ y3 512 _ l t _) (fun t l => by rw [valsPiece2]; exact v_ld X 2 _ _ _ _ 512 _ l t _) _) fun h21 => ?_
  have g21 : i.val / 32 * 3 + j.val / 256 ≠ 8 := fun g => h21 (mem2 64 512 _ i j (by omega) (by omega))
  clear h21
  rw [crossPiece20]
  refine canon_step (s := S256x768) (e := .bf16) (Rect.unit ![64, 256] S32x256.size inb_S256x768_S32x256_64_256) _ _ (crossAll X) _
    (crossTile_part X 2 64 256 (by decide) (by omega) (by omega) _ _ _ (fun u l => q_ld X 64 256 _ u l _ _)
      (fun l t => by rw [keysPiece2]; exact k_ld X 2 _ _ _ y3 256 _ l t _) (fun t l => by rw [valsPiece2]; exact v_ld X 2 _ _ _ _ 256 _ l t _) _) fun h20 => ?_
  have g20 : i.val / 32 * 3 + j.val / 256 ≠ 7 := fun g => h20 (mem2 64 256 _ i j (by omega) (by omega))
  clear h20
  rw [crossPiece19]
  refine canon_step (s := S256x768) (e := .bf16) (Rect.unit ![64, 0] S32x256.size inb_S256x768_S32x256_64_0) _ _ (crossAll X) _
    (crossTile_part X 2 64 0 (by decide) (by omega) (by omega) _ _ _ (fun u l => q_ld X 64 0 _ u l _ _)
      (fun l t => by rw [keysPiece2]; exact k_ld X 2 _ _ _ y3 0 _ l t _) (fun t l => by rw [valsPiece2]; exact v_ld X 2 _ _ _ _ 0 _ l t _) _) fun h19 => ?_
  have g19 : i.val / 32 * 3 + j.val / 256 ≠ 6 := fun g => h19 (mem2 64 0 _ i j (by omega) (by omega))
  clear h19
  rw [crossPiece18]
  refine canon_step (s := S256x768) (e := .bf16) (Rect.unit ![32, 512] S32x256.size inb_S256x768_S32x256_32_512) _ _ (crossAll X) _
    (crossTile_part X 1 32 512 (by decide) (by omega) (by omega) _ _ _ (fun u l => q_ld X 32 512 _ u l _ _)
      (fun l t => by rw [keysPiece1]; exact k_ld X 1 _ _ _ y3 512 _ l t _) (fun t l => by rw [valsPiece1]; exact v_ld X 1 _ _ _ _ 512 _ l t _) _) fun h18 => ?_
  have g18 : i.val / 32 * 3 + j.val / 256 ≠ 5 := fun g => h18 (mem2 32 512 _ i j (by omega) (by omega))
  clear h18
  rw [crossPiece17]
  refine canon_step (s := S256x768) (e := .bf16) (Rect.unit ![32, 256] S32x256.size inb_S256x768_S32x256_32_256) _ _ (crossAll X) _
    (crossTile_part X 1 32 256 (by decide) (by omega) (by omega) _ _ _ (fun u l => q_ld X 32 256 _ u l _ _)
      (fun l t => by rw [keysPiece1]; exact k_ld X 1 _ _ _ y3 256 _ l t _) (fun t l => by rw [valsPiece1]; exact v_ld X 1 _ _ _ _ 256 _ l t _) _) fun h17 => ?_
  have g17 : i.val / 32 * 3 + j.val / 256 ≠ 4 := fun g => h17 (mem2 32 256 _ i j (by omega) (by omega))
  clear h17
  rw [crossPiece16]
  refine canon_step (s := S256x768) (e := .bf16) (Rect.unit ![32, 0] S32x256.size inb_S256x768_S32x256_32_0) _ _ (crossAll X) _
    (crossTile_part X 1 32 0 (by decide) (by omega) (by omega) _ _ _ (fun u l => q_ld X 32 0 _ u l _ _)
      (fun l t => by rw [keysPiece1]; exact k_ld X 1 _ _ _ y3 0 _ l t _) (fun t l => by rw [valsPiece1]; exact v_ld X 1 _ _ _ _ 0 _ l t _) _) fun h16 => ?_
  have g16 : i.val / 32 * 3 + j.val / 256 ≠ 3 := fun g => h16 (mem2 32 0 _ i j (by omega) (by omega))
  clear h16
  rw [crossPiece15]
  refine canon_step (s := S256x768) (e := .bf16) (Rect.unit ![0, 512] S32x256.size inb_S256x768_S32x256_0_512) _ _ (crossAll X) _
    (crossTile_part X 0 0 512 (by decide) (by omega) (by omega) _ _ _ (fun u l => q_ld X 0 512 _ u l _ _)
      (fun l t => by rw [keysPiece0]; exact k_ld X 0 _ _ _ y3 512 _ l t _) (fun t l => by rw [valsPiece0]; exact v_ld X 0 _ _ _ _ 512 _ l t _) _) fun h15 => ?_
  have g15 : i.val / 32 * 3 + j.val / 256 ≠ 2 := fun g => h15 (mem2 0 512 _ i j (by omega) (by omega))
  clear h15
  rw [crossPiece14]
  refine canon_step (s := S256x768) (e := .bf16) (Rect.unit ![0, 256] S32x256.size inb_S256x768_S32x256_0_256) _ _ (crossAll X) _
    (crossTile_part X 0 0 256 (by decide) (by omega) (by omega) _ _ _ (fun u l => q_ld X 0 256 _ u l _ _)
      (fun l t => by rw [keysPiece0]; exact k_ld X 0 _ _ _ y3 256 _ l t _) (fun t l => by rw [valsPiece0]; exact v_ld X 0 _ _ _ _ 256 _ l t _) _) fun h14 => ?_
  have g14 : i.val / 32 * 3 + j.val / 256 ≠ 1 := fun g => h14 (mem2 0 256 _ i j (by omega) (by omega))
  clear h14
  rw [crossPiece13]
  refine canon_step (s := S256x768) (e := .bf16) (Rect.unit ![0, 0] S32x256.size inb_S256x768_S32x256_0_0) _ _ (crossAll X) _
    (crossTile_part X 0 0 0 (by decide) (by omega) (by omega) _ _ _ (fun u l => q_ld X 0 0 _ u l _ _)
      (fun l t => by rw [keysPiece0]; exact k_ld X 0 _ _ _ y3 0 _ l t _) (fun t l => by rw [valsPiece0]; exact v_ld X 0 _ _ _ _ 0 _ l t _) _) fun h13 => ?_
  have g13 : i.val / 32 * 3 + j.val / 256 ≠ 0 := fun g => h13 (mem2 0 0 _ i j (by omega) (by omega))
  clear h13
  have gt : i.val / 32 * 3 + j.val / 256 < 24 := by omega
  generalize i.val / 32 * 3 + j.val / 256 = T at *
  omega

end Cert.KernelIdeal.Model

end
-- ==== Proof.Value.Field.lean ====
/- The kernel's search for the exponent of a row's scale, on scalars. -/
module

public import proofs.«01_k».proof.Proof.Value.Spec
public import proofs.«01_k».proof.Proof.Value.Soft
public import Idealize.ShloMosaic.PureOps.Vector

@[expose] public section

noncomputable section

namespace Cert.Spec

open Idealize.ShloMosaic

/-- The value of exponent field `n`. -/
def fieldVal (n : ℕ) : EReal := Ideal.ofBits FTy.f32 (IntOp.shli .vector (BitVec.ofNat 32 n) 23#32)

theorem field_bits : ∀ n : Fin 256, (IntOp.shli .vector (BitVec.ofNat 32 n.val) 23#32).extractLsb' (8 + 23) 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

/-- A pattern of no sign and no fraction is a power of two. -/
theorem ofBits_pow (b : BitVec 32) (n : ℕ) (ha : b.extractLsb' (8 + 23) 1 = 0#1) (hb : (b.extractLsb' 23 8).toNat = n) (hc : (b.extractLsb' 0 23).toNat = 0)
    (h1 : 1 ≤ n) (h2 : n ≤ 254) : Ideal.ofBits FTy.f32 b = (((2 : ℝ) ^ ((n : ℤ) - 127) : ℝ) : EReal) := by
  show (if (b.extractLsb' 23 8).toNat = 2 ^ 8 - 1 then (if (b.extractLsb' 0 23).toNat = 0 then (if (b.extractLsb' (8 + 23) 1 == 1#1) = true then ⊥ else ⊤) else ⊥)
    else if (b.extractLsb' 23 8).toNat = 0 then _
    else (((if (b.extractLsb' (8 + 23) 1 == 1#1) = true then (-1 : ℝ) else 1) * (2 ^ 23 + (b.extractLsb' 0 23).toNat : ℕ) * (2 : ℝ) ^ (((b.extractLsb' 23 8).toNat : ℤ) - (2 ^ (8 - 1) - 1) - (23 : ℕ)) : ℝ) : EReal)) = _
  rw [ha, hb, hc, if_neg (by omega), if_neg (by omega), if_neg (by decide)]
  congr 1
  rw [show ((n : ℤ) - (2 ^ (8 - 1) - 1) - ((23 : ℕ) : ℤ)) = ((n : ℤ) - 127) - 23 by norm_num, zpow_sub₀ (by norm_num : (2 : ℝ) ≠ 0) ((n : ℤ) - 127) 23]
  norm_num
  ring

/-- A pattern of no sign, no fraction and the last exponent is infinity. -/
theorem ofBits_top (b : BitVec 32) (ha : b.extractLsb' (8 + 23) 1 = 0#1) (hb : (b.extractLsb' 23 8).toNat = 255) (hc : (b.extractLsb' 0 23).toNat = 0) :
    Ideal.ofBits FTy.f32 b = ⊤ := by
  show (if (b.extractLsb' 23 8).toNat = 2 ^ 8 - 1 then (if (b.extractLsb' 0 23).toNat = 0 then (if (b.extractLsb' (8 + 23) 1 == 1#1) = true then ⊥ else ⊤) else ⊥)
    else _) = _
  rw [ha, hb, hc, if_pos (by norm_num), if_pos rfl, if_neg (by decide)]

/-- A field short of the last is a power of two. -/
theorem fieldVal_eq (n : ℕ) (h1 : 1 ≤ n) (h2 : n ≤ 254) : fieldVal n = (((2 : ℝ) ^ ((n : ℤ) - 127) : ℝ) : EReal) := by
  obtain ⟨a, b, c⟩ := field_bits ⟨n, by omega⟩
  exact ofBits_pow _ n a b c h1 h2

/-- The last field is infinity. -/
theorem fieldVal_top : fieldVal 255 = ⊤ := by
  obtain ⟨a, b, c⟩ := field_bits ⟨255, by omega⟩
  exact ofBits_top _ a b c

theorem fieldVal_lt {m n : ℕ} (h1 : 1 ≤ m) (h : m < n) (h2 : n ≤ 254) : fieldVal m < fieldVal n := by
  rw [fieldVal_eq m h1 (by omega), fieldVal_eq n (by omega) h2, EReal.coe_lt_coe_iff]
  exact zpow_lt_zpow_right₀ (by norm_num) (by omega)

theorem fieldVal_le {m n : ℕ} (h1 : 1 ≤ m) (h : m ≤ n) (h2 : n ≤ 254) : fieldVal m ≤ fieldVal n := by
  rcases Nat.lt_or_eq_of_le h with h | h
  · exact (fieldVal_lt h1 h h2).le
  · rw [h]

/-- One step of the search. -/
def step (w : EReal) (k f : BitVec 32) : BitVec 32 :=
  if Ideal.ofBits FTy.f32 (IntOp.shli .vector (IntOp.addi f k) 23#32) ≤ w then IntOp.addi f k else f

/-- The search. -/
def field (w : EReal) : BitVec 32 :=
  step w 1#32 (step w 2#32 (step w 4#32 (step w 8#32 (step w 16#32 (step w 32#32 (step w 64#32 (step w 128#32 0#32)))))))

/-- The field sought lies among the `k` from `n`. -/
def Inv (w : EReal) (k n : ℕ) : Prop := n + k ≤ 256 ∧ (n = 0 ∨ fieldVal n ≤ w) ∧ (n + k = 256 ∨ w < fieldVal (n + k))

theorem step_inv (w : EReal) (k n : ℕ) (h : Inv w (2 * k) n) : ∃ n', step w (BitVec.ofNat 32 k) (BitVec.ofNat 32 n) = BitVec.ofNat 32 n' ∧ Inv w k n' := by
  have e : IntOp.addi (BitVec.ofNat 32 n) (BitVec.ofNat 32 k) = BitVec.ofNat 32 (n + k) := (BitVec.ofNat_add n k).symm
  obtain ⟨h1, h2, h3⟩ := h
  unfold step
  rw [e]
  change ∃ n', (if fieldVal (n + k) ≤ w then _ else _) = _ ∧ _
  by_cases hw : fieldVal (n + k) ≤ w
  · rw [if_pos hw]
    refine ⟨n + k, rfl, by omega, .inr hw, ?_⟩
    rw [show n + k + k = n + 2 * k by omega]
    exact h3
  · rw [if_neg hw]
    exact ⟨n, rfl, by omega, h2, .inr (not_le.mp hw)⟩

/-- What the search finds. -/
theorem exists_field (w : EReal) (hw : w ≤ fieldVal 252) : ∃ n, n ≤ 252 ∧ field w = BitVec.ofNat 32 n ∧ (n = 0 ∨ fieldVal n ≤ w) ∧ w < fieldVal (n + 1) := by
  have h0 : Inv w (2 * 128) 0 := ⟨by omega, .inl rfl, .inl rfl⟩
  obtain ⟨n1, e1, h1⟩ := step_inv w 128 0 h0
  obtain ⟨n2, e2, h2⟩ := step_inv w 64 n1 h1
  obtain ⟨n3, e3, h3⟩ := step_inv w 32 n2 h2
  obtain ⟨n4, e4, h4⟩ := step_inv w 16 n3 h3
  obtain ⟨n5, e5, h5⟩ := step_inv w 8 n4 h4
  obtain ⟨n6, e6, h6⟩ := step_inv w 4 n5 h5
  obtain ⟨n7, e7, h7⟩ := step_inv w 2 n6 h6
  obtain ⟨n, e8, h8⟩ := step_inv w 1 n7 h7
  have e : field w = BitVec.ofNat 32 n := by
    unfold field
    rw [e1, e2, e3, e4, e5, e6, e7, e8]
  obtain ⟨a, b, c⟩ := h8
  have hn : n ≤ 252 := by
    by_contra hn
    rcases b with b | b
    · omega
    · rcases (by omega : n = 255 ∨ n ≤ 254) with h | h
      · rw [h, fieldVal_top] at b
        have := lt_of_lt_of_le (fieldVal_lt (m := 252) (n := 253) (by omega) (by omega) (by omega)) le_top
        exact absurd (b.trans hw) (not_le.mpr this)
      · exact absurd (b.trans hw) (not_le.mpr (fieldVal_lt (by omega) (by omega) h))
  exact ⟨n, hn, e, b, c.resolve_left (by omega)⟩

/-- The exponent of a scale. -/
def expoOf (v c : EReal) : BitVec 32 := if v = 0 then 0#32 else IntOp.subi (field (min v c)) 126#32

theorem cap_eq : Ideal.ofBits FTy.f32 0x7E000000#32 = fieldVal 252 := by
  unfold fieldVal
  congr 1

theorem big_eq : Ideal.ofBits FTy.f32 0x7E800000#32 = fieldVal 253 := by
  unfold fieldVal
  congr 1

theorem sub_toInt : ∀ j : Fin 253, (IntOp.subi (BitVec.ofNat 32 j.val) 126#32).toInt = (j.val : ℤ) - 126 := by decide +kernel

theorem pow_eq (j : Fin 253) : pow j = fieldVal (j.val + 1) := by
  rw [fieldVal_eq _ (by omega) (by omega)]
  show Ideal.exp2 (((IntOp.subi (BitVec.ofNat 32 j.val) 126#32).toInt : ℝ) : EReal) = _
  rw [sub_toInt, Ideal.exp2_coe]
  congr 1
  rw [show (((j.val + 1 : ℕ) : ℤ) - 127) = (j.val : ℤ) - 126 by push_cast; ring]
  exact Real.rpow_intCast 2 _

theorem inf_eq : Ideal.ofBits FTy.f32 0x7F800000#32 = ⊤ := by
  have : Ideal.ofBits FTy.f32 0x7F800000#32 = fieldVal 255 := by
    unfold fieldVal
    congr 1
  rw [this, fieldVal_top]

/-- The scale of `v` is the power the search finds. -/
theorem scaleOf_eq (v : EReal) (h0 : v ≠ 0) (n : ℕ) (hn : n ≤ 252) (h1 : n = 0 ∨ fieldVal n ≤ min v (fieldVal 252)) (h2 : min v (fieldVal 252) < fieldVal (n + 1)) :
    scaleOf v = fieldVal (n + 1) := by
  rw [scaleOf, if_neg h0, inf_eq, big_eq]
  have hlt : n < 252 → v < fieldVal (n + 1) := fun h => (min_lt_iff.mp h2).resolve_right (not_lt.mpr (fieldVal_le (by omega) (by omega) (by omega)))
  refine le_antisymm ((Finset.fold_min_le _).mpr (.inr ⟨⟨n, by omega⟩, Finset.mem_univ _, ?_⟩)) ((Finset.le_fold_min _).mpr ⟨le_top, fun j _ => ?_⟩)
  · rw [pow_eq]
    split
    · exact le_rfl
    · next h =>
      have : n = 252 := by
        by_contra hne
        exact h (hlt (by omega))
      subst this
      exact le_rfl
  · rw [pow_eq]
    have hj := j.isLt
    split
    · next h =>
      refine fieldVal_le (by omega) ?_ (by omega)
      by_contra hc
      rcases h1 with h1 | h1
      · omega
      · exact absurd h (not_lt.mpr ((fieldVal_le (by omega) (by omega) (by omega)).trans (h1.trans (min_le_left _ _))))
    · exact fieldVal_le (by omega) (by omega) (by omega)

theorem field_words : ∀ n : Fin 253, IntOp.addi (IntOp.subi (BitVec.ofNat 32 n.val) 126#32) 127#32 = BitVec.ofNat 32 (n.val + 1)
    ∧ IntOp.subi 127#32 (IntOp.subi (BitVec.ofNat 32 n.val) 126#32) = BitVec.ofNat 32 (254 - (n.val + 1)) := by decide +kernel

/-- The words the kernel makes of the exponent are the fields of the scale and of its inverse. -/
theorem expoOf_spec (v : EReal) : ∃ m, 1 ≤ m ∧ m ≤ 253 ∧ IntOp.addi (expoOf v (Ideal.ofBits FTy.f32 0x7E000000#32)) 127#32 = BitVec.ofNat 32 m
    ∧ IntOp.subi 127#32 (expoOf v (Ideal.ofBits FTy.f32 0x7E000000#32)) = BitVec.ofNat 32 (254 - m) ∧ scaleOf v = fieldVal m := by
  by_cases h0 : v = 0
  · refine ⟨127, by omega, by omega, ?_, ?_, ?_⟩
    · rw [expoOf, if_pos h0]; decide
    · rw [expoOf, if_pos h0]; decide
    · rw [scaleOf, if_pos h0, fieldVal_eq _ (by omega) (by omega)]
      norm_num
  · rw [expoOf, if_neg h0, cap_eq]
    obtain ⟨n, hn, e, h1, h2⟩ := exists_field (min v (fieldVal 252)) (min_le_right _ _)
    rw [e]
    obtain ⟨a, b⟩ := field_words ⟨n, by omega⟩
    exact ⟨n + 1, by omega, by omega, a, b, scaleOf_eq v h0 n hn h1 h2⟩

/-- The inverse scale. -/
theorem fieldVal_inv (m : ℕ) (h1 : 1 ≤ m) (h2 : m ≤ 253) : fieldVal (254 - m) = Ideal.div 1 (fieldVal m) := by
  rw [fieldVal_eq _ (by omega) (by omega), fieldVal_eq _ h1 (by omega), Ideal.div_coe (by positivity), one_mul, one_div, ← zpow_neg,
    show (((254 - m : ℕ) : ℤ) - 127) = -((m : ℤ) - 127) by omega]

/-- The scale, from the exponent. -/
theorem scale_word (v : EReal) : Ideal.ofBits FTy.f32 (IntOp.shli .vector (IntOp.addi (expoOf v (Ideal.ofBits FTy.f32 0x7E000000#32)) 127#32) 23#32) = scaleOf v := by
  obtain ⟨m, _, _, a, _, c⟩ := expoOf_spec v
  rw [a, c]
  rfl

/-- Its inverse, from the exponent. -/
theorem inv_word (v : EReal) : Ideal.ofBits FTy.f32 (IntOp.shli .vector (IntOp.subi 127#32 (expoOf v (Ideal.ofBits FTy.f32 0x7E000000#32))) 23#32) = Ideal.div 1 (scaleOf v) := by
  obtain ⟨m, h1, h2, _, b, c⟩ := expoOf_spec v
  rw [b, c, ← fieldVal_inv m h1 h2]
  rfl

end Cert.Spec

end
-- ==== Proof.Value.Quant.lean ====
/- The kernel's quantiser and feed-forward part, read at an index. -/
module

public import proofs.«01_k».proof.Proof.Value.CrossAttn
public import proofs.«01_k».proof.Proof.Value.Field
public import Idealize.ShloMosaic.Lib.Pointwise

@[expose] public section

noncomputable section

namespace Cert.KernelIdeal.Model

open Cert.KernelIdeal.Gen Cert.KernelIdeal.Run
open Idealize.ShloMosaic Idealize.ShloMosaic.TcCoe

/-- One step of the search, on every row. -/
def stepV (w : FVec Ideal S256x1 .f32) (k : BitVec 32) (f : IVec S256x1 32) : IVec S256x1 32 :=
  select (cmpf .oge w (bitcastToFloat .f32 (shli (addi f (broadcast S256x1 k)) (broadcast S256x1 23#32)))) (addi f (broadcast S256x1 k)) f

theorem stepV_at (w : FVec Ideal S256x1 .f32) (k : BitVec 32) (f : IVec S256x1 32) (i : Fin 256) :
    stepV w k f (ix2 i 0) = Spec.step (w (ix2 i 0)) k (f (ix2 i 0)) := by
  pointwise [stepV]
  rfl

/-- The exponents of rows whose 448ths of the greatest magnitude are `a`, capped at `w`. -/
def expoV (a w : FVec Ideal S256x1 .f32) : IVec S256x1 32 :=
  select (cmpf .oeq a (broadcast S256x1 (Scalar.ofBits .f32 0x00000000#32))) (broadcast S256x1 0#32)
    (subi (stepV w 1#32 (stepV w 2#32 (stepV w 4#32 (stepV w 8#32 (stepV w 16#32 (stepV w 32#32 (stepV w 64#32 (stepV w 128#32 (broadcast S256x1 0#32))))))))) (broadcast S256x1 126#32))

theorem expoSel_at (a : FVec Ideal S256x1 .f32) (f : IVec S256x1 32) (i : Fin 256) :
    select (cmpf .oeq a (broadcast S256x1 (Scalar.ofBits .f32 0x00000000#32))) (broadcast S256x1 0#32) (subi f (broadcast S256x1 126#32)) (ix2 i 0)
      = if a (ix2 i 0) = 0 then 0#32 else IntOp.subi (f (ix2 i 0)) 126#32 := by
  pointwise []

theorem zero_at (i : Fin 256) : (broadcast S256x1 0#32 : IVec S256x1 32) (ix2 i 0) = 0#32 := by
  pointwise []

/-- The cap. -/
def capV (a : FVec Ideal S256x1 .f32) : FVec Ideal S256x1 .f32 := minimumf a (broadcast S256x1 (Scalar.ofBits .f32 0x7E000000#32))

theorem capV_at (a : FVec Ideal S256x1 .f32) (i : Fin 256) : capV a (ix2 i 0) = min (a (ix2 i 0)) (Ideal.ofBits FTy.f32 0x7E000000#32) := by
  pointwise [capV]

/-- A row's exponent. -/
theorem expoV_at (a : FVec Ideal S256x1 .f32) (i : Fin 256) :
    expoV a (capV a) (ix2 i 0) = Spec.expoOf (a (ix2 i 0)) (Ideal.ofBits FTy.f32 0x7E000000#32) := by
  unfold expoV
  rw [expoSel_at, stepV_at, stepV_at, stepV_at, stepV_at, stepV_at, stepV_at, stepV_at, stepV_at, zero_at, capV_at]
  rfl

/-- A 448th of the greatest magnitude of each row. -/
theorem red_at (v : FVec Ideal S256x768 .f32) (i : Fin 256) :
    (shapeCast S256x1 (multiReduction .maximumf [1] S256 (absf v) 0xFF800000#32 reduces_S256x768_S256 (.inl rfl) rfl) shapeCasts_S256_S256x1 : FVec Ideal S256x1 .f32) (ix2 i 0)
      = Spec.rowMax (fun j => FloatOps.absf (F := Ideal) (φ := .f32) (v (ix2 i j))) := by
  pointwise []
  rfl

theorem redW_at (v : FVec Ideal S256x3072 .f32) (i : Fin 256) :
    (shapeCast S256x1 (multiReduction .maximumf [1] S256 (absf v) 0xFF800000#32 reduces_S256x3072_S256 (.inl rfl) rfl) shapeCasts_S256_S256x1 : FVec Ideal S256x1 .f32) (ix2 i 0)
      = Spec.rowMax (fun j => FloatOps.absf (F := Ideal) (φ := .f32) (v (ix2 i j))) := by
  pointwise []
  rfl

theorem mul_at (v : FVec Ideal S256x1 .f32) (i : Fin 256) :
    mulf v (broadcast S256x1 (Scalar.ofBits .f32 0x3B124925#32)) (ix2 i 0) = v (ix2 i 0) * Ideal.ofBits FTy.f32 0x3B124925#32 := by
  pointwise []

theorem pay195_at (a : Vec Ideal S256x768 .bf16) (w : Vec Ideal S768x768 .bf16) (c : Vec Ideal S1x768 .f32) (h : Vec Ideal S256x768 .f32) (g b : Vec Ideal S1x768 .f32)
    (i : Fin 256) : k0_pay195 a w c h g b (ix2 i 0) = Spec.amax (fun j => k0_pay194 a w c h g b (ix2 i j)) := by
  have e : k0_pay195 a w c h g b = mulf (shapeCast S256x1 (multiReduction .maximumf [1] S256 (absf (k0_pay194 a w c h g b)) 0xFF800000#32 reduces_S256x768_S256 (.inl rfl) rfl) shapeCasts_S256_S256x1 : FVec Ideal S256x1 .f32) (broadcast S256x1 (Scalar.ofBits .f32 0x3B124925#32)) := rfl
  rw [e, mul_at, red_at]
  rfl

theorem pay209_at (a b c : FVec Ideal S256x3072 .f32) (i : Fin 256) : k0_pay209 a b c (ix2 i 0) = Spec.amax (fun j => k0_pay208 a b c (ix2 i j)) := by
  have e : k0_pay209 a b c = mulf (shapeCast S256x1 (multiReduction .maximumf [1] S256 (absf (k0_pay208 a b c)) 0xFF800000#32 reduces_S256x3072_S256 (.inl rfl) rfl) shapeCasts_S256_S256x1 : FVec Ideal S256x1 .f32) (broadcast S256x1 (Scalar.ofBits .f32 0x3B124925#32)) := rfl
  rw [e, mul_at, redW_at]
  rfl

/-- The first scales' exponents. -/
theorem pay199_eq (a : FVec Ideal S256x1 .f32) : k0_pay199 a (k0_pay196 a cst_1065) (k0_pay197 a cst_1065) (k0_pay198 a cst_1065) = expoV a (capV a) := rfl

/-- The second scales' exponents. -/
theorem pay214_eq (a b c : FVec Ideal S256x3072 .f32) :
    k0_pay214 (k0_pay209 a b c) (k0_pay210 a b c) (k0_pay211 a b c) (k0_pay212 a b c) k0_pay213 = expoV (k0_pay209 a b c) (capV (k0_pay209 a b c)) := rfl

/-- A word's scale. -/
def scaleW (f : IVec S256x1 32) : FVec Ideal S256x1 .f32 := bitcastToFloat .f32 (shli f (broadcast S256x1 23#32))

theorem scaleW_at (f : IVec S256x1 32) (i : Fin 256) : scaleW f (ix2 i 0) = Ideal.ofBits FTy.f32 (IntOp.shli .vector (f (ix2 i 0)) 23#32) := by
  pointwise [scaleW]

theorem add127_at (f : IVec S256x1 32) (i : Fin 256) : addi f (broadcast S256x1 127#32) (ix2 i 0) = IntOp.addi (f (ix2 i 0)) 127#32 := by
  pointwise []

theorem sub127_at (f : IVec S256x1 32) (i : Fin 256) : subi (broadcast S256x1 127#32) f (ix2 i 0) = IntOp.subi 127#32 (f (ix2 i 0)) := by
  pointwise []

/-- The scales. -/
theorem scales_at (a : FVec Ideal S256x1 .f32) (i : Fin 256) : scaleW (addi (expoV a (capV a)) (broadcast S256x1 127#32)) (ix2 i 0) = Spec.scaleOf (a (ix2 i 0)) := by
  rw [scaleW_at, add127_at, expoV_at, Spec.scale_word]

/-- Their inverses. -/
theorem invs_at (a : FVec Ideal S256x1 .f32) (i : Fin 256) :
    scaleW (subi (broadcast S256x1 127#32) (expoV a (capV a))) (ix2 i 0) = Ideal.div 1 (Spec.scaleOf (a (ix2 i 0))) := by
  rw [scaleW_at, sub127_at, expoV_at, Spec.inv_word]

theorem pay200_eq (a : FVec Ideal S256x1 .f32) :
    k0_pay200 a (k0_pay196 a cst_1065) (k0_pay197 a cst_1065) (k0_pay198 a cst_1065) = scaleW (addi (expoV a (capV a)) (broadcast S256x1 127#32)) := rfl

theorem pay201_eq (a : FVec Ideal S256x1 .f32) :
    k0_pay201 a (k0_pay196 a cst_1065) (k0_pay197 a cst_1065) (k0_pay198 a cst_1065) = subi (broadcast S256x1 127#32) (expoV a (capV a)) := rfl

/-- The codes of rows `v`, by inverse scales `s`. -/
def codesV (v : FVec Ideal S256x768 .f32) (s : FVec Ideal S256x1 .f32) : FVec Ideal S256x768 .fp8e4m3 :=
  truncf .fp8e4m3 (minimumf (broadcast S256x768 (Scalar.ofBits .f32 0x43E00000#32)) (maximumf (broadcast S256x768 (Scalar.ofBits .f32 0xC3E00000#32)) (mulf v (broadcastTo S256x768 s broadcasts_S256x1_S256x768)))) bitsLt_fp8e4m3_f32

theorem codesV_at (v : FVec Ideal S256x768 .f32) (s : FVec Ideal S256x1 .f32) (i : Fin 256) (j : Fin 768) :
    codesV v s (ix2 i j) = min (Ideal.ofBits FTy.f32 0x43E00000#32) (max (Ideal.ofBits FTy.f32 0xC3E00000#32) (v (ix2 i j) * s (ix2 i 0))) := by
  pointwise [codesV]

def codesW (v : FVec Ideal S256x3072 .f32) (s : FVec Ideal S256x1 .f32) : FVec Ideal S256x3072 .fp8e4m3 :=
  truncf .fp8e4m3 (minimumf (broadcast S256x3072 (Scalar.ofBits .f32 0x43E00000#32)) (maximumf (broadcast S256x3072 (Scalar.ofBits .f32 0xC3E00000#32)) (mulf v (broadcastTo S256x3072 s broadcasts_S256x1_S256x3072)))) bitsLt_fp8e4m3_f32

theorem codesW_at (v : FVec Ideal S256x3072 .f32) (s : FVec Ideal S256x1 .f32) (i : Fin 256) (j : Fin 3072) :
    codesW v s (ix2 i j) = min (Ideal.ofBits FTy.f32 0x43E00000#32) (max (Ideal.ofBits FTy.f32 0xC3E00000#32) (v (ix2 i j) * s (ix2 i 0))) := by
  pointwise [codesW]

theorem pay202_eq (v : FVec Ideal S256x768 .f32) (f : IVec S256x1 32) : k0_pay202 v f 23#32 = codesV v (scaleW f) := rfl

theorem pay216_eq (v : FVec Ideal S256x3072 .f32) (f : IVec S256x1 32) : k0_pay216 v f = codesW v (scaleW (subi (broadcast S256x1 127#32) f)) := rfl

theorem pay215_eq (f : IVec S256x1 32) : k0_pay215 (F := Ideal) f 127#32 = scaleW (addi f (broadcast S256x1 127#32)) := rfl

/-- The first product of the feed-forward part, scaled. -/
def ffW (q : FVec Ideal S256x768 .fp8e4m3) (s : FVec Ideal S256x1 .f32) (w : FVec Ideal S768x3072 .fp8e4m3) (sc b : Vec Ideal S1x3072 .f32) : FVec Ideal S256x3072 .f32 :=
  addf (mulf (mulf (matmul dot_S256x768_S768x3072_S256x3072_1_0_0_1_n_n none q w (constant S256x3072 .f32 0x00000000#32)) (broadcastTo S256x3072 s broadcasts_S256x1_S256x3072))
    (broadcastTo S256x3072 (shapeCast S1x3072 sc shapeCasts_S1x3072_S1x3072) broadcasts_S1x3072_S256x3072))
    (broadcastTo S256x3072 (shapeCast S1x3072 b shapeCasts_S1x3072_S1x3072) broadcasts_S1x3072_S256x3072)

theorem ffW_at (q : FVec Ideal S256x768 .fp8e4m3) (s : FVec Ideal S256x1 .f32) (w : FVec Ideal S768x3072 .fp8e4m3) (sc b : Vec Ideal S1x3072 .f32) (i : Fin 256) (j : Fin 3072) :
    ffW q s w sc b (ix2 i j) = Spec.lin (fun l => q (ix2 i l)) (fun l j => w (ix2 l j)) j * s (ix2 i 0) * sc (ix2 0 j) + b (ix2 0 j) := by
  pointwise [ffW]
  rfl

theorem pay204_eq (v : FVec Ideal S256x768 .f32) (s : FVec Ideal S256x1 .f32) (f : IVec S256x1 32) (w : FVec Ideal S768x3072 .fp8e4m3) (sc b : Vec Ideal S1x3072 .f32) :
    k0_pay204 v s f 23#32 w sc b = ffW (codesV v (scaleW f)) s w sc b := rfl

/-- The unit of the first product. -/
def geluW (f : FVec Ideal S256x3072 .f32) : FVec Ideal S256x3072 .f32 :=
  mulf (mulf (broadcast S256x3072 (Scalar.ofBits .f32 0x3F000000#32)) f) (addf (broadcast S256x3072 (Scalar.ofBits .f32 0x3F800000#32)) (erf (mulf f (broadcast S256x3072 (Scalar.ofBits .f32 0x3F3504F3#32)))))

theorem geluW_at (f : FVec Ideal S256x3072 .f32) (i : Fin 256) (j : Fin 3072) : geluW f (ix2 i j) = Spec.gelu (f (ix2 i j)) := by
  pointwise [geluW]
  rfl

theorem pay208_eq (v : FVec Ideal S256x768 .f32) (s : FVec Ideal S256x1 .f32) (f : IVec S256x1 32) (w : FVec Ideal S768x3072 .fp8e4m3) (sc b : Vec Ideal S1x3072 .f32) :
    k0_pay208 (k0_pay205 v s f 23#32 w sc b) (k0_pay206 v s f 23#32 w sc b) k0_pay207 = geluW (k0_pay204 v s f 23#32 w sc b) := rfl

/-- The second product, scaled. -/
def ffO (q : FVec Ideal S256x3072 .fp8e4m3) (s : FVec Ideal S256x1 .f32) (w : FVec Ideal S3072x768 .fp8e4m3) (sc : Vec Ideal S1x768 .f32) : FVec Ideal S256x768 .f32 :=
  mulf (mulf (matmul dot_S256x3072_S3072x768_S256x768_1_0_0_1_n_n none q w (constant S256x768 .f32 0x00000000#32)) (broadcastTo S256x768 s broadcasts_S256x1_S256x768))
    (broadcastTo S256x768 (shapeCast S1x768 sc shapeCasts_S1x768_S1x768) broadcasts_S1x768_S256x768)

theorem ffO_at (q : FVec Ideal S256x3072 .fp8e4m3) (s : FVec Ideal S256x1 .f32) (w : FVec Ideal S3072x768 .fp8e4m3) (sc : Vec Ideal S1x768 .f32) (i : Fin 256) (j : Fin 768) :
    ffO q s w sc (ix2 i j) = Spec.lin (fun l => q (ix2 i l)) (fun l j => w (ix2 l j)) j * s (ix2 i 0) * sc (ix2 0 j) := by
  pointwise [ffO]
  rfl

theorem pay218_eq (v : FVec Ideal S256x3072 .f32) (f : IVec S256x1 32) (w : FVec Ideal S3072x768 .fp8e4m3) (sc : Vec Ideal S1x768 .f32) :
    k0_pay218 v f 127#32 w sc = ffO (k0_pay216 v f) (scaleW (addi f (broadcast S256x1 127#32))) w sc := rfl

theorem pay219_at (b : Vec Ideal S1x768 .f32) (i : Fin 256) (j : Fin 768) : k0_pay219 b (ix2 i j) = b (ix2 0 j) := by
  pointwise [k0_pay219]

/-- The rows after cross-attention. -/
theorem pay194_at (o : Vec Ideal S256x768 .bf16) (w : Vec Ideal S768x768 .bf16) (c : Vec Ideal S1x768 .f32) (h : Vec Ideal S256x768 .f32) (g b : Vec Ideal S1x768 .f32)
    (i : Fin 256) (j : Fin 768) : k0_pay194 o w c h g b (ix2 i j)
      = Spec.norm (fun j => h (ix2 i j) + (Spec.lin (fun l => o (ix2 i l)) (fun l j => w (ix2 l j)) j + c (ix2 0 j))) (fun j => g (ix2 0 j)) (fun j => b (ix2 0 j)) j := by
  pointwise [k0_pay194]
  rfl

/-- The layer's rows. -/
theorem pay1_at (h a c : Vec Ideal S256x768 .f32) (g b : Vec Ideal S1x768 .f32) (i : Fin 256) (j : Fin 768) :
    k0_pay1 h a c g b (ix2 i j) = Spec.norm (fun j => h (ix2 i j) + (a (ix2 i j) + c (ix2 i j))) (fun j => g (ix2 0 j)) (fun j => b (ix2 0 j)) j := by
  pointwise [k0_pay1]
  rfl

/-- A column laid out as rows. -/
def colRows (s : FVec Ideal S256x1 .f32) : FVec Ideal S8x32 .f32 :=
  extractStridedSlice S8x32 ![0, 0] (multiReduction .add [1] S8x128 (select (cmpi .eq (iota .tc S8x32x128 32 [2] iota_S8x32x128_d2_w32) (iota .tc S8x32x128 32 [1] iota_S8x32x128_d1_w32))
    (shapeCast S8x32x128 (broadcastTo S256x128 (shapeCast S256x1 s shapeCasts_S256x1_S256x1) broadcasts_S256x1_S256x128) shapeCasts_S256x128_S8x32x128 : FVec Ideal S8x32x128 .f32)
    (broadcast S8x32x128 (Scalar.ofBits .f32 0x00000000#32))) 0x00000000#32 reduces_S8x32x128_S8x128 (.inl rfl) rfl) slices_S8x128_o0_0_S8x32

theorem pay203_eq (s : FVec Ideal S256x1 .f32) : k0_pay203 s = colRows s := rfl

theorem pay217_eq (f : IVec S256x1 32) : k0_pay217 (F := Ideal) f 127#32 = colRows (scaleW (addi f (broadcast S256x1 127#32))) := rfl

/-- Two small numbers as words compare as numbers. -/
theorem sel_eq (a b : Fin 32) (x y : EReal) : Scalar.select (IntOp.cmpi CmpIPredicate.eq (BitVec.ofNat 32 a.val) (BitVec.ofNat 32 b.val)) x y = if a = b then x else y := by
  rw [show IntOp.cmpi CmpIPredicate.eq (BitVec.ofNat 32 a.val) (BitVec.ofNat 32 b.val) = if a = b then 1#1 else 0#1 from by revert a b; decide]
  by_cases h : a = b
  · rw [if_pos h, if_pos h]; rfl
  · rw [if_neg h, if_neg h]; rfl

theorem colRows_at (s : FVec Ideal S256x1 .f32) (b : Fin 8) (u : Fin 32) : colRows s (ix2 b u) = s (ix2 (row b u) 0) := by
  pointwise [colRows]
  refine (Finset.sum_eq_single u (fun x _ h => ?_) (fun h => absurd (Finset.mem_univ u) h)).trans ?_
  · exact (sel_eq u x _ _).trans (if_neg (Ne.symm h))
  · refine (sel_eq u u _ _).trans ((if_pos rfl).trans (congrArg s (congrArg (fun k => ix2 k 0) (Fin.ext ?_))))
    show b.val * 32 + u.val = 32 * b.val + u.val
    omega

/-! ## The block's results -/

variable (X : Blk) (y3 : Vec Ideal S768x640 .bf16) (y4 : Vec Ideal S640x768 .bf16)

theorem v2530_at (b : Fin 8) (s : Fin 32) (j : Fin 768) :
    v2530 X y3 y4 (ix2 (row b s) j) = Spec.attend (Spec.cq (wOf X) (imgOf X b) s) (Spec.ck (wOf X) (imgOf X b)) (Spec.cv (wOf X) (imgOf X b)) j := by
  have e : v2530 X y3 y4 = View.canon (HS2_36 X y3 y4) := View.ld_unit_zero (S := S256x768) zero2 inb_S256x768_S256x768_0_0 (View.canon (HS2_36 X y3 y4))
  rw [e, crossPieces_at]
  have key : ∀ b' : Fin 8, b' = b → Spec.attend (fun c => cqs X (ix2 (row b s) c)) (Spec.ck (wOf X) (imgOf X b')) (Spec.cv (wOf X) (imgOf X b')) j
      = Spec.attend (Spec.cq (wOf X) (imgOf X b) s) (Spec.ck (wOf X) (imgOf X b)) (Spec.cv (wOf X) (imgOf X b)) j := by
    rintro _ rfl
    simp only [cqs_at]
  exact key _ (Fin.ext (by show (row b s).val / 32 = b.val; simp only [row]; omega))

/-- The rows after cross-attention. -/
theorem v2562_at (b : Fin 8) (s : Fin 32) (j : Fin 768) : v2562 X y3 y4 (ix2 (row b s) j) = Spec.h2 (wOf X) (imgOf X b) s j := by
  rw [v2562, pay194_at]
  simp only [v2530_at, v2537_at]
  rfl

theorem v2567_at (b : Fin 8) (s : Fin 32) : v2567 X y3 y4 (ix2 (row b s) 0) = Spec.amax (Spec.h2 (wOf X) (imgOf X b) s) := by
  rw [v2567, pay195_at]
  exact congrArg Spec.amax (funext fun j => v2562_at X y3 y4 b s j)

theorem v2653_scales : v2653 X y3 y4 = scaleW (addi (expoV (v2567 X y3 y4) (capV (v2567 X y3 y4))) (broadcast S256x1 127#32)) := pay200_eq _

theorem v2655_words : v2655 X y3 y4 = subi (broadcast S256x1 127#32) (expoV (v2567 X y3 y4) (capV (v2567 X y3 y4))) := pay201_eq _

/-- Their scales. -/
theorem v2653_at (b : Fin 8) (s : Fin 32) : v2653 X y3 y4 (ix2 (row b s) 0) = Spec.scale (Spec.h2 (wOf X) (imgOf X b) s) := by
  rw [v2653_scales, scales_at, v2567_at]
  rfl

/-- Their codes. -/
theorem codes_at (b : Fin 8) (s : Fin 32) (j : Fin 768) :
    k0_pay202 (v2562 X y3 y4) (v2655 X y3 y4) 23#32 (ix2 (row b s) j) = Spec.codes (Spec.h2 (wOf X) (imgOf X b) s) j := by
  rw [pay202_eq, codesV_at, v2655_words, invs_at, v2567_at, v2562_at]
  rfl

/-- The hidden rows of the feed-forward part. -/
theorem v2697_at (b : Fin 8) (s : Fin 32) (j : Fin 3072) : v2697 X y3 y4 (ix2 (row b s) j) = Spec.g (wOf X) (imgOf X b) s j := by
  have e : v2697 X y3 y4 = geluW (k0_pay204 (v2562 X y3 y4) (v2653 X y3 y4) (v2655 X y3 y4) 23#32 X.x23 X.x24 X.x25) := pay208_eq _ _ _ _ _ _
  rw [e, geluW_at, pay204_eq, ffW_at, v2653_at, ← pay202_eq]
  simp only [codes_at]
  rfl

theorem v2702_at (b : Fin 8) (s : Fin 32) : v2702 X y3 y4 (ix2 (row b s) 0) = Spec.amax (Spec.g (wOf X) (imgOf X b) s) := by
  rw [v2702, pay209_at]
  exact congrArg Spec.amax (funext fun j => v2697_at X y3 y4 b s j)

theorem v2783_expo : v2783 X y3 y4 = expoV (v2702 X y3 y4) (capV (v2702 X y3 y4)) := pay214_eq _ _ _

/-- Their scales. -/
theorem gscale_at (b : Fin 8) (s : Fin 32) :
    scaleW (addi (v2783 X y3 y4) (broadcast S256x1 127#32)) (ix2 (row b s) 0) = Spec.scale (Spec.g (wOf X) (imgOf X b) s) := by
  rw [v2783_expo, scales_at, v2702_at]
  rfl

/-- Their codes. -/
theorem gcodes_at (b : Fin 8) (s : Fin 32) (j : Fin 3072) :
    k0_pay216 (v2697 X y3 y4) (v2783 X y3 y4) (ix2 (row b s) j) = Spec.codes (Spec.g (wOf X) (imgOf X b) s) j := by
  rw [pay216_eq, codesW_at, v2783_expo, invs_at, v2702_at, v2697_at]
  rfl

theorem v2820_at (b : Fin 8) (s : Fin 32) (j : Fin 768) : v2820 X y3 y4 (ix2 (row b s) j)
    = Spec.lin (Spec.codes (Spec.g (wOf X) (imgOf X b) s)) (wOf X).ff2 j * Spec.scale (Spec.g (wOf X) (imgOf X b) s) * (wOf X).sff2 j := by
  have e : v2820 X y3 y4 = ffO (k0_pay216 (v2697 X y3 y4) (v2783 X y3 y4)) (scaleW (addi (v2783 X y3 y4) (broadcast S256x1 127#32))) X.x26 X.x27 := pay218_eq _ _ _ _
  rw [e, ffO_at, gscale_at]
  simp only [gcodes_at]
  rfl

/-- The layer's rows. -/
theorem out_at (b : Fin 8) (s : Fin 32) (j : Fin 768) :
    k0_pay1 (v2562 X y3 y4) (v2820 X y3 y4) (v2823 X) X.x29 X.x30 (ix2 (row b s) j) = Spec.out (wOf X) (imgOf X b) s j := by
  rw [pay1_at]
  simp only [v2562_at, v2820_at, v2823, pay219_at]
  rfl

/-- The first scales, as rows. -/
theorem scaleRows_at (b : Fin 8) (s : Fin 32) : k0_pay203 (v2653 X y3 y4) (ix2 b s) = Spec.scale (Spec.h2 (wOf X) (imgOf X b) s) := by
  rw [pay203_eq, colRows_at, v2653_at]

/-- The second scales, as rows. -/
theorem gscaleRows_at (b : Fin 8) (s : Fin 32) : k0_pay217 (F := Ideal) (v2783 X y3 y4) 127#32 (ix2 b s) = Spec.scale (Spec.g (wOf X) (imgOf X b) s) := by
  rw [pay217_eq, colRows_at, gscale_at]

end Cert.KernelIdeal.Model

end
-- ==== Proof.Value.Outs.lean ====
/- What the body leaves in a block's results, whatever its scratch held. -/
module

public import proofs.«01_k».proof.Proof.Value.Quant

@[expose] public section

noncomputable section

namespace Cert.KernelIdeal.Model

open Cert.KernelIdeal.Gen Cert.KernelIdeal.Run
open Idealize.ShloMosaic Idealize.ShloMosaic.TcCoe

/-- The image of a row of the block, -/
def ofImg (r : Fin 256) : Fin 8 := ⟨r.val / 32, by omega⟩
/-- and its token. -/
def ofTok (r : Fin 256) : Fin 32 := ⟨r.val % 32, by omega⟩

theorem ofImg_row (b : Fin 8) (s : Fin 32) : ofImg (row b s) = b := Fin.ext (by simp only [ofImg, row]; omega)
theorem ofTok_row (b : Fin 8) (s : Fin 32) : ofTok (row b s) = s := Fin.ext (by simp only [ofTok, row]; omega)

variable (X : Blk) (y3 : Vec Ideal S768x640 .bf16) (y4 : Vec Ideal S640x768 .bf16)

/-- The layer's rows. -/
def res0 : Vec Ideal S256x768 .bf16 := fun y => Spec.out (wOf X) (imgOf X (ofImg (y 0))) (ofTok (y 0)) (y 1)
/-- The first codes. -/
def res1 : Vec Ideal S256x768 .fp8e4m3 := fun y => Spec.codes (Spec.h2 (wOf X) (imgOf X (ofImg (y 0))) (ofTok (y 0))) (y 1)
/-- The first scales. -/
def res2 : Vec Ideal S8x32 .f32 := fun y => Spec.scale (Spec.h2 (wOf X) (imgOf X (y 0)) (y 1))
/-- The second codes. -/
def res3 : Vec Ideal S256x3072 .fp8e4m3 := fun y => Spec.codes (Spec.g (wOf X) (imgOf X (ofImg (y 0))) (ofTok (y 0))) (y 1)
/-- The second scales. -/
def res4 : Vec Ideal S8x32 .f32 := fun y => Spec.scale (Spec.g (wOf X) (imgOf X (y 0)) (y 1))

theorem res0_at (b : Fin 8) (s : Fin 32) (j : Fin 768) : res0 X (ix2 (row b s) j) = Spec.out (wOf X) (imgOf X b) s j := by
  show Spec.out (wOf X) (imgOf X (ofImg (row b s))) (ofTok (row b s)) j = _
  rw [ofImg_row, ofTok_row]

theorem res0_eq : k0_pay1 (v2562 X y3 y4) (v2820 X y3 y4) (v2823 X) X.x29 X.x30 = res0 X := by
  funext y
  obtain ⟨b, s, h⟩ := exists_row (y 0)
  rw [eq_ix2 y, h]
  exact (out_at X y3 y4 b s (y 1)).trans (res0_at X b s (y 1)).symm

theorem res1_at (b : Fin 8) (s : Fin 32) (j : Fin 768) : res1 X (ix2 (row b s) j) = Spec.codes (Spec.h2 (wOf X) (imgOf X b) s) j := by
  show Spec.codes (Spec.h2 (wOf X) (imgOf X (ofImg (row b s))) (ofTok (row b s))) j = _
  rw [ofImg_row, ofTok_row]

theorem res1_eq : k0_pay202 (v2562 X y3 y4) (v2655 X y3 y4) 23#32 = res1 X := by
  funext y
  obtain ⟨b, s, h⟩ := exists_row (y 0)
  rw [eq_ix2 y, h]
  exact (codes_at X y3 y4 b s (y 1)).trans (res1_at X b s (y 1)).symm

theorem res2_eq : k0_pay203 (v2653 X y3 y4) = res2 X := by
  funext y
  rw [eq_ix2 y]
  exact scaleRows_at X y3 y4 (y 0) (y 1)

theorem res3_at (b : Fin 8) (s : Fin 32) (j : Fin 3072) : res3 X (ix2 (row b s) j) = Spec.codes (Spec.g (wOf X) (imgOf X b) s) j := by
  show Spec.codes (Spec.g (wOf X) (imgOf X (ofImg (row b s))) (ofTok (row b s))) j = _
  rw [ofImg_row, ofTok_row]

theorem res3_eq : k0_pay216 (v2697 X y3 y4) (v2783 X y3 y4) = res3 X := by
  funext y
  obtain ⟨b, s, h⟩ := exists_row (y 0)
  rw [eq_ix2 y, h]
  exact (gcodes_at X y3 y4 b s (y 1)).trans (res3_at X b s (y 1)).symm

theorem res4_eq : k0_pay217 (F := Ideal) (v2783 X y3 y4) 127#32 = res4 X := by
  funext y
  rw [eq_ix2 y]
  exact gscaleRows_at X y3 y4 (y 0) (y 1)

end Cert.KernelIdeal.Model

end
-- ==== Proof.IdealRun.Named.lean ====
/- The body's triple with its results named: on whole memrefs it leaves the block's results, whatever the scratch held. -/
module

public import proofs.«01_k».proof.Proof.IdealRun.RunOwns
public import proofs.«01_k».proof.Proof.Value.ModelEq
public import proofs.«01_k».proof.Proof.Value.Outs

@[expose] public section

set_option maxRecDepth 16384
set_option maxHeartbeats 4000000

noncomputable section

namespace Cert.KernelIdeal.Model

open Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- One write of a whole array is read back, whatever was there. -/
theorem read_one {S : Shape} {e : EltTy} (v : View sig .tc .vmem S e) (f : v.ty.Contents (Elt Ideal)) {off : Fin S.rank → ℕ} (h : off = fun _ => 0)
    (inb : ∀ a, off a + S.size a ≤ S.size a) (w : S.Idx → Elt Ideal e) :
    v.read (Elt Ideal) (v.writes (Elt Ideal) f [⟨Rect.unit off S.size inb, w⟩]) = w := by
  subst h
  rw [read_over]
  funext y
  have e : (Rect.unit (fun _ => 0) S.size inb).emb y = y := funext fun a => Fin.ext (by show 0 + 1 * (y a).val = (y a).val; omega)
  show (Rect.unit (fun _ => 0) S.size inb).overlay _ _ y = w y
  conv_lhs => rw [← e]
  exact Rect.overlay_emb _ _ _ _

section lists
variable (X : Blk) (c : Dev nD) (i : grid0.Coords)
  (a1 : Memref sig .tc .vmem S256x768 .bf16) (p1 : a1.IsWhole) (a2 : Memref sig .tc .vmem S8x577x1024 .fp8e4m3) (p2 : a2.IsWhole) (a3 : Memref sig .tc .vmem S8x577 .f32) (p3 : a3.IsWhole) (a4 : Memref sig .tc .vmem S768x768 .bf16) (p4 : a4.IsWhole) (a5 : Memref sig .tc .vmem S768x768 .bf16) (p5 : a5.IsWhole) (a6 : Memref sig .tc .vmem S768x768 .bf16) (p6 : a6.IsWhole) (a7 : Memref sig .tc .vmem S768x768 .bf16) (p7 : a7.IsWhole) (a8 : Memref sig .tc .vmem S1x768 .f32) (p8 : a8.IsWhole) (a9 : Memref sig .tc .vmem S1x768 .f32) (p9 : a9.IsWhole) (a10 : Memref sig .tc .vmem S1x768 .f32) (p10 : a10.IsWhole) (a11 : Memref sig .tc .vmem S1x768 .f32) (p11 : a11.IsWhole) (a12 : Memref sig .tc .vmem S1x768 .f32) (p12 : a12.IsWhole) (a13 : Memref sig .tc .vmem S768x768 .bf16) (p13 : a13.IsWhole) (a14 : Memref sig .tc .vmem S768x768 .bf16) (p14 : a14.IsWhole) (a15 : Memref sig .tc .vmem S1x768 .f32) (p15 : a15.IsWhole) (a16 : Memref sig .tc .vmem S1x768 .f32) (p16 : a16.IsWhole) (a17 : Memref sig .tc .vmem S768x1024 .fp8e4m3) (p17 : a17.IsWhole) (a18 : Memref sig .tc .vmem S1024x768 .fp8e4m3) (p18 : a18.IsWhole) (a19 : Memref sig .tc .vmem S768x1 .f32) (p19 : a19.IsWhole) (a20 : Memref sig .tc .vmem S1x768 .f32) (p20 : a20.IsWhole) (a21 : Memref sig .tc .vmem S1x768 .f32) (p21 : a21.IsWhole) (a22 : Memref sig .tc .vmem S1x768 .f32) (p22 : a22.IsWhole) (a23 : Memref sig .tc .vmem S1x768 .f32) (p23 : a23.IsWhole) (a24 : Memref sig .tc .vmem S768x3072 .fp8e4m3) (p24 : a24.IsWhole) (a25 : Memref sig .tc .vmem S1x3072 .f32) (p25 : a25.IsWhole) (a26 : Memref sig .tc .vmem S1x3072 .f32) (p26 : a26.IsWhole) (a27 : Memref sig .tc .vmem S3072x768 .fp8e4m3) (p27 : a27.IsWhole) (a28 : Memref sig .tc .vmem S1x768 .f32) (p28 : a28.IsWhole) (a29 : Memref sig .tc .vmem S1x768 .f32) (p29 : a29.IsWhole) (a30 : Memref sig .tc .vmem S1x768 .f32) (p30 : a30.IsWhole) (a31 : Memref sig .tc .vmem S1x768 .f32) (p31 : a31.IsWhole) (a32 : Memref sig .tc .vmem S256x768 .bf16) (p32 : a32.IsWhole) (a33 : Memref sig .tc .vmem S256x768 .fp8e4m3) (p33 : a33.IsWhole) (a34 : Memref sig .tc .vmem S8x32 .f32) (p34 : a34.IsWhole) (a35 : Memref sig .tc .vmem S256x3072 .fp8e4m3) (p35 : a35.IsWhole) (a36 : Memref sig .tc .vmem S8x32 .f32) (p36 : a36.IsWhole) (a37 : Memref sig .tc .vmem S256x768 .f32) (p37 : a37.IsWhole) (a38 : Memref sig .tc .vmem S256x768 .bf16) (p38 : a38.IsWhole) (a39 : Memref sig .tc .vmem S256x768 .bf16) (p39 : a39.IsWhole) (a40 : Memref sig .tc .vmem S768x640 .bf16) (p40 : a40.IsWhole) (a41 : Memref sig .tc .vmem S640x768 .bf16) (p41 : a41.IsWhole) (a42 : Memref sig .tc .vmem S577x8 .f32) (p42 : a42.IsWhole)
  (f31 : a32.view.ty.Contents (Elt Ideal)) (f32 : a33.view.ty.Contents (Elt Ideal)) (f33 : a34.view.ty.Contents (Elt Ideal)) (f34 : a35.view.ty.Contents (Elt Ideal)) (f35 : a36.view.ty.Contents (Elt Ideal)) (fs0 : a37.view.ty.Contents (Elt Ideal)) (fs1 : a38.view.ty.Contents (Elt Ideal)) (fs2 : a39.view.ty.Contents (Elt Ideal)) (fs3 : a40.view.ty.Contents (Elt Ideal)) (fs4 : a41.view.ty.Contents (Elt Ideal)) (fs5 : a42.view.ty.Contents (Elt Ideal))

theorem list0 : (kernelRun (F := Ideal) c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 X.x27 X.x28 X.x29 X.x30 f31 f32 f33 f34 f35 fs0 fs1 fs2 fs3 fs4 fs5).1 = [⟨Rect.unit ![0, 0] S256x768.size inb_S256x768_S256x768_0_0, res0 X⟩] := by
  unfold kernelRun
  simp only [v2562_eq, v2820_eq, v2823_eq, ↓ld_all, res0_eq]

theorem list1 : (kernelRun (F := Ideal) c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 X.x27 X.x28 X.x29 X.x30 f31 f32 f33 f34 f35 fs0 fs1 fs2 fs3 fs4 fs5).2.1 = [⟨Rect.unit ![0, 0] S256x768.size inb_S256x768_S256x768_0_0, res1 X⟩] := by
  unfold kernelRun
  simp only [H32_1_eq, H32_1, ↓ld_all, res1_eq]

theorem list2 : (kernelRun (F := Ideal) c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 X.x27 X.x28 X.x29 X.x30 f31 f32 f33 f34 f35 fs0 fs1 fs2 fs3 fs4 fs5).2.2.1 = [⟨Rect.unit ![0, 0] S8x32.size inb_S8x32_S8x32_0_0, res2 X⟩] := by
  unfold kernelRun
  simp only [H33_1_eq, H33_1, ↓ld_all, res2_eq]

theorem list3 : (kernelRun (F := Ideal) c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 X.x27 X.x28 X.x29 X.x30 f31 f32 f33 f34 f35 fs0 fs1 fs2 fs3 fs4 fs5).2.2.2.1 = [⟨Rect.unit ![0, 0] S256x3072.size inb_S256x3072_S256x3072_0_0, res3 X⟩] := by
  unfold kernelRun
  simp only [v2697_eq, v2783_eq, ↓ld_all, res3_eq]

theorem list4 : (kernelRun (F := Ideal) c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 X.x27 X.x28 X.x29 X.x30 f31 f32 f33 f34 f35 fs0 fs1 fs2 fs3 fs4 fs5).2.2.2.2.val = [⟨Rect.unit ![0, 0] S8x32.size inb_S8x32_S8x32_0_0, res4 X⟩] := by
  unfold kernelRun
  simp only [v2783_eq, ↓ld_all, res4_eq]

end lists

/-- The body's triple. -/
theorem bodyRun (X : Blk) (c : Dev nD) (i : grid0.Coords) (a1 : Memref sig .tc .vmem S256x768 .bf16) (p1 : a1.IsWhole) (a2 : Memref sig .tc .vmem S8x577x1024 .fp8e4m3) (p2 : a2.IsWhole) (a3 : Memref sig .tc .vmem S8x577 .f32) (p3 : a3.IsWhole) (a4 : Memref sig .tc .vmem S768x768 .bf16) (p4 : a4.IsWhole) (a5 : Memref sig .tc .vmem S768x768 .bf16) (p5 : a5.IsWhole) (a6 : Memref sig .tc .vmem S768x768 .bf16) (p6 : a6.IsWhole) (a7 : Memref sig .tc .vmem S768x768 .bf16) (p7 : a7.IsWhole) (a8 : Memref sig .tc .vmem S1x768 .f32) (p8 : a8.IsWhole) (a9 : Memref sig .tc .vmem S1x768 .f32) (p9 : a9.IsWhole) (a10 : Memref sig .tc .vmem S1x768 .f32) (p10 : a10.IsWhole) (a11 : Memref sig .tc .vmem S1x768 .f32) (p11 : a11.IsWhole) (a12 : Memref sig .tc .vmem S1x768 .f32) (p12 : a12.IsWhole) (a13 : Memref sig .tc .vmem S768x768 .bf16) (p13 : a13.IsWhole) (a14 : Memref sig .tc .vmem S768x768 .bf16) (p14 : a14.IsWhole) (a15 : Memref sig .tc .vmem S1x768 .f32) (p15 : a15.IsWhole) (a16 : Memref sig .tc .vmem S1x768 .f32) (p16 : a16.IsWhole) (a17 : Memref sig .tc .vmem S768x1024 .fp8e4m3) (p17 : a17.IsWhole) (a18 : Memref sig .tc .vmem S1024x768 .fp8e4m3) (p18 : a18.IsWhole) (a19 : Memref sig .tc .vmem S768x1 .f32) (p19 : a19.IsWhole) (a20 : Memref sig .tc .vmem S1x768 .f32) (p20 : a20.IsWhole) (a21 : Memref sig .tc .vmem S1x768 .f32) (p21 : a21.IsWhole) (a22 : Memref sig .tc .vmem S1x768 .f32) (p22 : a22.IsWhole) (a23 : Memref sig .tc .vmem S1x768 .f32) (p23 : a23.IsWhole) (a24 : Memref sig .tc .vmem S768x3072 .fp8e4m3) (p24 : a24.IsWhole) (a25 : Memref sig .tc .vmem S1x3072 .f32) (p25 : a25.IsWhole) (a26 : Memref sig .tc .vmem S1x3072 .f32) (p26 : a26.IsWhole) (a27 : Memref sig .tc .vmem S3072x768 .fp8e4m3) (p27 : a27.IsWhole) (a28 : Memref sig .tc .vmem S1x768 .f32) (p28 : a28.IsWhole) (a29 : Memref sig .tc .vmem S1x768 .f32) (p29 : a29.IsWhole) (a30 : Memref sig .tc .vmem S1x768 .f32) (p30 : a30.IsWhole) (a31 : Memref sig .tc .vmem S1x768 .f32) (p31 : a31.IsWhole) (a32 : Memref sig .tc .vmem S256x768 .bf16) (p32 : a32.IsWhole) (a33 : Memref sig .tc .vmem S256x768 .fp8e4m3) (p33 : a33.IsWhole) (a34 : Memref sig .tc .vmem S8x32 .f32) (p34 : a34.IsWhole) (a35 : Memref sig .tc .vmem S256x3072 .fp8e4m3) (p35 : a35.IsWhole) (a36 : Memref sig .tc .vmem S8x32 .f32) (p36 : a36.IsWhole) (a37 : Memref sig .tc .vmem S256x768 .f32) (p37 : a37.IsWhole) (a38 : Memref sig .tc .vmem S256x768 .bf16) (p38 : a38.IsWhole) (a39 : Memref sig .tc .vmem S256x768 .bf16) (p39 : a39.IsWhole) (a40 : Memref sig .tc .vmem S768x640 .bf16) (p40 : a40.IsWhole) (a41 : Memref sig .tc .vmem S640x768 .bf16) (p41 : a41.IsWhole) (a42 : Memref sig .tc .vmem S577x8 .f32) (p42 : a42.IsWhole) :
      ∀ (E : Set ℕ) (K : PUnit → sProp 𝕄),
        iprop(owns (c : Thread nD τ) a1 fullShare X.x0 ∗ owns (c : Thread nD τ) a2 fullShare X.x1 ∗ owns (c : Thread nD τ) a3 fullShare X.x2 ∗ owns (c : Thread nD τ) a4 fullShare X.x3 ∗ owns (c : Thread nD τ) a5 fullShare X.x4 ∗ owns (c : Thread nD τ) a6 fullShare X.x5 ∗ owns (c : Thread nD τ) a7 fullShare X.x6 ∗ owns (c : Thread nD τ) a8 fullShare X.x7 ∗ owns (c : Thread nD τ) a9 fullShare X.x8 ∗ owns (c : Thread nD τ) a10 fullShare X.x9 ∗ owns (c : Thread nD τ) a11 fullShare X.x10 ∗ owns (c : Thread nD τ) a12 fullShare X.x11 ∗ owns (c : Thread nD τ) a13 fullShare X.x12 ∗ owns (c : Thread nD τ) a14 fullShare X.x13 ∗ owns (c : Thread nD τ) a15 fullShare X.x14 ∗ owns (c : Thread nD τ) a16 fullShare X.x15 ∗ owns (c : Thread nD τ) a17 fullShare X.x16 ∗ owns (c : Thread nD τ) a18 fullShare X.x17 ∗ owns (c : Thread nD τ) a19 fullShare X.x18 ∗ owns (c : Thread nD τ) a20 fullShare X.x19 ∗ owns (c : Thread nD τ) a21 fullShare X.x20 ∗ owns (c : Thread nD τ) a22 fullShare X.x21 ∗ owns (c : Thread nD τ) a23 fullShare X.x22 ∗ owns (c : Thread nD τ) a24 fullShare X.x23 ∗ owns (c : Thread nD τ) a25 fullShare X.x24 ∗ owns (c : Thread nD τ) a26 fullShare X.x25 ∗ owns (c : Thread nD τ) a27 fullShare X.x26 ∗ owns (c : Thread nD τ) a28 fullShare X.x27 ∗ owns (c : Thread nD τ) a29 fullShare X.x28 ∗ owns (c : Thread nD τ) a30 fullShare X.x29 ∗ owns (c : Thread nD τ) a31 fullShare X.x30 ∗ (∃ d, owns (c : Thread nD τ) a32 fullShare d) ∗ (∃ d, owns (c : Thread nD τ) a33 fullShare d) ∗ (∃ d, owns (c : Thread nD τ) a34 fullShare d) ∗ (∃ d, owns (c : Thread nD τ) a35 fullShare d) ∗ (∃ d, owns (c : Thread nD τ) a36 fullShare d) ∗ (∃ d, owns (c : Thread nD τ) a37 fullShare d) ∗ (∃ d, owns (c : Thread nD τ) a38 fullShare d) ∗ (∃ d, owns (c : Thread nD τ) a39 fullShare d) ∗ (∃ d, owns (c : Thread nD τ) a40 fullShare d) ∗ (∃ d, owns (c : Thread nD τ) a41 fullShare d) ∗ (∃ d, owns (c : Thread nD τ) a42 fullShare d)
            ∗ (iprop(owns (c : Thread nD τ) a1 fullShare X.x0 ∗ owns (c : Thread nD τ) a2 fullShare X.x1 ∗ owns (c : Thread nD τ) a3 fullShare X.x2 ∗ owns (c : Thread nD τ) a4 fullShare X.x3 ∗ owns (c : Thread nD τ) a5 fullShare X.x4 ∗ owns (c : Thread nD τ) a6 fullShare X.x5 ∗ owns (c : Thread nD τ) a7 fullShare X.x6 ∗ owns (c : Thread nD τ) a8 fullShare X.x7 ∗ owns (c : Thread nD τ) a9 fullShare X.x8 ∗ owns (c : Thread nD τ) a10 fullShare X.x9 ∗ owns (c : Thread nD τ) a11 fullShare X.x10 ∗ owns (c : Thread nD τ) a12 fullShare X.x11 ∗ owns (c : Thread nD τ) a13 fullShare X.x12 ∗ owns (c : Thread nD τ) a14 fullShare X.x13 ∗ owns (c : Thread nD τ) a15 fullShare X.x14 ∗ owns (c : Thread nD τ) a16 fullShare X.x15 ∗ owns (c : Thread nD τ) a17 fullShare X.x16 ∗ owns (c : Thread nD τ) a18 fullShare X.x17 ∗ owns (c : Thread nD τ) a19 fullShare X.x18 ∗ owns (c : Thread nD τ) a20 fullShare X.x19 ∗ owns (c : Thread nD τ) a21 fullShare X.x20 ∗ owns (c : Thread nD τ) a22 fullShare X.x21 ∗ owns (c : Thread nD τ) a23 fullShare X.x22 ∗ owns (c : Thread nD τ) a24 fullShare X.x23 ∗ owns (c : Thread nD τ) a25 fullShare X.x24 ∗ owns (c : Thread nD τ) a26 fullShare X.x25 ∗ owns (c : Thread nD τ) a27 fullShare X.x26 ∗ owns (c : Thread nD τ) a28 fullShare X.x27 ∗ owns (c : Thread nD τ) a29 fullShare X.x28 ∗ owns (c : Thread nD τ) a30 fullShare X.x29 ∗ owns (c : Thread nD τ) a31 fullShare X.x30 ∗ owns (c : Thread nD τ) a32 fullShare (res0 X) ∗ owns (c : Thread nD τ) a33 fullShare (res1 X) ∗ owns (c : Thread nD τ) a34 fullShare (res2 X) ∗ owns (c : Thread nD τ) a35 fullShare (res3 X) ∗ owns (c : Thread nD τ) a36 fullShare (res4 X) ∗ (∃ d, owns (c : Thread nD τ) a37 fullShare d) ∗ (∃ d, owns (c : Thread nD τ) a38 fullShare d) ∗ (∃ d, owns (c : Thread nD τ) a39 fullShare d) ∗ (∃ d, owns (c : Thread nD τ) a40 fullShare d) ∗ (∃ d, owns (c : Thread nD τ) a41 fullShare d) ∗ (∃ d, owns (c : Thread nD τ) a42 fullShare d)) -∗ K ⟨⟩))
          ⊢ wp frame (wpE (defs₀ (F := Ideal)) Variants.none c none) E (cc0_qformer_layer i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42) K :=
  kernelRun_owns c i a1 p1 a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a32 p32 a33 p33 a34 p34 a35 p35 a36 p36 a37 p37 a38 p38 a39 p39 a40 p40 a41 p41 a42 p42 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 X.x27 X.x28 X.x29 X.x30 (res0 X) (res1 X) (res2 X) (res3 X) (res4 X)
    (fun _ _ _ _ _ _ _ _ _ _ _ => by rw [list0]; exact read_one (S := S256x768) _ _ zero2 _ _)
    (fun _ _ _ _ _ _ _ _ _ _ _ => by rw [list1]; exact read_one (S := S256x768) _ _ zero2 _ _)
    (fun _ _ _ _ _ _ _ _ _ _ _ => by rw [list2]; exact read_one (S := S8x32) _ _ zero2 _ _)
    (fun _ _ _ _ _ _ _ _ _ _ _ => by rw [list3]; exact read_one (S := S256x3072) _ _ zero2 _ _)
    (fun _ _ _ _ _ _ _ _ _ _ _ => by rw [list4]; exact read_one (S := S8x32) _ _ zero2 _ _)

end Cert.KernelIdeal.Model

end
-- ==== Proof.IdealRun.NamedFrame.lean ====
/- The run of `Cert.KernelIdeal` with its results named: proof data, the body obligation, the run. -/
module

public import proofs.«01_k».proof.Proof.IdealRun.Named

@[expose] public section

set_option maxHeartbeats 4000000
-- membership in a rectangle of production extents (`View.cover_of_tiled`): the elaborator's structural look
-- recurses once per coordinate of the long axes
set_option maxRecDepth 16384

noncomputable section

namespace Cert.KernelIdeal.Val

open Cert.KernelIdeal.Gen Cert.KernelIdeal.Run Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The blocks of point `t`. -/
abbrev blk (c : Dev nD) (t : Fin cfg0.N) : Blk :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t, iblk m c 26 t, iblk m c 27 t, iblk m c 28 t, iblk m c 29 t, iblk m c 30 t⟩

/-- The proof data of the one pipeline on core `c`: the arrays as the region finds them (`V`); after the body at
    point `t` each input's buffer at its block and the outputs' at the block's results; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => res0 (blk m c t)
    | ⟨32, _⟩ => res1 (blk m c t)
    | ⟨33, _⟩ => res2 (blk m c t)
    | ⟨34, _⟩ => res3 (blk m c t)
    | ⟨35, _⟩ => res4 (blk m c t)
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]

theorem after0_31 (c : Dev nD) (t : Fin cfg0.N) : (dats m 0 c).after 31 t = res0 (blk m c t) := by dsimp only [dats]
theorem after0_32 (c : Dev nD) (t : Fin cfg0.N) : (dats m 0 c).after 32 t = res1 (blk m c t) := by dsimp only [dats]
theorem after0_33 (c : Dev nD) (t : Fin cfg0.N) : (dats m 0 c).after 33 t = res2 (blk m c t) := by dsimp only [dats]
theorem after0_34 (c : Dev nD) (t : Fin cfg0.N) : (dats m 0 c).after 34 t = res3 (blk m c t) := by dsimp only [dats]
theorem after0_35 (c : Dev nD) (t : Fin cfg0.N) : (dats m 0 c).after 35 t = res4 (blk m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t))

set_option maxHeartbeats 4000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply (bodyRun (blk m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  isplitl [H32]; · iexists _; iexact H32
  isplitl [H33]; · iexists _; iexact H33
  isplitl [H34]; · iexists _; iexact H34
  isplitl [H35]; · iexists _; iexact H35
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, H20, H21, H22, H23, H24, H25, H26, H27, H28, H29, H30, H31, H32, H33, H34, H35, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- The launch, with every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution of @main ends, with every array of the pipeline at what the proof data say. -/
theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Val

end
-- ==== Proof.IdealRun.Blocks.lean ====
/- The arrays the host prepares before the region, and the blocks of a grid point read from the arguments. -/
module

public import proofs.«01_k».proof.Proof.IdealRun.NamedFrame
public import Idealize.ShloMosaic.Lib.Pointwise

@[expose] public section

noncomputable section

namespace Cert.KernelIdeal.Val

open Cert.KernelIdeal.Gen Cert.KernelIdeal.Run Cert.KernelIdeal.Model
open Idealize.ShloMosaic Idealize.ShloMosaic.TcCoe
open Idealize.SL.Sem

variable (m : (ℓ : Loc nD τ sig) → Buf (Elt Ideal) ℓ)

/-! ## The arrays the host prepares -/

theorem V_main_v0 (c : Dev nD) : V m c main_v0 = shapeCast S3840x768 (m ((c : Thread nD τ).loc main_arg0)) shapeCasts_S120x32x768_S3840x768 := by
  show StableHlo.after hostOps0 _ (Proc.devRef .tc main_v0) = _
  after_results
  rfl

theorem V_main_v1 (c : Dev nD) : V m c main_v1 = shapeCast S1x768 (m ((c : Thread nD τ).loc main_arg7)) shapeCasts_S768_S1x768 := by
  show StableHlo.after hostOps0 _ (Proc.devRef .tc main_v1) = _
  after_results
  rfl

theorem V_main_v2 (c : Dev nD) : V m c main_v2 = shapeCast S1x768 (m ((c : Thread nD τ).loc main_arg8)) shapeCasts_S768_S1x768 := by
  show StableHlo.after hostOps0 _ (Proc.devRef .tc main_v2) = _
  after_results
  rfl

theorem V_main_v3 (c : Dev nD) : V m c main_v3 = shapeCast S1x768 (m ((c : Thread nD τ).loc main_arg9)) shapeCasts_S768_S1x768 := by
  show StableHlo.after hostOps0 _ (Proc.devRef .tc main_v3) = _
  after_results
  rfl

theorem V_main_v4 (c : Dev nD) : V m c main_v4 = shapeCast S1x768 (m ((c : Thread nD τ).loc main_arg10)) shapeCasts_S768_S1x768 := by
  show StableHlo.after hostOps0 _ (Proc.devRef .tc main_v4) = _
  after_results
  rfl

theorem V_main_v5 (c : Dev nD) : V m c main_v5 = shapeCast S1x768 (m ((c : Thread nD τ).loc main_arg11)) shapeCasts_S768_S1x768 := by
  show StableHlo.after hostOps0 _ (Proc.devRef .tc main_v5) = _
  after_results
  rfl

theorem V_main_v6 (c : Dev nD) : V m c main_v6 = shapeCast S1x768 (m ((c : Thread nD τ).loc main_arg14)) shapeCasts_S768_S1x768 := by
  show StableHlo.after hostOps0 _ (Proc.devRef .tc main_v6) = _
  after_results
  rfl

theorem V_main_v7 (c : Dev nD) : V m c main_v7 = shapeCast S1x768 (m ((c : Thread nD τ).loc main_arg15)) shapeCasts_S768_S1x768 := by
  show StableHlo.after hostOps0 _ (Proc.devRef .tc main_v7) = _
  after_results
  rfl

theorem V_main_v8 (c : Dev nD) : V m c main_v8 = transpose S768x1024 [1, 0] (m ((c : Thread nD τ).loc main_arg16)) transposes_S1024x768_S768x1024_1_0 := by
  show StableHlo.after hostOps0 _ (Proc.devRef .tc main_v8) = _
  after_results

theorem V_main_v9 (c : Dev nD) : V m c main_v9 = shapeCast S768x1 (m ((c : Thread nD τ).loc main_arg18)) shapeCasts_S768_S768x1 := by
  show StableHlo.after hostOps0 _ (Proc.devRef .tc main_v9) = _
  after_results
  rfl

theorem V_main_v10 (c : Dev nD) : V m c main_v10 = shapeCast S1x768 (m ((c : Thread nD τ).loc main_arg19)) shapeCasts_S768_S1x768 := by
  show StableHlo.after hostOps0 _ (Proc.devRef .tc main_v10) = _
  after_results
  rfl

theorem V_main_v11 (c : Dev nD) : V m c main_v11 = shapeCast S1x768 (m ((c : Thread nD τ).loc main_arg20)) shapeCasts_S768_S1x768 := by
  show StableHlo.after hostOps0 _ (Proc.devRef .tc main_v11) = _
  after_results
  rfl

theorem V_main_v12 (c : Dev nD) : V m c main_v12 = shapeCast S1x768 (m ((c : Thread nD τ).loc main_arg21)) shapeCasts_S768_S1x768 := by
  show StableHlo.after hostOps0 _ (Proc.devRef .tc main_v12) = _
  after_results
  rfl

theorem V_main_v13 (c : Dev nD) : V m c main_v13 = shapeCast S1x768 (m ((c : Thread nD τ).loc main_arg22)) shapeCasts_S768_S1x768 := by
  show StableHlo.after hostOps0 _ (Proc.devRef .tc main_v13) = _
  after_results
  rfl

theorem V_main_v14 (c : Dev nD) : V m c main_v14 = shapeCast S1x3072 (m ((c : Thread nD τ).loc main_arg24)) shapeCasts_S3072_S1x3072 := by
  show StableHlo.after hostOps0 _ (Proc.devRef .tc main_v14) = _
  after_results
  rfl

theorem V_main_v15 (c : Dev nD) : V m c main_v15 = shapeCast S1x3072 (m ((c : Thread nD τ).loc main_arg25)) shapeCasts_S3072_S1x3072 := by
  show StableHlo.after hostOps0 _ (Proc.devRef .tc main_v15) = _
  after_results
  rfl

theorem V_main_v16 (c : Dev nD) : V m c main_v16 = shapeCast S1x768 (m ((c : Thread nD τ).loc main_arg27)) shapeCasts_S768_S1x768 := by
  show StableHlo.after hostOps0 _ (Proc.devRef .tc main_v16) = _
  after_results
  rfl

theorem V_main_v17 (c : Dev nD) : V m c main_v17 = shapeCast S1x768 (m ((c : Thread nD τ).loc main_arg28)) shapeCasts_S768_S1x768 := by
  show StableHlo.after hostOps0 _ (Proc.devRef .tc main_v17) = _
  after_results
  rfl

theorem V_main_v18 (c : Dev nD) : V m c main_v18 = shapeCast S1x768 (m ((c : Thread nD τ).loc main_arg29)) shapeCasts_S768_S1x768 := by
  show StableHlo.after hostOps0 _ (Proc.devRef .tc main_v18) = _
  after_results
  rfl

theorem V_main_v19 (c : Dev nD) : V m c main_v19 = shapeCast S1x768 (m ((c : Thread nD τ).loc main_arg30)) shapeCasts_S768_S1x768 := by
  show StableHlo.after hostOps0 _ (Proc.devRef .tc main_v19) = _
  after_results
  rfl

/-! ## The block of every window -/

theorem idx0 : ∀ t : Fin cfg0.N, win0_0.index t (0 : Fin 2) = t.val ∧ win0_0.index t (1 : Fin 2) = 0 :=
  (by decide +kernel : ∀ t : Fin grid0.N, _)

/-- Window 0 of point `t`: rows `256 * t` on. -/
theorem iblk0_at (c : Dev nD) (t : Fin cfg0.N) (j0 : Fin 256) (j1 : Fin 768) (r : Fin 3840) (h : r.val = 256 * t.val + j0.val) :
    iblk m c 0 t (ix2 j0 j1) = V m c main_v0 (ix2 r j1) := by
  obtain ⟨e0, e1⟩ := idx0 t
  show V m c main_v0 (((cfg0.win 0).blk t).view.emb (ix2 j0 j1)) = _
  congr 1
  funext a; apply Fin.ext
  match a with
  | ⟨0, _⟩ => show win0_0.index t (0 : Fin 2) * 256 + 1 * j0.val = r.val; omega
  | ⟨1, _⟩ => show win0_0.index t (1 : Fin 2) * 768 + 1 * j1.val = j1.val; omega

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Window 1 of point `t`: rows `8 * t` on. -/
theorem iblk1_at (c : Dev nD) (t : Fin cfg0.N) (j0 : Fin 8) (j1 : Fin 577) (j2 : Fin 1024) (r : Fin 120) (h : r.val = 8 * t.val + j0.val) :
    iblk m c 1 t (ix3 j0 j1 j2) = V m c main_arg1 (ix3 r j1 j2) := by
  obtain ⟨e0, e1, e2⟩ := idx1 t
  show V m c main_arg1 (((cfg0.win 1).blk t).view.emb (ix3 j0 j1 j2)) = _
  congr 1
  funext a; apply Fin.ext
  match a with
  | ⟨0, _⟩ => show win0_1.index t (0 : Fin 3) * 8 + 1 * j0.val = r.val; omega
  | ⟨1, _⟩ => show win0_1.index t (1 : Fin 3) * 577 + 1 * j1.val = j1.val; omega
  | ⟨2, _⟩ => show win0_1.index t (2 : Fin 3) * 1024 + 1 * j2.val = j2.val; omega

theorem idx2 : ∀ t : Fin cfg0.N, win0_2.index t (0 : Fin 2) = t.val ∧ win0_2.index t (1 : Fin 2) = 0 :=
  (by decide +kernel : ∀ t : Fin grid0.N, _)

/-- Window 2 of point `t`: rows `8 * t` on. -/
theorem iblk2_at (c : Dev nD) (t : Fin cfg0.N) (j0 : Fin 8) (j1 : Fin 577) (r : Fin 120) (h : r.val = 8 * t.val + j0.val) :
    iblk m c 2 t (ix2 j0 j1) = V m c main_arg2 (ix2 r j1) := by
  obtain ⟨e0, e1⟩ := idx2 t
  show V m c main_arg2 (((cfg0.win 2).blk t).view.emb (ix2 j0 j1)) = _
  congr 1
  funext a; apply Fin.ext
  match a with
  | ⟨0, _⟩ => show win0_2.index t (0 : Fin 2) * 8 + 1 * j0.val = r.val; omega
  | ⟨1, _⟩ => show win0_2.index t (1 : Fin 2) * 577 + 1 * j1.val = j1.val; omega

/-! Windows 3 to 30 are their whole arrays at every point. -/

theorem iblk3_eq (c : Dev nD) (t : Fin cfg0.N) : iblk m c 3 t = V m c main_arg3 := by
  have z := (by decide +kernel : ∀ (t : Fin grid0.N) (a : Fin 2), win0_3.index t a = 0) t
  funext j
  show V m c main_arg3 (((cfg0.win 3).blk t).view.emb j) = _
  congr 1
  funext a; apply Fin.ext
  show win0_3.index t a * _ + 1 * (j a).val = _; rw [z, Nat.zero_mul, Nat.zero_add, Nat.one_mul]

theorem iblk4_eq (c : Dev nD) (t : Fin cfg0.N) : iblk m c 4 t = V m c main_arg4 := by
  have z := (by decide +kernel : ∀ (t : Fin grid0.N) (a : Fin 2), win0_4.index t a = 0) t
  funext j
  show V m c main_arg4 (((cfg0.win 4).blk t).view.emb j) = _
  congr 1
  funext a; apply Fin.ext
  show win0_4.index t a * _ + 1 * (j a).val = _; rw [z, Nat.zero_mul, Nat.zero_add, Nat.one_mul]

theorem iblk5_eq (c : Dev nD) (t : Fin cfg0.N) : iblk m c 5 t = V m c main_arg5 := by
  have z := (by decide +kernel : ∀ (t : Fin grid0.N) (a : Fin 2), win0_5.index t a = 0) t
  funext j
  show V m c main_arg5 (((cfg0.win 5).blk t).view.emb j) = _
  congr 1
  funext a; apply Fin.ext
  show win0_5.index t a * _ + 1 * (j a).val = _; rw [z, Nat.zero_mul, Nat.zero_add, Nat.one_mul]

theorem iblk6_eq (c : Dev nD) (t : Fin cfg0.N) : iblk m c 6 t = V m c main_arg6 := by
  have z := (by decide +kernel : ∀ (t : Fin grid0.N) (a : Fin 2), win0_6.index t a = 0) t
  funext j
  show V m c main_arg6 (((cfg0.win 6).blk t).view.emb j) = _
  congr 1
  funext a; apply Fin.ext
  show win0_6.index t a * _ + 1 * (j a).val = _; rw [z, Nat.zero_mul, Nat.zero_add, Nat.one_mul]

theorem iblk7_eq (c : Dev nD) (t : Fin cfg0.N) : iblk m c 7 t = V m c main_v1 := by
  have z := (by decide +kernel : ∀ (t : Fin grid0.N) (a : Fin 2), win0_7.index t a = 0) t
  funext j
  show V m c main_v1 (((cfg0.win 7).blk t).view.emb j) = _
  congr 1
  funext a; apply Fin.ext
  show win0_7.index t a * _ + 1 * (j a).val = _; rw [z, Nat.zero_mul, Nat.zero_add, Nat.one_mul]

theorem iblk8_eq (c : Dev nD) (t : Fin cfg0.N) : iblk m c 8 t = V m c main_v2 := by
  have z := (by decide +kernel : ∀ (t : Fin grid0.N) (a : Fin 2), win0_8.index t a = 0) t
  funext j
  show V m c main_v2 (((cfg0.win 8).blk t).view.emb j) = _
  congr 1
  funext a; apply Fin.ext
  show win0_8.index t a * _ + 1 * (j a).val = _; rw [z, Nat.zero_mul, Nat.zero_add, Nat.one_mul]

theorem iblk9_eq (c : Dev nD) (t : Fin cfg0.N) : iblk m c 9 t = V m c main_v3 := by
  have z := (by decide +kernel : ∀ (t : Fin grid0.N) (a : Fin 2), win0_9.index t a = 0) t
  funext j
  show V m c main_v3 (((cfg0.win 9).blk t).view.emb j) = _
  congr 1
  funext a; apply Fin.ext
  show win0_9.index t a * _ + 1 * (j a).val = _; rw [z, Nat.zero_mul, Nat.zero_add, Nat.one_mul]

theorem iblk10_eq (c : Dev nD) (t : Fin cfg0.N) : iblk m c 10 t = V m c main_v4 := by
  have z := (by decide +kernel : ∀ (t : Fin grid0.N) (a : Fin 2), win0_10.index t a = 0) t
  funext j
  show V m c main_v4 (((cfg0.win 10).blk t).view.emb j) = _
  congr 1
  funext a; apply Fin.ext
  show win0_10.index t a * _ + 1 * (j a).val = _; rw [z, Nat.zero_mul, Nat.zero_add, Nat.one_mul]

theorem iblk11_eq (c : Dev nD) (t : Fin cfg0.N) : iblk m c 11 t = V m c main_v5 := by
  have z := (by decide +kernel : ∀ (t : Fin grid0.N) (a : Fin 2), win0_11.index t a = 0) t
  funext j
  show V m c main_v5 (((cfg0.win 11).blk t).view.emb j) = _
  congr 1
  funext a; apply Fin.ext
  show win0_11.index t a * _ + 1 * (j a).val = _; rw [z, Nat.zero_mul, Nat.zero_add, Nat.one_mul]

theorem iblk12_eq (c : Dev nD) (t : Fin cfg0.N) : iblk m c 12 t = V m c main_arg12 := by
  have z := (by decide +kernel : ∀ (t : Fin grid0.N) (a : Fin 2), win0_12.index t a = 0) t
  funext j
  show V m c main_arg12 (((cfg0.win 12).blk t).view.emb j) = _
  congr 1
  funext a; apply Fin.ext
  show win0_12.index t a * _ + 1 * (j a).val = _; rw [z, Nat.zero_mul, Nat.zero_add, Nat.one_mul]

theorem iblk13_eq (c : Dev nD) (t : Fin cfg0.N) : iblk m c 13 t = V m c main_arg13 := by
  have z := (by decide +kernel : ∀ (t : Fin grid0.N) (a : Fin 2), win0_13.index t a = 0) t
  funext j
  show V m c main_arg13 (((cfg0.win 13).blk t).view.emb j) = _
  congr 1
  funext a; apply Fin.ext
  show win0_13.index t a * _ + 1 * (j a).val = _; rw [z, Nat.zero_mul, Nat.zero_add, Nat.one_mul]

theorem iblk14_eq (c : Dev nD) (t : Fin cfg0.N) : iblk m c 14 t = V m c main_v6 := by
  have z := (by decide +kernel : ∀ (t : Fin grid0.N) (a : Fin 2), win0_14.index t a = 0) t
  funext j
  show V m c main_v6 (((cfg0.win 14).blk t).view.emb j) = _
  congr 1
  funext a; apply Fin.ext
  show win0_14.index t a * _ + 1 * (j a).val = _; rw [z, Nat.zero_mul, Nat.zero_add, Nat.one_mul]

theorem iblk15_eq (c : Dev nD) (t : Fin cfg0.N) : iblk m c 15 t = V m c main_v7 := by
  have z := (by decide +kernel : ∀ (t : Fin grid0.N) (a : Fin 2), win0_15.index t a = 0) t
  funext j
  show V m c main_v7 (((cfg0.win 15).blk t).view.emb j) = _
  congr 1
  funext a; apply Fin.ext
  show win0_15.index t a * _ + 1 * (j a).val = _; rw [z, Nat.zero_mul, Nat.zero_add, Nat.one_mul]

theorem iblk16_eq (c : Dev nD) (t : Fin cfg0.N) : iblk m c 16 t = V m c main_v8 := by
  have z := (by decide +kernel : ∀ (t : Fin grid0.N) (a : Fin 2), win0_16.index t a = 0) t
  funext j
  show V m c main_v8 (((cfg0.win 16).blk t).view.emb j) = _
  congr 1
  funext a; apply Fin.ext
  show win0_16.index t a * _ + 1 * (j a).val = _; rw [z, Nat.zero_mul, Nat.zero_add, Nat.one_mul]

theorem iblk17_eq (c : Dev nD) (t : Fin cfg0.N) : iblk m c 17 t = V m c main_arg17 := by
  have z := (by decide +kernel : ∀ (t : Fin grid0.N) (a : Fin 2), win0_17.index t a = 0) t
  funext j
  show V m c main_arg17 (((cfg0.win 17).blk t).view.emb j) = _
  congr 1
  funext a; apply Fin.ext
  show win0_17.index t a * _ + 1 * (j a).val = _; rw [z, Nat.zero_mul, Nat.zero_add, Nat.one_mul]

theorem iblk18_eq (c : Dev nD) (t : Fin cfg0.N) : iblk m c 18 t = V m c main_v9 := by
  have z := (by decide +kernel : ∀ (t : Fin grid0.N) (a : Fin 2), win0_18.index t a = 0) t
  funext j
  show V m c main_v9 (((cfg0.win 18).blk t).view.emb j) = _
  congr 1
  funext a; apply Fin.ext
  show win0_18.index t a * _ + 1 * (j a).val = _; rw [z, Nat.zero_mul, Nat.zero_add, Nat.one_mul]

theorem iblk19_eq (c : Dev nD) (t : Fin cfg0.N) : iblk m c 19 t = V m c main_v10 := by
  have z := (by decide +kernel : ∀ (t : Fin grid0.N) (a : Fin 2), win0_19.index t a = 0) t
  funext j
  show V m c main_v10 (((cfg0.win 19).blk t).view.emb j) = _
  congr 1
  funext a; apply Fin.ext
  show win0_19.index t a * _ + 1 * (j a).val = _; rw [z, Nat.zero_mul, Nat.zero_add, Nat.one_mul]

theorem iblk20_eq (c : Dev nD) (t : Fin cfg0.N) : iblk m c 20 t = V m c main_v11 := by
  have z := (by decide +kernel : ∀ (t : Fin grid0.N) (a : Fin 2), win0_20.index t a = 0) t
  funext j
  show V m c main_v11 (((cfg0.win 20).blk t).view.emb j) = _
  congr 1
  funext a; apply Fin.ext
  show win0_20.index t a * _ + 1 * (j a).val = _; rw [z, Nat.zero_mul, Nat.zero_add, Nat.one_mul]

theorem iblk21_eq (c : Dev nD) (t : Fin cfg0.N) : iblk m c 21 t = V m c main_v12 := by
  have z := (by decide +kernel : ∀ (t : Fin grid0.N) (a : Fin 2), win0_21.index t a = 0) t
  funext j
  show V m c main_v12 (((cfg0.win 21).blk t).view.emb j) = _
  congr 1
  funext a; apply Fin.ext
  show win0_21.index t a * _ + 1 * (j a).val = _; rw [z, Nat.zero_mul, Nat.zero_add, Nat.one_mul]

theorem iblk22_eq (c : Dev nD) (t : Fin cfg0.N) : iblk m c 22 t = V m c main_v13 := by
  have z := (by decide +kernel : ∀ (t : Fin grid0.N) (a : Fin 2), win0_22.index t a = 0) t
  funext j
  show V m c main_v13 (((cfg0.win 22).blk t).view.emb j) = _
  congr 1
  funext a; apply Fin.ext
  show win0_22.index t a * _ + 1 * (j a).val = _; rw [z, Nat.zero_mul, Nat.zero_add, Nat.one_mul]

theorem iblk23_eq (c : Dev nD) (t : Fin cfg0.N) : iblk m c 23 t = V m c main_arg23 := by
  have z := (by decide +kernel : ∀ (t : Fin grid0.N) (a : Fin 2), win0_23.index t a = 0) t
  funext j
  show V m c main_arg23 (((cfg0.win 23).blk t).view.emb j) = _
  congr 1
  funext a; apply Fin.ext
  show win0_23.index t a * _ + 1 * (j a).val = _; rw [z, Nat.zero_mul, Nat.zero_add, Nat.one_mul]

theorem iblk24_eq (c : Dev nD) (t : Fin cfg0.N) : iblk m c 24 t = V m c main_v14 := by
  have z := (by decide +kernel : ∀ (t : Fin grid0.N) (a : Fin 2), win0_24.index t a = 0) t
  funext j
  show V m c main_v14 (((cfg0.win 24).blk t).view.emb j) = _
  congr 1
  funext a; apply Fin.ext
  show win0_24.index t a * _ + 1 * (j a).val = _; rw [z, Nat.zero_mul, Nat.zero_add, Nat.one_mul]

theorem iblk25_eq (c : Dev nD) (t : Fin cfg0.N) : iblk m c 25 t = V m c main_v15 := by
  have z := (by decide +kernel : ∀ (t : Fin grid0.N) (a : Fin 2), win0_25.index t a = 0) t
  funext j
  show V m c main_v15 (((cfg0.win 25).blk t).view.emb j) = _
  congr 1
  funext a; apply Fin.ext
  show win0_25.index t a * _ + 1 * (j a).val = _; rw [z, Nat.zero_mul, Nat.zero_add, Nat.one_mul]

theorem iblk26_eq (c : Dev nD) (t : Fin cfg0.N) : iblk m c 26 t = V m c main_arg26 := by
  have z := (by decide +kernel : ∀ (t : Fin grid0.N) (a : Fin 2), win0_26.index t a = 0) t
  funext j
  show V m c main_arg26 (((cfg0.win 26).blk t).view.emb j) = _
  congr 1
  funext a; apply Fin.ext
  show win0_26.index t a * _ + 1 * (j a).val = _; rw [z, Nat.zero_mul, Nat.zero_add, Nat.one_mul]

theorem iblk27_eq (c : Dev nD) (t : Fin cfg0.N) : iblk m c 27 t = V m c main_v16 := by
  have z := (by decide +kernel : ∀ (t : Fin grid0.N) (a : Fin 2), win0_27.index t a = 0) t
  funext j
  show V m c main_v16 (((cfg0.win 27).blk t).view.emb j) = _
  congr 1
  funext a; apply Fin.ext
  show win0_27.index t a * _ + 1 * (j a).val = _; rw [z, Nat.zero_mul, Nat.zero_add, Nat.one_mul]

theorem iblk28_eq (c : Dev nD) (t : Fin cfg0.N) : iblk m c 28 t = V m c main_v17 := by
  have z := (by decide +kernel : ∀ (t : Fin grid0.N) (a : Fin 2), win0_28.index t a = 0) t
  funext j
  show V m c main_v17 (((cfg0.win 28).blk t).view.emb j) = _
  congr 1
  funext a; apply Fin.ext
  show win0_28.index t a * _ + 1 * (j a).val = _; rw [z, Nat.zero_mul, Nat.zero_add, Nat.one_mul]

theorem iblk29_eq (c : Dev nD) (t : Fin cfg0.N) : iblk m c 29 t = V m c main_v18 := by
  have z := (by decide +kernel : ∀ (t : Fin grid0.N) (a : Fin 2), win0_29.index t a = 0) t
  funext j
  show V m c main_v18 (((cfg0.win 29).blk t).view.emb j) = _
  congr 1
  funext a; apply Fin.ext
  show win0_29.index t a * _ + 1 * (j a).val = _; rw [z, Nat.zero_mul, Nat.zero_add, Nat.one_mul]

theorem iblk30_eq (c : Dev nD) (t : Fin cfg0.N) : iblk m c 30 t = V m c main_v19 := by
  have z := (by decide +kernel : ∀ (t : Fin grid0.N) (a : Fin 2), win0_30.index t a = 0) t
  funext j
  show V m c main_v19 (((cfg0.win 30).blk t).view.emb j) = _
  congr 1
  funext a; apply Fin.ext
  show win0_30.index t a * _ + 1 * (j a).val = _; rw [z, Nat.zero_mul, Nat.zero_add, Nat.one_mul]

end Cert.KernelIdeal.Val

end
-- ==== Proof.Value.RefAttn.lean ====
/- The reference's attention halves, read at an index, as the layer's mathematics. -/
module

public import proofs.«01_k».proof.Proof.RefRun.Frame
public import proofs.«01_k».proof.Proof.Value.Spec
public import Idealize.ShloMosaic.Lib.Pointwise

@[expose] public section

noncomputable section

namespace Cert.ReferenceIdeal.Run

open Cert.ReferenceIdeal.Gen
open Idealize.ShloMosaic Idealize.ShloMosaic.TcCoe

theorem pay1_at (x : Vec Ideal S120x32x768 .bf16) (w : Vec Ideal S768x768 .bf16) (b : Vec Ideal S768 .f32) (i : Fin 120) (s : Fin 32) (j : Fin 768) :
    k0_pay1 x w b (ix3 i s j) = Spec.lin (fun l => x (ix3 i s l)) (fun l j => w (ix2 l j)) j + b (ix1 j) := by
  pointwise [k0_pay1]
  rfl

theorem pay2_at (x : Vec Ideal S120x32x768 .bf16) (w w2 : Vec Ideal S768x768 .bf16) (b : Vec Ideal S768 .f32) (i : Fin 120) (h : Fin 12) (s t : Fin 32) :
    k0_pay2 x w b x w2 (ix4 i h s t) = Spec.expo (Spec.scores (fun j => Spec.lin (fun l => x (ix3 i s l)) (fun l j => w (ix2 l j)) j + b (ix1 j))
      (fun t => Spec.lin (fun l => x (ix3 i t l)) (fun l j => w2 (ix2 l j))) h) t := by
  pointwise [k0_pay2]
  rfl

theorem pay3_at (x : Vec Ideal S120x32x768 .bf16) (w w2 : Vec Ideal S768x768 .bf16) (b : Vec Ideal S768 .f32) (i : Fin 120) (h : Fin 12) (s t : Fin 32) :
    k0_pay3 x w b x w2 (ix4 i h s t) = Ideal.div 1 (∑ u, k0_pay2 x w b x w2 (ix4 i h s u)) := by
  pointwise [k0_pay3]

theorem lane_split (c : Fin 768) (h : c.val / 64 * 64 + c.val % 64 < 768) : (⟨c.val / 64 * 64 + c.val % 64, h⟩ : Fin 768) = c := by
  apply Fin.ext; simp only; omega

theorem pay4_at (v19 : FVec Ideal S120x32x768 .bf16) (v29 v34 : FVec Ideal S120x12x32x32 .f32)  (v42 : Vec Ideal S768x768 .bf16) (v44 : Vec Ideal S768 .f32) (v48 : Vec Ideal S120x32x768 .bf16) (v51 v52 : Vec Ideal S768 .f32)  (i : Fin 120) (s : Fin 32) (j : Fin 768) :
    k0_pay4 v19 v29 v34 v42 v44 v48 v51 v52 (ix3 i s j) =
      Spec.norm (fun j => v48 (ix3 i s j) + (Spec.lin (fun c => ∑ t, v19 (ix3 i t c) * (v29 (ix4 i (Spec.head c) s t) * v34 (ix4 i (Spec.head c) s t)))
        (fun l j => v42 (ix2 l j)) j + v44 (ix1 j))) (fun j => v51 (ix1 j)) (fun j => v52 (ix1 j)) j := by
  pointwise [k0_pay4]
  rfl

theorem pay5_at (v19 : FVec Ideal S120x32x768 .bf16) (v29 v34 : FVec Ideal S120x12x32x32 .f32)  (v42 : Vec Ideal S768x768 .bf16) (v44 : Vec Ideal S768 .f32) (v48 : Vec Ideal S120x32x768 .bf16) (v51 v52 : Vec Ideal S768 .f32) (i : S120x32x768.Idx) :
    k0_pay5 v19 v29 v34 v42 v44 v48 v51 v52 i = k0_pay4 v19 v29 v34 v42 v44 v48 v51 v52 i := rfl

theorem pay7_at (ts : Vec Ideal S120x577 .f32) (im : Vec Ideal S120x577x1024 .fp8e4m3) (w : Vec Ideal S1024x768 .fp8e4m3) (sc b : Vec Ideal S768 .f32) (i : Fin 120) (t : Fin 577) (j : Fin 768) :
    k0_pay7 ts im w sc b (ix3 i t j) = Spec.lin (fun l => im (ix3 i t l)) (fun l j => w (ix2 l j)) j * ts (ix2 i t) * sc (ix1 j) + b (ix1 j) := by
  pointwise [k0_pay7, k0_pay6]
  rfl

theorem pay8_at (h : FVec Ideal S120x32x768 .bf16) (cq : Vec Ideal S768x768 .bf16) (bq : Vec Ideal S768 .f32) (ts : Vec Ideal S120x577 .f32) (im : Vec Ideal S120x577x1024 .fp8e4m3) (w : Vec Ideal S1024x768 .fp8e4m3) (sc : Vec Ideal S768 .f32) (i : Fin 120) (n : Fin 12) (s : Fin 32) (t : Fin 577) :
    k0_pay8 h cq (constant S120x32x768 .f32 0x00000000#32) bq ts im w sc (ix4 i n s t) =
      Spec.scores (fun j => Spec.lin (fun l => h (ix3 i s l)) (fun l j => cq (ix2 l j)) j + bq (ix1 j))
        (fun t j => Spec.lin (fun l => im (ix3 i t l)) (fun l j => w (ix2 l j)) j * ts (ix2 i t) * sc (ix1 j)) n t := by
  pointwise [k0_pay8, k0_pay6]
  rfl

theorem pay9_at (h : FVec Ideal S120x32x768 .bf16) (cq : Vec Ideal S768x768 .bf16) (z : FVec Ideal S120x32x768 .f32) (bq : Vec Ideal S768 .f32) (ts : Vec Ideal S120x577 .f32) (im : Vec Ideal S120x577x1024 .fp8e4m3) (w : Vec Ideal S1024x768 .fp8e4m3) (sc : Vec Ideal S768 .f32) (i : Fin 120) (n : Fin 12) (s : Fin 32) (u : Fin 1) :
    k0_pay9 h cq z bq ts im w sc (ix4 i n s u) = Spec.rowMax (fun t => k0_pay8 h cq z bq ts im w sc (ix4 i n s t)) := by
  pointwise [k0_pay9]
  rfl

theorem pay10_at (h1 : FVec Ideal S120x32x768 .f32) (v : FVec Ideal S120x577x768 .bf16) (sc : FVec Ideal S120x12x32x577 .f32) (mx : FVec Ideal S120x12x32x1 .f32)  (v42 : Vec Ideal S768x768 .bf16) (v44 : Vec Ideal S768 .f32) (v51 v52 : Vec Ideal S768 .f32)  (i : Fin 120) (s : Fin 32) (j : Fin 768) :
    k0_pay10 h1 v sc mx v42 v44 v51 v52 (ix3 i s j) =
      Spec.norm (fun j => h1 (ix3 i s j) + (Spec.lin (fun c => ∑ t, v (ix3 i t c) * (Ideal.exp (sc (ix4 i (Spec.head c) s t) - mx (ix4 i (Spec.head c) s 0)) * Ideal.div 1 (∑ u, Ideal.exp (sc (ix4 i (Spec.head c) s u) - mx (ix4 i (Spec.head c) s 0)))))
        (fun l j => v42 (ix2 l j)) j + v44 (ix1 j))) (fun j => v51 (ix1 j)) (fun j => v52 (ix1 j)) j := by
  pointwise [k0_pay10]
  rfl

end Cert.ReferenceIdeal.Run

end
-- ==== Proof.Value.RefFfn.lean ====
/- The reference's feed-forward half and its results' shapes, read at an index. -/
module

public import proofs.«01_k».proof.Proof.RefRun.Frame
public import proofs.«01_k».proof.Proof.Value.Spec
public import Idealize.ShloMosaic.Lib.Pointwise

@[expose] public section

noncomputable section

namespace Cert.ReferenceIdeal.Run

open Cert.ReferenceIdeal.Gen
open Idealize.ShloMosaic Idealize.ShloMosaic.TcCoe

theorem pay13_at (v : FVec Ideal S120x32x768 .f32) (r : Fin 3840) (j : Fin 768) : k0_pay13 v (ix2 r j) = k0_pay12 v (ix3 ⟨r.val / 32, by omega⟩ ⟨r.val % 32, by omega⟩ j) := by
  pointwise [k0_pay13]

theorem pay14_at (v : FVec Ideal S120x32x768 .f32) (i : Fin 120) (s : Fin 32) : k0_pay14 v (ix2 i s) = k0_pay11 v (ix3 i s 0) := by
  pointwise [k0_pay14]

theorem pay15_at (v : FVec Ideal S120x32x768 .f32) (w : Vec Ideal S768x3072 .fp8e4m3) (i : Fin 120) (s : Fin 32) (j : Fin 3072) :
    k0_pay15 v w (ix3 i s j) = Spec.lin (fun l => k0_pay12 v (ix3 i s l)) (fun l j => w (ix2 l j)) j * k0_pay11 v (ix3 i s 0) := by
  pointwise [k0_pay15]
  rfl

theorem pay16_at (v : Vec Ideal S3072 .f32) (i : Fin 120) (s : Fin 32) (j : Fin 3072) : k0_pay16 v (ix3 i s j) = v (ix1 j) := by
  pointwise [k0_pay16]

theorem pay17_at (a b : FVec Ideal S120x32x3072 .f32) (c : Vec Ideal S3072 .f32)  (i : Fin 120) (s : Fin 32) (j : Fin 3072) :
    k0_pay17 a b c (ix3 i s j) = Spec.gelu (a (ix3 i s j) * b (ix3 i s j) + c (ix1 j)) := by
  pointwise [k0_pay17]
  rfl

theorem pay20_at (a b : FVec Ideal S120x32x3072 .f32) (c : Vec Ideal S3072 .f32) (r : Fin 3840) (j : Fin 3072) : k0_pay20 a b c (ix2 r j) = k0_pay19 a b c (ix3 ⟨r.val / 32, by omega⟩ ⟨r.val % 32, by omega⟩ j) := by
  pointwise [k0_pay20]

theorem pay21_at (v : FVec Ideal S120x32x1 .f32) (i : Fin 120) (s : Fin 32) : k0_pay21 v (ix2 i s) = v (ix3 i s 0) := by
  pointwise [k0_pay21]

theorem pay22_at (h2 : FVec Ideal S120x32x768 .f32) (sc : FVec Ideal S120x32x1 .f32) (g : FVec Ideal S120x32x3072 .fp8e4m3) (w : Vec Ideal S3072x768 .fp8e4m3) (sw b g3 b3 : Vec Ideal S768 .f32) (r : Fin 3840) (j : Fin 768) :
    k0_pay22 h2 sc g w sw b g3 b3 (ix2 r j) =
     (fun (i : Fin 120) (s : Fin 32) => Spec.norm (fun j => h2 (ix3 i s j) + (Spec.lin (fun l => g (ix3 i s l)) (fun l j => w (ix2 l j)) j * sc (ix3 i s 0) * sw (ix1 j) + b (ix1 j))) (fun j => g3 (ix1 j)) (fun j => b3 (ix1 j)) j)
       ⟨r.val / 32, by omega⟩ ⟨r.val % 32, by omega⟩ := by
  pointwise [k0_pay22]
  rfl

end Cert.ReferenceIdeal.Run

end
-- ==== Proof.Value.RefQuant.lean ====
/- The reference's quantiser, read at an index: `Spec.scale` and `Spec.codes` of each row. -/
module

public import proofs.«01_k».proof.Proof.RefRun.Frame
public import proofs.«01_k».proof.Proof.Value.Spec
public import Idealize.ShloMosaic.Lib.Pointwise

@[expose] public section

noncomputable section

namespace Cert.ReferenceIdeal.Run

open Cert.ReferenceIdeal.Gen
open Idealize.ShloMosaic Idealize.ShloMosaic.TcCoe

def powV : FVec Ideal S120x32x253 .f32 :=
  have v167 : IVec S120x32x253 32 := iota .tc S120x32x253 32 [2] iota_S120x32x253_d2_w32
  have v168 : IVec S120x32x253 32 := broadcast S120x32x253 126#32
  have v169 : IVec S120x32x253 32 := subi v167 v168
  have v170 : FVec Ideal S120x32x253 .f32 := sitofp .f32 v169
  exp2 v170

theorem iota_at (i : Fin 120) (s : Fin 32) (z : Fin 253) : iota .tc S120x32x253 32 [2] iota_S120x32x253_d2_w32 (ix3 i s z) = BitVec.ofNat 32 z.val := by
  pointwise []

theorem pow_at (v : IVec S120x32x253 32) (i : Fin 120) (s : Fin 32) (z : Fin 253) : exp2 (sitofp (F := Ideal) .f32 (subi v (broadcast S120x32x253 126#32))) (ix3 i s z) = FloatOps.exp2 (F := Ideal) (φ := .f32) (FloatOps.sitofp (F := Ideal) FTy.f32 (IntOp.subi (v (ix3 i s z)) 126#32)) := by
  pointwise []

theorem powV_at (i : Fin 120) (s : Fin 32) (z : Fin 253) : powV (ix3 i s z) = Spec.pow z := by
  unfold powV Spec.pow
  rw [pow_at, iota_at]

/-- The scales of rows whose 448ths of the greatest magnitude are `v166`. -/
def scaleV (v166 : FVec Ideal S120x32x1 .f32) (v171 : FVec Ideal S120x32x253 .f32) : FVec Ideal S120x32x1 .f32 :=
  have v172 : FVec Ideal S120x32x253 .f32 := broadcastTo S120x32x253 v166 broadcasts_S120x32x1_S120x32x253
  have v173 : IVec S120x32x253 1 := cmpf .ogt v171 v172
  have cst_78 : Ideal .f32 := Scalar.ofBits .f32 0x7E800000#32
  have v174 : FVec Ideal S120x32x253 .f32 := broadcast S120x32x253 cst_78
  have v175 : FVec Ideal S120x32x253 .f32 := select v173 v171 v174
  have v176 : FVec Ideal S120x32 .f32 := multiReduction .minimumf [2] S120x32 v175 0x7F800000#32 reduces_S120x32x253_S120x32 (.inl rfl) rfl
  have v177 : FVec Ideal S120x32x1 .f32 := shapeCast S120x32x1 v176 shapeCasts_S120x32_S120x32x1
  have cst_80 : Ideal .f32 := Scalar.ofBits .f32 0x00000000#32
  have v178 : FVec Ideal S120x32x1 .f32 := broadcast S120x32x1 cst_80
  have v179 : IVec S120x32x1 1 := cmpf .oeq v166 v178
  have cst_81 : Ideal .f32 := Scalar.ofBits .f32 0x3F800000#32
  have v180 : FVec Ideal S120x32x1 .f32 := broadcast S120x32x1 cst_81
  select v179 v180 v177

theorem scaleV_at (v : FVec Ideal S120x32x1 .f32) (v2 : FVec Ideal S120x32x253 .f32) (i : Fin 120) (s : Fin 32) (z : Fin 1) (h : ∀ z, v2 (ix3 i s z) = Spec.pow z) : scaleV v v2 (ix3 i s z) = Spec.scaleOf (v (ix3 i s 0)) := by
  pointwise [scaleV]
  obtain rfl : z = 0 := Subsingleton.elim _ _
  simp only [h]
  rfl

/-- A 448th of the greatest magnitude of each row. -/
def amaxV (v161 : FVec Ideal S120x32x768 .f32) : FVec Ideal S120x32x1 .f32 :=
  have v162 : FVec Ideal S120x32x768 .f32 := absf v161
  have v163 : FVec Ideal S120x32 .f32 := multiReduction .maximumf [2] S120x32 v162 0xFF800000#32 reduces_S120x32x768_S120x32 (.inl rfl) rfl
  have v164 : FVec Ideal S120x32x1 .f32 := shapeCast S120x32x1 v163 shapeCasts_S120x32_S120x32x1
  have cst_77 : Ideal .f32 := Scalar.ofBits .f32 0x3B124925#32
  have v165 : FVec Ideal S120x32x1 .f32 := broadcast S120x32x1 cst_77
  mulf v164 v165

theorem red_at (v : FVec Ideal S120x32x768 .f32) (i : Fin 120) (s : Fin 32) (z : Fin 1) :
    (shapeCast S120x32x1 (multiReduction .maximumf [2] S120x32 (absf v) 0xFF800000#32 reduces_S120x32x768_S120x32 (.inl rfl) rfl) shapeCasts_S120x32_S120x32x1 : FVec Ideal S120x32x1 .f32) (ix3 i s z)
      = Spec.rowMax (fun j => FloatOps.absf (F := Ideal) (φ := .f32) (v (ix3 i s j))) := by
  pointwise []
  rfl

theorem mul_at (v : FVec Ideal S120x32x1 .f32) (i : Fin 120) (s : Fin 32) (z : Fin 1) :
    mulf v (broadcast S120x32x1 (Scalar.ofBits .f32 0x3B124925#32)) (ix3 i s z) = v (ix3 i s z) * Ideal.ofBits FTy.f32 0x3B124925#32 := by
  pointwise []

theorem amaxV_at (v : FVec Ideal S120x32x768 .f32) (i : Fin 120) (s : Fin 32) (z : Fin 1) : amaxV v (ix3 i s z) = Spec.amax (fun j => v (ix3 i s j)) := by
  have h : amaxV v = mulf (shapeCast S120x32x1 (multiReduction .maximumf [2] S120x32 (absf v) 0xFF800000#32 reduces_S120x32x768_S120x32 (.inl rfl) rfl) shapeCasts_S120x32_S120x32x1 : FVec Ideal S120x32x1 .f32) (broadcast S120x32x1 (Scalar.ofBits .f32 0x3B124925#32)) := rfl
  rw [h, mul_at, red_at, Spec.amax]

theorem pay11_eq (v : FVec Ideal S120x32x768 .f32) : k0_pay11 v = scaleV (amaxV v) powV := rfl

theorem pay11_at (v : FVec Ideal S120x32x768 .f32) (i : Fin 120) (s : Fin 32) (z : Fin 1) : k0_pay11 v (ix3 i s z) = Spec.scale (fun j => v (ix3 i s j)) := by
  rw [pay11_eq, scaleV_at _ _ _ _ _ (powV_at i s), amaxV_at, Spec.scale]

/-- The codes of rows `v` of scales `sc`. -/
def codesV (v161 : FVec Ideal S120x32x768 .f32) (sc : FVec Ideal S120x32x1 .f32) : FVec Ideal S120x32x768 .fp8e4m3 :=
  have cst_82 : Ideal .f32 := Scalar.ofBits .f32 0x3F800000#32
  have v182 : FVec Ideal S120x32x1 .f32 := broadcast S120x32x1 cst_82
  have v183 : FVec Ideal S120x32x1 .f32 := divf v182 sc
  have v184 : FVec Ideal S120x32x768 .f32 := broadcastTo S120x32x768 v183 broadcasts_S120x32x1_S120x32x768
  have v185 : FVec Ideal S120x32x768 .f32 := mulf v161 v184
  have cst_83 : Ideal .f32 := Scalar.ofBits .f32 0xC3E00000#32
  have cst_84 : Ideal .f32 := Scalar.ofBits .f32 0x43E00000#32
  have v186 : FVec Ideal S120x32x768 .f32 := broadcast S120x32x768 cst_83
  have v187 : FVec Ideal S120x32x768 .f32 := maximumf v186 v185
  have v188 : FVec Ideal S120x32x768 .f32 := broadcast S120x32x768 cst_84
  have v189 : FVec Ideal S120x32x768 .f32 := minimumf v188 v187
  truncf .fp8e4m3 v189 bitsLt_fp8e4m3_f32

theorem codesV_at (v : FVec Ideal S120x32x768 .f32) (sc : FVec Ideal S120x32x1 .f32) (i : Fin 120) (s : Fin 32) (j : Fin 768)
   (h : sc (ix3 i s 0) = Spec.scale (fun j => v (ix3 i s j))) : codesV v sc (ix3 i s j) = Spec.codes (fun j => v (ix3 i s j)) j := by
  pointwise [codesV]
  rw [h]
  rfl

theorem pay12_eq (v : FVec Ideal S120x32x768 .f32) : k0_pay12 v = codesV v (k0_pay11 v) := rfl

theorem pay12_at (v : FVec Ideal S120x32x768 .f32) (i : Fin 120) (s : Fin 32) (j : Fin 768) : k0_pay12 v (ix3 i s j) = Spec.codes (fun j => v (ix3 i s j)) j := by
  rw [pay12_eq, codesV_at]
  exact pay11_at v i s 0

/-- A 448th of the greatest magnitude of each row. -/
def amaxW (v161 : FVec Ideal S120x32x3072 .f32) : FVec Ideal S120x32x1 .f32 :=
  have v162 : FVec Ideal S120x32x3072 .f32 := absf v161
  have v163 : FVec Ideal S120x32 .f32 := multiReduction .maximumf [2] S120x32 v162 0xFF800000#32 reduces_S120x32x3072_S120x32 (.inl rfl) rfl
  have v164 : FVec Ideal S120x32x1 .f32 := shapeCast S120x32x1 v163 shapeCasts_S120x32_S120x32x1
  have cst_77 : Ideal .f32 := Scalar.ofBits .f32 0x3B124925#32
  have v165 : FVec Ideal S120x32x1 .f32 := broadcast S120x32x1 cst_77
  mulf v164 v165

theorem redW_at (v : FVec Ideal S120x32x3072 .f32) (i : Fin 120) (s : Fin 32) (z : Fin 1) :
    (shapeCast S120x32x1 (multiReduction .maximumf [2] S120x32 (absf v) 0xFF800000#32 reduces_S120x32x3072_S120x32 (.inl rfl) rfl) shapeCasts_S120x32_S120x32x1 : FVec Ideal S120x32x1 .f32) (ix3 i s z)
      = Spec.rowMax (fun j => FloatOps.absf (F := Ideal) (φ := .f32) (v (ix3 i s j))) := by
  pointwise []
  rfl

theorem amaxW_at (v : FVec Ideal S120x32x3072 .f32) (i : Fin 120) (s : Fin 32) (z : Fin 1) : amaxW v (ix3 i s z) = Spec.amax (fun j => v (ix3 i s j)) := by
  have h : amaxW v = mulf (shapeCast S120x32x1 (multiReduction .maximumf [2] S120x32 (absf v) 0xFF800000#32 reduces_S120x32x3072_S120x32 (.inl rfl) rfl) shapeCasts_S120x32_S120x32x1 : FVec Ideal S120x32x1 .f32) (broadcast S120x32x1 (Scalar.ofBits .f32 0x3B124925#32)) := rfl
  rw [h, mul_at, redW_at, Spec.amax]

theorem pay18_eq (a b : FVec Ideal S120x32x3072 .f32) (c : Vec Ideal S3072 .f32) : k0_pay18 a b c = scaleV (amaxW (k0_pay17 a b c)) powV := rfl

theorem pay18_at (a b : FVec Ideal S120x32x3072 .f32) (c : Vec Ideal S3072 .f32) (i : Fin 120) (s : Fin 32) (z : Fin 1) :
    k0_pay18 a b c (ix3 i s z) = Spec.scale (fun j => k0_pay17 a b c (ix3 i s j)) := by
  rw [pay18_eq, scaleV_at _ _ _ _ _ (powV_at i s), amaxW_at, Spec.scale]

/-- The codes of rows `v` of scales `sc`. -/
def codesW (v161 : FVec Ideal S120x32x3072 .f32) (sc : FVec Ideal S120x32x1 .f32) : FVec Ideal S120x32x3072 .fp8e4m3 :=
  have cst_82 : Ideal .f32 := Scalar.ofBits .f32 0x3F800000#32
  have v182 : FVec Ideal S120x32x1 .f32 := broadcast S120x32x1 cst_82
  have v183 : FVec Ideal S120x32x1 .f32 := divf v182 sc
  have v184 : FVec Ideal S120x32x3072 .f32 := broadcastTo S120x32x3072 v183 broadcasts_S120x32x1_S120x32x3072
  have v185 : FVec Ideal S120x32x3072 .f32 := mulf v161 v184
  have cst_83 : Ideal .f32 := Scalar.ofBits .f32 0xC3E00000#32
  have cst_84 : Ideal .f32 := Scalar.ofBits .f32 0x43E00000#32
  have v186 : FVec Ideal S120x32x3072 .f32 := broadcast S120x32x3072 cst_83
  have v187 : FVec Ideal S120x32x3072 .f32 := maximumf v186 v185
  have v188 : FVec Ideal S120x32x3072 .f32 := broadcast S120x32x3072 cst_84
  have v189 : FVec Ideal S120x32x3072 .f32 := minimumf v188 v187
  truncf .fp8e4m3 v189 bitsLt_fp8e4m3_f32

theorem codesW_at (v : FVec Ideal S120x32x3072 .f32) (sc : FVec Ideal S120x32x1 .f32) (i : Fin 120) (s : Fin 32) (j : Fin 3072)
   (h : sc (ix3 i s 0) = Spec.scale (fun j => v (ix3 i s j))) : codesW v sc (ix3 i s j) = Spec.codes (fun j => v (ix3 i s j)) j := by
  pointwise [codesW]
  rw [h]
  rfl

theorem pay19_eq (a b : FVec Ideal S120x32x3072 .f32) (c : Vec Ideal S3072 .f32) : k0_pay19 a b c = codesW (k0_pay17 a b c) (k0_pay18 a b c) := rfl

theorem pay19_at (a b : FVec Ideal S120x32x3072 .f32) (c : Vec Ideal S3072 .f32) (i : Fin 120) (s : Fin 32) (j : Fin 3072) :
    k0_pay19 a b c (ix3 i s j) = Spec.codes (fun j => k0_pay17 a b c (ix3 i s j)) j := by
  rw [pay19_eq, codesW_at]
  exact pay18_at a b c i s 0

end Cert.ReferenceIdeal.Run

end
-- ==== Proof.Value.RefValue.lean ====
/- What the reference leaves in its five results, read at an index: the layer's mathematics on the arrays. -/
module

public import proofs.«01_k».proof.Proof.Value.RefAttn
public import proofs.«01_k».proof.Proof.Value.RefFfn
public import proofs.«01_k».proof.Proof.Value.RefQuant
public import Idealize.ShloMosaic.Lib.Pipeline.Value

@[expose] public section

noncomputable section

namespace Cert.ReferenceIdeal.Run

open Cert.ReferenceIdeal.Gen
open Idealize.ShloMosaic Idealize.ShloMosaic.TcCoe

/-- Image `i` of the arrays. -/
def imageOf (x0 : Vec Ideal S120x32x768 .bf16) (x1 : Vec Ideal S120x577x1024 .fp8e4m3) (x2 : Vec Ideal S120x577 .f32) (i : Fin 120) : Spec.Image where
  x s l := x0 (ix3 i s l)
  img t l := x1 (ix3 i t l)
  ts t := x2 (ix2 i t)

variable (x0 : Vec Ideal S120x32x768 .bf16)
variable (x1 : Vec Ideal S120x577x1024 .fp8e4m3)
variable (x2 : Vec Ideal S120x577 .f32)
variable (x3 : Vec Ideal S768x768 .bf16)
variable (x4 : Vec Ideal S768x768 .bf16)
variable (x5 : Vec Ideal S768x768 .bf16)
variable (x6 : Vec Ideal S768x768 .bf16)
variable (x7 : Vec Ideal S768 .f32)
variable (x8 : Vec Ideal S768 .f32)
variable (x9 : Vec Ideal S768 .f32)
variable (x10 : Vec Ideal S768 .f32)
variable (x11 : Vec Ideal S768 .f32)
variable (x12 : Vec Ideal S768x768 .bf16)
variable (x13 : Vec Ideal S768x768 .bf16)
variable (x14 : Vec Ideal S768 .f32)
variable (x15 : Vec Ideal S768 .f32)
variable (x16 : Vec Ideal S1024x768 .fp8e4m3)
variable (x17 : Vec Ideal S1024x768 .fp8e4m3)
variable (x18 : Vec Ideal S768 .f32)
variable (x19 : Vec Ideal S768 .f32)
variable (x20 : Vec Ideal S768 .f32)
variable (x21 : Vec Ideal S768 .f32)
variable (x22 : Vec Ideal S768 .f32)
variable (x23 : Vec Ideal S768x3072 .fp8e4m3)
variable (x24 : Vec Ideal S3072 .f32)
variable (x25 : Vec Ideal S3072 .f32)
variable (x26 : Vec Ideal S3072x768 .fp8e4m3)
variable (x27 : Vec Ideal S768 .f32)
variable (x28 : Vec Ideal S768 .f32)
variable (x29 : Vec Ideal S768 .f32)
variable (x30 : Vec Ideal S768 .f32)

/-- The weights in the arrays. -/
def weightsOf : Spec.Weights where
  sq l j := x3 (ix2 l j)
  sk l j := x4 (ix2 l j)
  sv l j := x5 (ix2 l j)
  so l j := x6 (ix2 l j)
  bsq j := x7 (ix1 j)
  bsv j := x8 (ix1 j)
  bso j := x9 (ix1 j)
  g1 j := x10 (ix1 j)
  b1 j := x11 (ix1 j)
  cq l j := x12 (ix2 l j)
  co l j := x13 (ix2 l j)
  bcq j := x14 (ix1 j)
  bco j := x15 (ix1 j)
  ck l j := x16 (ix2 l j)
  cv l j := x17 (ix2 l j)
  sck j := x18 (ix1 j)
  scv j := x19 (ix1 j)
  bcv j := x20 (ix1 j)
  g2 j := x21 (ix1 j)
  b2 j := x22 (ix1 j)
  ff1 l j := x23 (ix2 l j)
  sff1 j := x24 (ix1 j)
  bff1 j := x25 (ix1 j)
  ff2 l j := x26 (ix2 l j)
  sff2 j := x27 (ix1 j)
  bff2 j := x28 (ix1 j)
  g3 j := x29 (ix1 j)
  b3 j := x30 (ix1 j)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

theorem ld_r0_0 (x : Vec Ideal S120x32x768 .bf16) : View.ld x r0_0 = x := View.ld_unit_zero zero3 _ x
theorem ld_r0_4 (x : Vec Ideal S120x577x1024 .fp8e4m3) : View.ld x r0_4 = x := View.ld_unit_zero zero3 _ x
theorem ld_r0_3 (x : Vec Ideal S120x577 .f32) : View.ld x r0_3 = x := View.ld_unit_zero zero2 _ x
theorem ld_r0_1 (x : Vec Ideal S768x768 .bf16) : View.ld x r0_1 = x := View.ld_unit_zero zero2 _ x
theorem ld_r0_2 (x : Vec Ideal S768 .f32) : View.ld x r0_2 = x := View.ld_unit_zero zero1 _ x
theorem ld_r0_5 (x : Vec Ideal S1024x768 .fp8e4m3) : View.ld x r0_5 = x := View.ld_unit_zero zero2 _ x
theorem ld_r0_8 (x : Vec Ideal S768x3072 .fp8e4m3) : View.ld x r0_8 = x := View.ld_unit_zero zero2 _ x
theorem ld_r0_9 (x : Vec Ideal S3072 .f32) : View.ld x r0_9 = x := View.ld_unit_zero zero1 _ x
theorem ld_r0_11 (x : Vec Ideal S3072x768 .fp8e4m3) : View.ld x r0_11 = x := View.ld_unit_zero zero2 _ x

theorem v_at (i : Fin 120) (s : Fin 32) (j : Fin 768) : k0_pay23 x0 x1 x2 x3 x4 x5 x6 x7 x8 x9 x10 x11 x12 x13 x14 x15 x16 x17 x18 x19 x20 x21 x22 x23 x24 x25 x26 x27 x28 x29 x30 (ix3 i s j) = Spec.v (weightsOf x3 x4 x5 x6 x7 x8 x9 x10 x11 x12 x13 x14 x15 x16 x17 x18 x19 x20 x21 x22 x23 x24 x25 x26 x27 x28 x29 x30) (imageOf x0 x1 x2 i) s j := by
  rw [k0_pay23, ld_r0_0, ld_r0_1, ld_r0_2, pay1_at]
  rfl

theorem e_at (i : Fin 120) (h : Fin 12) (s t : Fin 32) : k0_pay24 x0 x1 x2 x3 x4 x5 x6 x7 x8 x9 x10 x11 x12 x13 x14 x15 x16 x17 x18 x19 x20 x21 x22 x23 x24 x25 x26 x27 x28 x29 x30 (ix4 i h s t) = Spec.expo (Spec.scores (Spec.q (weightsOf x3 x4 x5 x6 x7 x8 x9 x10 x11 x12 x13 x14 x15 x16 x17 x18 x19 x20 x21 x22 x23 x24 x25 x26 x27 x28 x29 x30) (imageOf x0 x1 x2 i) s) (Spec.k (weightsOf x3 x4 x5 x6 x7 x8 x9 x10 x11 x12 x13 x14 x15 x16 x17 x18 x19 x20 x21 x22 x23 x24 x25 x26 x27 x28 x29 x30) (imageOf x0 x1 x2 i)) h) t := by
  rw [k0_pay24, ld_r0_0, ld_r0_1, ld_r0_1, ld_r0_2, pay2_at]
  rfl

theorem r_at (i : Fin 120) (h : Fin 12) (s t : Fin 32) :
    k0_pay25 x0 x1 x2 x3 x4 x5 x6 x7 x8 x9 x10 x11 x12 x13 x14 x15 x16 x17 x18 x19 x20 x21 x22 x23 x24 x25 x26 x27 x28 x29 x30 (ix4 i h s t) = Ideal.div 1 (∑ u, Spec.expo (Spec.scores (Spec.q (weightsOf x3 x4 x5 x6 x7 x8 x9 x10 x11 x12 x13 x14 x15 x16 x17 x18 x19 x20 x21 x22 x23 x24 x25 x26 x27 x28 x29 x30) (imageOf x0 x1 x2 i) s) (Spec.k (weightsOf x3 x4 x5 x6 x7 x8 x9 x10 x11 x12 x13 x14 x15 x16 x17 x18 x19 x20 x21 x22 x23 x24 x25 x26 x27 x28 x29 x30) (imageOf x0 x1 x2 i)) h) u) := by
  rw [k0_pay25, ld_r0_0, ld_r0_1, ld_r0_1, ld_r0_2, pay3_at]
  simp only [pay2_at]
  rfl

/-- The rows after self-attention. -/
theorem h1_at (i : Fin 120) (s : Fin 32) (j : Fin 768) :
    k0_pay4 (k0_pay23 x0 x1 x2 x3 x4 x5 x6 x7 x8 x9 x10 x11 x12 x13 x14 x15 x16 x17 x18 x19 x20 x21 x22 x23 x24 x25 x26 x27 x28 x29 x30) (k0_pay24 x0 x1 x2 x3 x4 x5 x6 x7 x8 x9 x10 x11 x12 x13 x14 x15 x16 x17 x18 x19 x20 x21 x22 x23 x24 x25 x26 x27 x28 x29 x30) (k0_pay25 x0 x1 x2 x3 x4 x5 x6 x7 x8 x9 x10 x11 x12 x13 x14 x15 x16 x17 x18 x19 x20 x21 x22 x23 x24 x25 x26 x27 x28 x29 x30) (View.ld x6 r0_1) (View.ld x9 r0_2) (View.ld x0 r0_0) (View.ld x10 r0_2) (View.ld x11 r0_2) (ix3 i s j)
      = Spec.h1 (weightsOf x3 x4 x5 x6 x7 x8 x9 x10 x11 x12 x13 x14 x15 x16 x17 x18 x19 x20 x21 x22 x23 x24 x25 x26 x27 x28 x29 x30) (imageOf x0 x1 x2 i) s j := by
  rw [ld_r0_0, ld_r0_1, ld_r0_2, ld_r0_2, ld_r0_2, pay4_at]
  simp only [v_at, e_at, r_at]
  rfl

theorem h1b_at (i : Fin 120) (s : Fin 32) (j : Fin 768) : k0_pay27 x0 x1 x2 x3 x4 x5 x6 x7 x8 x9 x10 x11 x12 x13 x14 x15 x16 x17 x18 x19 x20 x21 x22 x23 x24 x25 x26 x27 x28 x29 x30 (ix3 i s j) = Spec.h1 (weightsOf x3 x4 x5 x6 x7 x8 x9 x10 x11 x12 x13 x14 x15 x16 x17 x18 x19 x20 x21 x22 x23 x24 x25 x26 x27 x28 x29 x30) (imageOf x0 x1 x2 i) s j := by
  rw [k0_pay27, pay5_at, h1_at]

theorem sc_at (i : Fin 120) (n : Fin 12) (s : Fin 32) (t : Fin 577) :
    k0_pay8 (k0_pay27 x0 x1 x2 x3 x4 x5 x6 x7 x8 x9 x10 x11 x12 x13 x14 x15 x16 x17 x18 x19 x20 x21 x22 x23 x24 x25 x26 x27 x28 x29 x30) x12 (k0_pay26 x0 x1 x2 x3 x4 x5 x6 x7 x8 x9 x10 x11 x12 x13 x14 x15 x16 x17 x18 x19 x20 x21 x22 x23 x24 x25 x26 x27 x28 x29 x30) x14 x2 x1 x16 x18 (ix4 i n s t) = Spec.scores (Spec.cq (weightsOf x3 x4 x5 x6 x7 x8 x9 x10 x11 x12 x13 x14 x15 x16 x17 x18 x19 x20 x21 x22 x23 x24 x25 x26 x27 x28 x29 x30) (imageOf x0 x1 x2 i) s) (Spec.ck (weightsOf x3 x4 x5 x6 x7 x8 x9 x10 x11 x12 x13 x14 x15 x16 x17 x18 x19 x20 x21 x22 x23 x24 x25 x26 x27 x28 x29 x30) (imageOf x0 x1 x2 i)) n t := by
  rw [k0_pay26, pay8_at]
  simp only [h1b_at]
  rfl

/-- The rows after cross-attention. -/
theorem h2_at (i : Fin 120) (s : Fin 32) (j : Fin 768) : k0_pay28 x0 x1 x2 x3 x4 x5 x6 x7 x8 x9 x10 x11 x12 x13 x14 x15 x16 x17 x18 x19 x20 x21 x22 x23 x24 x25 x26 x27 x28 x29 x30 (ix3 i s j) = Spec.h2 (weightsOf x3 x4 x5 x6 x7 x8 x9 x10 x11 x12 x13 x14 x15 x16 x17 x18 x19 x20 x21 x22 x23 x24 x25 x26 x27 x28 x29 x30) (imageOf x0 x1 x2 i) s j := by
  rw [k0_pay28, ld_r0_5 x17, ld_r0_5 x16, ld_r0_4, ld_r0_3, ld_r0_2 x19, ld_r0_2 x20, ld_r0_2 x14, ld_r0_2 x18, ld_r0_2 x15, ld_r0_2 x21, ld_r0_2 x22, ld_r0_1 x12, ld_r0_1 x13, pay10_at]
  simp only [pay9_at, sc_at, pay7_at, h1_at]
  rfl

theorem scale_at (i : Fin 120) (s : Fin 32) (z : Fin 1) : k0_pay11 (k0_pay28 x0 x1 x2 x3 x4 x5 x6 x7 x8 x9 x10 x11 x12 x13 x14 x15 x16 x17 x18 x19 x20 x21 x22 x23 x24 x25 x26 x27 x28 x29 x30) (ix3 i s z) = Spec.scale (Spec.h2 (weightsOf x3 x4 x5 x6 x7 x8 x9 x10 x11 x12 x13 x14 x15 x16 x17 x18 x19 x20 x21 x22 x23 x24 x25 x26 x27 x28 x29 x30) (imageOf x0 x1 x2 i) s) := by
  rw [pay11_at]
  simp only [h2_at]

theorem codes_at (i : Fin 120) (s : Fin 32) (j : Fin 768) : k0_pay12 (k0_pay28 x0 x1 x2 x3 x4 x5 x6 x7 x8 x9 x10 x11 x12 x13 x14 x15 x16 x17 x18 x19 x20 x21 x22 x23 x24 x25 x26 x27 x28 x29 x30) (ix3 i s j) = Spec.codes (Spec.h2 (weightsOf x3 x4 x5 x6 x7 x8 x9 x10 x11 x12 x13 x14 x15 x16 x17 x18 x19 x20 x21 x22 x23 x24 x25 x26 x27 x28 x29 x30) (imageOf x0 x1 x2 i) s) j := by
  rw [pay12_at]
  simp only [h2_at]

/-- The hidden rows of the feed-forward part. -/
theorem g_at (i : Fin 120) (s : Fin 32) (j : Fin 3072) : k0_pay17 (k0_pay29 x0 x1 x2 x3 x4 x5 x6 x7 x8 x9 x10 x11 x12 x13 x14 x15 x16 x17 x18 x19 x20 x21 x22 x23 x24 x25 x26 x27 x28 x29 x30) (k0_pay30 x0 x1 x2 x3 x4 x5 x6 x7 x8 x9 x10 x11 x12 x13 x14 x15 x16 x17 x18 x19 x20 x21 x22 x23 x24 x25 x26 x27 x28 x29 x30) (View.ld x25 r0_9) (ix3 i s j) = Spec.g (weightsOf x3 x4 x5 x6 x7 x8 x9 x10 x11 x12 x13 x14 x15 x16 x17 x18 x19 x20 x21 x22 x23 x24 x25 x26 x27 x28 x29 x30) (imageOf x0 x1 x2 i) s j := by
  rw [pay17_at, k0_pay29, k0_pay30, ld_r0_8, ld_r0_9, ld_r0_9, pay15_at, pay16_at]
  simp only [codes_at, scale_at]
  rfl

theorem gscale_at (i : Fin 120) (s : Fin 32) (z : Fin 1) : k0_pay31 x0 x1 x2 x3 x4 x5 x6 x7 x8 x9 x10 x11 x12 x13 x14 x15 x16 x17 x18 x19 x20 x21 x22 x23 x24 x25 x26 x27 x28 x29 x30 (ix3 i s z) = Spec.scale (Spec.g (weightsOf x3 x4 x5 x6 x7 x8 x9 x10 x11 x12 x13 x14 x15 x16 x17 x18 x19 x20 x21 x22 x23 x24 x25 x26 x27 x28 x29 x30) (imageOf x0 x1 x2 i) s) := by
  rw [k0_pay31, pay18_at]
  simp only [g_at]

theorem gcodes_at (i : Fin 120) (s : Fin 32) (j : Fin 3072) :
    k0_pay19 (k0_pay29 x0 x1 x2 x3 x4 x5 x6 x7 x8 x9 x10 x11 x12 x13 x14 x15 x16 x17 x18 x19 x20 x21 x22 x23 x24 x25 x26 x27 x28 x29 x30) (k0_pay30 x0 x1 x2 x3 x4 x5 x6 x7 x8 x9 x10 x11 x12 x13 x14 x15 x16 x17 x18 x19 x20 x21 x22 x23 x24 x25 x26 x27 x28 x29 x30) (View.ld x25 r0_9) (ix3 i s j) = Spec.codes (Spec.g (weightsOf x3 x4 x5 x6 x7 x8 x9 x10 x11 x12 x13 x14 x15 x16 x17 x18 x19 x20 x21 x22 x23 x24 x25 x26 x27 x28 x29 x30) (imageOf x0 x1 x2 i) s) j := by
  rw [pay19_at]
  simp only [g_at]

/-- The first result: the layer's rows. -/
theorem out31_at (i : Fin 120) (s : Fin 32) (j : Fin 768) (r : Fin 3840) (h : r.val = 32 * i.val + s.val) :
    out0_31 x0 x1 x2 x3 x4 x5 x6 x7 x8 x9 x10 x11 x12 x13 x14 x15 x16 x17 x18 x19 x20 x21 x22 x23 x24 x25 x26 x27 x28 x29 x30 (ix2 r j) = Spec.out (weightsOf x3 x4 x5 x6 x7 x8 x9 x10 x11 x12 x13 x14 x15 x16 x17 x18 x19 x20 x21 x22 x23 x24 x25 x26 x27 x28 x29 x30) (imageOf x0 x1 x2 i) s j := by
  have h1 : (⟨r.val / 32, by omega⟩ : Fin 120) = i := Fin.ext (by simp only; omega)
  have h2 : (⟨r.val % 32, by omega⟩ : Fin 32) = s := Fin.ext (by simp only; omega)
  rw [out0_31, View.canon_unit_zero zero2, ld_r0_2, ld_r0_2, ld_r0_2, ld_r0_2, ld_r0_11, pay22_at, h1, h2]
  simp only [h2_at, gscale_at, gcodes_at]
  rfl

/-- The second result: the codes of the rows after cross-attention. -/
theorem out32_at (i : Fin 120) (s : Fin 32) (j : Fin 768) (r : Fin 3840) (h : r.val = 32 * i.val + s.val) :
    out0_32 x0 x1 x2 x3 x4 x5 x6 x7 x8 x9 x10 x11 x12 x13 x14 x15 x16 x17 x18 x19 x20 x21 x22 x23 x24 x25 x26 x27 x28 x29 x30 (ix2 r j) = Spec.codes (Spec.h2 (weightsOf x3 x4 x5 x6 x7 x8 x9 x10 x11 x12 x13 x14 x15 x16 x17 x18 x19 x20 x21 x22 x23 x24 x25 x26 x27 x28 x29 x30) (imageOf x0 x1 x2 i) s) j := by
  have h1 : (⟨r.val / 32, by omega⟩ : Fin 120) = i := Fin.ext (by simp only; omega)
  have h2 : (⟨r.val % 32, by omega⟩ : Fin 32) = s := Fin.ext (by simp only; omega)
  rw [out0_32, View.canon_unit_zero zero2, pay13_at, h1, h2, codes_at]

/-- The third result: their scales. -/
theorem out33_at (i : Fin 120) (s : Fin 32) : out0_33 x0 x1 x2 x3 x4 x5 x6 x7 x8 x9 x10 x11 x12 x13 x14 x15 x16 x17 x18 x19 x20 x21 x22 x23 x24 x25 x26 x27 x28 x29 x30 (ix2 i s) = Spec.scale (Spec.h2 (weightsOf x3 x4 x5 x6 x7 x8 x9 x10 x11 x12 x13 x14 x15 x16 x17 x18 x19 x20 x21 x22 x23 x24 x25 x26 x27 x28 x29 x30) (imageOf x0 x1 x2 i) s) := by
  rw [out0_33, View.canon_unit_zero zero2, pay14_at, scale_at]

/-- The fourth result: the codes of the hidden rows. -/
theorem out34_at (i : Fin 120) (s : Fin 32) (j : Fin 3072) (r : Fin 3840) (h : r.val = 32 * i.val + s.val) :
    out0_34 x0 x1 x2 x3 x4 x5 x6 x7 x8 x9 x10 x11 x12 x13 x14 x15 x16 x17 x18 x19 x20 x21 x22 x23 x24 x25 x26 x27 x28 x29 x30 (ix2 r j) = Spec.codes (Spec.g (weightsOf x3 x4 x5 x6 x7 x8 x9 x10 x11 x12 x13 x14 x15 x16 x17 x18 x19 x20 x21 x22 x23 x24 x25 x26 x27 x28 x29 x30) (imageOf x0 x1 x2 i) s) j := by
  have h1 : (⟨r.val / 32, by omega⟩ : Fin 120) = i := Fin.ext (by simp only; omega)
  have h2 : (⟨r.val % 32, by omega⟩ : Fin 32) = s := Fin.ext (by simp only; omega)
  rw [out0_34, View.canon_unit_zero zero2, pay20_at, h1, h2, gcodes_at]

/-- The fifth result: their scales. -/
theorem out35_at (i : Fin 120) (s : Fin 32) : out0_35 x0 x1 x2 x3 x4 x5 x6 x7 x8 x9 x10 x11 x12 x13 x14 x15 x16 x17 x18 x19 x20 x21 x22 x23 x24 x25 x26 x27 x28 x29 x30 (ix2 i s) = Spec.scale (Spec.g (weightsOf x3 x4 x5 x6 x7 x8 x9 x10 x11 x12 x13 x14 x15 x16 x17 x18 x19 x20 x21 x22 x23 x24 x25 x26 x27 x28 x29 x30) (imageOf x0 x1 x2 i) s) := by
  rw [out0_35, View.canon_unit_zero zero2, pay21_at, gscale_at]

end Cert.ReferenceIdeal.Run

end
-- ==== Proof.IdealRun.Final.lean ====
/- The blocks' weights and images are the arguments', and the five results of the run. -/
module

public import proofs.«01_k».proof.Proof.IdealRun.Blocks
public import proofs.«01_k».proof.Proof.Value.RefValue
public import Idealize.ShloMosaic.Lib.Pipeline.Value

@[expose] public section

noncomputable section

namespace Cert.KernelIdeal.Val

open Cert.KernelIdeal.Gen Cert.KernelIdeal.Run Cert.KernelIdeal.Model
open Idealize.ShloMosaic Idealize.ShloMosaic.TcCoe
open Idealize.SL.Sem

variable (m : (ℓ : Loc nD τ sig) → Buf (Elt Ideal) ℓ) (ρ : Dev nD → PrngReg)

/-- The weights in the arguments. -/
def W (c : Dev nD) : Spec.Weights := Cert.ReferenceIdeal.Run.weightsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))

/-- Image `i` of the arguments. -/
def I (c : Dev nD) (i : Fin 120) : Spec.Image := Cert.ReferenceIdeal.Run.imageOf (m ((c : Thread nD τ).loc main_arg0)) (m ((c : Thread nD τ).loc main_arg1)) (m ((c : Thread nD τ).loc main_arg2)) i

theorem flat_row {n : Nat} (j : Fin n) : ((⟨1, ![n]⟩ : Shape).rowMajor (ix1 j)).val = ((⟨2, ![1, n]⟩ : Shape).rowMajor (ix2 0 j)).val := by
  rw [Shape.rowMajor_val_one, Shape.rowMajor_val_two]
  show j.val = 0 * n + j.val
  omega

theorem flat_img (i : Fin 120) (s : Fin 32) (j : Fin 768) (h : 32 * i.val + s.val < 3840) :
    (S120x32x768.rowMajor (ix3 i s j)).val = (S3840x768.rowMajor (ix2 ⟨32 * i.val + s.val, h⟩ j)).val := by
  rw [Shape.rowMajor_val_three, Shape.rowMajor_val_two]
  show (i.val * 32 + s.val) * 768 + j.val = (32 * i.val + s.val) * 768 + j.val
  omega

theorem w_sq (c : Dev nD) (t : Fin cfg0.N) : (wOf (blk m c t)).sq = (W m c).sq := by
  funext l j
  show iblk m c 3 t (ix2 l j) = m ((c : Thread nD τ).loc main_arg3) (ix2 l j)
  rw [iblk3_eq, V_main_arg3]

theorem w_sk (c : Dev nD) (t : Fin cfg0.N) : (wOf (blk m c t)).sk = (W m c).sk := by
  funext l j
  show iblk m c 4 t (ix2 l j) = m ((c : Thread nD τ).loc main_arg4) (ix2 l j)
  rw [iblk4_eq, V_main_arg4]

theorem w_sv (c : Dev nD) (t : Fin cfg0.N) : (wOf (blk m c t)).sv = (W m c).sv := by
  funext l j
  show iblk m c 5 t (ix2 l j) = m ((c : Thread nD τ).loc main_arg5) (ix2 l j)
  rw [iblk5_eq, V_main_arg5]

theorem w_so (c : Dev nD) (t : Fin cfg0.N) : (wOf (blk m c t)).so = (W m c).so := by
  funext l j
  show iblk m c 6 t (ix2 l j) = m ((c : Thread nD τ).loc main_arg6) (ix2 l j)
  rw [iblk6_eq, V_main_arg6]

theorem w_bsq (c : Dev nD) (t : Fin cfg0.N) : (wOf (blk m c t)).bsq = (W m c).bsq := by
  funext j
  show iblk m c 7 t (ix2 0 j) = m ((c : Thread nD τ).loc main_arg7) (ix1 j)
  rw [iblk7_eq, V_main_v1]
  exact shapeCast_apply _ _ _ _ (flat_row j)

theorem w_bsv (c : Dev nD) (t : Fin cfg0.N) : (wOf (blk m c t)).bsv = (W m c).bsv := by
  funext j
  show iblk m c 8 t (ix2 0 j) = m ((c : Thread nD τ).loc main_arg8) (ix1 j)
  rw [iblk8_eq, V_main_v2]
  exact shapeCast_apply _ _ _ _ (flat_row j)

theorem w_bso (c : Dev nD) (t : Fin cfg0.N) : (wOf (blk m c t)).bso = (W m c).bso := by
  funext j
  show iblk m c 9 t (ix2 0 j) = m ((c : Thread nD τ).loc main_arg9) (ix1 j)
  rw [iblk9_eq, V_main_v3]
  exact shapeCast_apply _ _ _ _ (flat_row j)

theorem w_g1 (c : Dev nD) (t : Fin cfg0.N) : (wOf (blk m c t)).g1 = (W m c).g1 := by
  funext j
  show iblk m c 10 t (ix2 0 j) = m ((c : Thread nD τ).loc main_arg10) (ix1 j)
  rw [iblk10_eq, V_main_v4]
  exact shapeCast_apply _ _ _ _ (flat_row j)

theorem w_b1 (c : Dev nD) (t : Fin cfg0.N) : (wOf (blk m c t)).b1 = (W m c).b1 := by
  funext j
  show iblk m c 11 t (ix2 0 j) = m ((c : Thread nD τ).loc main_arg11) (ix1 j)
  rw [iblk11_eq, V_main_v5]
  exact shapeCast_apply _ _ _ _ (flat_row j)

theorem w_cq (c : Dev nD) (t : Fin cfg0.N) : (wOf (blk m c t)).cq = (W m c).cq := by
  funext l j
  show iblk m c 12 t (ix2 l j) = m ((c : Thread nD τ).loc main_arg12) (ix2 l j)
  rw [iblk12_eq, V_main_arg12]

theorem w_co (c : Dev nD) (t : Fin cfg0.N) : (wOf (blk m c t)).co = (W m c).co := by
  funext l j
  show iblk m c 13 t (ix2 l j) = m ((c : Thread nD τ).loc main_arg13) (ix2 l j)
  rw [iblk13_eq, V_main_arg13]

theorem w_bcq (c : Dev nD) (t : Fin cfg0.N) : (wOf (blk m c t)).bcq = (W m c).bcq := by
  funext j
  show iblk m c 14 t (ix2 0 j) = m ((c : Thread nD τ).loc main_arg14) (ix1 j)
  rw [iblk14_eq, V_main_v6]
  exact shapeCast_apply _ _ _ _ (flat_row j)

theorem w_bco (c : Dev nD) (t : Fin cfg0.N) : (wOf (blk m c t)).bco = (W m c).bco := by
  funext j
  show iblk m c 15 t (ix2 0 j) = m ((c : Thread nD τ).loc main_arg15) (ix1 j)
  rw [iblk15_eq, V_main_v7]
  exact shapeCast_apply _ _ _ _ (flat_row j)

theorem w_ck (c : Dev nD) (t : Fin cfg0.N) : (wOf (blk m c t)).ck = (W m c).ck := by
  funext l j
  show iblk m c 16 t (ix2 j l) = m ((c : Thread nD τ).loc main_arg16) (ix2 l j)
  rw [iblk16_eq, V_main_v8]
  pointwise []

theorem w_cv (c : Dev nD) (t : Fin cfg0.N) : (wOf (blk m c t)).cv = (W m c).cv := by
  funext l j
  show iblk m c 17 t (ix2 l j) = m ((c : Thread nD τ).loc main_arg17) (ix2 l j)
  rw [iblk17_eq, V_main_arg17]

theorem w_sck (c : Dev nD) (t : Fin cfg0.N) : (wOf (blk m c t)).sck = (W m c).sck := by
  funext j
  show iblk m c 18 t (ix2 j 0) = m ((c : Thread nD τ).loc main_arg18) (ix1 j)
  rw [iblk18_eq, V_main_v9]
  pointwise []

theorem w_scv (c : Dev nD) (t : Fin cfg0.N) : (wOf (blk m c t)).scv = (W m c).scv := by
  funext j
  show iblk m c 19 t (ix2 0 j) = m ((c : Thread nD τ).loc main_arg19) (ix1 j)
  rw [iblk19_eq, V_main_v10]
  exact shapeCast_apply _ _ _ _ (flat_row j)

theorem w_bcv (c : Dev nD) (t : Fin cfg0.N) : (wOf (blk m c t)).bcv = (W m c).bcv := by
  funext j
  show iblk m c 20 t (ix2 0 j) = m ((c : Thread nD τ).loc main_arg20) (ix1 j)
  rw [iblk20_eq, V_main_v11]
  exact shapeCast_apply _ _ _ _ (flat_row j)

theorem w_g2 (c : Dev nD) (t : Fin cfg0.N) : (wOf (blk m c t)).g2 = (W m c).g2 := by
  funext j
  show iblk m c 21 t (ix2 0 j) = m ((c : Thread nD τ).loc main_arg21) (ix1 j)
  rw [iblk21_eq, V_main_v12]
  exact shapeCast_apply _ _ _ _ (flat_row j)

theorem w_b2 (c : Dev nD) (t : Fin cfg0.N) : (wOf (blk m c t)).b2 = (W m c).b2 := by
  funext j
  show iblk m c 22 t (ix2 0 j) = m ((c : Thread nD τ).loc main_arg22) (ix1 j)
  rw [iblk22_eq, V_main_v13]
  exact shapeCast_apply _ _ _ _ (flat_row j)

theorem w_ff1 (c : Dev nD) (t : Fin cfg0.N) : (wOf (blk m c t)).ff1 = (W m c).ff1 := by
  funext l j
  show iblk m c 23 t (ix2 l j) = m ((c : Thread nD τ).loc main_arg23) (ix2 l j)
  rw [iblk23_eq, V_main_arg23]

theorem w_sff1 (c : Dev nD) (t : Fin cfg0.N) : (wOf (blk m c t)).sff1 = (W m c).sff1 := by
  funext j
  show iblk m c 24 t (ix2 0 j) = m ((c : Thread nD τ).loc main_arg24) (ix1 j)
  rw [iblk24_eq, V_main_v14]
  exact shapeCast_apply _ _ _ _ (flat_row j)

theorem w_bff1 (c : Dev nD) (t : Fin cfg0.N) : (wOf (blk m c t)).bff1 = (W m c).bff1 := by
  funext j
  show iblk m c 25 t (ix2 0 j) = m ((c : Thread nD τ).loc main_arg25) (ix1 j)
  rw [iblk25_eq, V_main_v15]
  exact shapeCast_apply _ _ _ _ (flat_row j)

theorem w_ff2 (c : Dev nD) (t : Fin cfg0.N) : (wOf (blk m c t)).ff2 = (W m c).ff2 := by
  funext l j
  show iblk m c 26 t (ix2 l j) = m ((c : Thread nD τ).loc main_arg26) (ix2 l j)
  rw [iblk26_eq, V_main_arg26]

theorem w_sff2 (c : Dev nD) (t : Fin cfg0.N) : (wOf (blk m c t)).sff2 = (W m c).sff2 := by
  funext j
  show iblk m c 27 t (ix2 0 j) = m ((c : Thread nD τ).loc main_arg27) (ix1 j)
  rw [iblk27_eq, V_main_v16]
  exact shapeCast_apply _ _ _ _ (flat_row j)

theorem w_bff2 (c : Dev nD) (t : Fin cfg0.N) : (wOf (blk m c t)).bff2 = (W m c).bff2 := by
  funext j
  show iblk m c 28 t (ix2 0 j) = m ((c : Thread nD τ).loc main_arg28) (ix1 j)
  rw [iblk28_eq, V_main_v17]
  exact shapeCast_apply _ _ _ _ (flat_row j)

theorem w_g3 (c : Dev nD) (t : Fin cfg0.N) : (wOf (blk m c t)).g3 = (W m c).g3 := by
  funext j
  show iblk m c 29 t (ix2 0 j) = m ((c : Thread nD τ).loc main_arg29) (ix1 j)
  rw [iblk29_eq, V_main_v18]
  exact shapeCast_apply _ _ _ _ (flat_row j)

theorem w_b3 (c : Dev nD) (t : Fin cfg0.N) : (wOf (blk m c t)).b3 = (W m c).b3 := by
  funext j
  show iblk m c 30 t (ix2 0 j) = m ((c : Thread nD τ).loc main_arg30) (ix1 j)
  rw [iblk30_eq, V_main_v19]
  exact shapeCast_apply _ _ _ _ (flat_row j)

/-- Every point's weights are the arguments'. -/
theorem weights_eq (c : Dev nD) (t : Fin cfg0.N) : wOf (blk m c t) = W m c := by
  have e : ∀ a b : Spec.Weights, a.sq = b.sq → a.sk = b.sk → a.sv = b.sv → a.so = b.so → a.bsq = b.bsq → a.bsv = b.bsv → a.bso = b.bso → a.g1 = b.g1 → a.b1 = b.b1 → a.cq = b.cq → a.co = b.co → a.bcq = b.bcq → a.bco = b.bco → a.ck = b.ck → a.cv = b.cv → a.sck = b.sck → a.scv = b.scv → a.bcv = b.bcv → a.g2 = b.g2 → a.b2 = b.b2 → a.ff1 = b.ff1 → a.sff1 = b.sff1 → a.bff1 = b.bff1 → a.ff2 = b.ff2 → a.sff2 = b.sff2 → a.bff2 = b.bff2 → a.g3 = b.g3 → a.b3 = b.b3 → a = b := by
    intro a b; cases a; cases b; intros; simp_all
  exact e _ _ (w_sq m c t) (w_sk m c t) (w_sv m c t) (w_so m c t) (w_bsq m c t) (w_bsv m c t) (w_bso m c t) (w_g1 m c t) (w_b1 m c t) (w_cq m c t) (w_co m c t) (w_bcq m c t) (w_bco m c t) (w_ck m c t) (w_cv m c t) (w_sck m c t) (w_scv m c t) (w_bcv m c t) (w_g2 m c t) (w_b2 m c t) (w_ff1 m c t) (w_sff1 m c t) (w_bff1 m c t) (w_ff2 m c t) (w_sff2 m c t) (w_bff2 m c t) (w_g3 m c t) (w_b3 m c t)

set_option maxHeartbeats 800000 in
/-- Image `b` of point `t` is image `8 t + b`. -/
theorem image_eq (c : Dev nD) (t : Fin cfg0.N) (b : Fin 8) (i : Fin 120) (h : i.val = 8 * t.val + b.val) : imgOf (blk m c t) b = I m c i := by
  have ex : (imgOf (blk m c t) b).x = (I m c i).x := by
    funext s j
    show iblk m c 0 t (ix2 (row b s) j) = m ((c : Thread nD τ).loc main_arg0) (ix3 i s j)
    rw [iblk0_at m c t (row b s) j ⟨32 * i.val + s.val, by omega⟩ (by show 32 * i.val + s.val = 256 * t.val + (32 * b.val + s.val); omega), V_main_v0]
    exact shapeCast_apply _ _ _ _ (flat_img i s j _)
  have ei : (imgOf (blk m c t) b).img = (I m c i).img := by
    funext u l
    show iblk m c 1 t (ix3 b u l) = m ((c : Thread nD τ).loc main_arg1) (ix3 i u l)
    rw [iblk1_at m c t b u l i h, V_main_arg1]
  have et : (imgOf (blk m c t) b).ts = (I m c i).ts := by
    funext u
    show iblk m c 2 t (ix2 b u) = m ((c : Thread nD τ).loc main_arg2) (ix2 i u)
    rw [iblk2_at m c t b u i h, V_main_arg2]
  revert ex ei et
  generalize imgOf (blk m c t) b = p
  generalize I m c i = q
  cases p; cases q; intros; simp_all

/-! ## The results -/

/-- The image and the token of a row of all images. -/
def im (r : Fin 3840) : Fin 120 := ⟨r.val / 32, by omega⟩
def tk (r : Fin 3840) : Fin 32 := ⟨r.val % 32, by omega⟩

def tot0 (c : Dev nD) : Vec Ideal S3840x768 .bf16 := fun y => Spec.out (W m c) (I m c (im (y 0))) (tk (y 0)) (y 1)
def tot1 (c : Dev nD) : Vec Ideal S3840x768 .fp8e4m3 := fun y => Spec.codes (Spec.h2 (W m c) (I m c (im (y 0))) (tk (y 0))) (y 1)
def tot2 (c : Dev nD) : Vec Ideal S120x32 .f32 := fun y => Spec.scale (Spec.h2 (W m c) (I m c (y 0)) (y 1))
def tot3 (c : Dev nD) : Vec Ideal S3840x3072 .fp8e4m3 := fun y => Spec.codes (Spec.g (W m c) (I m c (im (y 0))) (tk (y 0))) (y 1)
def tot4 (c : Dev nD) : Vec Ideal S120x32 .f32 := fun y => Spec.scale (Spec.g (W m c) (I m c (y 0)) (y 1))

theorem idx31 : ∀ t : Fin cfg0.N, win0_31.index t (0 : Fin 2) = t.val ∧ win0_31.index t (1 : Fin 2) = 0 :=
  (by decide +kernel : ∀ t : Fin grid0.N, _)

theorem emb31 (t : Fin cfg0.N) (a : Fin 256) (b : Fin 768) (r : Fin 3840) (h : r.val = 256 * t.val + a.val) : ((cfg0.win 31).blk t).view.emb (ix2 a b) = ix2 r b := by
  obtain ⟨e0, e1⟩ := idx31 t
  funext k; apply Fin.ext
  match k with
  | ⟨0, _⟩ => show win0_31.index t (0 : Fin 2) * 256 + 1 * a.val = r.val; omega
  | ⟨1, _⟩ => show win0_31.index t (1 : Fin 2) * 768 + 1 * b.val = b.val; omega

/-- What point `t` writes back is its block of `tot0`. -/
theorem flushed31_eq (c : Dev nD) (t : Fin cfg0.N) : (dats m 0 c).flushed 31 t = ((cfg0.win 31).blk t).view.read (Elt Ideal) (tot0 m c) := by
  have hN : t.val < 15 := t.isLt
  show (cfg0.win 31).cut (grid0.coords t) ((dats m 0 c).after 31 t) = _
  rw [after0_31]
  funext y
  obtain ⟨a, b, rfl⟩ : ∃ (a : Fin 256) (b : Fin 768), y = ix2 a b := ⟨y 0, y 1, eq_ix2 y⟩
  show res0 (blk m c t) (ix2 a b) = tot0 m c (((cfg0.win 31).blk t).view.emb (ix2 a b))
  obtain ⟨i, s, rfl⟩ := exists_row a
  have hr : (row i s).val = 32 * i.val + s.val := rfl
  rw [emb31 t (row i s) b ⟨256 * t.val + (row i s).val, by omega⟩ rfl, res0_at]
  have h1 : im ⟨256 * t.val + (row i s).val, by omega⟩ = ⟨8 * t.val + i.val, by omega⟩ := Fin.ext (by simp only [im]; omega)
  have h2 : tk ⟨256 * t.val + (row i s).val, by omega⟩ = s := Fin.ext (by simp only [tk]; omega)
  show _ = Spec.out (W m c) (I m c (im ⟨256 * t.val + (row i s).val, _⟩)) (tk ⟨256 * t.val + (row i s).val, _⟩) b
  rw [h1, h2, weights_eq, image_eq m c t i ⟨8 * t.val + i.val, by omega⟩ rfl]

/-- Every index of the array is in some point's block. -/
theorem covered31 (y : S3840x768.Idx) : ∃ t : Fin cfg0.N, (cfg0.win 31).flush t = true ∧ y ∈ ((cfg0.win 31).blk t).view.set := by
  obtain ⟨r, b, rfl⟩ : ∃ (r : Fin 3840) (b : Fin 768), y = ix2 r b := ⟨y 0, y 1, eq_ix2 y⟩
  refine ⟨(⟨r.val / 256, by show r.val / 256 < 15; omega⟩ : Fin cfg0.N), flush0_31 _, ?_⟩
  have h := ((cfg0.win 31).blk (⟨r.val / 256, by show r.val / 256 < 15; omega⟩ : Fin cfg0.N)).view.emb_mem_set (ix2 (⟨r.val % 256, by omega⟩ : Fin 256) b)
  rwa [emb31 _ _ _ r (by show r.val = 256 * (r.val / 256) + r.val % 256; omega)] at h

/-- The array after the run. -/
theorem final31 (c : Dev nD) : (dats m 0 c).arrAt 31 cfg0.N = tot0 m c :=
  (dats m 0 c).arrAt_eq_of_cover 31 (tot0 m c) (fun t _ => flushed31_eq m c t) covered31

theorem idx32 : ∀ t : Fin cfg0.N, win0_32.index t (0 : Fin 2) = t.val ∧ win0_32.index t (1 : Fin 2) = 0 :=
  (by decide +kernel : ∀ t : Fin grid0.N, _)

theorem emb32 (t : Fin cfg0.N) (a : Fin 256) (b : Fin 768) (r : Fin 3840) (h : r.val = 256 * t.val + a.val) : ((cfg0.win 32).blk t).view.emb (ix2 a b) = ix2 r b := by
  obtain ⟨e0, e1⟩ := idx32 t
  funext k; apply Fin.ext
  match k with
  | ⟨0, _⟩ => show win0_32.index t (0 : Fin 2) * 256 + 1 * a.val = r.val; omega
  | ⟨1, _⟩ => show win0_32.index t (1 : Fin 2) * 768 + 1 * b.val = b.val; omega

/-- What point `t` writes back is its block of `tot1`. -/
theorem flushed32_eq (c : Dev nD) (t : Fin cfg0.N) : (dats m 0 c).flushed 32 t = ((cfg0.win 32).blk t).view.read (Elt Ideal) (tot1 m c) := by
  have hN : t.val < 15 := t.isLt
  show (cfg0.win 32).cut (grid0.coords t) ((dats m 0 c).after 32 t) = _
  rw [after0_32]
  funext y
  obtain ⟨a, b, rfl⟩ : ∃ (a : Fin 256) (b : Fin 768), y = ix2 a b := ⟨y 0, y 1, eq_ix2 y⟩
  show res1 (blk m c t) (ix2 a b) = tot1 m c (((cfg0.win 32).blk t).view.emb (ix2 a b))
  obtain ⟨i, s, rfl⟩ := exists_row a
  have hr : (row i s).val = 32 * i.val + s.val := rfl
  rw [emb32 t (row i s) b ⟨256 * t.val + (row i s).val, by omega⟩ rfl, res1_at]
  have h1 : im ⟨256 * t.val + (row i s).val, by omega⟩ = ⟨8 * t.val + i.val, by omega⟩ := Fin.ext (by simp only [im]; omega)
  have h2 : tk ⟨256 * t.val + (row i s).val, by omega⟩ = s := Fin.ext (by simp only [tk]; omega)
  show _ = Spec.codes (Spec.h2 (W m c) (I m c (im ⟨256 * t.val + (row i s).val, _⟩)) (tk ⟨256 * t.val + (row i s).val, _⟩)) b
  rw [h1, h2, weights_eq, image_eq m c t i ⟨8 * t.val + i.val, by omega⟩ rfl]

/-- Every index of the array is in some point's block. -/
theorem covered32 (y : S3840x768.Idx) : ∃ t : Fin cfg0.N, (cfg0.win 32).flush t = true ∧ y ∈ ((cfg0.win 32).blk t).view.set := by
  obtain ⟨r, b, rfl⟩ : ∃ (r : Fin 3840) (b : Fin 768), y = ix2 r b := ⟨y 0, y 1, eq_ix2 y⟩
  refine ⟨(⟨r.val / 256, by show r.val / 256 < 15; omega⟩ : Fin cfg0.N), flush0_32 _, ?_⟩
  have h := ((cfg0.win 32).blk (⟨r.val / 256, by show r.val / 256 < 15; omega⟩ : Fin cfg0.N)).view.emb_mem_set (ix2 (⟨r.val % 256, by omega⟩ : Fin 256) b)
  rwa [emb32 _ _ _ r (by show r.val = 256 * (r.val / 256) + r.val % 256; omega)] at h

/-- The array after the run. -/
theorem final32 (c : Dev nD) : (dats m 0 c).arrAt 32 cfg0.N = tot1 m c :=
  (dats m 0 c).arrAt_eq_of_cover 32 (tot1 m c) (fun t _ => flushed32_eq m c t) covered32

theorem idx33 : ∀ t : Fin cfg0.N, win0_33.index t (0 : Fin 2) = t.val ∧ win0_33.index t (1 : Fin 2) = 0 :=
  (by decide +kernel : ∀ t : Fin grid0.N, _)

theorem emb33 (t : Fin cfg0.N) (a : Fin 8) (b : Fin 32) (r : Fin 120) (h : r.val = 8 * t.val + a.val) : ((cfg0.win 33).blk t).view.emb (ix2 a b) = ix2 r b := by
  obtain ⟨e0, e1⟩ := idx33 t
  funext k; apply Fin.ext
  match k with
  | ⟨0, _⟩ => show win0_33.index t (0 : Fin 2) * 8 + 1 * a.val = r.val; omega
  | ⟨1, _⟩ => show win0_33.index t (1 : Fin 2) * 32 + 1 * b.val = b.val; omega

/-- What point `t` writes back is its block of `tot2`. -/
theorem flushed33_eq (c : Dev nD) (t : Fin cfg0.N) : (dats m 0 c).flushed 33 t = ((cfg0.win 33).blk t).view.read (Elt Ideal) (tot2 m c) := by
  have hN : t.val < 15 := t.isLt
  show (cfg0.win 33).cut (grid0.coords t) ((dats m 0 c).after 33 t) = _
  rw [after0_33]
  funext y
  obtain ⟨a, b, rfl⟩ : ∃ (a : Fin 8) (b : Fin 32), y = ix2 a b := ⟨y 0, y 1, eq_ix2 y⟩
  show res2 (blk m c t) (ix2 a b) = tot2 m c (((cfg0.win 33).blk t).view.emb (ix2 a b))
  rw [emb33 t a b ⟨8 * t.val + a.val, by omega⟩ rfl]
  show Spec.scale (Spec.h2 (wOf (blk m c t)) (imgOf (blk m c t) a) b) = Spec.scale (Spec.h2 (W m c) (I m c ⟨8 * t.val + a.val, _⟩) b)
  rw [weights_eq, image_eq m c t a ⟨8 * t.val + a.val, by omega⟩ rfl]

/-- Every index of the array is in some point's block. -/
theorem covered33 (y : S120x32.Idx) : ∃ t : Fin cfg0.N, (cfg0.win 33).flush t = true ∧ y ∈ ((cfg0.win 33).blk t).view.set := by
  obtain ⟨r, b, rfl⟩ : ∃ (r : Fin 120) (b : Fin 32), y = ix2 r b := ⟨y 0, y 1, eq_ix2 y⟩
  refine ⟨(⟨r.val / 8, by show r.val / 8 < 15; omega⟩ : Fin cfg0.N), flush0_33 _, ?_⟩
  have h := ((cfg0.win 33).blk (⟨r.val / 8, by show r.val / 8 < 15; omega⟩ : Fin cfg0.N)).view.emb_mem_set (ix2 (⟨r.val % 8, by omega⟩ : Fin 8) b)
  rwa [emb33 _ _ _ r (by show r.val = 8 * (r.val / 8) + r.val % 8; omega)] at h

/-- The array after the run. -/
theorem final33 (c : Dev nD) : (dats m 0 c).arrAt 33 cfg0.N = tot2 m c :=
  (dats m 0 c).arrAt_eq_of_cover 33 (tot2 m c) (fun t _ => flushed33_eq m c t) covered33

theorem idx34 : ∀ t : Fin cfg0.N, win0_34.index t (0 : Fin 2) = t.val ∧ win0_34.index t (1 : Fin 2) = 0 :=
  (by decide +kernel : ∀ t : Fin grid0.N, _)

theorem emb34 (t : Fin cfg0.N) (a : Fin 256) (b : Fin 3072) (r : Fin 3840) (h : r.val = 256 * t.val + a.val) : ((cfg0.win 34).blk t).view.emb (ix2 a b) = ix2 r b := by
  obtain ⟨e0, e1⟩ := idx34 t
  funext k; apply Fin.ext
  match k with
  | ⟨0, _⟩ => show win0_34.index t (0 : Fin 2) * 256 + 1 * a.val = r.val; omega
  | ⟨1, _⟩ => show win0_34.index t (1 : Fin 2) * 3072 + 1 * b.val = b.val; omega

/-- What point `t` writes back is its block of `tot3`. -/
theorem flushed34_eq (c : Dev nD) (t : Fin cfg0.N) : (dats m 0 c).flushed 34 t = ((cfg0.win 34).blk t).view.read (Elt Ideal) (tot3 m c) := by
  have hN : t.val < 15 := t.isLt
  show (cfg0.win 34).cut (grid0.coords t) ((dats m 0 c).after 34 t) = _
  rw [after0_34]
  funext y
  obtain ⟨a, b, rfl⟩ : ∃ (a : Fin 256) (b : Fin 3072), y = ix2 a b := ⟨y 0, y 1, eq_ix2 y⟩
  show res3 (blk m c t) (ix2 a b) = tot3 m c (((cfg0.win 34).blk t).view.emb (ix2 a b))
  obtain ⟨i, s, rfl⟩ := exists_row a
  have hr : (row i s).val = 32 * i.val + s.val := rfl
  rw [emb34 t (row i s) b ⟨256 * t.val + (row i s).val, by omega⟩ rfl, res3_at]
  have h1 : im ⟨256 * t.val + (row i s).val, by omega⟩ = ⟨8 * t.val + i.val, by omega⟩ := Fin.ext (by simp only [im]; omega)
  have h2 : tk ⟨256 * t.val + (row i s).val, by omega⟩ = s := Fin.ext (by simp only [tk]; omega)
  show _ = Spec.codes (Spec.g (W m c) (I m c (im ⟨256 * t.val + (row i s).val, _⟩)) (tk ⟨256 * t.val + (row i s).val, _⟩)) b
  rw [h1, h2, weights_eq, image_eq m c t i ⟨8 * t.val + i.val, by omega⟩ rfl]

/-- Every index of the array is in some point's block. -/
theorem covered34 (y : S3840x3072.Idx) : ∃ t : Fin cfg0.N, (cfg0.win 34).flush t = true ∧ y ∈ ((cfg0.win 34).blk t).view.set := by
  obtain ⟨r, b, rfl⟩ : ∃ (r : Fin 3840) (b : Fin 3072), y = ix2 r b := ⟨y 0, y 1, eq_ix2 y⟩
  refine ⟨(⟨r.val / 256, by show r.val / 256 < 15; omega⟩ : Fin cfg0.N), flush0_34 _, ?_⟩
  have h := ((cfg0.win 34).blk (⟨r.val / 256, by show r.val / 256 < 15; omega⟩ : Fin cfg0.N)).view.emb_mem_set (ix2 (⟨r.val % 256, by omega⟩ : Fin 256) b)
  rwa [emb34 _ _ _ r (by show r.val = 256 * (r.val / 256) + r.val % 256; omega)] at h

/-- The array after the run. -/
theorem final34 (c : Dev nD) : (dats m 0 c).arrAt 34 cfg0.N = tot3 m c :=
  (dats m 0 c).arrAt_eq_of_cover 34 (tot3 m c) (fun t _ => flushed34_eq m c t) covered34

theorem idx35 : ∀ t : Fin cfg0.N, win0_35.index t (0 : Fin 2) = t.val ∧ win0_35.index t (1 : Fin 2) = 0 :=
  (by decide +kernel : ∀ t : Fin grid0.N, _)

theorem emb35 (t : Fin cfg0.N) (a : Fin 8) (b : Fin 32) (r : Fin 120) (h : r.val = 8 * t.val + a.val) : ((cfg0.win 35).blk t).view.emb (ix2 a b) = ix2 r b := by
  obtain ⟨e0, e1⟩ := idx35 t
  funext k; apply Fin.ext
  match k with
  | ⟨0, _⟩ => show win0_35.index t (0 : Fin 2) * 8 + 1 * a.val = r.val; omega
  | ⟨1, _⟩ => show win0_35.index t (1 : Fin 2) * 32 + 1 * b.val = b.val; omega

/-- What point `t` writes back is its block of `tot4`. -/
theorem flushed35_eq (c : Dev nD) (t : Fin cfg0.N) : (dats m 0 c).flushed 35 t = ((cfg0.win 35).blk t).view.read (Elt Ideal) (tot4 m c) := by
  have hN : t.val < 15 := t.isLt
  show (cfg0.win 35).cut (grid0.coords t) ((dats m 0 c).after 35 t) = _
  rw [after0_35]
  funext y
  obtain ⟨a, b, rfl⟩ : ∃ (a : Fin 8) (b : Fin 32), y = ix2 a b := ⟨y 0, y 1, eq_ix2 y⟩
  show res4 (blk m c t) (ix2 a b) = tot4 m c (((cfg0.win 35).blk t).view.emb (ix2 a b))
  rw [emb35 t a b ⟨8 * t.val + a.val, by omega⟩ rfl]
  show Spec.scale (Spec.g (wOf (blk m c t)) (imgOf (blk m c t) a) b) = Spec.scale (Spec.g (W m c) (I m c ⟨8 * t.val + a.val, _⟩) b)
  rw [weights_eq, image_eq m c t a ⟨8 * t.val + a.val, by omega⟩ rfl]

/-- Every index of the array is in some point's block. -/
theorem covered35 (y : S120x32.Idx) : ∃ t : Fin cfg0.N, (cfg0.win 35).flush t = true ∧ y ∈ ((cfg0.win 35).blk t).view.set := by
  obtain ⟨r, b, rfl⟩ : ∃ (r : Fin 120) (b : Fin 32), y = ix2 r b := ⟨y 0, y 1, eq_ix2 y⟩
  refine ⟨(⟨r.val / 8, by show r.val / 8 < 15; omega⟩ : Fin cfg0.N), flush0_35 _, ?_⟩
  have h := ((cfg0.win 35).blk (⟨r.val / 8, by show r.val / 8 < 15; omega⟩ : Fin cfg0.N)).view.emb_mem_set (ix2 (⟨r.val % 8, by omega⟩ : Fin 8) b)
  rwa [emb35 _ _ _ r (by show r.val = 8 * (r.val / 8) + r.val % 8; omega)] at h

/-- The array after the run. -/
theorem final35 (c : Dev nD) : (dats m 0 c).arrAt 35 cfg0.N = tot4 m c :=
  (dats m 0 c).arrAt_eq_of_cover 35 (tot4 m c) (fun t _ => flushed35_eq m c t) covered35

section Kept

variable (r : PUnit × MemSt nD τ sig (Elt Ideal)) (h : Pipeline.FramePost cfgs (dats m) 0 (V m) r) (c : Dev nD)

include h

theorem kept0 : r.2.mem ((c : Thread nD τ).loc main_arg0) = m ((c : Thread nD τ).loc main_arg0) :=
  ((h c).2 main_arg0 (Pipeline.mem_restRefs_of main_arg0 (by decide) (by decide))).trans (V_main_arg0 m c)

theorem kept1 : r.2.mem ((c : Thread nD τ).loc main_arg1) = m ((c : Thread nD τ).loc main_arg1) :=
  ((h c).1 1).trans (((dats m 0 c).arrAt_in 1 rfl _).trans ((A_eq m c 1).trans (V_main_arg1 m c)))

theorem kept2 : r.2.mem ((c : Thread nD τ).loc main_arg2) = m ((c : Thread nD τ).loc main_arg2) :=
  ((h c).1 2).trans (((dats m 0 c).arrAt_in 2 rfl _).trans ((A_eq m c 2).trans (V_main_arg2 m c)))

theorem kept3 : r.2.mem ((c : Thread nD τ).loc main_arg3) = m ((c : Thread nD τ).loc main_arg3) :=
  ((h c).1 3).trans (((dats m 0 c).arrAt_in 3 rfl _).trans ((A_eq m c 3).trans (V_main_arg3 m c)))

theorem kept4 : r.2.mem ((c : Thread nD τ).loc main_arg4) = m ((c : Thread nD τ).loc main_arg4) :=
  ((h c).1 4).trans (((dats m 0 c).arrAt_in 4 rfl _).trans ((A_eq m c 4).trans (V_main_arg4 m c)))

theorem kept5 : r.2.mem ((c : Thread nD τ).loc main_arg5) = m ((c : Thread nD τ).loc main_arg5) :=
  ((h c).1 5).trans (((dats m 0 c).arrAt_in 5 rfl _).trans ((A_eq m c 5).trans (V_main_arg5 m c)))

theorem kept6 : r.2.mem ((c : Thread nD τ).loc main_arg6) = m ((c : Thread nD τ).loc main_arg6) :=
  ((h c).1 6).trans (((dats m 0 c).arrAt_in 6 rfl _).trans ((A_eq m c 6).trans (V_main_arg6 m c)))

theorem kept7 : r.2.mem ((c : Thread nD τ).loc main_arg7) = m ((c : Thread nD τ).loc main_arg7) :=
  ((h c).2 main_arg7 (Pipeline.mem_restRefs_of main_arg7 (by decide) (by decide))).trans (V_main_arg7 m c)

theorem kept8 : r.2.mem ((c : Thread nD τ).loc main_arg8) = m ((c : Thread nD τ).loc main_arg8) :=
  ((h c).2 main_arg8 (Pipeline.mem_restRefs_of main_arg8 (by decide) (by decide))).trans (V_main_arg8 m c)

theorem kept9 : r.2.mem ((c : Thread nD τ).loc main_arg9) = m ((c : Thread nD τ).loc main_arg9) :=
  ((h c).2 main_arg9 (Pipeline.mem_restRefs_of main_arg9 (by decide) (by decide))).trans (V_main_arg9 m c)

theorem kept10 : r.2.mem ((c : Thread nD τ).loc main_arg10) = m ((c : Thread nD τ).loc main_arg10) :=
  ((h c).2 main_arg10 (Pipeline.mem_restRefs_of main_arg10 (by decide) (by decide))).trans (V_main_arg10 m c)

theorem kept11 : r.2.mem ((c : Thread nD τ).loc main_arg11) = m ((c : Thread nD τ).loc main_arg11) :=
  ((h c).2 main_arg11 (Pipeline.mem_restRefs_of main_arg11 (by decide) (by decide))).trans (V_main_arg11 m c)

theorem kept12 : r.2.mem ((c : Thread nD τ).loc main_arg12) = m ((c : Thread nD τ).loc main_arg12) :=
  ((h c).1 12).trans (((dats m 0 c).arrAt_in 12 rfl _).trans ((A_eq m c 12).trans (V_main_arg12 m c)))

theorem kept13 : r.2.mem ((c : Thread nD τ).loc main_arg13) = m ((c : Thread nD τ).loc main_arg13) :=
  ((h c).1 13).trans (((dats m 0 c).arrAt_in 13 rfl _).trans ((A_eq m c 13).trans (V_main_arg13 m c)))

theorem kept14 : r.2.mem ((c : Thread nD τ).loc main_arg14) = m ((c : Thread nD τ).loc main_arg14) :=
  ((h c).2 main_arg14 (Pipeline.mem_restRefs_of main_arg14 (by decide) (by decide))).trans (V_main_arg14 m c)

theorem kept15 : r.2.mem ((c : Thread nD τ).loc main_arg15) = m ((c : Thread nD τ).loc main_arg15) :=
  ((h c).2 main_arg15 (Pipeline.mem_restRefs_of main_arg15 (by decide) (by decide))).trans (V_main_arg15 m c)

theorem kept16 : r.2.mem ((c : Thread nD τ).loc main_arg16) = m ((c : Thread nD τ).loc main_arg16) :=
  ((h c).2 main_arg16 (Pipeline.mem_restRefs_of main_arg16 (by decide) (by decide))).trans (V_main_arg16 m c)

theorem kept17 : r.2.mem ((c : Thread nD τ).loc main_arg17) = m ((c : Thread nD τ).loc main_arg17) :=
  ((h c).1 17).trans (((dats m 0 c).arrAt_in 17 rfl _).trans ((A_eq m c 17).trans (V_main_arg17 m c)))

theorem kept18 : r.2.mem ((c : Thread nD τ).loc main_arg18) = m ((c : Thread nD τ).loc main_arg18) :=
  ((h c).2 main_arg18 (Pipeline.mem_restRefs_of main_arg18 (by decide) (by decide))).trans (V_main_arg18 m c)

theorem kept19 : r.2.mem ((c : Thread nD τ).loc main_arg19) = m ((c : Thread nD τ).loc main_arg19) :=
  ((h c).2 main_arg19 (Pipeline.mem_restRefs_of main_arg19 (by decide) (by decide))).trans (V_main_arg19 m c)

theorem kept20 : r.2.mem ((c : Thread nD τ).loc main_arg20) = m ((c : Thread nD τ).loc main_arg20) :=
  ((h c).2 main_arg20 (Pipeline.mem_restRefs_of main_arg20 (by decide) (by decide))).trans (V_main_arg20 m c)

theorem kept21 : r.2.mem ((c : Thread nD τ).loc main_arg21) = m ((c : Thread nD τ).loc main_arg21) :=
  ((h c).2 main_arg21 (Pipeline.mem_restRefs_of main_arg21 (by decide) (by decide))).trans (V_main_arg21 m c)

theorem kept22 : r.2.mem ((c : Thread nD τ).loc main_arg22) = m ((c : Thread nD τ).loc main_arg22) :=
  ((h c).2 main_arg22 (Pipeline.mem_restRefs_of main_arg22 (by decide) (by decide))).trans (V_main_arg22 m c)

theorem kept23 : r.2.mem ((c : Thread nD τ).loc main_arg23) = m ((c : Thread nD τ).loc main_arg23) :=
  ((h c).1 23).trans (((dats m 0 c).arrAt_in 23 rfl _).trans ((A_eq m c 23).trans (V_main_arg23 m c)))

theorem kept24 : r.2.mem ((c : Thread nD τ).loc main_arg24) = m ((c : Thread nD τ).loc main_arg24) :=
  ((h c).2 main_arg24 (Pipeline.mem_restRefs_of main_arg24 (by decide) (by decide))).trans (V_main_arg24 m c)

theorem kept25 : r.2.mem ((c : Thread nD τ).loc main_arg25) = m ((c : Thread nD τ).loc main_arg25) :=
  ((h c).2 main_arg25 (Pipeline.mem_restRefs_of main_arg25 (by decide) (by decide))).trans (V_main_arg25 m c)

theorem kept26 : r.2.mem ((c : Thread nD τ).loc main_arg26) = m ((c : Thread nD τ).loc main_arg26) :=
  ((h c).1 26).trans (((dats m 0 c).arrAt_in 26 rfl _).trans ((A_eq m c 26).trans (V_main_arg26 m c)))

theorem kept27 : r.2.mem ((c : Thread nD τ).loc main_arg27) = m ((c : Thread nD τ).loc main_arg27) :=
  ((h c).2 main_arg27 (Pipeline.mem_restRefs_of main_arg27 (by decide) (by decide))).trans (V_main_arg27 m c)

theorem kept28 : r.2.mem ((c : Thread nD τ).loc main_arg28) = m ((c : Thread nD τ).loc main_arg28) :=
  ((h c).2 main_arg28 (Pipeline.mem_restRefs_of main_arg28 (by decide) (by decide))).trans (V_main_arg28 m c)

theorem kept29 : r.2.mem ((c : Thread nD τ).loc main_arg29) = m ((c : Thread nD τ).loc main_arg29) :=
  ((h c).2 main_arg29 (Pipeline.mem_restRefs_of main_arg29 (by decide) (by decide))).trans (V_main_arg29 m c)

theorem kept30 : r.2.mem ((c : Thread nD τ).loc main_arg30) = m ((c : Thread nD τ).loc main_arg30) :=
  ((h c).2 main_arg30 (Pipeline.mem_restRefs_of main_arg30 (by decide) (by decide))).trans (V_main_arg30 m c)

end Kept

set_option maxHeartbeats 4000000 in
/-- Every execution ends with the five results and every argument as launched. -/
theorem run : θ_run defs (onTc (τ := τ) (main (F := Ideal))) (s₀ m ρ) fun r => ∀ c : Dev nD,
      r.2.mem ((c : Thread nD τ).loc main_v20_0) = tot0 m c
      ∧ r.2.mem ((c : Thread nD τ).loc main_v20_1) = tot1 m c
      ∧ r.2.mem ((c : Thread nD τ).loc main_v20_2) = tot2 m c
      ∧ r.2.mem ((c : Thread nD τ).loc main_v20_3) = tot3 m c
      ∧ r.2.mem ((c : Thread nD τ).loc main_v20_4) = tot4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30) :=
  (θ_run defs _ _).mono (fun _ h c => ⟨((h c).1 31).trans (final31 m c),
      ((h c).1 32).trans (final32 m c),
      ((h c).1 33).trans (final33 m c),
      ((h c).1 34).trans (final34 m c),
      ((h c).1 35).trans (final35 m c),
      kept0 m _ h c,
      kept1 m _ h c,
      kept2 m _ h c,
      kept3 m _ h c,
      kept4 m _ h c,
      kept5 m _ h c,
      kept6 m _ h c,
      kept7 m _ h c,
      kept8 m _ h c,
      kept9 m _ h c,
      kept10 m _ h c,
      kept11 m _ h c,
      kept12 m _ h c,
      kept13 m _ h c,
      kept14 m _ h c,
      kept15 m _ h c,
      kept16 m _ h c,
      kept17 m _ h c,
      kept18 m _ h c,
      kept19 m _ h c,
      kept20 m _ h c,
      kept21 m _ h c,
      kept22 m _ h c,
      kept23 m _ h c,
      kept24 m _ h c,
      kept25 m _ h c,
      kept26 m _ h c,
      kept27 m _ h c,
      kept28 m _ h c,
      kept29 m _ h c,
      kept30 m _ h c⟩) (run_main m ρ)

end Cert.KernelIdeal.Val

end
-- ==== Proof.Value.Same.lean ====
/- The reference's five results are the kernel's: the same mathematics of the same arguments. -/
module

public import proofs.«01_k».proof.Proof.IdealRun.Final
public import proofs.«01_k».proof.Proof.RefRun.Value

@[expose] public section

noncomputable section

namespace Cert.KernelIdeal.Val

open Cert.KernelIdeal.Gen Cert.KernelIdeal.Run Cert.KernelIdeal.Model
open Idealize.ShloMosaic Idealize.ShloMosaic.TcCoe
open Idealize.SL.Sem

variable (m : (ℓ : Loc nD τ sig) → Buf (Elt Ideal) ℓ)

theorem im_tk (r : Fin 3840) : r.val = 32 * (im r).val + (tk r).val := by
  show r.val = 32 * (r.val / 32) + r.val % 32
  omega

theorem same0 (c : Dev nD) : Cert.ReferenceIdeal.Run.out0_31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) = tot0 m c := by
  funext y
  obtain ⟨r, j, rfl⟩ : ∃ (r : Fin 3840) (j : Fin 768), y = ix2 r j := ⟨y 0, y 1, eq_ix2 y⟩
  exact Cert.ReferenceIdeal.Run.out31_at _ _ _ _ _ _ _ _ _ _ _ _ _ _ _ _ _ _ _ _ _ _ _ _ _ _ _ _ _ _ _ (im r) (tk r) j r (im_tk r)

theorem same1 (c : Dev nD) : Cert.ReferenceIdeal.Run.out0_32 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) = tot1 m c := by
  funext y
  obtain ⟨r, j, rfl⟩ : ∃ (r : Fin 3840) (j : Fin 768), y = ix2 r j := ⟨y 0, y 1, eq_ix2 y⟩
  exact Cert.ReferenceIdeal.Run.out32_at _ _ _ _ _ _ _ _ _ _ _ _ _ _ _ _ _ _ _ _ _ _ _ _ _ _ _ _ _ _ _ (im r) (tk r) j r (im_tk r)

theorem same2 (c : Dev nD) : Cert.ReferenceIdeal.Run.out0_33 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) = tot2 m c := by
  funext y
  obtain ⟨i, s, rfl⟩ : ∃ (i : Fin 120) (s : Fin 32), y = ix2 i s := ⟨y 0, y 1, eq_ix2 y⟩
  exact Cert.ReferenceIdeal.Run.out33_at _ _ _ _ _ _ _ _ _ _ _ _ _ _ _ _ _ _ _ _ _ _ _ _ _ _ _ _ _ _ _ i s

theorem same3 (c : Dev nD) : Cert.ReferenceIdeal.Run.out0_34 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) = tot3 m c := by
  funext y
  obtain ⟨r, j, rfl⟩ : ∃ (r : Fin 3840) (j : Fin 3072), y = ix2 r j := ⟨y 0, y 1, eq_ix2 y⟩
  exact Cert.ReferenceIdeal.Run.out34_at _ _ _ _ _ _ _ _ _ _ _ _ _ _ _ _ _ _ _ _ _ _ _ _ _ _ _ _ _ _ _ (im r) (tk r) j r (im_tk r)

theorem same4 (c : Dev nD) : Cert.ReferenceIdeal.Run.out0_35 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) = tot4 m c := by
  funext y
  obtain ⟨i, s, rfl⟩ : ∃ (i : Fin 120) (s : Fin 32), y = ix2 i s := ⟨y 0, y 1, eq_ix2 y⟩
  exact Cert.ReferenceIdeal.Run.out35_at _ _ _ _ _ _ _ _ _ _ _ _ _ _ _ _ _ _ _ _ _ _ _ _ _ _ _ _ _ _ _ i s

/-- Of arguments equal to the kernel's the reference computes the kernel's results. -/
theorem same (c : Dev nD) (x0 : Vec Ideal Cert.ReferenceIdeal.S120x32x768 .bf16) (x1 : Vec Ideal Cert.ReferenceIdeal.S120x577x1024 .fp8e4m3) (x2 : Vec Ideal Cert.ReferenceIdeal.S120x577 .f32) (x3 : Vec Ideal Cert.ReferenceIdeal.S768x768 .bf16) (x4 : Vec Ideal Cert.ReferenceIdeal.S768x768 .bf16) (x5 : Vec Ideal Cert.ReferenceIdeal.S768x768 .bf16) (x6 : Vec Ideal Cert.ReferenceIdeal.S768x768 .bf16) (x7 : Vec Ideal Cert.ReferenceIdeal.S768 .f32) (x8 : Vec Ideal Cert.ReferenceIdeal.S768 .f32) (x9 : Vec Ideal Cert.ReferenceIdeal.S768 .f32) (x10 : Vec Ideal Cert.ReferenceIdeal.S768 .f32) (x11 : Vec Ideal Cert.ReferenceIdeal.S768 .f32) (x12 : Vec Ideal Cert.ReferenceIdeal.S768x768 .bf16) (x13 : Vec Ideal Cert.ReferenceIdeal.S768x768 .bf16) (x14 : Vec Ideal Cert.ReferenceIdeal.S768 .f32) (x15 : Vec Ideal Cert.ReferenceIdeal.S768 .f32) (x16 : Vec Ideal Cert.ReferenceIdeal.S1024x768 .fp8e4m3) (x17 : Vec Ideal Cert.ReferenceIdeal.S1024x768 .fp8e4m3) (x18 : Vec Ideal Cert.ReferenceIdeal.S768 .f32) (x19 : Vec Ideal Cert.ReferenceIdeal.S768 .f32) (x20 : Vec Ideal Cert.ReferenceIdeal.S768 .f32) (x21 : Vec Ideal Cert.ReferenceIdeal.S768 .f32) (x22 : Vec Ideal Cert.ReferenceIdeal.S768 .f32) (x23 : Vec Ideal Cert.ReferenceIdeal.S768x3072 .fp8e4m3) (x24 : Vec Ideal Cert.ReferenceIdeal.S3072 .f32) (x25 : Vec Ideal Cert.ReferenceIdeal.S3072 .f32) (x26 : Vec Ideal Cert.ReferenceIdeal.S3072x768 .fp8e4m3) (x27 : Vec Ideal Cert.ReferenceIdeal.S768 .f32) (x28 : Vec Ideal Cert.ReferenceIdeal.S768 .f32) (x29 : Vec Ideal Cert.ReferenceIdeal.S768 .f32) (x30 : Vec Ideal Cert.ReferenceIdeal.S768 .f32)
    (e0 : x0 = (m ((c : Thread nD τ).loc main_arg0))) (e1 : x1 = (m ((c : Thread nD τ).loc main_arg1))) (e2 : x2 = (m ((c : Thread nD τ).loc main_arg2))) (e3 : x3 = (m ((c : Thread nD τ).loc main_arg3))) (e4 : x4 = (m ((c : Thread nD τ).loc main_arg4))) (e5 : x5 = (m ((c : Thread nD τ).loc main_arg5))) (e6 : x6 = (m ((c : Thread nD τ).loc main_arg6))) (e7 : x7 = (m ((c : Thread nD τ).loc main_arg7))) (e8 : x8 = (m ((c : Thread nD τ).loc main_arg8))) (e9 : x9 = (m ((c : Thread nD τ).loc main_arg9))) (e10 : x10 = (m ((c : Thread nD τ).loc main_arg10))) (e11 : x11 = (m ((c : Thread nD τ).loc main_arg11))) (e12 : x12 = (m ((c : Thread nD τ).loc main_arg12))) (e13 : x13 = (m ((c : Thread nD τ).loc main_arg13))) (e14 : x14 = (m ((c : Thread nD τ).loc main_arg14))) (e15 : x15 = (m ((c : Thread nD τ).loc main_arg15))) (e16 : x16 = (m ((c : Thread nD τ).loc main_arg16))) (e17 : x17 = (m ((c : Thread nD τ).loc main_arg17))) (e18 : x18 = (m ((c : Thread nD τ).loc main_arg18))) (e19 : x19 = (m ((c : Thread nD τ).loc main_arg19))) (e20 : x20 = (m ((c : Thread nD τ).loc main_arg20))) (e21 : x21 = (m ((c : Thread nD τ).loc main_arg21))) (e22 : x22 = (m ((c : Thread nD τ).loc main_arg22))) (e23 : x23 = (m ((c : Thread nD τ).loc main_arg23))) (e24 : x24 = (m ((c : Thread nD τ).loc main_arg24))) (e25 : x25 = (m ((c : Thread nD τ).loc main_arg25))) (e26 : x26 = (m ((c : Thread nD τ).loc main_arg26))) (e27 : x27 = (m ((c : Thread nD τ).loc main_arg27))) (e28 : x28 = (m ((c : Thread nD τ).loc main_arg28))) (e29 : x29 = (m ((c : Thread nD τ).loc main_arg29))) (e30 : x30 = (m ((c : Thread nD τ).loc main_arg30))) :
    Cert.ReferenceIdeal.Run.out0_31 x0 x1 x2 x3 x4 x5 x6 x7 x8 x9 x10 x11 x12 x13 x14 x15 x16 x17 x18 x19 x20 x21 x22 x23 x24 x25 x26 x27 x28 x29 x30 = tot0 m c
    ∧ Cert.ReferenceIdeal.Run.out0_32 x0 x1 x2 x3 x4 x5 x6 x7 x8 x9 x10 x11 x12 x13 x14 x15 x16 x17 x18 x19 x20 x21 x22 x23 x24 x25 x26 x27 x28 x29 x30 = tot1 m c
    ∧ Cert.ReferenceIdeal.Run.out0_33 x0 x1 x2 x3 x4 x5 x6 x7 x8 x9 x10 x11 x12 x13 x14 x15 x16 x17 x18 x19 x20 x21 x22 x23 x24 x25 x26 x27 x28 x29 x30 = tot2 m c
    ∧ Cert.ReferenceIdeal.Run.out0_34 x0 x1 x2 x3 x4 x5 x6 x7 x8 x9 x10 x11 x12 x13 x14 x15 x16 x17 x18 x19 x20 x21 x22 x23 x24 x25 x26 x27 x28 x29 x30 = tot3 m c
    ∧ Cert.ReferenceIdeal.Run.out0_35 x0 x1 x2 x3 x4 x5 x6 x7 x8 x9 x10 x11 x12 x13 x14 x15 x16 x17 x18 x19 x20 x21 x22 x23 x24 x25 x26 x27 x28 x29 x30 = tot4 m c := by
  subst e0; subst e1; subst e2; subst e3; subst e4; subst e5; subst e6; subst e7; subst e8; subst e9; subst e10; subst e11; subst e12; subst e13; subst e14; subst e15; subst e16; subst e17; subst e18; subst e19; subst e20; subst e21; subst e22; subst e23; subst e24; subst e25; subst e26; subst e27; subst e28; subst e29; subst e30
  exact ⟨same0 m c, same1 m c, same2 m c, same3 m c, same4 m c⟩

end Cert.KernelIdeal.Val

end
-- ==== Proof.lean ====
module

public import proofs.«01_k».proof.Defs
public import proofs.«01_k».proof.Proof.RefRun.Frame
public import proofs.«01_k».proof.Proof.RefRun.Value
public import proofs.«01_k».proof.Proof.BitsRun.Frame
public import proofs.«01_k».proof.Proof.IdealRun.Final
public import proofs.«01_k».proof.Proof.Value.Same
public import Idealize.ShloMosaic.Adequacy
public import Idealize.ShloMosaic.Init

@[expose] public section

noncomputable section

namespace Cert.Proof

open Idealize.ShloMosaic Idealize.SL.Sem

set_option maxHeartbeats 4000000 in
/-- The kernel at bits runs, leaves its arguments as they were and every counter at zero. -/
theorem frame_bits : Cert.quiescent_Kernel (hKernel := Cert.Kernel.Gen.facts) := fun m g _ =>
  θ_run_and (Cert.Kernel.Run.frame_of m g (fun c => (Cert.Kernel.Run.dats m 0 c).toRForget Cert.Kernel.Run.forgets0)
      (Cert.Kernel.Run.A_eq m) (Cert.Kernel.Run.run_main m g))
    ((θ_run _ _ _).mono (fun _ h => h.2) (Cert.Kernel.Run.run_main_quiescent m g))

set_option maxHeartbeats 4000000 in
/-- The idealized kernel runs, leaves its arguments as they were and every counter at zero. -/
theorem frame_ideal : Cert.quiescent_KernelIdeal (hKernelIdeal := Cert.KernelIdeal.Gen.facts) := fun m g _ =>
  θ_run_and ((θ_run _ _ _).mono (fun _ h c => (h c).2.2.2.2.2) (Cert.KernelIdeal.Val.run m g))
    ((θ_run _ _ _).mono (fun _ h => h.2) (Cert.KernelIdeal.Val.run_main_quiescent m g))

set_option maxHeartbeats 4000000 in
/-- The idealized reference runs, leaves its arguments as they were and every counter at zero. -/
theorem frame_ref : Cert.quiescent_ReferenceIdeal (hReferenceIdeal := Cert.ReferenceIdeal.Gen.facts) := fun m g _ =>
  θ_run_and ((θ_run _ _ _).mono (fun _ h c => (h c).2.2.2.2.2) (Cert.ReferenceIdeal.Run.run m g))
    ((θ_run _ _ _).mono (fun _ h => h.2) (Cert.ReferenceIdeal.Run.run_main_quiescent m g))

set_option maxHeartbeats 4000000 in
/-- The idealized kernel and the idealized reference, of the same arguments, end with the same five results. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Val.tot0 m c, fun c => Cert.KernelIdeal.Val.tot1 m c, fun c => Cert.KernelIdeal.Val.tot2 m c,
    fun c => Cert.KernelIdeal.Val.tot3 m c, fun c => Cert.KernelIdeal.Val.tot4 m c, Cert.KernelIdeal.Val.run m g, ?_⟩
  refine (θ_run _ _ _).mono (fun r h c => ?_) (Cert.ReferenceIdeal.Run.run m' g')
  obtain ⟨e0, e1, e2, e3, e4, e5, e6, e7, e8, e9, e10, e11, e12, e13, e14, e15, e16, e17, e18, e19, e20, e21, e22, e23, e24, e25, e26, e27, e28, e29, e30⟩ := hm c
  obtain ⟨s0, s1, s2, s3, s4⟩ := Cert.KernelIdeal.Val.same m c _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 e23 e24 e25 e26 e27 e28 e29 e30
  obtain ⟨h0, h1, h2, h3, h4, hk⟩ := h c
  exact ⟨h0.trans s0, h1.trans s1, h2.trans s2, h3.trans s3, h4.trans s4, hk⟩

theorem claim : Cert.Claim :=
  ⟨Cert.Kernel.Gen.facts, Cert.KernelIdeal.Gen.facts, Cert.ReferenceIdeal.Gen.facts,
    frame_bits, frame_ideal, frame_ref,
    trivial, algebraic⟩

end Cert.Proof

end
